-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleReferenceIdeal (m : (ℓ : Loc Cert.ProjSampleReferenceIdeal.nD Cert.ProjSampleReferenceIdeal.τ Cert.ProjSampleReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_SguSample (m : (ℓ : Loc Cert.SguSample.nD Cert.SguSample.τ Cert.SguSample.sig) → Buf (Elt Bits) ℓ) : Prop :=
  True

def Pre_SguSampleIdeal (m : (ℓ : Loc Cert.SguSampleIdeal.nD Cert.SguSampleIdeal.τ Cert.SguSampleIdeal.sig) → Buf (Elt Ideal) ℓ) : Prop :=
  True

def Pre_SguSampleReferenceIdeal (m : (ℓ : Loc Cert.SguSampleReferenceIdeal.nD Cert.SguSampleReferenceIdeal.τ Cert.SguSampleReferenceIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1))
      ∧ r.2.sem = fun _ => 0)

def quiescent_ProjSampleReferenceIdeal [hProjSampleReferenceIdeal : Cert.ProjSampleReferenceIdeal.Facts] : Prop :=
  ∀ (m : (ℓ : Loc Cert.ProjSampleReferenceIdeal.nD Cert.ProjSampleReferenceIdeal.τ Cert.ProjSampleReferenceIdeal.sig) → Buf (Elt Ideal) ℓ) (g : Dev Cert.ProjSampleReferenceIdeal.nD → PrngReg), Pre_ProjSampleReferenceIdeal m →
    θ_run (Cert.ProjSampleReferenceIdeal.defs (F := Ideal)) (onTc (τ := Cert.ProjSampleReferenceIdeal.τ) (Cert.ProjSampleReferenceIdeal.main (F := Ideal))) ⟨m, fun _ => 0, g⟩ (fun r => (∀ c : Dev Cert.ProjSampleReferenceIdeal.nD,
      r.2.mem ((c.tc : Thread Cert.ProjSampleReferenceIdeal.nD Cert.ProjSampleReferenceIdeal.τ).loc Cert.ProjSampleReferenceIdeal.main_arg0) = m ((c.tc : Thread Cert.ProjSampleReferenceIdeal.nD Cert.ProjSampleReferenceIdeal.τ).loc Cert.ProjSampleReferenceIdeal.main_arg0)
      ∧ r.2.mem ((c.tc : Thread Cert.ProjSampleReferenceIdeal.nD Cert.ProjSampleReferenceIdeal.τ).loc Cert.ProjSampleReferenceIdeal.main_arg1) = m ((c.tc : Thread Cert.ProjSampleReferenceIdeal.nD Cert.ProjSampleReferenceIdeal.τ).loc Cert.ProjSampleReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def quiescent_SguSample [hSguSample : Cert.SguSample.Facts] : Prop :=
  ∀ (m : (ℓ : Loc Cert.SguSample.nD Cert.SguSample.τ Cert.SguSample.sig) → Buf (Elt Bits) ℓ) (g : Dev Cert.SguSample.nD → PrngReg), Pre_SguSample m →
    θ_run (Cert.SguSample.defs (F := Bits)) (onTc (τ := Cert.SguSample.τ) (Cert.SguSample.main (F := Bits))) ⟨m, fun _ => 0, g⟩ (fun r => (∀ c : Dev Cert.SguSample.nD,
      r.2.mem ((c.tc : Thread Cert.SguSample.nD Cert.SguSample.τ).loc Cert.SguSample.main_arg0) = m ((c.tc : Thread Cert.SguSample.nD Cert.SguSample.τ).loc Cert.SguSample.main_arg0)
      ∧ r.2.mem ((c.tc : Thread Cert.SguSample.nD Cert.SguSample.τ).loc Cert.SguSample.main_arg1) = m ((c.tc : Thread Cert.SguSample.nD Cert.SguSample.τ).loc Cert.SguSample.main_arg1)
      ∧ r.2.mem ((c.tc : Thread Cert.SguSample.nD Cert.SguSample.τ).loc Cert.SguSample.main_arg2) = m ((c.tc : Thread Cert.SguSample.nD Cert.SguSample.τ).loc Cert.SguSample.main_arg2)
      ∧ r.2.mem ((c.tc : Thread Cert.SguSample.nD Cert.SguSample.τ).loc Cert.SguSample.main_arg3) = m ((c.tc : Thread Cert.SguSample.nD Cert.SguSample.τ).loc Cert.SguSample.main_arg3)
      ∧ r.2.mem ((c.tc : Thread Cert.SguSample.nD Cert.SguSample.τ).loc Cert.SguSample.main_arg4) = m ((c.tc : Thread Cert.SguSample.nD Cert.SguSample.τ).loc Cert.SguSample.main_arg4)
      ∧ r.2.mem ((c.tc : Thread Cert.SguSample.nD Cert.SguSample.τ).loc Cert.SguSample.main_arg5) = m ((c.tc : Thread Cert.SguSample.nD Cert.SguSample.τ).loc Cert.SguSample.main_arg5))
      ∧ r.2.sem = fun _ => 0)

def quiescent_SguSampleIdeal [hSguSampleIdeal : Cert.SguSampleIdeal.Facts] : Prop :=
  ∀ (m : (ℓ : Loc Cert.SguSampleIdeal.nD Cert.SguSampleIdeal.τ Cert.SguSampleIdeal.sig) → Buf (Elt Ideal) ℓ) (g : Dev Cert.SguSampleIdeal.nD → PrngReg), Pre_SguSampleIdeal m →
    θ_run (Cert.SguSampleIdeal.defs (F := Ideal)) (onTc (τ := Cert.SguSampleIdeal.τ) (Cert.SguSampleIdeal.main (F := Ideal))) ⟨m, fun _ => 0, g⟩ (fun r => (∀ c : Dev Cert.SguSampleIdeal.nD,
      r.2.mem ((c.tc : Thread Cert.SguSampleIdeal.nD Cert.SguSampleIdeal.τ).loc Cert.SguSampleIdeal.main_arg0) = m ((c.tc : Thread Cert.SguSampleIdeal.nD Cert.SguSampleIdeal.τ).loc Cert.SguSampleIdeal.main_arg0)
      ∧ r.2.mem ((c.tc : Thread Cert.SguSampleIdeal.nD Cert.SguSampleIdeal.τ).loc Cert.SguSampleIdeal.main_arg1) = m ((c.tc : Thread Cert.SguSampleIdeal.nD Cert.SguSampleIdeal.τ).loc Cert.SguSampleIdeal.main_arg1)
      ∧ r.2.mem ((c.tc : Thread Cert.SguSampleIdeal.nD Cert.SguSampleIdeal.τ).loc Cert.SguSampleIdeal.main_arg2) = m ((c.tc : Thread Cert.SguSampleIdeal.nD Cert.SguSampleIdeal.τ).loc Cert.SguSampleIdeal.main_arg2)
      ∧ r.2.mem ((c.tc : Thread Cert.SguSampleIdeal.nD Cert.SguSampleIdeal.τ).loc Cert.SguSampleIdeal.main_arg3) = m ((c.tc : Thread Cert.SguSampleIdeal.nD Cert.SguSampleIdeal.τ).loc Cert.SguSampleIdeal.main_arg3)
      ∧ r.2.mem ((c.tc : Thread Cert.SguSampleIdeal.nD Cert.SguSampleIdeal.τ).loc Cert.SguSampleIdeal.main_arg4) = m ((c.tc : Thread Cert.SguSampleIdeal.nD Cert.SguSampleIdeal.τ).loc Cert.SguSampleIdeal.main_arg4)
      ∧ r.2.mem ((c.tc : Thread Cert.SguSampleIdeal.nD Cert.SguSampleIdeal.τ).loc Cert.SguSampleIdeal.main_arg5) = m ((c.tc : Thread Cert.SguSampleIdeal.nD Cert.SguSampleIdeal.τ).loc Cert.SguSampleIdeal.main_arg5))
      ∧ r.2.sem = fun _ => 0)

def quiescent_SguSampleReferenceIdeal [hSguSampleReferenceIdeal : Cert.SguSampleReferenceIdeal.Facts] : Prop :=
  ∀ (m : (ℓ : Loc Cert.SguSampleReferenceIdeal.nD Cert.SguSampleReferenceIdeal.τ Cert.SguSampleReferenceIdeal.sig) → Buf (Elt Ideal) ℓ) (g : Dev Cert.SguSampleReferenceIdeal.nD → PrngReg), Pre_SguSampleReferenceIdeal m →
    θ_run (Cert.SguSampleReferenceIdeal.defs (F := Ideal)) (onTc (τ := Cert.SguSampleReferenceIdeal.τ) (Cert.SguSampleReferenceIdeal.main (F := Ideal))) ⟨m, fun _ => 0, g⟩ (fun r => (∀ c : Dev Cert.SguSampleReferenceIdeal.nD,
      r.2.mem ((c.tc : Thread Cert.SguSampleReferenceIdeal.nD Cert.SguSampleReferenceIdeal.τ).loc Cert.SguSampleReferenceIdeal.main_arg0) = m ((c.tc : Thread Cert.SguSampleReferenceIdeal.nD Cert.SguSampleReferenceIdeal.τ).loc Cert.SguSampleReferenceIdeal.main_arg0)
      ∧ r.2.mem ((c.tc : Thread Cert.SguSampleReferenceIdeal.nD Cert.SguSampleReferenceIdeal.τ).loc Cert.SguSampleReferenceIdeal.main_arg1) = m ((c.tc : Thread Cert.SguSampleReferenceIdeal.nD Cert.SguSampleReferenceIdeal.τ).loc Cert.SguSampleReferenceIdeal.main_arg1)
      ∧ r.2.mem ((c.tc : Thread Cert.SguSampleReferenceIdeal.nD Cert.SguSampleReferenceIdeal.τ).loc Cert.SguSampleReferenceIdeal.main_arg2) = m ((c.tc : Thread Cert.SguSampleReferenceIdeal.nD Cert.SguSampleReferenceIdeal.τ).loc Cert.SguSampleReferenceIdeal.main_arg2)
      ∧ r.2.mem ((c.tc : Thread Cert.SguSampleReferenceIdeal.nD Cert.SguSampleReferenceIdeal.τ).loc Cert.SguSampleReferenceIdeal.main_arg3) = m ((c.tc : Thread Cert.SguSampleReferenceIdeal.nD Cert.SguSampleReferenceIdeal.τ).loc Cert.SguSampleReferenceIdeal.main_arg3)
      ∧ r.2.mem ((c.tc : Thread Cert.SguSampleReferenceIdeal.nD Cert.SguSampleReferenceIdeal.τ).loc Cert.SguSampleReferenceIdeal.main_arg4) = m ((c.tc : Thread Cert.SguSampleReferenceIdeal.nD Cert.SguSampleReferenceIdeal.τ).loc Cert.SguSampleReferenceIdeal.main_arg4)
      ∧ r.2.mem ((c.tc : Thread Cert.SguSampleReferenceIdeal.nD Cert.SguSampleReferenceIdeal.τ).loc Cert.SguSampleReferenceIdeal.main_arg5) = m ((c.tc : Thread Cert.SguSampleReferenceIdeal.nD Cert.SguSampleReferenceIdeal.τ).loc Cert.SguSampleReferenceIdeal.main_arg5))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6)
      ∧ r.2.mem ((c.tc : Thread Cert.Sgu.nD Cert.Sgu.τ).loc Cert.Sgu.main_arg7) = m ((c.tc : Thread Cert.Sgu.nD Cert.Sgu.τ).loc Cert.Sgu.main_arg7))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5)
      ∧ r.2.mem ((c.tc : Thread Cert.SguReferenceIdeal.nD Cert.SguReferenceIdeal.τ).loc Cert.SguReferenceIdeal.main_arg6) = m ((c.tc : Thread Cert.SguReferenceIdeal.nD Cert.SguReferenceIdeal.τ).loc Cert.SguReferenceIdeal.main_arg6)
      ∧ r.2.mem ((c.tc : Thread Cert.SguReferenceIdeal.nD Cert.SguReferenceIdeal.τ).loc Cert.SguReferenceIdeal.main_arg7) = m ((c.tc : Thread Cert.SguReferenceIdeal.nD Cert.SguReferenceIdeal.τ).loc Cert.SguReferenceIdeal.main_arg7))
      ∧ r.2.sem = fun _ => 0)

def preserves_Kernel_KernelIdeal : Prop :=
  IdealRules.named_const.Statement Cert.KernelIdeal.κ "qk_scale_log2" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v75) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v1_0)) (v1 : (c : Dev Cert.MemKvIdeal.nD) → Buf (Elt Ideal) ((c.tc : Thread Cert.MemKvIdeal.nD Cert.MemKvIdeal.τ).loc Cert.MemKvIdeal.main_v1_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1_0) = v0 c
          ∧ r.2.mem ((c.tc : Thread Cert.MemKvIdeal.nD Cert.MemKvIdeal.τ).loc Cert.MemKvIdeal.main_v1_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v3) = v0 c
          ∧ r.2.mem ((c.tc : Thread Cert.MemKvReferenceIdeal.nD Cert.MemKvReferenceIdeal.τ).loc Cert.MemKvReferenceIdeal.main_v5) = v1 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_ProjSample_ProjSampleIdeal : Prop :=
  True

def algebraic_ProjSampleIdeal_ProjSampleReferenceIdeal [hProjSampleIdeal : Cert.ProjSampleIdeal.Facts] [hProjSampleReferenceIdeal : Cert.ProjSampleReferenceIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleReferenceIdeal.nD Cert.ProjSampleReferenceIdeal.τ Cert.ProjSampleReferenceIdeal.sig) → Buf (Elt Ideal) ℓ) (g' : Dev Cert.ProjSampleReferenceIdeal.nD → PrngReg), Pre_ProjSampleIdeal m →
    (∀ c : Dev Cert.ProjSampleIdeal.nD,
      m' ((c.tc : Thread Cert.ProjSampleReferenceIdeal.nD Cert.ProjSampleReferenceIdeal.τ).loc Cert.ProjSampleReferenceIdeal.main_arg0) = m ((c.tc : Thread Cert.ProjSampleIdeal.nD Cert.ProjSampleIdeal.τ).loc Cert.ProjSampleIdeal.main_arg0)
      ∧ m' ((c.tc : Thread Cert.ProjSampleReferenceIdeal.nD Cert.ProjSampleReferenceIdeal.τ).loc Cert.ProjSampleReferenceIdeal.main_arg1) = m ((c.tc : Thread Cert.ProjSampleIdeal.nD Cert.ProjSampleIdeal.τ).loc Cert.ProjSampleIdeal.main_arg1)) →
    ∃ (v0 : (c : Dev Cert.ProjSampleIdeal.nD) → Buf (Elt Ideal) ((c.tc : Thread Cert.ProjSampleIdeal.nD Cert.ProjSampleIdeal.τ).loc Cert.ProjSampleIdeal.main_v2_0)) (v1 : (c : Dev Cert.ProjSampleIdeal.nD) → Buf (Elt Ideal) ((c.tc : Thread Cert.ProjSampleIdeal.nD Cert.ProjSampleIdeal.τ).loc Cert.ProjSampleIdeal.main_v2_1)) (v2 : (c : Dev Cert.ProjSampleIdeal.nD) → Buf (Elt Ideal) ((c.tc : Thread Cert.ProjSampleIdeal.nD Cert.ProjSampleIdeal.τ).loc Cert.ProjSampleIdeal.main_v2_2)) (v3 : (c : Dev Cert.ProjSampleIdeal.nD) → Buf (Elt Ideal) ((c.tc : Thread Cert.ProjSampleIdeal.nD Cert.ProjSampleIdeal.τ).loc Cert.ProjSampleIdeal.main_v2_3)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v2_0) = v0 c
          ∧ r.2.mem ((c.tc : Thread Cert.ProjSampleIdeal.nD Cert.ProjSampleIdeal.τ).loc Cert.ProjSampleIdeal.main_v2_1) = v1 c
          ∧ r.2.mem ((c.tc : Thread Cert.ProjSampleIdeal.nD Cert.ProjSampleIdeal.τ).loc Cert.ProjSampleIdeal.main_v2_2) = v2 c
          ∧ r.2.mem ((c.tc : Thread Cert.ProjSampleIdeal.nD Cert.ProjSampleIdeal.τ).loc Cert.ProjSampleIdeal.main_v2_3) = v3 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1))
      ∧ θ_run (Cert.ProjSampleReferenceIdeal.defs (F := Ideal)) (onTc (τ := Cert.ProjSampleReferenceIdeal.τ) (Cert.ProjSampleReferenceIdeal.main (F := Ideal))) ⟨m', fun _ => 0, g'⟩ (fun r => ∀ c : Dev Cert.ProjSampleReferenceIdeal.nD,
          r.2.mem ((c.tc : Thread Cert.ProjSampleReferenceIdeal.nD Cert.ProjSampleReferenceIdeal.τ).loc Cert.ProjSampleReferenceIdeal.main_v2) = v0 c
          ∧ r.2.mem ((c.tc : Thread Cert.ProjSampleReferenceIdeal.nD Cert.ProjSampleReferenceIdeal.τ).loc Cert.ProjSampleReferenceIdeal.main_v3) = v1 c
          ∧ r.2.mem ((c.tc : Thread Cert.ProjSampleReferenceIdeal.nD Cert.ProjSampleReferenceIdeal.τ).loc Cert.ProjSampleReferenceIdeal.main_v4) = v2 c
          ∧ r.2.mem ((c.tc : Thread Cert.ProjSampleReferenceIdeal.nD Cert.ProjSampleReferenceIdeal.τ).loc Cert.ProjSampleReferenceIdeal.main_v5) = v3 c
          ∧ r.2.mem ((c.tc : Thread Cert.ProjSampleReferenceIdeal.nD Cert.ProjSampleReferenceIdeal.τ).loc Cert.ProjSampleReferenceIdeal.main_arg0) = m' ((c.tc : Thread Cert.ProjSampleReferenceIdeal.nD Cert.ProjSampleReferenceIdeal.τ).loc Cert.ProjSampleReferenceIdeal.main_arg0)
          ∧ r.2.mem ((c.tc : Thread Cert.ProjSampleReferenceIdeal.nD Cert.ProjSampleReferenceIdeal.τ).loc Cert.ProjSampleReferenceIdeal.main_arg1) = m' ((c.tc : Thread Cert.ProjSampleReferenceIdeal.nD Cert.ProjSampleReferenceIdeal.τ).loc Cert.ProjSampleReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v26_1)) (v1 : (c : Dev Cert.ProjIdeal.nD) → Buf (Elt Ideal) ((c.tc : Thread Cert.ProjIdeal.nD Cert.ProjIdeal.τ).loc Cert.ProjIdeal.main_v26_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v26_1) = v0 c
          ∧ r.2.mem ((c.tc : Thread Cert.ProjIdeal.nD Cert.ProjIdeal.τ).loc Cert.ProjIdeal.main_v26_2) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4) = v0 c
          ∧ r.2.mem ((c.tc : Thread Cert.ProjReferenceIdeal.nD Cert.ProjReferenceIdeal.τ).loc Cert.ProjReferenceIdeal.main_v7) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def preserves_SguSample_SguSampleIdeal : Prop :=
  True

def algebraic_SguSampleIdeal_SguSampleReferenceIdeal [hSguSampleIdeal : Cert.SguSampleIdeal.Facts] [hSguSampleReferenceIdeal : Cert.SguSampleReferenceIdeal.Facts] : Prop :=
  ∀ (m : (ℓ : Loc Cert.SguSampleIdeal.nD Cert.SguSampleIdeal.τ Cert.SguSampleIdeal.sig) → Buf (Elt Ideal) ℓ) (g : Dev Cert.SguSampleIdeal.nD → PrngReg)
    (m' : (ℓ : Loc Cert.SguSampleReferenceIdeal.nD Cert.SguSampleReferenceIdeal.τ Cert.SguSampleReferenceIdeal.sig) → Buf (Elt Ideal) ℓ) (g' : Dev Cert.SguSampleReferenceIdeal.nD → PrngReg), Pre_SguSampleIdeal m →
    (∀ c : Dev Cert.SguSampleIdeal.nD,
      m' ((c.tc : Thread Cert.SguSampleReferenceIdeal.nD Cert.SguSampleReferenceIdeal.τ).loc Cert.SguSampleReferenceIdeal.main_arg0) = m ((c.tc : Thread Cert.SguSampleIdeal.nD Cert.SguSampleIdeal.τ).loc Cert.SguSampleIdeal.main_arg0)
      ∧ m' ((c.tc : Thread Cert.SguSampleReferenceIdeal.nD Cert.SguSampleReferenceIdeal.τ).loc Cert.SguSampleReferenceIdeal.main_arg1) = m ((c.tc : Thread Cert.SguSampleIdeal.nD Cert.SguSampleIdeal.τ).loc Cert.SguSampleIdeal.main_arg1)
      ∧ m' ((c.tc : Thread Cert.SguSampleReferenceIdeal.nD Cert.SguSampleReferenceIdeal.τ).loc Cert.SguSampleReferenceIdeal.main_arg2) = m ((c.tc : Thread Cert.SguSampleIdeal.nD Cert.SguSampleIdeal.τ).loc Cert.SguSampleIdeal.main_arg2)
      ∧ m' ((c.tc : Thread Cert.SguSampleReferenceIdeal.nD Cert.SguSampleReferenceIdeal.τ).loc Cert.SguSampleReferenceIdeal.main_arg3) = m ((c.tc : Thread Cert.SguSampleIdeal.nD Cert.SguSampleIdeal.τ).loc Cert.SguSampleIdeal.main_arg3)
      ∧ m' ((c.tc : Thread Cert.SguSampleReferenceIdeal.nD Cert.SguSampleReferenceIdeal.τ).loc Cert.SguSampleReferenceIdeal.main_arg4) = m ((c.tc : Thread Cert.SguSampleIdeal.nD Cert.SguSampleIdeal.τ).loc Cert.SguSampleIdeal.main_arg4)
      ∧ m' ((c.tc : Thread Cert.SguSampleReferenceIdeal.nD Cert.SguSampleReferenceIdeal.τ).loc Cert.SguSampleReferenceIdeal.main_arg5) = m ((c.tc : Thread Cert.SguSampleIdeal.nD Cert.SguSampleIdeal.τ).loc Cert.SguSampleIdeal.main_arg5)) →
    ∃ (v0 : (c : Dev Cert.SguSampleIdeal.nD) → Buf (Elt Ideal) ((c.tc : Thread Cert.SguSampleIdeal.nD Cert.SguSampleIdeal.τ).loc Cert.SguSampleIdeal.main_v4_0)) (v1 : (c : Dev Cert.SguSampleIdeal.nD) → Buf (Elt Ideal) ((c.tc : Thread Cert.SguSampleIdeal.nD Cert.SguSampleIdeal.τ).loc Cert.SguSampleIdeal.main_v4_1)) (v2 : (c : Dev Cert.SguSampleIdeal.nD) → Buf (Elt Ideal) ((c.tc : Thread Cert.SguSampleIdeal.nD Cert.SguSampleIdeal.τ).loc Cert.SguSampleIdeal.main_v4_2)),
      θ_run (Cert.SguSampleIdeal.defs (F := Ideal)) (onTc (τ := Cert.SguSampleIdeal.τ) (Cert.SguSampleIdeal.main (F := Ideal))) ⟨m, fun _ => 0, g⟩ (fun r => ∀ c : Dev Cert.SguSampleIdeal.nD,
          r.2.mem ((c.tc : Thread Cert.SguSampleIdeal.nD Cert.SguSampleIdeal.τ).loc Cert.SguSampleIdeal.main_v4_0) = v0 c
          ∧ r.2.mem ((c.tc : Thread Cert.SguSampleIdeal.nD Cert.SguSampleIdeal.τ).loc Cert.SguSampleIdeal.main_v4_1) = v1 c
          ∧ r.2.mem ((c.tc : Thread Cert.SguSampleIdeal.nD Cert.SguSampleIdeal.τ).loc Cert.SguSampleIdeal.main_v4_2) = v2 c
          ∧ r.2.mem ((c.tc : Thread Cert.SguSampleIdeal.nD Cert.SguSampleIdeal.τ).loc Cert.SguSampleIdeal.main_arg0) = m ((c.tc : Thread Cert.SguSampleIdeal.nD Cert.SguSampleIdeal.τ).loc Cert.SguSampleIdeal.main_arg0)
          ∧ r.2.mem ((c.tc : Thread Cert.SguSampleIdeal.nD Cert.SguSampleIdeal.τ).loc Cert.SguSampleIdeal.main_arg1) = m ((c.tc : Thread Cert.SguSampleIdeal.nD Cert.SguSampleIdeal.τ).loc Cert.SguSampleIdeal.main_arg1)
          ∧ r.2.mem ((c.tc : Thread Cert.SguSampleIdeal.nD Cert.SguSampleIdeal.τ).loc Cert.SguSampleIdeal.main_arg2) = m ((c.tc : Thread Cert.SguSampleIdeal.nD Cert.SguSampleIdeal.τ).loc Cert.SguSampleIdeal.main_arg2)
          ∧ r.2.mem ((c.tc : Thread Cert.SguSampleIdeal.nD Cert.SguSampleIdeal.τ).loc Cert.SguSampleIdeal.main_arg3) = m ((c.tc : Thread Cert.SguSampleIdeal.nD Cert.SguSampleIdeal.τ).loc Cert.SguSampleIdeal.main_arg3)
          ∧ r.2.mem ((c.tc : Thread Cert.SguSampleIdeal.nD Cert.SguSampleIdeal.τ).loc Cert.SguSampleIdeal.main_arg4) = m ((c.tc : Thread Cert.SguSampleIdeal.nD Cert.SguSampleIdeal.τ).loc Cert.SguSampleIdeal.main_arg4)
          ∧ r.2.mem ((c.tc : Thread Cert.SguSampleIdeal.nD Cert.SguSampleIdeal.τ).loc Cert.SguSampleIdeal.main_arg5) = m ((c.tc : Thread Cert.SguSampleIdeal.nD Cert.SguSampleIdeal.τ).loc Cert.SguSampleIdeal.main_arg5))
      ∧ θ_run (Cert.SguSampleReferenceIdeal.defs (F := Ideal)) (onTc (τ := Cert.SguSampleReferenceIdeal.τ) (Cert.SguSampleReferenceIdeal.main (F := Ideal))) ⟨m', fun _ => 0, g'⟩ (fun r => ∀ c : Dev Cert.SguSampleReferenceIdeal.nD,
          r.2.mem ((c.tc : Thread Cert.SguSampleReferenceIdeal.nD Cert.SguSampleReferenceIdeal.τ).loc Cert.SguSampleReferenceIdeal.main_v66) = v0 c
          ∧ r.2.mem ((c.tc : Thread Cert.SguSampleReferenceIdeal.nD Cert.SguSampleReferenceIdeal.τ).loc Cert.SguSampleReferenceIdeal.main_v67) = v1 c
          ∧ r.2.mem ((c.tc : Thread Cert.SguSampleReferenceIdeal.nD Cert.SguSampleReferenceIdeal.τ).loc Cert.SguSampleReferenceIdeal.main_v51) = v2 c
          ∧ r.2.mem ((c.tc : Thread Cert.SguSampleReferenceIdeal.nD Cert.SguSampleReferenceIdeal.τ).loc Cert.SguSampleReferenceIdeal.main_arg0) = m' ((c.tc : Thread Cert.SguSampleReferenceIdeal.nD Cert.SguSampleReferenceIdeal.τ).loc Cert.SguSampleReferenceIdeal.main_arg0)
          ∧ r.2.mem ((c.tc : Thread Cert.SguSampleReferenceIdeal.nD Cert.SguSampleReferenceIdeal.τ).loc Cert.SguSampleReferenceIdeal.main_arg1) = m' ((c.tc : Thread Cert.SguSampleReferenceIdeal.nD Cert.SguSampleReferenceIdeal.τ).loc Cert.SguSampleReferenceIdeal.main_arg1)
          ∧ r.2.mem ((c.tc : Thread Cert.SguSampleReferenceIdeal.nD Cert.SguSampleReferenceIdeal.τ).loc Cert.SguSampleReferenceIdeal.main_arg2) = m' ((c.tc : Thread Cert.SguSampleReferenceIdeal.nD Cert.SguSampleReferenceIdeal.τ).loc Cert.SguSampleReferenceIdeal.main_arg2)
          ∧ r.2.mem ((c.tc : Thread Cert.SguSampleReferenceIdeal.nD Cert.SguSampleReferenceIdeal.τ).loc Cert.SguSampleReferenceIdeal.main_arg3) = m' ((c.tc : Thread Cert.SguSampleReferenceIdeal.nD Cert.SguSampleReferenceIdeal.τ).loc Cert.SguSampleReferenceIdeal.main_arg3)
          ∧ r.2.mem ((c.tc : Thread Cert.SguSampleReferenceIdeal.nD Cert.SguSampleReferenceIdeal.τ).loc Cert.SguSampleReferenceIdeal.main_arg4) = m' ((c.tc : Thread Cert.SguSampleReferenceIdeal.nD Cert.SguSampleReferenceIdeal.τ).loc Cert.SguSampleReferenceIdeal.main_arg4)
          ∧ r.2.mem ((c.tc : Thread Cert.SguSampleReferenceIdeal.nD Cert.SguSampleReferenceIdeal.τ).loc Cert.SguSampleReferenceIdeal.main_arg5) = m' ((c.tc : Thread Cert.SguSampleReferenceIdeal.nD Cert.SguSampleReferenceIdeal.τ).loc Cert.SguSampleReferenceIdeal.main_arg5))

def preserves_Sgu_SguIdeal : Prop :=
  True

def algebraic_SguIdeal_SguReferenceIdeal [hSguIdeal : Cert.SguIdeal.Facts] [hSguReferenceIdeal : Cert.SguReferenceIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguIdeal m →
    (∀ c : Dev Cert.SguIdeal.nD,
      m' ((c.tc : Thread Cert.SguReferenceIdeal.nD Cert.SguReferenceIdeal.τ).loc Cert.SguReferenceIdeal.main_arg0) = m ((c.tc : Thread Cert.SguIdeal.nD Cert.SguIdeal.τ).loc Cert.SguIdeal.main_arg0)
      ∧ m' ((c.tc : Thread Cert.SguReferenceIdeal.nD Cert.SguReferenceIdeal.τ).loc Cert.SguReferenceIdeal.main_arg1) = m ((c.tc : Thread Cert.SguIdeal.nD Cert.SguIdeal.τ).loc Cert.SguIdeal.main_arg1)
      ∧ m' ((c.tc : Thread Cert.SguReferenceIdeal.nD Cert.SguReferenceIdeal.τ).loc Cert.SguReferenceIdeal.main_arg2) = m ((c.tc : Thread Cert.SguIdeal.nD Cert.SguIdeal.τ).loc Cert.SguIdeal.main_arg2)
      ∧ m' ((c.tc : Thread Cert.SguReferenceIdeal.nD Cert.SguReferenceIdeal.τ).loc Cert.SguReferenceIdeal.main_arg3) = m ((c.tc : Thread Cert.SguIdeal.nD Cert.SguIdeal.τ).loc Cert.SguIdeal.main_arg3)
      ∧ m' ((c.tc : Thread Cert.SguReferenceIdeal.nD Cert.SguReferenceIdeal.τ).loc Cert.SguReferenceIdeal.main_arg4) = m ((c.tc : Thread Cert.SguIdeal.nD Cert.SguIdeal.τ).loc Cert.SguIdeal.main_arg4)
      ∧ m' ((c.tc : Thread Cert.SguReferenceIdeal.nD Cert.SguReferenceIdeal.τ).loc Cert.SguReferenceIdeal.main_arg5) = m ((c.tc : Thread Cert.SguIdeal.nD Cert.SguIdeal.τ).loc Cert.SguIdeal.main_arg5)
      ∧ m' ((c.tc : Thread Cert.SguReferenceIdeal.nD Cert.SguReferenceIdeal.τ).loc Cert.SguReferenceIdeal.main_arg6) = m ((c.tc : Thread Cert.SguIdeal.nD Cert.SguIdeal.τ).loc Cert.SguIdeal.main_arg6)
      ∧ m' ((c.tc : Thread Cert.SguReferenceIdeal.nD Cert.SguReferenceIdeal.τ).loc Cert.SguReferenceIdeal.main_arg7) = m ((c.tc : Thread Cert.SguIdeal.nD Cert.SguIdeal.τ).loc Cert.SguIdeal.main_arg7)) →
    ∃ (v0 : (c : Dev Cert.SguIdeal.nD) → Buf (Elt Ideal) ((c.tc : Thread Cert.SguIdeal.nD Cert.SguIdeal.τ).loc Cert.SguIdeal.main_v26_0)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v26_0) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
          ∧ r.2.mem ((c.tc : Thread Cert.SguIdeal.nD Cert.SguIdeal.τ).loc Cert.SguIdeal.main_arg7) = m ((c.tc : Thread Cert.SguIdeal.nD Cert.SguIdeal.τ).loc Cert.SguIdeal.main_arg7))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v71) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5)
          ∧ r.2.mem ((c.tc : Thread Cert.SguReferenceIdeal.nD Cert.SguReferenceIdeal.τ).loc Cert.SguReferenceIdeal.main_arg6) = m' ((c.tc : Thread Cert.SguReferenceIdeal.nD Cert.SguReferenceIdeal.τ).loc Cert.SguReferenceIdeal.main_arg6)
          ∧ r.2.mem ((c.tc : Thread Cert.SguReferenceIdeal.nD Cert.SguReferenceIdeal.τ).loc Cert.SguReferenceIdeal.main_arg7) = m' ((c.tc : Thread Cert.SguReferenceIdeal.nD Cert.SguReferenceIdeal.τ).loc Cert.SguReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMemKv : Cert.MemKv.Facts) (hMemKvIdeal : Cert.MemKvIdeal.Facts) (hMemKvReferenceIdeal : Cert.MemKvReferenceIdeal.Facts) (hProjSample : Cert.ProjSample.Facts) (hProjSampleIdeal : Cert.ProjSampleIdeal.Facts) (hProjSampleReferenceIdeal : Cert.ProjSampleReferenceIdeal.Facts) (hProj : Cert.Proj.Facts) (hProjIdeal : Cert.ProjIdeal.Facts) (hProjReferenceIdeal : Cert.ProjReferenceIdeal.Facts) (hSguSample : Cert.SguSample.Facts) (hSguSampleIdeal : Cert.SguSampleIdeal.Facts) (hSguSampleReferenceIdeal : Cert.SguSampleReferenceIdeal.Facts) (hSgu : Cert.Sgu.Facts) (hSguIdeal : Cert.SguIdeal.Facts) (hSguReferenceIdeal : Cert.SguReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Ffn (hFfn := hFfn)
    ∧ quiescent_FfnIdeal (hFfnIdeal := hFfnIdeal)
    ∧ quiescent_FfnReferenceIdeal (hFfnReferenceIdeal := hFfnReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_ProjSample (hProjSample := hProjSample)
    ∧ quiescent_ProjSampleIdeal (hProjSampleIdeal := hProjSampleIdeal)
    ∧ quiescent_ProjSampleReferenceIdeal (hProjSampleReferenceIdeal := hProjSampleReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_SguSample (hSguSample := hSguSample)
    ∧ quiescent_SguSampleIdeal (hSguSampleIdeal := hSguSampleIdeal)
    ∧ quiescent_SguSampleReferenceIdeal (hSguSampleReferenceIdeal := hSguSampleReferenceIdeal)
    ∧ quiescent_Sgu (hSgu := hSgu)
    ∧ quiescent_SguIdeal (hSguIdeal := hSguIdeal)
    ∧ quiescent_SguReferenceIdeal (hSguReferenceIdeal := hSguReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Ffn_FfnIdeal
    ∧ algebraic_FfnIdeal_FfnReferenceIdeal (hFfnIdeal := hFfnIdeal) (hFfnReferenceIdeal := hFfnReferenceIdeal)
    ∧ preserves_MemKv_MemKvIdeal
    ∧ algebraic_MemKvIdeal_MemKvReferenceIdeal (hMemKvIdeal := hMemKvIdeal) (hMemKvReferenceIdeal := hMemKvReferenceIdeal)
    ∧ preserves_ProjSample_ProjSampleIdeal
    ∧ algebraic_ProjSampleIdeal_ProjSampleReferenceIdeal (hProjSampleIdeal := hProjSampleIdeal) (hProjSampleReferenceIdeal := hProjSampleReferenceIdeal)
    ∧ preserves_Proj_ProjIdeal
    ∧ algebraic_ProjIdeal_ProjReferenceIdeal (hProjIdeal := hProjIdeal) (hProjReferenceIdeal := hProjReferenceIdeal)
    ∧ preserves_SguSample_SguSampleIdeal
    ∧ algebraic_SguSampleIdeal_SguSampleReferenceIdeal (hSguSampleIdeal := hSguSampleIdeal) (hSguSampleReferenceIdeal := hSguSampleReferenceIdeal)
    ∧ preserves_Sgu_SguIdeal
    ∧ algebraic_SguIdeal_SguReferenceIdeal (hSguIdeal := hSguIdeal) (hSguReferenceIdeal := hSguReferenceIdeal)
-- ==== Pre_finite_inputs.lean ====
abbrev S2x6x8192x128 : Shape := ⟨4, ![2, 6, 8192, 128]⟩
abbrev S4x64 : Shape := ⟨2, ![4, 64]⟩
abbrev S1x128 : Shape := ⟨2, ![1, 128]⟩
abbrev S_ : Shape := ⟨0, ![]⟩

class Facts : Prop where
  bcast_S_S2x6x8192x128 : S_.BroadcastsInDim S2x6x8192x128 (![] : Fin 0 → Fin S2x6x8192x128.rank)
  reducesTo_S2x6x8192x128_S_d0_1_2_3 : S2x6x8192x128.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S2x6x8192x128 .f32) (main_arg1 : FVec F S2x6x8192x128 .f32) (main_arg2 : FVec F S2x6x8192x128 .f32) (main_arg3 : FVec F S4x64 .f32) (main_arg4 : FVec F S1x128 .f32) : IVec S_ 1 :=
  let main_v0 : FVec F S2x6x8192x128 .f32 := Host.absf main_arg0
  let main_cst : FVec F S_ .f32 := constant S_ .f32 0x7F800000#32
  let main_v1 : FVec F S2x6x8192x128 .f32 := broadcastInDim S2x6x8192x128 ![] bcast_S_S2x6x8192x128 main_cst
  let main_v2 : IVec S2x6x8192x128 1 := cmpf .olt main_v0 main_v1
  let main_c : IVec S_ 1 := constantI S_ 1 1#1
  let main_v3 : IVec S_ 1 := (fun x v => Host.reduce IntOp.andi x v reducesTo_S2x6x8192x128_S_d0_1_2_3 h_S_) main_v2 main_c
  let main_v4 : FVec F S2x6x8192x128 .f32 := Host.absf main_arg1
  let main_cst_0 : FVec F S_ .f32 := constant S_ .f32 0x7F800000#32
  let main_v5 : FVec F S2x6x8192x128 .f32 := broadcastInDim S2x6x8192x128 ![] bcast_S_S2x6x8192x128 main_cst_0
  let main_v6 : IVec S2x6x8192x128 1 := cmpf .olt main_v4 main_v5
  let main_c_1 : IVec S_ 1 := constantI S_ 1 1#1
  let main_v7 : IVec S_ 1 := (fun x v => Host.reduce IntOp.andi x v reducesTo_S2x6x8192x128_S_d0_1_2_3 h_S_) main_v6 main_c_1
  let main_v8 : IVec S_ 1 := andi main_v3 main_v7
  let main_v9 : FVec F S2x6x8192x128 .f32 := Host.absf main_arg2
  let main_cst_2 : FVec F S_ .f32 := constant S_ .f32 0x7F800000#32
  let main_v10 : FVec F S2x6x8192x128 .f32 := broadcastInDim S2x6x8192x128 ![] bcast_S_S2x6x8192x128 main_cst_2
  let main_v11 : IVec S2x6x8192x128 1 := cmpf .olt main_v9 main_v10
  let main_c_3 : IVec S_ 1 := constantI S_ 1 1#1
  let main_v12 : IVec S_ 1 := (fun x v => Host.reduce IntOp.andi x v reducesTo_S2x6x8192x128_S_d0_1_2_3 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Kernel.lean ====
abbrev S2x6x8192x128 : Shape := ⟨4, ![2, 6, 8192, 128]⟩
abbrev S4x64 : Shape := ⟨2, ![4, 64]⟩
abbrev S1x128 : Shape := ⟨2, ![1, 128]⟩
abbrev S2x6x8x1024x128 : Shape := ⟨5, ![2, 6, 8, 1024, 128]⟩
abbrev S2x6x8x128x1024 : Shape := ⟨5, ![2, 6, 8, 128, 1024]⟩
abbrev S_ : Shape := ⟨0, ![]⟩
abbrev S2x6x8x16x1024 : Shape := ⟨5, ![2, 6, 8, 16, 1024]⟩
abbrev S2x6x8x144x1024 : Shape := ⟨5, ![2, 6, 8, 144, 1024]⟩
abbrev S2x8192x768 : Shape := ⟨3, ![2, 8192, 768]⟩
abbrev S1x1x1024x128 : Shape := ⟨4, ![1, 1, 1024, 128]⟩
abbrev S1x1x8192x128 : Shape := ⟨4, ![1, 1, 8192, 128]⟩
abbrev S1x1x8x144x1024 : Shape := ⟨5, ![1, 1, 8, 144, 1024]⟩
abbrev S1x1024x128 : Shape := ⟨3, ![1, 1024, 128]⟩
abbrev S2x1024x128 : Shape := ⟨3, ![2, 1024, 128]⟩
abbrev S2x8x1024 : Shape := ⟨3, ![2, 8, 1024]⟩
abbrev S2x128x1024 : Shape := ⟨3, ![2, 128, 1024]⟩
abbrev S2x1024x512 : Shape := ⟨3, ![2, 1024, 512]⟩
abbrev S1024x128 : Shape := ⟨2, ![1024, 128]⟩
abbrev S1x512x128 : Shape := ⟨3, ![1, 512, 128]⟩
abbrev S512x128 : Shape := ⟨2, ![512, 128]⟩
abbrev S1024x512 : Shape := ⟨2, ![1024, 512]⟩
abbrev S1x1024x512 : Shape := ⟨3, ![1, 1024, 512]⟩
abbrev S1x1x1x144x1024 : Shape := ⟨5, ![1, 1, 1, 144, 1024]⟩
abbrev S144x1024 : Shape := ⟨2, ![144, 1024]⟩
abbrev S1x1x512 : Shape := ⟨3, ![1, 1, 512]⟩
abbrev S1x512 : Shape := ⟨2, ![1, 512]⟩
abbrev S512 : Shape := ⟨1, ![512]⟩
abbrev S144x512 : Shape := ⟨2, ![144, 512]⟩
abbrev S1x128x512 : Shape := ⟨3, ![1, 128, 512]⟩
abbrev S128x512 : Shape := ⟨2, ![128, 512]⟩
abbrev S8x512 : Shape := ⟨2, ![8, 512]⟩
abbrev S1x8x512 : Shape := ⟨3, ![1, 8, 512]⟩
abbrev S1x1x512x128 : Shape := ⟨4, ![1, 1, 512, 128]⟩
abbrev S512x512 : Shape := ⟨2, ![512, 512]⟩
abbrev S1x64 : Shape := ⟨2, ![1, 64]⟩
abbrev S1 : Shape := ⟨1, ![1]⟩
abbrev S1x1 : Shape := ⟨2, ![1, 1]⟩
abbrev S1x1x1024 : Shape := ⟨3, ![1, 1, 1024]⟩
abbrev S1x1024 : Shape := ⟨2, ![1, 1024]⟩
abbrev S1x128x1024 : Shape := ⟨3, ![1, 128, 1024]⟩
abbrev S128x1024 : Shape := ⟨2, ![128, 1024]⟩
abbrev S1024 : Shape := ⟨1, ![1024]⟩

abbrev nBuf : Space → Nat
  | .hbm => 13
  | .vmem => 15
  | .smem => 0
  | _ => 0

abbrev bufTy : (tb : Table) → Fin (tcTables nBuf tb) → BufTy
  | .hbm, ⟨0, _⟩ => ⟨S2x6x8192x128, .f32⟩
  | .hbm, ⟨1, _⟩ => ⟨S2x6x8192x128, .f32⟩
  | .hbm, ⟨2, _⟩ => ⟨S2x6x8192x128, .f32⟩
  | .hbm, ⟨3, _⟩ => ⟨S4x64, .f32⟩
  | .hbm, ⟨4, _⟩ => ⟨S1x128, .f32⟩
  | .hbm, ⟨5, _⟩ => ⟨S2x6x8192x128, .bf16⟩
  | .hbm, ⟨6, _⟩ => ⟨S2x6x8x1024x128, .f32⟩
  | .hbm, ⟨7, _⟩ => ⟨S2x6x8x128x1024, .f32⟩
  | .hbm, ⟨8, _⟩ => ⟨S2x6x8x128x1024, .bf16⟩
  | .hbm, ⟨9, _⟩ => ⟨S_, .bf16⟩
  | .hbm, ⟨10, _⟩ => ⟨S2x6x8x16x1024, .bf16⟩
  | .hbm, ⟨11, _⟩ => ⟨S2x6x8x144x1024, .bf16⟩
  | .hbm, ⟨12, _⟩ => ⟨S2x8192x768, .bf16⟩
  | .local _ .vmem, ⟨0, _⟩ => ⟨S1x1x1024x128, .f32⟩
  | .local _ .vmem, ⟨1, _⟩ => ⟨S1x1x1024x128, .f32⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x8x144x1024, .bf16⟩
  | .local _ .vmem, ⟨5, _⟩ => ⟨S1x1x8x144x1024, .bf16⟩
  | .local _ .vmem, ⟨6, _⟩ => ⟨S4x64, .f32⟩
  | .local _ .vmem, ⟨7, _⟩ => ⟨S1x128, .f32⟩
  | .local _ .vmem, ⟨8, _⟩ => ⟨S1x1024x128, .bf16⟩
  | .local _ .vmem, ⟨9, _⟩ => ⟨S1x1024x128, .bf16⟩
  | .local _ .vmem, ⟨10, _⟩ => ⟨S2x1024x128, .bf16⟩
  | .local _ .vmem, ⟨11, _⟩ => ⟨S2x8x1024, .f32⟩
  | .local _ .vmem, ⟨12, _⟩ => ⟨S2x8x1024, .f32⟩
  | .local _ .vmem, ⟨13, _⟩ => ⟨S2x128x1024, .f32⟩
  | .local _ .vmem, ⟨14, _⟩ => ⟨S2x1024x512, .f32⟩
  | _, _ => ⟨S2x6x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 6, 8], ![false, false, false]⟩

def k0_mult1 : BitVec 32 :=
  let c0_i32 : BitVec 32 := 0#32
  c0_i32
def k0_mult2 : BitVec 32 :=
  let c0_i32_31 : BitVec 32 := 0#32
  c0_i32_31
@[reducible] def k0_t1_loop (i : grid0.Coords) : Scf.Loop 32 :=
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_45 : BitVec 32 := 1#32
  ⟨c0_i32_43, v56, c1_i32_45⟩
def k0_off1 (i : grid0.Coords) (k0_t1 : Fin (k0_t1_loop i).trips) : Fin 5 → Nat :=
  let c0_193 : Index := 0#32
  let c0_194 : Index := 0#32
  let c2_i32 : BitVec 32 := 2#32
  let c0_i32_43 : BitVec 32 := 0#32
  let c1_i32_45 : BitVec 32 := 1#32
  let arg14 : BitVec 32 := Scf.iv c0_i32_43 c1_i32_45 k0_t1
  let v315 : BitVec 32 := Scalar.muli c2_i32 arg14
  let v316 : Index := Scalar.indexCast v315
  let c0_195 : Index := 0#32
  let c0_196 : Index := 0#32
  ![0, 0, v316.toNat, 0, 0]
def k0_mult3 (i : grid0.Coords) (k0_t1 : Fin (k0_t1_loop i).trips) : BitVec 32 :=
  let c2_i32 : BitVec 32 := 2#32
  let c0_i32_43 : BitVec 32 := 0#32
  let c1_i32_45 : BitVec 32 := 1#32
  let arg14 : BitVec 32 := Scf.iv c0_i32_43 c1_i32_45 k0_t1
  let v315 : BitVec 32 := Scalar.muli c2_i32 arg14
  let c1024_i32_203 : BitVec 32 := 1024#32
  let v323 : BitVec 32 := Scalar.muli v315 c1024_i32_203
  v323
def k0_off2 (i : grid0.Coords) (k0_t1 : Fin (k0_t1_loop i).trips) : Fin 4 → Nat :=
  let c0_204 : Index := 0#32
  let c0_205 : Index := 0#32
  let c2_i32 : BitVec 32 := 2#32
  let c0_i32_43 : BitVec 32 := 0#32
  let c1_i32_45 : BitVec 32 := 1#32
  let arg14 : BitVec 32 := Scf.iv c0_i32_43 c1_i32_45 k0_t1
  let v315 : BitVec 32 := Scalar.muli c2_i32 arg14
  let c1024_i32_203 : BitVec 32 := 1024#32
  let v323 : BitVec 32 := Scalar.muli v315 c1024_i32_203
  let v324 : BitVec 32 := v323
  let v325 : Index := Scalar.indexCast v324
  let c0_206 : Index := 0#32
  ![0, 0, v325.toNat, 0]
def k0_mult4 (i : grid0.Coords) (k0_t1 : Fin (k0_t1_loop i).trips) : BitVec 32 :=
  let c2_i32 : BitVec 32 := 2#32
  let c0_i32_43 : BitVec 32 := 0#32
  let c1_i32_45 : BitVec 32 := 1#32
  let arg14 : BitVec 32 := Scf.iv c0_i32_43 c1_i32_45 k0_t1
  let v315 : BitVec 32 := Scalar.muli c2_i32 arg14
  let c1024_i32_235 : BitVec 32 := 1024#32
  let v374 : BitVec 32 := Scalar.muli v315 c1024_i32_235
  v374
def k0_mult5 (i : grid0.Coords) (k0_t1 : Fin (k0_t1_loop i).trips) : BitVec 32 :=
  let c2_i32 : BitVec 32 := 2#32
  let c0_i32_43 : BitVec 32 := 0#32
  let c1_i32_45 : BitVec 32 := 1#32
  let arg14 : BitVec 32 := Scf.iv c0_i32_43 c1_i32_45 k0_t1
  let v315 : BitVec 32 := Scalar.muli c2_i32 arg14
  let c1_i32_263 : BitVec 32 := 1#32
  let v418 : BitVec 32 := Scalar.addi v315 c1_i32_263
  let c1024_i32_264 : BitVec 32 := 1024#32
  let v419 : BitVec 32 := Scalar.muli v418 c1024_i32_264
  v419
def k0_off3 (i : grid0.Coords) (k0_t1 : Fin (k0_t1_loop i).trips) : Fin 4 → Nat :=
  let c0_265 : Index := 0#32
  let c0_266 : Index := 0#32
  let c2_i32 : BitVec 32 := 2#32
  let c0_i32_43 : BitVec 32 := 0#32
  let c1_i32_45 : BitVec 32 := 1#32
  let arg14 : BitVec 32 := Scf.iv c0_i32_43 c1_i32_45 k0_t1
  let v315 : BitVec 32 := Scalar.muli c2_i32 arg14
  let c1_i32_263 : BitVec 32 := 1#32
  let v418 : BitVec 32 := Scalar.addi v315 c1_i32_263
  let c1024_i32_264 : BitVec 32 := 1024#32
  let v419 : BitVec 32 := Scalar.muli v418 c1024_i32_264
  let v420 : BitVec 32 := v419
  let v421 : Index := Scalar.indexCast v420
  let c0_267 : Index := 0#32
  ![0, 0, v421.toNat, 0]
def k0_mult6 (i : grid0.Coords) (k0_t1 : Fin (k0_t1_loop i).trips) : BitVec 32 :=
  let c2_i32 : BitVec 32 := 2#32
  let c0_i32_43 : BitVec 32 := 0#32
  let c1_i32_45 : BitVec 32 := 1#32
  let arg14 : BitVec 32 := Scf.iv c0_i32_43 c1_i32_45 k0_t1
  let v315 : BitVec 32 := Scalar.muli c2_i32 arg14
  let c1_i32_295 : BitVec 32 := 1#32
  let v466 : BitVec 32 := Scalar.addi v315 c1_i32_295
  let c1024_i32_296 : BitVec 32 := 1024#32
  let v467 : BitVec 32 := Scalar.muli v466 c1024_i32_296
  v467
def k0_off4 (i : grid0.Coords) (k0_t1 : Fin (k0_t1_loop i).trips) : Fin 5 → Nat :=
  let c0_325 : Index := 0#32
  let c0_326 : Index := 0#32
  let c2_i32_323 : BitVec 32 := 2#32
  let c0_i32_43 : BitVec 32 := 0#32
  let c1_i32_45 : BitVec 32 := 1#32
  let arg14 : BitVec 32 := Scf.iv c0_i32_43 c1_i32_45 k0_t1
  let v507 : BitVec 32 := Scalar.muli c2_i32_323 arg14
  let c1_i32_324 : BitVec 32 := 1#32
  let v508 : BitVec 32 := Scalar.addi v507 c1_i32_324
  let v509 : Index := Scalar.indexCast v508
  let c0_327 : Index := 0#32
  let c0_328 : Index := 0#32
  ![0, 0, v509.toNat, 0, 0]
def k0_mult7 (i : grid0.Coords) (k0_t1 : Fin (k0_t1_loop i).trips) : BitVec 32 :=
  let c2_i32_323 : BitVec 32 := 2#32
  let c0_i32_43 : BitVec 32 := 0#32
  let c1_i32_45 : BitVec 32 := 1#32
  let arg14 : BitVec 32 := Scf.iv c0_i32_43 c1_i32_45 k0_t1
  let v507 : BitVec 32 := Scalar.muli c2_i32_323 arg14
  let c1_i32_324 : BitVec 32 := 1#32
  let v508 : BitVec 32 := Scalar.addi v507 c1_i32_324
  let c1024_i32_335 : BitVec 32 := 1024#32
  let v516 : BitVec 32 := Scalar.muli v508 c1024_i32_335
  v516
def k0_mult8 (i : grid0.Coords) (k0_t1 : Fin (k0_t1_loop i).trips) : BitVec 32 :=
  let c2_i32_323 : BitVec 32 := 2#32
  let c0_i32_43 : BitVec 32 := 0#32
  let c1_i32_45 : BitVec 32 := 1#32
  let arg14 : BitVec 32 := Scf.iv c0_i32_43 c1_i32_45 k0_t1
  let v507 : BitVec 32 := Scalar.muli c2_i32_323 arg14
  let c1_i32_324 : BitVec 32 := 1#32
  let v508 : BitVec 32 := Scalar.addi v507 c1_i32_324
  let c1024_i32_367 : BitVec 32 := 1024#32
  let v567 : BitVec 32 := Scalar.muli v508 c1024_i32_367
  v567
def k0_mult9 (i : grid0.Coords) (k0_t1 : Fin (k0_t1_loop i).trips) : BitVec 32 :=
  let c2_i32_323 : BitVec 32 := 2#32
  let c0_i32_43 : BitVec 32 := 0#32
  let c1_i32_45 : BitVec 32 := 1#32
  let arg14 : BitVec 32 := Scf.iv c0_i32_43 c1_i32_45 k0_t1
  let v507 : BitVec 32 := Scalar.muli c2_i32_323 arg14
  let c1_i32_324 : BitVec 32 := 1#32
  let v508 : BitVec 32 := Scalar.addi v507 c1_i32_324
  let c1_i32_395 : BitVec 32 := 1#32
  let v611 : BitVec 32 := Scalar.addi v508 c1_i32_395
  let c1024_i32_396 : BitVec 32 := 1024#32
  let v612 : BitVec 32 := Scalar.muli v611 c1024_i32_396
  v612
def k0_off5 (i : grid0.Coords) (k0_t1 : Fin (k0_t1_loop i).trips) : Fin 4 → Nat :=
  let c0_397 : Index := 0#32
  let c0_398 : Index := 0#32
  let c2_i32_323 : BitVec 32 := 2#32
  let c0_i32_43 : BitVec 32 := 0#32
  let c1_i32_45 : BitVec 32 := 1#32
  let arg14 : BitVec 32 := Scf.iv c0_i32_43 c1_i32_45 k0_t1
  let v507 : BitVec 32 := Scalar.muli c2_i32_323 arg14
  let c1_i32_324 : BitVec 32 := 1#32
  let v508 : BitVec 32 := Scalar.addi v507 c1_i32_324
  let c1_i32_395 : BitVec 32 := 1#32
  let v611 : BitVec 32 := Scalar.addi v508 c1_i32_395
  let c1024_i32_396 : BitVec 32 := 1024#32
  let v612 : BitVec 32 := Scalar.muli v611 c1024_i32_396
  let v613 : BitVec 32 := v612
  let v614 : Index := Scalar.indexCast v613
  let c0_399 : Index := 0#32
  ![0, 0, v614.toNat, 0]
def k0_mult10 (i : grid0.Coords) (k0_t1 : Fin (k0_t1_loop i).trips) : BitVec 32 :=
  let c2_i32_323 : BitVec 32 := 2#32
  let c0_i32_43 : BitVec 32 := 0#32
  let c1_i32_45 : BitVec 32 := 1#32
  let arg14 : BitVec 32 := Scf.iv c0_i32_43 c1_i32_45 k0_t1
  let v507 : BitVec 32 := Scalar.muli c2_i32_323 arg14
  let c1_i32_324 : BitVec 32 := 1#32
  let v508 : BitVec 32 := Scalar.addi v507 c1_i32_324
  let c1_i32_427 : BitVec 32 := 1#32
  let v659 : BitVec 32 := Scalar.addi v508 c1_i32_427
  let c1024_i32_428 : BitVec 32 := 1024#32
  let v660 : BitVec 32 := Scalar.muli v659 c1024_i32_428
  v660
@[reducible] def k0_t2_loop (i : grid0.Coords) : Scf.Loop 32 :=
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let v53 : BitVec 32 := Scalar.addi c0_i32_43 v52
  let c1_i32_46 : BitVec 32 := 1#32
  ⟨v56, v53, c1_i32_46⟩
def k0_off6 (i : grid0.Coords) (k0_t2 : Fin (k0_t2_loop i).trips) : Fin 5 → Nat :=
  let c0_193 : Index := 0#32
  let c0_194 : Index := 0#32
  let c2_i32 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v315 : BitVec 32 := Scalar.muli c2_i32 arg14
  let v316 : Index := Scalar.indexCast v315
  let c0_195 : Index := 0#32
  let c0_196 : Index := 0#32
  ![0, 0, v316.toNat, 0, 0]
def k0_mult11 (i : grid0.Coords) (k0_t2 : Fin (k0_t2_loop i).trips) : BitVec 32 :=
  let c2_i32 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v315 : BitVec 32 := Scalar.muli c2_i32 arg14
  let c1024_i32_203 : BitVec 32 := 1024#32
  let v323 : BitVec 32 := Scalar.muli v315 c1024_i32_203
  v323
def k0_off7 (i : grid0.Coords) (k0_t2 : Fin (k0_t2_loop i).trips) : Fin 4 → Nat :=
  let c0_204 : Index := 0#32
  let c0_205 : Index := 0#32
  let c2_i32 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v315 : BitVec 32 := Scalar.muli c2_i32 arg14
  let c1024_i32_203 : BitVec 32 := 1024#32
  let v323 : BitVec 32 := Scalar.muli v315 c1024_i32_203
  let v324 : BitVec 32 := v323
  let v325 : Index := Scalar.indexCast v324
  let c0_206 : Index := 0#32
  ![0, 0, v325.toNat, 0]
def k0_mult12 (i : grid0.Coords) (k0_t2 : Fin (k0_t2_loop i).trips) : BitVec 32 :=
  let c2_i32 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v315 : BitVec 32 := Scalar.muli c2_i32 arg14
  let c1024_i32_235 : BitVec 32 := 1024#32
  let v374 : BitVec 32 := Scalar.muli v315 c1024_i32_235
  v374
def k0_mult13 (i : grid0.Coords) (k0_t2 : Fin (k0_t2_loop i).trips) : BitVec 32 :=
  let c2_i32 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v315 : BitVec 32 := Scalar.muli c2_i32 arg14
  let c1_i32_263 : BitVec 32 := 1#32
  let v418 : BitVec 32 := Scalar.addi v315 c1_i32_263
  let c1024_i32_264 : BitVec 32 := 1024#32
  let v419 : BitVec 32 := Scalar.muli v418 c1024_i32_264
  v419
def k0_off8 (i : grid0.Coords) (k0_t2 : Fin (k0_t2_loop i).trips) : Fin 4 → Nat :=
  let c0_265 : Index := 0#32
  let c0_266 : Index := 0#32
  let c2_i32 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v315 : BitVec 32 := Scalar.muli c2_i32 arg14
  let c1_i32_263 : BitVec 32 := 1#32
  let v418 : BitVec 32 := Scalar.addi v315 c1_i32_263
  let c1024_i32_264 : BitVec 32 := 1024#32
  let v419 : BitVec 32 := Scalar.muli v418 c1024_i32_264
  let v420 : BitVec 32 := v419
  let v421 : Index := Scalar.indexCast v420
  let c0_267 : Index := 0#32
  ![0, 0, v421.toNat, 0]
def k0_mult14 (i : grid0.Coords) (k0_t2 : Fin (k0_t2_loop i).trips) : BitVec 32 :=
  let c2_i32 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v315 : BitVec 32 := Scalar.muli c2_i32 arg14
  let c1_i32_295 : BitVec 32 := 1#32
  let v466 : BitVec 32 := Scalar.addi v315 c1_i32_295
  let c1024_i32_296 : BitVec 32 := 1024#32
  let v467 : BitVec 32 := Scalar.muli v466 c1024_i32_296
  v467
def k0_off9 (i : grid0.Coords) (k0_t2 : Fin (k0_t2_loop i).trips) : Fin 5 → Nat :=
  let c0_325 : Index := 0#32
  let c0_326 : Index := 0#32
  let c2_i32_323 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v507 : BitVec 32 := Scalar.muli c2_i32_323 arg14
  let c1_i32_324 : BitVec 32 := 1#32
  let v508 : BitVec 32 := Scalar.addi v507 c1_i32_324
  let v509 : Index := Scalar.indexCast v508
  let c0_327 : Index := 0#32
  let c0_328 : Index := 0#32
  ![0, 0, v509.toNat, 0, 0]
def k0_mult15 (i : grid0.Coords) (k0_t2 : Fin (k0_t2_loop i).trips) : BitVec 32 :=
  let c2_i32_323 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v507 : BitVec 32 := Scalar.muli c2_i32_323 arg14
  let c1_i32_324 : BitVec 32 := 1#32
  let v508 : BitVec 32 := Scalar.addi v507 c1_i32_324
  let c1024_i32_335 : BitVec 32 := 1024#32
  let v516 : BitVec 32 := Scalar.muli v508 c1024_i32_335
  v516
def k0_mult16 (i : grid0.Coords) (k0_t2 : Fin (k0_t2_loop i).trips) : BitVec 32 :=
  let c2_i32_323 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v507 : BitVec 32 := Scalar.muli c2_i32_323 arg14
  let c1_i32_324 : BitVec 32 := 1#32
  let v508 : BitVec 32 := Scalar.addi v507 c1_i32_324
  let c1024_i32_367 : BitVec 32 := 1024#32
  let v567 : BitVec 32 := Scalar.muli v508 c1024_i32_367
  v567
def k0_mult17 (i : grid0.Coords) (k0_t2 : Fin (k0_t2_loop i).trips) : BitVec 32 :=
  let c2_i32_323 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v507 : BitVec 32 := Scalar.muli c2_i32_323 arg14
  let c1_i32_324 : BitVec 32 := 1#32
  let v508 : BitVec 32 := Scalar.addi v507 c1_i32_324
  let c1_i32_395 : BitVec 32 := 1#32
  let v611 : BitVec 32 := Scalar.addi v508 c1_i32_395
  let c1024_i32_396 : BitVec 32 := 1024#32
  let v612 : BitVec 32 := Scalar.muli v611 c1024_i32_396
  v612
def k0_off10 (i : grid0.Coords) (k0_t2 : Fin (k0_t2_loop i).trips) : Fin 4 → Nat :=
  let c0_397 : Index := 0#32
  let c0_398 : Index := 0#32
  let c2_i32_323 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v507 : BitVec 32 := Scalar.muli c2_i32_323 arg14
  let c1_i32_324 : BitVec 32 := 1#32
  let v508 : BitVec 32 := Scalar.addi v507 c1_i32_324
  let c1_i32_395 : BitVec 32 := 1#32
  let v611 : BitVec 32 := Scalar.addi v508 c1_i32_395
  let c1024_i32_396 : BitVec 32 := 1024#32
  let v612 : BitVec 32 := Scalar.muli v611 c1024_i32_396
  let v613 : BitVec 32 := v612
  let v614 : Index := Scalar.indexCast v613
  let c0_399 : Index := 0#32
  ![0, 0, v614.toNat, 0]
def k0_mult18 (i : grid0.Coords) (k0_t2 : Fin (k0_t2_loop i).trips) : BitVec 32 :=
  let c2_i32_323 : BitVec 32 := 2#32
  let c0_i32_43 : BitVec 32 := 0#32
  let arg2 : BitVec 32 := BitVec.ofNat 32 (i 2).val
  let c1_i32 : BitVec 32 := 1#32
  let v51 : BitVec 32 := Scalar.shrui arg2 c1_i32
  let v52 : BitVec 32 := Scalar.subi v51 c0_i32_43
  let c1_i32_44 : BitVec 32 := 1#32
  let v54 : BitVec 32 := Scalar.divsi v52 c1_i32_44
  let v55 : BitVec 32 := Scalar.muli v54 c1_i32_44
  let v56 : BitVec 32 := Scalar.addi c0_i32_43 v55
  let c1_i32_46 : BitVec 32 := 1#32
  let arg14 : BitVec 32 := Scf.iv v56 c1_i32_46 k0_t2
  let v507 : BitVec 32 := Scalar.muli c2_i32_323 arg14
  let c1_i32_324 : BitVec 32 := 1#32
  let v508 : BitVec 32 := Scalar.addi v507 c1_i32_324
  let c1_i32_427 : BitVec 32 := 1#32
  let v659 : BitVec 32 := Scalar.addi v508 c1_i32_427
  let c1024_i32_428 : BitVec 32 := 1024#32
  let v660 : BitVec 32 := Scalar.muli v659 c1024_i32_428
  v660
@[reducible] def k0_t3_loop (i : grid0.Coords) : Scf.Loop 32 :=
  let c0_i32_49 : BitVec 32 := 0#32
  let arg2 : BitVec 32 := BitVec.ofNat 32 (i 2).val
  let c1_i32_47 : BitVec 32 := 1#32
  let v57 : BitVec 32 := Scalar.andi arg2 c1_i32_47
  let v58 : BitVec 32 := Scalar.subi v57 c0_i32_49
  let c1_i32_50 : BitVec 32 := 1#32
  let v60 : BitVec 32 := Scalar.divsi v58 c1_i32_50
  let v61 : BitVec 32 := Scalar.muli v60 c1_i32_50
  let v62 : BitVec 32 := Scalar.addi c0_i32_49 v61
  let c1_i32_51 : BitVec 32 := 1#32
  ⟨c0_i32_49, v62, c1_i32_51⟩
def k0_off11 (i : grid0.Coords) : Fin 5 → Nat :=
  let c0_194 : Index := 0#32
  let c0_195 : Index := 0#32
  let arg2 : BitVec 32 := BitVec.ofNat 32 (i 2).val
  let c1_i32_193 : BitVec 32 := 1#32
  let v315 : BitVec 32 := Scalar.subi arg2 c1_i32_193
  let v316 : Index := Scalar.indexCast v315
  let c0_196 : Index := 0#32
  let c0_197 : Index := 0#32
  ![0, 0, v316.toNat, 0, 0]
def k0_mult19 (i : grid0.Coords) : BitVec 32 :=
  let arg2 : BitVec 32 := BitVec.ofNat 32 (i 2).val
  let c1_i32_193 : BitVec 32 := 1#32
  let v315 : BitVec 32 := Scalar.subi arg2 c1_i32_193
  let c1024_i32_204 : BitVec 32 := 1024#32
  let v323 : BitVec 32 := Scalar.muli v315 c1024_i32_204
  v323
def k0_off12 (i : grid0.Coords) : Fin 4 → Nat :=
  let c0_205 : Index := 0#32
  let c0_206 : Index := 0#32
  let arg2 : BitVec 32 := BitVec.ofNat 32 (i 2).val
  let c1_i32_193 : BitVec 32 := 1#32
  let v315 : BitVec 32 := Scalar.subi arg2 c1_i32_193
  let c1024_i32_204 : BitVec 32 := 1024#32
  let v323 : BitVec 32 := Scalar.muli v315 c1024_i32_204
  let v324 : BitVec 32 := v323
  let v325 : Index := Scalar.indexCast v324
  let c0_207 : Index := 0#32
  ![0, 0, v325.toNat, 0]
def k0_mult20 (i : grid0.Coords) : BitVec 32 :=
  let arg2 : BitVec 32 := BitVec.ofNat 32 (i 2).val
  let c1_i32_193 : BitVec 32 := 1#32
  let v315 : BitVec 32 := Scalar.subi arg2 c1_i32_193
  let c1024_i32_236 : BitVec 32 := 1024#32
  let v374 : BitVec 32 := Scalar.muli v315 c1024_i32_236
  v374
def k0_mult21 (i : grid0.Coords) : BitVec 32 :=
  let arg2 : BitVec 32 := BitVec.ofNat 32 (i 2).val
  let c1_i32_193 : BitVec 32 := 1#32
  let v315 : BitVec 32 := Scalar.subi arg2 c1_i32_193
  let c1_i32_264 : BitVec 32 := 1#32
  let v418 : BitVec 32 := Scalar.addi v315 c1_i32_264
  let c1024_i32_265 : BitVec 32 := 1024#32
  let v419 : BitVec 32 := Scalar.muli v418 c1024_i32_265
  v419
def k0_off13 (i : grid0.Coords) : Fin 4 → Nat :=
  let c0_266 : Index := 0#32
  let c0_267 : Index := 0#32
  let arg2 : BitVec 32 := BitVec.ofNat 32 (i 2).val
  let c1_i32_193 : BitVec 32 := 1#32
  let v315 : BitVec 32 := Scalar.subi arg2 c1_i32_193
  let c1_i32_264 : BitVec 32 := 1#32
  let v418 : BitVec 32 := Scalar.addi v315 c1_i32_264
  let c1024_i32_265 : BitVec 32 := 1024#32
  let v419 : BitVec 32 := Scalar.muli v418 c1024_i32_265
  let v420 : BitVec 32 := v419
  let v421 : Index := Scalar.indexCast v420
  let c0_268 : Index := 0#32
  ![0, 0, v421.toNat, 0]
def k0_mult22 (i : grid0.Coords) : BitVec 32 :=
  let arg2 : BitVec 32 := BitVec.ofNat 32 (i 2).val
  let c1_i32_193 : BitVec 32 := 1#32
  let v315 : BitVec 32 := Scalar.subi arg2 c1_i32_193
  let c1_i32_296 : BitVec 32 := 1#32
  let v466 : BitVec 32 := Scalar.addi v315 c1_i32_296
  let c1024_i32_297 : BitVec 32 := 1024#32
  let v467 : BitVec 32 := Scalar.muli v466 c1024_i32_297
  v467
@[reducible] def k0_t4_loop (i : grid0.Coords) : Scf.Loop 32 :=
  let c0_i32_49 : BitVec 32 := 0#32
  let arg2 : BitVec 32 := BitVec.ofNat 32 (i 2).val
  let c1_i32_47 : BitVec 32 := 1#32
  let v57 : BitVec 32 := Scalar.andi arg2 c1_i32_47
  let v58 : BitVec 32 := Scalar.subi v57 c0_i32_49
  let c1_i32_50 : BitVec 32 := 1#32
  let v60 : BitVec 32 := Scalar.divsi v58 c1_i32_50
  let v61 : BitVec 32 := Scalar.muli v60 c1_i32_50
  let v62 : BitVec 32 := Scalar.addi c0_i32_49 v61
  let v59 : BitVec 32 := Scalar.addi c0_i32_49 v58
  let c1_i32_52 : BitVec 32 := 1#32
  ⟨v62, v59, c1_i32_52⟩
def k0_off14 (i : grid0.Coords) : Fin 5 → Nat :=
  let c0_194 : Index := 0#32
  let c0_195 : Index := 0#32
  let arg2 : BitVec 32 := BitVec.ofNat 32 (i 2).val
  let c1_i32_193 : BitVec 32 := 1#32
  let v315 : BitVec 32 := Scalar.subi arg2 c1_i32_193
  let v316 : Index := Scalar.indexCast v315
  let c0_196 : Index := 0#32
  let c0_197 : Index := 0#32
  ![0, 0, v316.toNat, 0, 0]
def k0_mult23 (i : grid0.Coords) : BitVec 32 :=
  let arg2 : BitVec 32 := BitVec.ofNat 32 (i 2).val
  let c1_i32_193 : BitVec 32 := 1#32
  let v315 : BitVec 32 := Scalar.subi arg2 c1_i32_193
  let c1024_i32_204 : BitVec 32 := 1024#32
  let v323 : BitVec 32 := Scalar.muli v315 c1024_i32_204
  v323
def k0_off15 (i : grid0.Coords) : Fin 4 → Nat :=
  let c0_205 : Index := 0#32
  let c0_206 : Index := 0#32
  let arg2 : BitVec 32 := BitVec.ofNat 32 (i 2).val
  let c1_i32_193 : BitVec 32 := 1#32
  let v315 : BitVec 32 := Scalar.subi arg2 c1_i32_193
  let c1024_i32_204 : BitVec 32 := 1024#32
  let v323 : BitVec 32 := Scalar.muli v315 c1024_i32_204
  let v324 : BitVec 32 := v323
  let v325 : Index := Scalar.indexCast v324
  let c0_207 : Index := 0#32
  ![0, 0, v325.toNat, 0]
def k0_mult24 (i : grid0.Coords) : BitVec 32 :=
  let arg2 : BitVec 32 := BitVec.ofNat 32 (i 2).val
  let c1_i32_193 : BitVec 32 := 1#32
  let v315 : BitVec 32 := Scalar.subi arg2 c1_i32_193
  let c1024_i32_236 : BitVec 32 := 1024#32
  let v374 : BitVec 32 := Scalar.muli v315 c1024_i32_236
  v374
def k0_mult25 (i : grid0.Coords) : BitVec 32 :=
  let arg2 : BitVec 32 := BitVec.ofNat 32 (i 2).val
  let c1_i32_193 : BitVec 32 := 1#32
  let v315 : BitVec 32 := Scalar.subi arg2 c1_i32_193
  let c1_i32_264 : BitVec 32 := 1#32
  let v418 : BitVec 32 := Scalar.addi v315 c1_i32_264
  let c1024_i32_265 : BitVec 32 := 1024#32
  let v419 : BitVec 32 := Scalar.muli v418 c1024_i32_265
  v419
def k0_off16 (i : grid0.Coords) : Fin 4 → Nat :=
  let c0_266 : Index := 0#32
  let c0_267 : Index := 0#32
  let arg2 : BitVec 32 := BitVec.ofNat 32 (i 2).val
  let c1_i32_193 : BitVec 32 := 1#32
  let v315 : BitVec 32 := Scalar.subi arg2 c1_i32_193
  let c1_i32_264 : BitVec 32 := 1#32
  let v418 : BitVec 32 := Scalar.addi v315 c1_i32_264
  let c1024_i32_265 : BitVec 32 := 1024#32
  let v419 : BitVec 32 := Scalar.muli v418 c1024_i32_265
  let v420 : BitVec 32 := v419
  let v421 : Index := Scalar.indexCast v420
  let c0_268 : Index := 0#32
  ![0, 0, v421.toNat, 0]
def k0_mult26 (i : grid0.Coords) : BitVec 32 :=
  let arg2 : BitVec 32 := BitVec.ofNat 32 (i 2).val
  let c1_i32_193 : BitVec 32 := 1#32
  let v315 : BitVec 32 := Scalar.subi arg2 c1_i32_193
  let c1_i32_296 : BitVec 32 := 1#32
  let v466 : BitVec 32 := Scalar.addi v315 c1_i32_296
  let c1024_i32_297 : BitVec 32 := 1024#32
  let v467 : BitVec 32 := Scalar.muli v466 c1024_i32_297
  v467
def k0_off17 (i : grid0.Coords) : Fin 5 → Nat :=
  let c0_53 : Index := 0#32
  let c0_54 : Index := 0#32
  let arg2 : BitVec 32 := BitVec.ofNat 32 (i 2).val
  let v63 : Index := Scalar.indexCast arg2
  let c0_55 : Index := 0#32
  let c0_56 : Index := 0#32
  ![0, 0, v63.toNat, 0, 0]
def k0_mult27 (i : grid0.Coords) : BitVec 32 :=
  let arg2 : BitVec 32 := BitVec.ofNat 32 (i 2).val
  let c1024_i32 : BitVec 32 := 1024#32
  let v84 : BitVec 32 := Scalar.muli arg2 c1024_i32
  v84
def k0_off18 (i : grid0.Coords) : Fin 4 → Nat :=
  let c0_66 : Index := 0#32
  let c0_67 : Index := 0#32
  let arg2 : BitVec 32 := BitVec.ofNat 32 (i 2).val
  let c1024_i32 : BitVec 32 := 1024#32
  let v84 : BitVec 32 := Scalar.muli arg2 c1024_i32
  let v85 : BitVec 32 := v84
  let v86 : Index := Scalar.indexCast v85
  let c0_68 : Index := 0#32
  ![0, 0, v86.toNat, 0]
def k0_mult28 (i : grid0.Coords) : BitVec 32 :=
  let arg2 : BitVec 32 := BitVec.ofNat 32 (i 2).val
  let c1024_i32_99 : BitVec 32 := 1024#32
  let v142 : BitVec 32 := Scalar.muli arg2 c1024_i32_99
  v142
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "qk_scale_log2" => some (((1 / 8) * (Real.log 2)⁻¹ : ℝ) : EReal)
  | _ => none
-- ==== ReferenceIdeal.lean ====
abbrev S2x6x8192x128 : Shape := ⟨4, ![2, 6, 8192, 128]⟩
abbrev S4x64 : Shape := ⟨2, ![4, 64]⟩
abbrev S1x128 : Shape := ⟨2, ![1, 128]⟩
abbrev S1x64 : Shape := ⟨2, ![1, 64]⟩
abbrev S64 : Shape := ⟨1, ![64]⟩
abbrev S_ : Shape := ⟨0, ![]⟩
abbrev S2x6x8192x2x64 : Shape := ⟨5, ![2, 6, 8192, 2, 64]⟩
abbrev S2x6x2x8192x8192 : Shape := ⟨5, ![2, 6, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x6x2x8192 : Shape := ⟨4, ![2, 6, 2, 8192]⟩
abbrev S2x6x2x8192x1 : Shape := ⟨5, ![2, 6, 2, 8192, 1]⟩
abbrev S2x6x1x8192x8192 : Shape := ⟨5, ![2, 6, 1, 8192, 8192]⟩
abbrev S2x6x8192x8192 : Shape := ⟨4, ![2, 6, 8192, 8192]⟩
abbrev S2x6x128x8192 : Shape := ⟨4, ![2, 6, 128, 8192]⟩
abbrev S2x8192x6x128 : Shape := ⟨4, ![2, 8192, 6, 128]⟩
abbrev S2x8192x6 : Shape := ⟨3, ![2, 8192, 6]⟩
abbrev S2x8192x6x1 : Shape := ⟨4, ![2, 8192, 6, 1]⟩
abbrev S128 : Shape := ⟨1, ![128]⟩
abbrev S1x1x1x128 : Shape := ⟨4, ![1, 1, 1, 128]⟩
abbrev S2x8192x768 : Shape := ⟨3, ![2, 8192, 768]⟩

abbrev nBuf : Space → Nat
  | .hbm => 86
  | .vmem => 0
  | .smem => 0
  | _ => 0

abbrev bufTy : (tb : Table) → Fin (tcTables nBuf tb) → BufTy
  | .hbm, ⟨0, _⟩ => ⟨S2x6x8192x128, .f32⟩
  | .hbm, ⟨1, _⟩ => ⟨S2x6x8192x128, .f32⟩
  | .hbm, ⟨2, _⟩ => ⟨S2x6x8192x128, .f32⟩
  | .hbm, ⟨3, _⟩ => ⟨S4x64, .f32⟩
  | .hbm, ⟨4, _⟩ => ⟨S1x128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x6x8192x2x64, .f32⟩
  | .hbm, ⟨25, _⟩ => ⟨S2x6x8192x2x64, .f32⟩
  | .hbm, ⟨26, _⟩ => ⟨S2x6x2x8192x8192, .f32⟩
  | .hbm, ⟨27, _⟩ => ⟨S_, .f32⟩
  | .hbm, ⟨28, _⟩ => ⟨S2x6x2x8192x8192, .f32⟩
  | .hbm, ⟨29, _⟩ => ⟨S2x6x2x8192x8192, .f32⟩
  | .hbm, ⟨30, _⟩ => ⟨S8192, .i32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S2x6x2x8192x8192, .i1⟩
  | .hbm, ⟨39, _⟩ => ⟨S2x6x2x8192x8192, .f32⟩
  | .hbm, ⟨40, _⟩ => ⟨S2x6x2x8192x8192, .f32⟩
  | .hbm, ⟨41, _⟩ => ⟨S_, .f32⟩
  | .hbm, ⟨42, _⟩ => ⟨S2x6x2x8192, .f32⟩
  | .hbm, ⟨43, _⟩ => ⟨S_, .f32⟩
  | .hbm, ⟨44, _⟩ => ⟨S2x6x2x8192, .f32⟩
  | .hbm, ⟨45, _⟩ => ⟨S2x6x2x8192, .f32⟩
  | .hbm, ⟨46, _⟩ => ⟨S2x6x2x8192x1, .f32⟩
  | .hbm, ⟨47, _⟩ => ⟨S2x6x2x8192x8192, .f32⟩
  | .hbm, ⟨48, _⟩ => ⟨S2x6x2x8192x8192, .f32⟩
  | .hbm, ⟨49, _⟩ => ⟨S2x6x2x8192x8192, .f32⟩
  | .hbm, ⟨50, _⟩ => ⟨S_, .f32⟩
  | .hbm, ⟨51, _⟩ => ⟨S2x6x2x8192, .f32⟩
  | .hbm, ⟨52, _⟩ => ⟨S2x6x2x8192x1, .f32⟩
  | .hbm, ⟨53, _⟩ => ⟨S2x6x2x8192x8192, .f32⟩
  | .hbm, ⟨54, _⟩ => ⟨S2x6x2x8192x8192, .f32⟩
  | .hbm, ⟨55, _⟩ => ⟨S2x6x1x8192x8192, .f32⟩
  | .hbm, ⟨56, _⟩ => ⟨S2x6x8192x8192, .f32⟩
  | .hbm, ⟨57, _⟩ => ⟨S2x6x1x8192x8192, .f32⟩
  | .hbm, ⟨58, _⟩ => ⟨S2x6x8192x8192, .f32⟩
  | .hbm, ⟨59, _⟩ => ⟨S2x6x8192x8192, .f32⟩
  | .hbm, ⟨60, _⟩ => ⟨S2x6x8192x8192, .f32⟩
  | .hbm, ⟨61, _⟩ => ⟨S2x6x8192x8192, .f32⟩
  | .hbm, ⟨62, _⟩ => ⟨S2x6x128x8192, .f32⟩
  | .hbm, ⟨63, _⟩ => ⟨S2x8192x6x128, .f32⟩
  | .hbm, ⟨64, _⟩ => ⟨S2x8192x6x128, .f32⟩
  | .hbm, ⟨65, _⟩ => ⟨S_, .f32⟩
  | .hbm, ⟨66, _⟩ => ⟨S2x8192x6, .f32⟩
  | .hbm, ⟨67, _⟩ => ⟨S2x8192x6x1, .f32⟩
  | .hbm, ⟨68, _⟩ => ⟨S_, .f32⟩
  | .hbm, ⟨69, _⟩ => ⟨S2x8192x6x1, .f32⟩
  | .hbm, ⟨70, _⟩ => ⟨S2x8192x6x1, .f32⟩
  | .hbm, ⟨71, _⟩ => ⟨S_, .f32⟩
  | .hbm, ⟨72, _⟩ => ⟨S2x8192x6x1, .f32⟩
  | .hbm, ⟨73, _⟩ => ⟨S2x8192x6x1, .f32⟩
  | .hbm, ⟨74, _⟩ => ⟨S2x8192x6x1, .f32⟩
  | .hbm, ⟨75, _⟩ => ⟨S2x8192x6x128, .f32⟩
  | .hbm, ⟨76, _⟩ => ⟨S2x8192x6x128, .f32⟩
  | .hbm, ⟨77, _⟩ => ⟨S128, .f32⟩
  | .hbm, ⟨78, _⟩ => ⟨S1x1x1x128, .f32⟩
  | .hbm, ⟨79, _⟩ => ⟨S2x8192x6x128, .f32⟩
  | .hbm, ⟨80, _⟩ => ⟨S2x8192x6x128, .f32⟩
  | .hbm, ⟨81, _⟩ => ⟨S_, .f32⟩
  | .hbm, ⟨82, _⟩ => ⟨S2x8192x6x128, .f32⟩
  | .hbm, ⟨83, _⟩ => ⟨S2x8192x6x128, .f32⟩
  | .hbm, ⟨84, _⟩ => ⟨S2x8192x768, .f32⟩
  | .hbm, ⟨85, _⟩ => ⟨S2x8192x768, .bf16⟩
  | _, _ => ⟨S2x6x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Ffn.lean ====
abbrev S16384x1024 : Shape := ⟨2, ![16384, 1024]⟩
abbrev S16384x768 : Shape := ⟨2, ![16384, 768]⟩
abbrev S16384x256 : Shape := ⟨2, ![16384, 256]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1024x768 : Shape := ⟨2, ![1024, 768]⟩
abbrev S1024x256 : Shape := ⟨2, ![1024, 256]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S256x768 : Shape := ⟨2, ![256, 768]⟩
abbrev S1x768x1024 : Shape := ⟨3, ![1, 768, 1024]⟩
abbrev S768x1024 : Shape := ⟨2, ![768, 1024]⟩
abbrev S256x1024 : Shape := ⟨2, ![256, 1024]⟩
abbrev S256x256 : Shape := ⟨2, ![256, 256]⟩
abbrev S1x256x1024 : Shape := ⟨3, ![1, 256, 1024]⟩
abbrev S256 : Shape := ⟨1, ![256]⟩
abbrev S256x1 : Shape := ⟨2, ![256, 1]⟩

abbrev nBuf : Space → Nat
  | .hbm => 14
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x768, .bf16⟩
  | .hbm, ⟨2, _⟩ => ⟨S16384x256, .bf16⟩
  | .hbm, ⟨3, _⟩ => ⟨S2x1024x1024, .f32⟩
  | .hbm, ⟨4, _⟩ => ⟨S2x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S2x1024, .f32⟩
  | .hbm, ⟨9, _⟩ => ⟨S2x1024, .f32⟩
  | .hbm, ⟨10, _⟩ => ⟨S2x1024x1024, .bf16⟩
  | .hbm, ⟨11, _⟩ => ⟨S2x1024x4096, .bf16⟩
  | .hbm, ⟨12, _⟩ => ⟨S2x4096x1024, .bf16⟩
  | .hbm, ⟨13, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x768, .bf16⟩
  | .local _ .vmem, ⟨3, _⟩ => ⟨S1024x768, .bf16⟩
  | .local _ .vmem, ⟨4, _⟩ => ⟨S1024x256, .bf16⟩
  | .local _ .vmem, ⟨5, _⟩ => ⟨S1024x256, .bf16⟩
  | .local _ .vmem, ⟨6, _⟩ => ⟨S1x1024x1024, .bf16⟩
  | .local _ .vmem, ⟨7, _⟩ => ⟨S2x1024, .f32⟩
  | .local _ .vmem, ⟨8, _⟩ => ⟨S2x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S2x1024, .f32⟩
  | .local _ .vmem, ⟨12, _⟩ => ⟨S2x1024, .f32⟩
  | .local _ .vmem, ⟨13, _⟩ => ⟨S1024x1024, .f32⟩
  | .local _ .vmem, ⟨14, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnReferenceIdeal.lean ====
abbrev S16384x1024 : Shape := ⟨2, ![16384, 1024]⟩
abbrev S16384x768 : Shape := ⟨2, ![16384, 768]⟩
abbrev S16384x256 : Shape := ⟨2, ![16384, 256]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x768, .bf16⟩
  | .hbm, ⟨2, _⟩ => ⟨S16384x256, .bf16⟩
  | .hbm, ⟨3, _⟩ => ⟨S2x1024x1024, .f32⟩
  | .hbm, ⟨4, _⟩ => ⟨S2x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S2x1024, .f32⟩
  | .hbm, ⟨9, _⟩ => ⟨S2x1024, .f32⟩
  | .hbm, ⟨10, _⟩ => ⟨S16384x768, .f32⟩
  | .hbm, ⟨11, _⟩ => ⟨S16384x256, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S1x1024x1024, .f32⟩
  | .hbm, ⟨17, _⟩ => ⟨S1024x1024, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S1x1024x4096, .f32⟩
  | .hbm, ⟨54, _⟩ => ⟨S1024x4096, .f32⟩
  | .hbm, ⟨55, _⟩ => ⟨S16384x4096, .f32⟩
  | .hbm, ⟨56, _⟩ => ⟨S_, .f32⟩
  | .hbm, ⟨57, _⟩ => ⟨S16384x4096, .f32⟩
  | .hbm, ⟨58, _⟩ => ⟨S16384x4096, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S16384x4096, .f32⟩
  | .hbm, ⟨63, _⟩ => ⟨S1x4096x1024, .f32⟩
  | .hbm, ⟨64, _⟩ => ⟨S4096x1024, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S1024, .f32⟩
  | .hbm, ⟨69, _⟩ => ⟨S1x1024, .f32⟩
  | .hbm, ⟨70, _⟩ => ⟨S1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S1x1024, .f32⟩
  | .hbm, ⟨95, _⟩ => ⟨S16384x1024, .f32⟩
  | .hbm, ⟨96, _⟩ => ⟨S16384x1024, .f32⟩
  | .hbm, ⟨97, _⟩ => ⟨S1x1024, .f32⟩
  | .hbm, ⟨98, _⟩ => ⟨S16384x1024, .f32⟩
  | .hbm, ⟨99, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== MemKv.lean ====
abbrev S2x256x1024 : Shape := ⟨3, ![2, 256, 1024]⟩
abbrev S2x1024x512 : Shape := ⟨3, ![2, 1024, 512]⟩
abbrev S2x2x256x256 : Shape := ⟨4, ![2, 2, 256, 256]⟩
abbrev S2x2x1024x256 : Shape := ⟨4, ![2, 2, 1024, 256]⟩
abbrev S1x256x1024 : Shape := ⟨3, ![1, 256, 1024]⟩
abbrev S1x1024x512 : Shape := ⟨3, ![1, 1024, 512]⟩
abbrev S1x1x256x256 : Shape := ⟨4, ![1, 1, 256, 256]⟩
abbrev S1x1x1024x256 : Shape := ⟨4, ![1, 1, 1024, 256]⟩
abbrev S256x1024 : Shape := ⟨2, ![256, 1024]⟩
abbrev S1024x512 : Shape := ⟨2, ![1024, 512]⟩
abbrev S256x512 : Shape := ⟨2, ![256, 512]⟩
abbrev S256x256 : Shape := ⟨2, ![256, 256]⟩

abbrev nBuf : Space → Nat
  | .hbm => 7
  | .vmem => 12
  | .smem => 0
  | _ => 0

abbrev bufTy : (tb : Table) → Fin (tcTables nBuf tb) → BufTy
  | .hbm, ⟨0, _⟩ => ⟨S2x256x1024, .f32⟩
  | .hbm, ⟨1, _⟩ => ⟨S2x1024x512, .f32⟩
  | .hbm, ⟨2, _⟩ => ⟨S2x1024x512, .bf16⟩
  | .hbm, ⟨3, _⟩ => ⟨S2x2x256x256, .f32⟩
  | .hbm, ⟨4, _⟩ => ⟨S2x2x256x256, .f32⟩
  | .hbm, ⟨5, _⟩ => ⟨S2x2x256x256, .bf16⟩
  | .hbm, ⟨6, _⟩ => ⟨S2x2x1024x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1x256x256, .f32⟩
  | .local _ .vmem, ⟨5, _⟩ => ⟨S1x1x256x256, .f32⟩
  | .local _ .vmem, ⟨6, _⟩ => ⟨S1x1x256x256, .f32⟩
  | .local _ .vmem, ⟨7, _⟩ => ⟨S1x1x256x256, .f32⟩
  | .local _ .vmem, ⟨8, _⟩ => ⟨S1x1x256x256, .bf16⟩
  | .local _ .vmem, ⟨9, _⟩ => ⟨S1x1x256x256, .bf16⟩
  | .local _ .vmem, ⟨10, _⟩ => ⟨S1x1x1024x256, .bf16⟩
  | .local _ .vmem, ⟨11, _⟩ => ⟨S1x1x1024x256, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MemKvReferenceIdeal.lean ====
abbrev S2x256x1024 : Shape := ⟨3, ![2, 256, 1024]⟩
abbrev S2x1024x512 : Shape := ⟨3, ![2, 1024, 512]⟩
abbrev S2x512x2x256 : Shape := ⟨4, ![2, 512, 2, 256]⟩
abbrev S2x2x256x512 : Shape := ⟨4, ![2, 2, 256, 512]⟩
abbrev S2x2x256x256 : Shape := ⟨4, ![2, 2, 256, 256]⟩

abbrev nBuf : Space → Nat
  | .hbm => 8
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x1024x512, .f32⟩
  | .hbm, ⟨2, _⟩ => ⟨S2x512x2x256, .f32⟩
  | .hbm, ⟨3, _⟩ => ⟨S2x2x256x512, .f32⟩
  | .hbm, ⟨4, _⟩ => ⟨S2x2x256x256, .f32⟩
  | .hbm, ⟨5, _⟩ => ⟨S2x2x256x256, .f32⟩
  | .hbm, ⟨6, _⟩ => ⟨S2x2x256x256, .f32⟩
  | .hbm, ⟨7, _⟩ => ⟨S2x2x256x256, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjSample.lean ====
abbrev S32x1024 : Shape := ⟨2, ![32, 1024]⟩
abbrev S1x1024x2560 : Shape := ⟨3, ![1, 1024, 2560]⟩
abbrev S1024x2560 : Shape := ⟨2, ![1024, 2560]⟩
abbrev S32x768 : Shape := ⟨2, ![32, 768]⟩
abbrev S32x256 : Shape := ⟨2, ![32, 256]⟩
abbrev S1024x768 : Shape := ⟨2, ![1024, 768]⟩
abbrev S1024x256 : Shape := ⟨2, ![1024, 256]⟩

abbrev nBuf : Space → Nat
  | .hbm => 8
  | .vmem => 6
  | .smem => 0
  | _ => 0

abbrev bufTy : (tb : Table) → Fin (tcTables nBuf tb) → BufTy
  | .hbm, ⟨0, _⟩ => ⟨S32x1024, .f32⟩
  | .hbm, ⟨1, _⟩ => ⟨S1x1024x2560, .f32⟩
  | .hbm, ⟨2, _⟩ => ⟨S1024x2560, .f32⟩
  | .hbm, ⟨3, _⟩ => ⟨S1024x2560, .bf16⟩
  | .hbm, ⟨4, _⟩ => ⟨S32x768, .f32⟩
  | .hbm, ⟨5, _⟩ => ⟨S32x768, .f32⟩
  | .hbm, ⟨6, _⟩ => ⟨S32x768, .f32⟩
  | .hbm, ⟨7, _⟩ => ⟨S32x256, .f32⟩
  | .local _ .vmem, ⟨0, _⟩ => ⟨S32x1024, .f32⟩
  | .local _ .vmem, ⟨1, _⟩ => ⟨S1024x2560, .bf16⟩
  | .local _ .vmem, ⟨2, _⟩ => ⟨S32x768, .f32⟩
  | .local _ .vmem, ⟨3, _⟩ => ⟨S32x768, .f32⟩
  | .local _ .vmem, ⟨4, _⟩ => ⟨S32x768, .f32⟩
  | .local _ .vmem, ⟨5, _⟩ => ⟨S32x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ProjSampleReferenceIdeal.lean ====
abbrev S32x1024 : Shape := ⟨2, ![32, 1024]⟩
abbrev S1x1024x2560 : Shape := ⟨3, ![1, 1024, 2560]⟩
abbrev S1024x2560 : Shape := ⟨2, ![1024, 2560]⟩
abbrev S32x2560 : Shape := ⟨2, ![32, 2560]⟩
abbrev S32x768 : Shape := ⟨2, ![32, 768]⟩
abbrev S32x256 : Shape := ⟨2, ![32, 256]⟩

abbrev nBuf : Space → Nat
  | .hbm => 8
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024x2560, .f32⟩
  | .hbm, ⟨2, _⟩ => ⟨S1024x2560, .f32⟩
  | .hbm, ⟨3, _⟩ => ⟨S32x2560, .f32⟩
  | .hbm, ⟨4, _⟩ => ⟨S32x768, .f32⟩
  | .hbm, ⟨5, _⟩ => ⟨S32x768, .f32⟩
  | .hbm, ⟨6, _⟩ => ⟨S32x768, .f32⟩
  | .hbm, ⟨7, _⟩ => ⟨S32x256, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proj.lean ====
abbrev S16384x1024 : Shape := ⟨2, ![16384, 1024]⟩
abbrev S1x1024x2560 : Shape := ⟨3, ![1, 1024, 2560]⟩
abbrev S2x2x256x256 : Shape := ⟨4, ![2, 2, 256, 256]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x1024x1792 : Shape := ⟨3, ![1, 1024, 1792]⟩
abbrev S_ : Shape := ⟨0, ![]⟩
abbrev S2x2x1024x256 : Shape := ⟨4, ![2, 2, 1024, 256]⟩
abbrev S1024x2560 : Shape := ⟨2, ![1024, 2560]⟩
abbrev S2048x1024 : Shape := ⟨2, ![2048, 1024]⟩
abbrev S2048x4096 : Shape := ⟨2, ![2048, 4096]⟩
abbrev S8192x1024 : Shape := ⟨2, ![8192, 1024]⟩
abbrev S1024x1792 : Shape := ⟨2, ![1024, 1792]⟩
abbrev S2x6x8192x128 : Shape := ⟨4, ![2, 6, 8192, 128]⟩
abbrev S128x6x128x128 : Shape := ⟨4, ![128, 6, 128, 128]⟩
abbrev S2x6x8x144x1024 : Shape := ⟨5, ![2, 6, 8, 144, 1024]⟩
abbrev S16384x256 : Shape := ⟨2, ![16384, 256]⟩
abbrev S1024x1024 : Shape := ⟨2, ![1024, 1024]⟩
abbrev S1x1x256x256 : Shape := ⟨4, ![1, 1, 256, 256]⟩
abbrev S1x1x1024x256 : Shape := ⟨4, ![1, 1, 1024, 256]⟩
abbrev S128x1024 : Shape := ⟨2, ![128, 1024]⟩
abbrev S128x4096 : Shape := ⟨2, ![128, 4096]⟩
abbrev S512x1024 : Shape := ⟨2, ![512, 1024]⟩
abbrev S64x1792 : Shape := ⟨2, ![64, 1792]⟩
abbrev S1x6x1024x128 : Shape := ⟨4, ![1, 6, 1024, 128]⟩
abbrev S8x6x128x128 : Shape := ⟨4, ![8, 6, 128, 128]⟩
abbrev S1x6x1x144x1024 : Shape := ⟨5, ![1, 6, 1, 144, 1024]⟩
abbrev S1024x256 : Shape := ⟨2, ![1024, 256]⟩
abbrev S256x1024 : Shape := ⟨2, ![256, 1024]⟩
abbrev S1024x768 : Shape := ⟨2, ![1024, 768]⟩
abbrev S256x768 : Shape := ⟨2, ![256, 768]⟩
abbrev S256x256 : Shape := ⟨2, ![256, 256]⟩
abbrev S128x128 : Shape := ⟨2, ![128, 128]⟩
abbrev S1x1x128x128 : Shape := ⟨4, ![1, 1, 128, 128]⟩
abbrev S256x128 : Shape := ⟨2, ![256, 128]⟩
abbrev S1x1x256x128 : Shape := ⟨4, ![1, 1, 256, 128]⟩
abbrev S128x256 : Shape := ⟨2, ![128, 256]⟩
abbrev S1x1x1x128x256 : Shape := ⟨5, ![1, 1, 1, 128, 256]⟩
abbrev S16x256 : Shape := ⟨2, ![16, 256]⟩
abbrev S1x1x1x16x256 : Shape := ⟨5, ![1, 1, 1, 16, 256]⟩
abbrev S256 : Shape := ⟨1, ![256]⟩
abbrev S256x1 : Shape := ⟨2, ![256, 1]⟩

abbrev nBuf : Space → Nat
  | .hbm => 128
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S1x1024x2560, .f32⟩
  | .hbm, ⟨2, _⟩ => ⟨S2x2x256x256, .f32⟩
  | .hbm, ⟨3, _⟩ => ⟨S2x2x256x256, .f32⟩
  | .hbm, ⟨4, _⟩ => ⟨S2x1024x1024, .f32⟩
  | .hbm, ⟨5, _⟩ => ⟨S2x1024x4096, .f32⟩
  | .hbm, ⟨6, _⟩ => ⟨S2x4096x1024, .f32⟩
  | .hbm, ⟨7, _⟩ => ⟨S1x1024x1792, .f32⟩
  | .hbm, ⟨8, _⟩ => ⟨S2x2x256x256, .i32⟩
  | .hbm, ⟨9, _⟩ => ⟨S_, .i32⟩
  | .hbm, ⟨10, _⟩ => ⟨S_, .i32⟩
  | .hbm, ⟨11, _⟩ => ⟨S2x2x256x256, .i32⟩
  | .hbm, ⟨12, _⟩ => ⟨S2x2x256x256, .i32⟩
  | .hbm, ⟨13, _⟩ => ⟨S2x2x256x256, .i32⟩
  | .hbm, ⟨14, _⟩ => ⟨S_, .i32⟩
  | .hbm, ⟨15, _⟩ => ⟨S2x2x256x256, .i32⟩
  | .hbm, ⟨16, _⟩ => ⟨S2x2x256x256, .i1⟩
  | .hbm, ⟨17, _⟩ => ⟨S2x2x256x256, .i32⟩
  | .hbm, ⟨18, _⟩ => ⟨S2x2x256x256, .i32⟩
  | .hbm, ⟨19, _⟩ => ⟨S_, .i32⟩
  | .hbm, ⟨20, _⟩ => ⟨S2x2x256x256, .i32⟩
  | .hbm, ⟨21, _⟩ => ⟨S2x2x256x256, .i1⟩
  | .hbm, ⟨22, _⟩ => ⟨S2x2x256x256, .i1⟩
  | .hbm, ⟨23, _⟩ => ⟨S_, .i32⟩
  | .hbm, ⟨24, _⟩ => ⟨S2x2x256x256, .i32⟩
  | .hbm, ⟨25, _⟩ => ⟨S2x2x256x256, .i32⟩
  | .hbm, ⟨26, _⟩ => ⟨S2x2x256x256, .i32⟩
  | .hbm, ⟨27, _⟩ => ⟨S_, .i32⟩
  | .hbm, ⟨28, _⟩ => ⟨S2x2x256x256, .i32⟩
  | .hbm, ⟨29, _⟩ => ⟨S2x2x256x256, .i1⟩
  | .hbm, ⟨30, _⟩ => ⟨S_, .f32⟩
  | .hbm, ⟨31, _⟩ => ⟨S_, .f32⟩
  | .hbm, ⟨32, _⟩ => ⟨S2x2x256x256, .f32⟩
  | .hbm, ⟨33, _⟩ => ⟨S2x2x256x256, .f32⟩
  | .hbm, ⟨34, _⟩ => ⟨S_, .i32⟩
  | .hbm, ⟨35, _⟩ => ⟨S_, .i32⟩
  | .hbm, ⟨36, _⟩ => ⟨S2x2x256x256, .i32⟩
  | .hbm, ⟨37, _⟩ => ⟨S2x2x256x256, .i32⟩
  | .hbm, ⟨38, _⟩ => ⟨S2x2x256x256, .i32⟩
  | .hbm, ⟨39, _⟩ => ⟨S_, .i32⟩
  | .hbm, ⟨40, _⟩ => ⟨S2x2x256x256, .i32⟩
  | .hbm, ⟨41, _⟩ => ⟨S2x2x256x256, .i1⟩
  | .hbm, ⟨42, _⟩ => ⟨S2x2x256x256, .i32⟩
  | .hbm, ⟨43, _⟩ => ⟨S2x2x256x256, .i32⟩
  | .hbm, ⟨44, _⟩ => ⟨S_, .i32⟩
  | .hbm, ⟨45, _⟩ => ⟨S2x2x256x256, .i32⟩
  | .hbm, ⟨46, _⟩ => ⟨S2x2x256x256, .i1⟩
  | .hbm, ⟨47, _⟩ => ⟨S2x2x256x256, .i1⟩
  | .hbm, ⟨48, _⟩ => ⟨S_, .i32⟩
  | .hbm, ⟨49, _⟩ => ⟨S2x2x256x256, .i32⟩
  | .hbm, ⟨50, _⟩ => ⟨S2x2x256x256, .i32⟩
  | .hbm, ⟨51, _⟩ => ⟨S2x2x256x256, .i32⟩
  | .hbm, ⟨52, _⟩ => ⟨S_, .i32⟩
  | .hbm, ⟨53, _⟩ => ⟨S2x2x256x256, .i32⟩
  | .hbm, ⟨54, _⟩ => ⟨S2x2x256x256, .i1⟩
  | .hbm, ⟨55, _⟩ => ⟨S_, .f32⟩
  | .hbm, ⟨56, _⟩ => ⟨S_, .f32⟩
  | .hbm, ⟨57, _⟩ => ⟨S2x2x256x256, .f32⟩
  | .hbm, ⟨58, _⟩ => ⟨S2x2x256x256, .f32⟩
  | .hbm, ⟨59, _⟩ => ⟨S_, .i32⟩
  | .hbm, ⟨60, _⟩ => ⟨S_, .i32⟩
  | .hbm, ⟨61, _⟩ => ⟨S2x2x256x256, .i32⟩
  | .hbm, ⟨62, _⟩ => ⟨S2x2x256x256, .i32⟩
  | .hbm, ⟨63, _⟩ => ⟨S2x2x256x256, .i32⟩
  | .hbm, ⟨64, _⟩ => ⟨S_, .i32⟩
  | .hbm, ⟨65, _⟩ => ⟨S2x2x256x256, .i32⟩
  | .hbm, ⟨66, _⟩ => ⟨S2x2x256x256, .i1⟩
  | .hbm, ⟨67, _⟩ => ⟨S2x2x256x256, .i32⟩
  | .hbm, ⟨68, _⟩ => ⟨S2x2x256x256, .i32⟩
  | .hbm, ⟨69, _⟩ => ⟨S_, .i32⟩
  | .hbm, ⟨70, _⟩ => ⟨S2x2x256x256, .i32⟩
  | .hbm, ⟨71, _⟩ => ⟨S2x2x256x256, .i1⟩
  | .hbm, ⟨72, _⟩ => ⟨S2x2x256x256, .i1⟩
  | .hbm, ⟨73, _⟩ => ⟨S_, .i32⟩
  | .hbm, ⟨74, _⟩ => ⟨S2x2x256x256, .i32⟩
  | .hbm, ⟨75, _⟩ => ⟨S2x2x256x256, .i32⟩
  | .hbm, ⟨76, _⟩ => ⟨S2x2x256x256, .i32⟩
  | .hbm, ⟨77, _⟩ => ⟨S_, .i32⟩
  | .hbm, ⟨78, _⟩ => ⟨S2x2x256x256, .i32⟩
  | .hbm, ⟨79, _⟩ => ⟨S2x2x256x256, .i1⟩
  | .hbm, ⟨80, _⟩ => ⟨S_, .f32⟩
  | .hbm, ⟨81, _⟩ => ⟨S_, .f32⟩
  | .hbm, ⟨82, _⟩ => ⟨S2x2x256x256, .f32⟩
  | .hbm, ⟨83, _⟩ => ⟨S2x2x256x256, .f32⟩
  | .hbm, ⟨84, _⟩ => ⟨S_, .i32⟩
  | .hbm, ⟨85, _⟩ => ⟨S_, .i32⟩
  | .hbm, ⟨86, _⟩ => ⟨S2x2x256x256, .i32⟩
  | .hbm, ⟨87, _⟩ => ⟨S2x2x256x256, .i32⟩
  | .hbm, ⟨88, _⟩ => ⟨S2x2x256x256, .i32⟩
  | .hbm, ⟨89, _⟩ => ⟨S_, .i32⟩
  | .hbm, ⟨90, _⟩ => ⟨S2x2x256x256, .i32⟩
  | .hbm, ⟨91, _⟩ => ⟨S2x2x256x256, .i1⟩
  | .hbm, ⟨92, _⟩ => ⟨S2x2x256x256, .i32⟩
  | .hbm, ⟨93, _⟩ => ⟨S2x2x256x256, .i32⟩
  | .hbm, ⟨94, _⟩ => ⟨S_, .i32⟩
  | .hbm, ⟨95, _⟩ => ⟨S2x2x256x256, .i32⟩
  | .hbm, ⟨96, _⟩ => ⟨S2x2x256x256, .i1⟩
  | .hbm, ⟨97, _⟩ => ⟨S2x2x256x256, .i1⟩
  | .hbm, ⟨98, _⟩ => ⟨S_, .i32⟩
  | .hbm, ⟨99, _⟩ => ⟨S2x2x256x256, .i32⟩
  | .hbm, ⟨100, _⟩ => ⟨S2x2x256x256, .i32⟩
  | .hbm, ⟨101, _⟩ => ⟨S2x2x256x256, .i32⟩
  | .hbm, ⟨102, _⟩ => ⟨S_, .i32⟩
  | .hbm, ⟨103, _⟩ => ⟨S2x2x256x256, .i32⟩
  | .hbm, ⟨104, _⟩ => ⟨S2x2x256x256, .i1⟩
  | .hbm, ⟨105, _⟩ => ⟨S_, .f32⟩
  | .hbm, ⟨106, _⟩ => ⟨S_, .f32⟩
  | .hbm, ⟨107, _⟩ => ⟨S2x2x256x256, .f32⟩
  | .hbm, ⟨108, _⟩ => ⟨S2x2x256x256, .f32⟩
  | .hbm, ⟨109, _⟩ => ⟨S2x2x1024x256, .f32⟩
  | .hbm, ⟨110, _⟩ => ⟨S2x2x1024x256, .bf16⟩
  | .hbm, ⟨111, _⟩ => ⟨S1024x2560, .f32⟩
  | .hbm, ⟨112, _⟩ => ⟨S1024x2560, .bf16⟩
  | .hbm, ⟨113, _⟩ => ⟨S2x2x256x256, .bf16⟩
  | .hbm, ⟨114, _⟩ => ⟨S2048x1024, .f32⟩
  | .hbm, ⟨115, _⟩ => ⟨S2048x4096, .f32⟩
  | .hbm, ⟨116, _⟩ => ⟨S8192x1024, .f32⟩
  | .hbm, ⟨117, _⟩ => ⟨S1024x1792, .f32⟩
  | .hbm, ⟨118, _⟩ => ⟨S2x6x8192x128, .bf16⟩
  | .hbm, ⟨119, _⟩ => ⟨S128x6x128x128, .f32⟩
  | .hbm, ⟨120, _⟩ => ⟨S128x6x128x128, .f32⟩
  | .hbm, ⟨121, _⟩ => ⟨S2x6x8192x128, .bf16⟩
  | .hbm, ⟨122, _⟩ => ⟨S2x6x8x144x1024, .bf16⟩
  | .hbm, ⟨123, _⟩ => ⟨S16384x256, .bf16⟩
  | .hbm, ⟨124, _⟩ => ⟨S2048x1024, .bf16⟩
  | .hbm, ⟨125, _⟩ => ⟨S2048x4096, .bf16⟩
  | .hbm, ⟨126, _⟩ => ⟨S8192x1024, .bf16⟩
  | .hbm, ⟨127, _⟩ => ⟨S1024x1792, .bf16⟩
  | .local _ .vmem, ⟨0, _⟩ => ⟨S1024x1024, .f32⟩
  | .local _ .vmem, ⟨1, _⟩ => ⟨S1024x1024, .f32⟩
  | .local _ .vmem, ⟨2, _⟩ => ⟨S1024x2560, .bf16⟩
  | .local _ .vmem, ⟨3, _⟩ => ⟨S1x1x256x256, .bf16⟩
  | .local _ .vmem, ⟨4, _⟩ => ⟨S1x1x256x256, .bf16⟩
  | .local _ .vmem, ⟨5, _⟩ => ⟨S1x1x1024x256, .bf16⟩
  | .local _ .vmem, ⟨6, _⟩ => ⟨S1x1x1024x256, .bf16⟩
  | .local _ .vmem, ⟨7, _⟩ => ⟨S128x1024, .f32⟩
  | .local _ .vmem, ⟨8, _⟩ => ⟨S128x1024, .f32⟩
  | .local _ .vmem, ⟨9, _⟩ => ⟨S128x4096, .f32⟩
  | .local _ .vmem, ⟨10, _⟩ => ⟨S128x4096, .f32⟩
  | .local _ .vmem, ⟨11, _⟩ => ⟨S512x1024, .f32⟩
  | .local _ .vmem, ⟨12, _⟩ => ⟨S512x1024, .f32⟩
  | .local _ .vmem, ⟨13, _⟩ => ⟨S64x1792, .f32⟩
  | .local _ .vmem, ⟨14, _⟩ => ⟨S64x1792, .f32⟩
  | .local _ .vmem, ⟨15, _⟩ => ⟨S1x6x1024x128, .bf16⟩
  | .local _ .vmem, ⟨16, _⟩ => ⟨S1x6x1024x128, .bf16⟩
  | .local _ .vmem, ⟨17, _⟩ => ⟨S8x6x128x128, .f32⟩
  | .local _ .vmem, ⟨18, _⟩ => ⟨S8x6x128x128, .f32⟩
  | .local _ .vmem, ⟨19, _⟩ => ⟨S8x6x128x128, .f32⟩
  | .local _ .vmem, ⟨20, _⟩ => ⟨S8x6x128x128, .f32⟩
  | .local _ .vmem, ⟨21, _⟩ => ⟨S1x6x1024x128, .bf16⟩
  | .local _ .vmem, ⟨22, _⟩ => ⟨S1x6x1024x128, .bf16⟩
  | .local _ .vmem, ⟨23, _⟩ => ⟨S1x6x1x144x1024, .bf16⟩
  | .local _ .vmem, ⟨24, _⟩ => ⟨S1x6x1x144x1024, .bf16⟩
  | .local _ .vmem, ⟨25, _⟩ => ⟨S1024x256, .bf16⟩
  | .local _ .vmem, ⟨26, _⟩ => ⟨S1024x256, .bf16⟩
  | .local _ .vmem, ⟨27, _⟩ => ⟨S128x1024, .bf16⟩
  | .local _ .vmem, ⟨28, _⟩ => ⟨S128x1024, .bf16⟩
  | .local _ .vmem, ⟨29, _⟩ => ⟨S128x4096, .bf16⟩
  | .local _ .vmem, ⟨30, _⟩ => ⟨S128x4096, .bf16⟩
  | .local _ .vmem, ⟨31, _⟩ => ⟨S512x1024, .bf16⟩
  | .local _ .vmem, ⟨32, _⟩ => ⟨S512x1024, .bf16⟩
  | .local _ .vmem, ⟨33, _⟩ => ⟨S64x1792, .bf16⟩
  | .local _ .vmem, ⟨34, _⟩ => ⟨S64x1792, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_v4 : Ref sig .tc := ⟨.hbm, 33, rfl⟩
abbrev main_c_1 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v5 : Ref sig .tc := ⟨.hbm, 51, rfl⟩
abbrev main_c_2 : Ref sig .tc := ⟨.hbm, 52, rfl⟩
abbrev main_v6 : Ref sig .tc := ⟨.hbm, 53, rfl⟩
abbrev main_v7 : Ref sig .tc := ⟨.hbm, 54, rfl⟩
abbrev main_cst_3 : Ref sig .tc := ⟨.hbm, 55, rfl⟩
abbrev main_call3_v0 : Ref sig .tc := ⟨.hbm, 56, rfl⟩
abbrev main_call3_v1 : Ref sig .tc := ⟨.hbm, 57, rfl⟩
abbrev main_v8 : Ref sig .tc := ⟨.hbm, 58, rfl⟩
abbrev main_c_4 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_v6 : Ref sig .tc := ⟨.hbm, 66, rfl⟩
abbrev main_call4_v7 : Ref sig .tc := ⟨.hbm, 67, rfl⟩
abbrev main_call4_v8 : Ref sig .tc := ⟨.hbm, 68, rfl⟩
abbrev main_call4_c : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_c_0 : Ref sig .tc := ⟨.hbm, 73, rfl⟩
abbrev main_call4_v12 : Ref sig .tc := ⟨.hbm, 74, rfl⟩
abbrev main_call4_v13 : Ref sig .tc := ⟨.hbm, 75, rfl⟩
abbrev main_v9 : Ref sig .tc := ⟨.hbm, 76, rfl⟩
abbrev main_c_5 : Ref sig .tc := ⟨.hbm, 77, rfl⟩
abbrev main_v10 : Ref sig .tc := ⟨.hbm, 78, rfl⟩
abbrev main_v11 : Ref sig .tc := ⟨.hbm, 79, rfl⟩
abbrev main_cst_6 : Ref sig .tc := ⟨.hbm, 80, rfl⟩
abbrev main_call5_v0 : Ref sig .tc := ⟨.hbm, 81, rfl⟩
abbrev main_call5_v1 : Ref sig .tc := ⟨.hbm, 82, rfl⟩
abbrev main_v12 : Ref sig .tc := ⟨.hbm, 83, rfl⟩
abbrev main_c_7 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_call6_v5 : Ref sig .tc := ⟨.hbm, 90, rfl⟩
abbrev main_call6_v6 : Ref sig .tc := ⟨.hbm, 91, rfl⟩
abbrev main_call6_v7 : Ref sig .tc := ⟨.hbm, 92, rfl⟩
abbrev main_call6_v8 : Ref sig .tc := ⟨.hbm, 93, rfl⟩
abbrev main_call6_c : Ref sig .tc := ⟨.hbm, 94, rfl⟩
abbrev main_call6_v9 : Ref sig .tc := ⟨.hbm, 95, rfl⟩
abbrev main_call6_v10 : Ref sig .tc := ⟨.hbm, 96, rfl⟩
abbrev main_call6_v11 : Ref sig .tc := ⟨.hbm, 97, rfl⟩
abbrev main_call6_c_0 : Ref sig .tc := ⟨.hbm, 98, rfl⟩
abbrev main_call6_v12 : Ref sig .tc := ⟨.hbm, 99, rfl⟩
abbrev main_call6_v13 : Ref sig .tc := ⟨.hbm, 100, rfl⟩
abbrev main_v13 : Ref sig .tc := ⟨.hbm, 101, rfl⟩
abbrev main_c_8 : Ref sig .tc := ⟨.hbm, 102, rfl⟩
abbrev main_v14 : Ref sig .tc := ⟨.hbm, 103, rfl⟩
abbrev main_v15 : Ref sig .tc := ⟨.hbm, 104, rfl⟩
abbrev main_cst_9 : Ref sig .tc := ⟨.hbm, 105, rfl⟩
abbrev main_call7_v0 : Ref sig .tc := ⟨.hbm, 106, rfl⟩
abbrev main_call7_v1 : Ref sig .tc := ⟨.hbm, 107, rfl⟩
abbrev main_v16 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_v20 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_v26_0 : Ref sig .tc := ⟨.hbm, 118, rfl⟩
abbrev main_v26_1 : Ref sig .tc := ⟨.hbm, 119, rfl⟩
abbrev main_v26_2 : Ref sig .tc := ⟨.hbm, 120, rfl⟩
abbrev main_v26_3 : Ref sig .tc := ⟨.hbm, 121, rfl⟩
abbrev main_v26_4 : Ref sig .tc := ⟨.hbm, 122, rfl⟩
abbrev main_v26_5 : Ref sig .tc := ⟨.hbm, 123, rfl⟩
abbrev main_v26_6 : Ref sig .tc := ⟨.hbm, 124, rfl⟩
abbrev main_v26_7 : Ref sig .tc := ⟨.hbm, 125, rfl⟩
abbrev main_v26_8 : Ref sig .tc := ⟨.hbm, 126, rfl⟩
abbrev main_v26_9 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.divsi v26 c1_i32_10
  let c0_i32_11 : BitVec 32 := 0#32
  let v28 : BitVec 1 := Scalar.cmpi .sgt v26 c0_i32_11
  let v29 : BitVec 32 := Scalar.extui v28
  let c0_i32_12 : BitVec 32 := 0#32
  let v30 : BitVec 1 := Scalar.cmpi .slt v26 c0_i32_12
  let v31 : BitVec 32 := Scalar.extui v30
  let v32 : BitVec 32 := Scalar.subi v29 v31
  let c0_i32_13 : BitVec 32 := 0#32
  let v33 : BitVec 1 := Scalar.cmpi .sgt c1_i32_10 c0_i32_13
  let v34 : BitVec 32 := Scalar.extui v33
  let c0_i32_14 : BitVec 32 := 0#32
  let v35 : BitVec 1 := Scalar.cmpi .slt c1_i32_10 c0_i32_14
  let v36 : BitVec 32 := Scalar.extui v35
  let v37 : BitVec 32 := Scalar.subi v34 v36
  let v38 : BitVec 1 := Scalar.cmpi .ne v32 v37
  let v39 : BitVec 32 := Scalar.remsi v26 c1_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c8_i32_17 : BitVec 32 := 8#32
  let c0_i32_18 : BitVec 32 := 0#32
  let v44 : BitVec 1 := Scalar.cmpi .eq c8_i32_17 c0_i32_18
  let c1_i32_19 : BitVec 32 := 1#32
  let v45 : BitVec 32 := Scalar.select v44 c1_i32_19 c8_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c1_i32_23 : BitVec 32 := 1#32
  let c0_i32_24 : BitVec 32 := 0#32
  let v54 : BitVec 1 := Scalar.cmpi .eq c1_i32_23 c0_i32_24
  let c1_i32_25 : BitVec 32 := 1#32
  let v55 : BitVec 32 := Scalar.select v54 c1_i32_25 c1_i32_23
  let v56 : BitVec 32 := Scalar.remsi v53 v55
  let c0_i32_26 : BitVec 32 := 0#32
  let v57 : BitVec 1 := Scalar.cmpi .ne v56 c0_i32_26
  let c0_i32_27 : BitVec 32 := 0#32
  let v58 : BitVec 1 := Scalar.cmpi .slt v56 c0_i32_27
  let c0_i32_28 : BitVec 32 := 0#32
  let v59 : BitVec 1 := Scalar.cmpi .slt v55 c0_i32_28
  let v60 : BitVec 1 := Scalar.xori v58 v59
  let v61 : BitVec 1 := Scalar.andi v60 v57
  let v62 : BitVec 32 := Scalar.addi v56 v55
  let v63 : BitVec 32 := Scalar.select v61 v62 v56
  let c0_i32_29 : BitVec 32 := 0#32
  let c0_i32_30 : BitVec 32 := 0#32
  let c0_i32_31 : BitVec 32 := 0#32
  ![v16.toNat, c0_i32_29.toNat, v43.toNat, c0_i32_30.toNat, v63.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x6x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x6x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x6x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x6x1x144x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1792 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjReferenceIdeal.lean ====
abbrev S16384x1024 : Shape := ⟨2, ![16384, 1024]⟩
abbrev S1x1024x2560 : Shape := ⟨3, ![1, 1024, 2560]⟩
abbrev S2x2x256x256 : Shape := ⟨4, ![2, 2, 256, 256]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x1024x1792 : Shape := ⟨3, ![1, 1024, 1792]⟩
abbrev S1024x2560 : Shape := ⟨2, ![1024, 2560]⟩
abbrev S16384x2560 : Shape := ⟨2, ![16384, 2560]⟩
abbrev S16384x768 : Shape := ⟨2, ![16384, 768]⟩
abbrev S128x128x6x128 : Shape := ⟨4, ![128, 128, 6, 128]⟩
abbrev S128x6x128x128 : Shape := ⟨4, ![128, 6, 128, 128]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x2560, .f32⟩
  | .hbm, ⟨2, _⟩ => ⟨S2x2x256x256, .f32⟩
  | .hbm, ⟨3, _⟩ => ⟨S2x2x256x256, .f32⟩
  | .hbm, ⟨4, _⟩ => ⟨S2x1024x1024, .f32⟩
  | .hbm, ⟨5, _⟩ => ⟨S2x1024x4096, .f32⟩
  | .hbm, ⟨6, _⟩ => ⟨S2x4096x1024, .f32⟩
  | .hbm, ⟨7, _⟩ => ⟨S1x1024x1792, .f32⟩
  | .hbm, ⟨8, _⟩ => ⟨S1024x2560, .f32⟩
  | .hbm, ⟨9, _⟩ => ⟨S16384x2560, .f32⟩
  | .hbm, ⟨10, _⟩ => ⟨S16384x768, .f32⟩
  | .hbm, ⟨11, _⟩ => ⟨S128x128x6x128, .f32⟩
  | .hbm, ⟨12, _⟩ => ⟨S128x6x128x128, .f32⟩
  | .hbm, ⟨13, _⟩ => ⟨S16384x768, .f32⟩
  | .hbm, ⟨14, _⟩ => ⟨S128x128x6x128, .f32⟩
  | .hbm, ⟨15, _⟩ => ⟨S128x6x128x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== SguSample.lean ====
abbrev S32x1024 : Shape := ⟨2, ![32, 1024]⟩
abbrev S1x1024x1792 : Shape := ⟨3, ![1, 1024, 1792]⟩
abbrev S1x768 : Shape := ⟨2, ![1, 768]⟩
abbrev S1x6x128x128 : Shape := ⟨4, ![1, 6, 128, 128]⟩
abbrev S1x6x128 : Shape := ⟨3, ![1, 6, 128]⟩
abbrev S1024x1792 : Shape := ⟨2, ![1024, 1792]⟩
abbrev S6x128x128 : Shape := ⟨3, ![6, 128, 128]⟩
abbrev S6x128 : Shape := ⟨2, ![6, 128]⟩
abbrev S32x768 : Shape := ⟨2, ![32, 768]⟩
abbrev S32x256 : Shape := ⟨2, ![32, 256]⟩
abbrev S1024x768 : Shape := ⟨2, ![1024, 768]⟩
abbrev S1024x256 : Shape := ⟨2, ![1024, 256]⟩
abbrev S32 : Shape := ⟨1, ![32]⟩
abbrev S32x1 : Shape := ⟨2, ![32, 1]⟩
abbrev S1x1x1 : Shape := ⟨3, ![1, 1, 1]⟩
abbrev S1x1 : Shape := ⟨2, ![1, 1]⟩
abbrev S32x128 : Shape := ⟨2, ![32, 128]⟩

abbrev nBuf : Space → Nat
  | .hbm => 13
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S1x1024x1792, .f32⟩
  | .hbm, ⟨2, _⟩ => ⟨S1x768, .f32⟩
  | .hbm, ⟨3, _⟩ => ⟨S1x768, .f32⟩
  | .hbm, ⟨4, _⟩ => ⟨S1x6x128x128, .f32⟩
  | .hbm, ⟨5, _⟩ => ⟨S1x6x128, .f32⟩
  | .hbm, ⟨6, _⟩ => ⟨S1024x1792, .f32⟩
  | .hbm, ⟨7, _⟩ => ⟨S1024x1792, .bf16⟩
  | .hbm, ⟨8, _⟩ => ⟨S6x128x128, .f32⟩
  | .hbm, ⟨9, _⟩ => ⟨S6x128, .f32⟩
  | .hbm, ⟨10, _⟩ => ⟨S32x768, .f32⟩
  | .hbm, ⟨11, _⟩ => ⟨S32x256, .f32⟩
  | .hbm, ⟨12, _⟩ => ⟨S32x768, .f32⟩
  | .local _ .vmem, ⟨0, _⟩ => ⟨S32x1024, .f32⟩
  | .local _ .vmem, ⟨1, _⟩ => ⟨S1024x1792, .bf16⟩
  | .local _ .vmem, ⟨2, _⟩ => ⟨S1x768, .f32⟩
  | .local _ .vmem, ⟨3, _⟩ => ⟨S1x768, .f32⟩
  | .local _ .vmem, ⟨4, _⟩ => ⟨S6x128x128, .f32⟩
  | .local _ .vmem, ⟨5, _⟩ => ⟨S6x128, .f32⟩
  | .local _ .vmem, ⟨6, _⟩ => ⟨S32x768, .f32⟩
  | .local _ .vmem, ⟨7, _⟩ => ⟨S32x256, .f32⟩
  | .local _ .vmem, ⟨8, _⟩ => ⟨S32x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SguSampleReferenceIdeal.lean ====
abbrev S32x1024 : Shape := ⟨2, ![32, 1024]⟩
abbrev S1x1024x1792 : Shape := ⟨3, ![1, 1024, 1792]⟩
abbrev S1x768 : Shape := ⟨2, ![1, 768]⟩
abbrev S1x6x128x128 : Shape := ⟨4, ![1, 6, 128, 128]⟩
abbrev S1x6x128 : Shape := ⟨3, ![1, 6, 128]⟩
abbrev S1024x1792 : Shape := ⟨2, ![1024, 1792]⟩
abbrev S32x1792 : Shape := ⟨2, ![32, 1792]⟩
abbrev S32x768 : Shape := ⟨2, ![32, 768]⟩
abbrev S_ : Shape := ⟨0, ![]⟩
abbrev S32 : Shape := ⟨1, ![32]⟩
abbrev S32x1 : Shape := ⟨2, ![32, 1]⟩
abbrev S1x6x1x1 : Shape := ⟨4, ![1, 6, 1, 1]⟩
abbrev S6 : Shape := ⟨1, ![6]⟩
abbrev S6x1 : Shape := ⟨2, ![6, 1]⟩
abbrev S32x6x128 : Shape := ⟨3, ![32, 6, 128]⟩
abbrev S1x6x1 : Shape := ⟨3, ![1, 6, 1]⟩
abbrev S32x256 : Shape := ⟨2, ![32, 256]⟩

abbrev nBuf : Space → Nat
  | .hbm => 87
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024x1792, .f32⟩
  | .hbm, ⟨2, _⟩ => ⟨S1x768, .f32⟩
  | .hbm, ⟨3, _⟩ => ⟨S1x768, .f32⟩
  | .hbm, ⟨4, _⟩ => ⟨S1x6x128x128, .f32⟩
  | .hbm, ⟨5, _⟩ => ⟨S1x6x128, .f32⟩
  | .hbm, ⟨6, _⟩ => ⟨S1024x1792, .f32⟩
  | .hbm, ⟨7, _⟩ => ⟨S32x1792, .f32⟩
  | .hbm, ⟨8, _⟩ => ⟨S32x768, .f32⟩
  | .hbm, ⟨9, _⟩ => ⟨S32x768, .f32⟩
  | .hbm, ⟨10, _⟩ => ⟨S32x768, .f32⟩
  | .hbm, ⟨11, _⟩ => ⟨S_, .f32⟩
  | .hbm, ⟨12, _⟩ => ⟨S32x768, .f32⟩
  | .hbm, ⟨13, _⟩ => ⟨S32x768, .f32⟩
  | .hbm, ⟨14, _⟩ => ⟨S32x768, .f32⟩
  | .hbm, ⟨15, _⟩ => ⟨S_, .f32⟩
  | .hbm, ⟨16, _⟩ => ⟨S32x768, .f32⟩
  | .hbm, ⟨17, _⟩ => ⟨S32x768, .f32⟩
  | .hbm, ⟨18, _⟩ => ⟨S32x768, .f32⟩
  | .hbm, ⟨19, _⟩ => ⟨S_, .f32⟩
  | .hbm, ⟨20, _⟩ => ⟨S32x768, .f32⟩
  | .hbm, ⟨21, _⟩ => ⟨S32x768, .f32⟩
  | .hbm, ⟨22, _⟩ => ⟨S_, .f32⟩
  | .hbm, ⟨23, _⟩ => ⟨S32x768, .f32⟩
  | .hbm, ⟨24, _⟩ => ⟨S32x768, .f32⟩
  | .hbm, ⟨25, _⟩ => ⟨S32x768, .f32⟩
  | .hbm, ⟨26, _⟩ => ⟨S32x768, .f32⟩
  | .hbm, ⟨27, _⟩ => ⟨S32x768, .f32⟩
  | .hbm, ⟨28, _⟩ => ⟨S32x768, .f32⟩
  | .hbm, ⟨29, _⟩ => ⟨S_, .f32⟩
  | .hbm, ⟨30, _⟩ => ⟨S32x768, .f32⟩
  | .hbm, ⟨31, _⟩ => ⟨S32x768, .f32⟩
  | .hbm, ⟨32, _⟩ => ⟨S32x768, .f32⟩
  | .hbm, ⟨33, _⟩ => ⟨S_, .f32⟩
  | .hbm, ⟨34, _⟩ => ⟨S32x768, .f32⟩
  | .hbm, ⟨35, _⟩ => ⟨S32x768, .f32⟩
  | .hbm, ⟨36, _⟩ => ⟨S32x768, .f32⟩
  | .hbm, ⟨37, _⟩ => ⟨S_, .f32⟩
  | .hbm, ⟨38, _⟩ => ⟨S32x768, .f32⟩
  | .hbm, ⟨39, _⟩ => ⟨S32x768, .f32⟩
  | .hbm, ⟨40, _⟩ => ⟨S_, .f32⟩
  | .hbm, ⟨41, _⟩ => ⟨S32x768, .f32⟩
  | .hbm, ⟨42, _⟩ => ⟨S32x768, .f32⟩
  | .hbm, ⟨43, _⟩ => ⟨S32x768, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S32x768, .f32⟩
  | .hbm, ⟨51, _⟩ => ⟨S32x768, .f32⟩
  | .hbm, ⟨52, _⟩ => ⟨S32x768, .f32⟩
  | .hbm, ⟨53, _⟩ => ⟨S_, .f32⟩
  | .hbm, ⟨54, _⟩ => ⟨S32, .f32⟩
  | .hbm, ⟨55, _⟩ => ⟨S32x1, .f32⟩
  | .hbm, ⟨56, _⟩ => ⟨S_, .f32⟩
  | .hbm, ⟨57, _⟩ => ⟨S32x1, .f32⟩
  | .hbm, ⟨58, _⟩ => ⟨S32x1, .f32⟩
  | .hbm, ⟨59, _⟩ => ⟨S32x768, .f32⟩
  | .hbm, ⟨60, _⟩ => ⟨S32x768, .f32⟩
  | .hbm, ⟨61, _⟩ => ⟨S_, .f32⟩
  | .hbm, ⟨62, _⟩ => ⟨S32x1, .f32⟩
  | .hbm, ⟨63, _⟩ => ⟨S32x1, .f32⟩
  | .hbm, ⟨64, _⟩ => ⟨S32x1, .f32⟩
  | .hbm, ⟨65, _⟩ => ⟨S32x768, .f32⟩
  | .hbm, ⟨66, _⟩ => ⟨S32x768, .f32⟩
  | .hbm, ⟨67, _⟩ => ⟨S32x768, .f32⟩
  | .hbm, ⟨68, _⟩ => ⟨S32x768, .f32⟩
  | .hbm, ⟨69, _⟩ => ⟨S32x768, .f32⟩
  | .hbm, ⟨70, _⟩ => ⟨S32x768, .f32⟩
  | .hbm, ⟨71, _⟩ => ⟨S1x6x1x1, .f32⟩
  | .hbm, ⟨72, _⟩ => ⟨S6, .f32⟩
  | .hbm, ⟨73, _⟩ => ⟨S6x1, .f32⟩
  | .hbm, ⟨74, _⟩ => ⟨S32x6x128, .f32⟩
  | .hbm, ⟨75, _⟩ => ⟨S1x6x1, .f32⟩
  | .hbm, ⟨76, _⟩ => ⟨S32x6x128, .f32⟩
  | .hbm, ⟨77, _⟩ => ⟨S32x6x128, .f32⟩
  | .hbm, ⟨78, _⟩ => ⟨S1x6x1, .f32⟩
  | .hbm, ⟨79, _⟩ => ⟨S6, .f32⟩
  | .hbm, ⟨80, _⟩ => ⟨S6x1, .f32⟩
  | .hbm, ⟨81, _⟩ => ⟨S1x6x1, .f32⟩
  | .hbm, ⟨82, _⟩ => ⟨S32x6x128, .f32⟩
  | .hbm, ⟨83, _⟩ => ⟨S32x6x128, .f32⟩
  | .hbm, ⟨84, _⟩ => ⟨S32x768, .f32⟩
  | .hbm, ⟨85, _⟩ => ⟨S32x768, .f32⟩
  | .hbm, ⟨86, _⟩ => ⟨S32x256, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Sgu.lean ====
abbrev S16384x1024 : Shape := ⟨2, ![16384, 1024]⟩
abbrev S1x1024x1792 : Shape := ⟨3, ![1, 1024, 1792]⟩
abbrev S1x768 : Shape := ⟨2, ![1, 768]⟩
abbrev S1x6x128x128 : Shape := ⟨4, ![1, 6, 128, 128]⟩
abbrev S1x6x128 : Shape := ⟨3, ![1, 6, 128]⟩
abbrev S2x2x256x256 : Shape := ⟨4, ![2, 2, 256, 256]⟩
abbrev S_ : Shape := ⟨0, ![]⟩
abbrev S2x2x1024x256 : Shape := ⟨4, ![2, 2, 1024, 256]⟩
abbrev S6x128 : Shape := ⟨2, ![6, 128]⟩
abbrev S6x128x1 : Shape := ⟨3, ![6, 128, 1]⟩
abbrev S6x128x128 : Shape := ⟨3, ![6, 128, 128]⟩
abbrev S1024x1792 : Shape := ⟨2, ![1024, 1792]⟩
abbrev S16384x768 : Shape := ⟨2, ![16384, 768]⟩
abbrev S16384x256 : Shape := ⟨2, ![16384, 256]⟩
abbrev S1024x1024 : Shape := ⟨2, ![1024, 1024]⟩
abbrev S1x1x256x256 : Shape := ⟨4, ![1, 1, 256, 256]⟩
abbrev S1x1x1024x256 : Shape := ⟨4, ![1, 1, 1024, 256]⟩
abbrev S1024x768 : Shape := ⟨2, ![1024, 768]⟩
abbrev S1024x256 : Shape := ⟨2, ![1024, 256]⟩
abbrev S128x128 : Shape := ⟨2, ![128, 128]⟩
abbrev S1x128x128 : Shape := ⟨3, ![1, 128, 128]⟩
abbrev S256x1024 : Shape := ⟨2, ![256, 1024]⟩
abbrev S256x768 : Shape := ⟨2, ![256, 768]⟩
abbrev S256x256 : Shape := ⟨2, ![256, 256]⟩
abbrev S256 : Shape := ⟨1, ![256]⟩
abbrev S256x1 : Shape := ⟨2, ![256, 1]⟩

abbrev nBuf : Space → Nat
  | .hbm => 120
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024x1792, .f32⟩
  | .hbm, ⟨2, _⟩ => ⟨S1x768, .f32⟩
  | .hbm, ⟨3, _⟩ => ⟨S1x768, .f32⟩
  | .hbm, ⟨4, _⟩ => ⟨S1x6x128x128, .f32⟩
  | .hbm, ⟨5, _⟩ => ⟨S1x6x128, .f32⟩
  | .hbm, ⟨6, _⟩ => ⟨S2x2x256x256, .f32⟩
  | .hbm, ⟨7, _⟩ => ⟨S2x2x256x256, .f32⟩
  | .hbm, ⟨8, _⟩ => ⟨S2x2x256x256, .i32⟩
  | .hbm, ⟨9, _⟩ => ⟨S_, .i32⟩
  | .hbm, ⟨10, _⟩ => ⟨S_, .i32⟩
  | .hbm, ⟨11, _⟩ => ⟨S2x2x256x256, .i32⟩
  | .hbm, ⟨12, _⟩ => ⟨S2x2x256x256, .i32⟩
  | .hbm, ⟨13, _⟩ => ⟨S2x2x256x256, .i32⟩
  | .hbm, ⟨14, _⟩ => ⟨S_, .i32⟩
  | .hbm, ⟨15, _⟩ => ⟨S2x2x256x256, .i32⟩
  | .hbm, ⟨16, _⟩ => ⟨S2x2x256x256, .i1⟩
  | .hbm, ⟨17, _⟩ => ⟨S2x2x256x256, .i32⟩
  | .hbm, ⟨18, _⟩ => ⟨S2x2x256x256, .i32⟩
  | .hbm, ⟨19, _⟩ => ⟨S_, .i32⟩
  | .hbm, ⟨20, _⟩ => ⟨S2x2x256x256, .i32⟩
  | .hbm, ⟨21, _⟩ => ⟨S2x2x256x256, .i1⟩
  | .hbm, ⟨22, _⟩ => ⟨S2x2x256x256, .i1⟩
  | .hbm, ⟨23, _⟩ => ⟨S_, .i32⟩
  | .hbm, ⟨24, _⟩ => ⟨S2x2x256x256, .i32⟩
  | .hbm, ⟨25, _⟩ => ⟨S2x2x256x256, .i32⟩
  | .hbm, ⟨26, _⟩ => ⟨S2x2x256x256, .i32⟩
  | .hbm, ⟨27, _⟩ => ⟨S_, .i32⟩
  | .hbm, ⟨28, _⟩ => ⟨S2x2x256x256, .i32⟩
  | .hbm, ⟨29, _⟩ => ⟨S2x2x256x256, .i1⟩
  | .hbm, ⟨30, _⟩ => ⟨S_, .f32⟩
  | .hbm, ⟨31, _⟩ => ⟨S_, .f32⟩
  | .hbm, ⟨32, _⟩ => ⟨S2x2x256x256, .f32⟩
  | .hbm, ⟨33, _⟩ => ⟨S2x2x256x256, .f32⟩
  | .hbm, ⟨34, _⟩ => ⟨S_, .i32⟩
  | .hbm, ⟨35, _⟩ => ⟨S_, .i32⟩
  | .hbm, ⟨36, _⟩ => ⟨S2x2x256x256, .i32⟩
  | .hbm, ⟨37, _⟩ => ⟨S2x2x256x256, .i32⟩
  | .hbm, ⟨38, _⟩ => ⟨S2x2x256x256, .i32⟩
  | .hbm, ⟨39, _⟩ => ⟨S_, .i32⟩
  | .hbm, ⟨40, _⟩ => ⟨S2x2x256x256, .i32⟩
  | .hbm, ⟨41, _⟩ => ⟨S2x2x256x256, .i1⟩
  | .hbm, ⟨42, _⟩ => ⟨S2x2x256x256, .i32⟩
  | .hbm, ⟨43, _⟩ => ⟨S2x2x256x256, .i32⟩
  | .hbm, ⟨44, _⟩ => ⟨S_, .i32⟩
  | .hbm, ⟨45, _⟩ => ⟨S2x2x256x256, .i32⟩
  | .hbm, ⟨46, _⟩ => ⟨S2x2x256x256, .i1⟩
  | .hbm, ⟨47, _⟩ => ⟨S2x2x256x256, .i1⟩
  | .hbm, ⟨48, _⟩ => ⟨S_, .i32⟩
  | .hbm, ⟨49, _⟩ => ⟨S2x2x256x256, .i32⟩
  | .hbm, ⟨50, _⟩ => ⟨S2x2x256x256, .i32⟩
  | .hbm, ⟨51, _⟩ => ⟨S2x2x256x256, .i32⟩
  | .hbm, ⟨52, _⟩ => ⟨S_, .i32⟩
  | .hbm, ⟨53, _⟩ => ⟨S2x2x256x256, .i32⟩
  | .hbm, ⟨54, _⟩ => ⟨S2x2x256x256, .i1⟩
  | .hbm, ⟨55, _⟩ => ⟨S_, .f32⟩
  | .hbm, ⟨56, _⟩ => ⟨S_, .f32⟩
  | .hbm, ⟨57, _⟩ => ⟨S2x2x256x256, .f32⟩
  | .hbm, ⟨58, _⟩ => ⟨S2x2x256x256, .f32⟩
  | .hbm, ⟨59, _⟩ => ⟨S_, .i32⟩
  | .hbm, ⟨60, _⟩ => ⟨S_, .i32⟩
  | .hbm, ⟨61, _⟩ => ⟨S2x2x256x256, .i32⟩
  | .hbm, ⟨62, _⟩ => ⟨S2x2x256x256, .i32⟩
  | .hbm, ⟨63, _⟩ => ⟨S2x2x256x256, .i32⟩
  | .hbm, ⟨64, _⟩ => ⟨S_, .i32⟩
  | .hbm, ⟨65, _⟩ => ⟨S2x2x256x256, .i32⟩
  | .hbm, ⟨66, _⟩ => ⟨S2x2x256x256, .i1⟩
  | .hbm, ⟨67, _⟩ => ⟨S2x2x256x256, .i32⟩
  | .hbm, ⟨68, _⟩ => ⟨S2x2x256x256, .i32⟩
  | .hbm, ⟨69, _⟩ => ⟨S_, .i32⟩
  | .hbm, ⟨70, _⟩ => ⟨S2x2x256x256, .i32⟩
  | .hbm, ⟨71, _⟩ => ⟨S2x2x256x256, .i1⟩
  | .hbm, ⟨72, _⟩ => ⟨S2x2x256x256, .i1⟩
  | .hbm, ⟨73, _⟩ => ⟨S_, .i32⟩
  | .hbm, ⟨74, _⟩ => ⟨S2x2x256x256, .i32⟩
  | .hbm, ⟨75, _⟩ => ⟨S2x2x256x256, .i32⟩
  | .hbm, ⟨76, _⟩ => ⟨S2x2x256x256, .i32⟩
  | .hbm, ⟨77, _⟩ => ⟨S_, .i32⟩
  | .hbm, ⟨78, _⟩ => ⟨S2x2x256x256, .i32⟩
  | .hbm, ⟨79, _⟩ => ⟨S2x2x256x256, .i1⟩
  | .hbm, ⟨80, _⟩ => ⟨S_, .f32⟩
  | .hbm, ⟨81, _⟩ => ⟨S_, .f32⟩
  | .hbm, ⟨82, _⟩ => ⟨S2x2x256x256, .f32⟩
  | .hbm, ⟨83, _⟩ => ⟨S2x2x256x256, .f32⟩
  | .hbm, ⟨84, _⟩ => ⟨S_, .i32⟩
  | .hbm, ⟨85, _⟩ => ⟨S_, .i32⟩
  | .hbm, ⟨86, _⟩ => ⟨S2x2x256x256, .i32⟩
  | .hbm, ⟨87, _⟩ => ⟨S2x2x256x256, .i32⟩
  | .hbm, ⟨88, _⟩ => ⟨S2x2x256x256, .i32⟩
  | .hbm, ⟨89, _⟩ => ⟨S_, .i32⟩
  | .hbm, ⟨90, _⟩ => ⟨S2x2x256x256, .i32⟩
  | .hbm, ⟨91, _⟩ => ⟨S2x2x256x256, .i1⟩
  | .hbm, ⟨92, _⟩ => ⟨S2x2x256x256, .i32⟩
  | .hbm, ⟨93, _⟩ => ⟨S2x2x256x256, .i32⟩
  | .hbm, ⟨94, _⟩ => ⟨S_, .i32⟩
  | .hbm, ⟨95, _⟩ => ⟨S2x2x256x256, .i32⟩
  | .hbm, ⟨96, _⟩ => ⟨S2x2x256x256, .i1⟩
  | .hbm, ⟨97, _⟩ => ⟨S2x2x256x256, .i1⟩
  | .hbm, ⟨98, _⟩ => ⟨S_, .i32⟩
  | .hbm, ⟨99, _⟩ => ⟨S2x2x256x256, .i32⟩
  | .hbm, ⟨100, _⟩ => ⟨S2x2x256x256, .i32⟩
  | .hbm, ⟨101, _⟩ => ⟨S2x2x256x256, .i32⟩
  | .hbm, ⟨102, _⟩ => ⟨S_, .i32⟩
  | .hbm, ⟨103, _⟩ => ⟨S2x2x256x256, .i32⟩
  | .hbm, ⟨104, _⟩ => ⟨S2x2x256x256, .i1⟩
  | .hbm, ⟨105, _⟩ => ⟨S_, .f32⟩
  | .hbm, ⟨106, _⟩ => ⟨S_, .f32⟩
  | .hbm, ⟨107, _⟩ => ⟨S2x2x256x256, .f32⟩
  | .hbm, ⟨108, _⟩ => ⟨S2x2x256x256, .f32⟩
  | .hbm, ⟨109, _⟩ => ⟨S2x2x1024x256, .f32⟩
  | .hbm, ⟨110, _⟩ => ⟨S2x2x1024x256, .bf16⟩
  | .hbm, ⟨111, _⟩ => ⟨S6x128, .f32⟩
  | .hbm, ⟨112, _⟩ => ⟨S6x128x1, .f32⟩
  | .hbm, ⟨113, _⟩ => ⟨S6x128x128, .f32⟩
  | .hbm, ⟨114, _⟩ => ⟨S1024x1792, .f32⟩
  | .hbm, ⟨115, _⟩ => ⟨S1024x1792, .bf16⟩
  | .hbm, ⟨116, _⟩ => ⟨S6x128x128, .f32⟩
  | .hbm, ⟨117, _⟩ => ⟨S2x2x256x256, .bf16⟩
  | .hbm, ⟨118, _⟩ => ⟨S16384x768, .bf16⟩
  | .hbm, ⟨119, _⟩ => ⟨S16384x256, .bf16⟩
  | .local _ .vmem, ⟨0, _⟩ => ⟨S1024x1024, .f32⟩
  | .local _ .vmem, ⟨1, _⟩ => ⟨S1024x1024, .f32⟩
  | .local _ .vmem, ⟨2, _⟩ => ⟨S1024x1792, .bf16⟩
  | .local _ .vmem, ⟨3, _⟩ => ⟨S1x768, .f32⟩
  | .local _ .vmem, ⟨4, _⟩ => ⟨S1x768, .f32⟩
  | .local _ .vmem, ⟨5, _⟩ => ⟨S6x128x128, .f32⟩
  | .local _ .vmem, ⟨6, _⟩ => ⟨S6x128x128, .f32⟩
  | .local _ .vmem, ⟨7, _⟩ => ⟨S1x1x256x256, .bf16⟩
  | .local _ .vmem, ⟨8, _⟩ => ⟨S1x1x256x256, .bf16⟩
  | .local _ .vmem, ⟨9, _⟩ => ⟨S1x1x1024x256, .bf16⟩
  | .local _ .vmem, ⟨10, _⟩ => ⟨S1x1x1024x256, .bf16⟩
  | .local _ .vmem, ⟨11, _⟩ => ⟨S1024x768, .bf16⟩
  | .local _ .vmem, ⟨12, _⟩ => ⟨S1024x768, .bf16⟩
  | .local _ .vmem, ⟨13, _⟩ => ⟨S1024x256, .bf16⟩
  | .local _ .vmem, ⟨14, _⟩ => ⟨S1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_v4 : Ref sig .tc := ⟨.hbm, 33, rfl⟩
abbrev main_c_1 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v5 : Ref sig .tc := ⟨.hbm, 51, rfl⟩
abbrev main_c_2 : Ref sig .tc := ⟨.hbm, 52, rfl⟩
abbrev main_v6 : Ref sig .tc := ⟨.hbm, 53, rfl⟩
abbrev main_v7 : Ref sig .tc := ⟨.hbm, 54, rfl⟩
abbrev main_cst_3 : Ref sig .tc := ⟨.hbm, 55, rfl⟩
abbrev main_call3_v0 : Ref sig .tc := ⟨.hbm, 56, rfl⟩
abbrev main_call3_v1 : Ref sig .tc := ⟨.hbm, 57, rfl⟩
abbrev main_v8 : Ref sig .tc := ⟨.hbm, 58, rfl⟩
abbrev main_c_4 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_v6 : Ref sig .tc := ⟨.hbm, 66, rfl⟩
abbrev main_call4_v7 : Ref sig .tc := ⟨.hbm, 67, rfl⟩
abbrev main_call4_v8 : Ref sig .tc := ⟨.hbm, 68, rfl⟩
abbrev main_call4_c : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_c_0 : Ref sig .tc := ⟨.hbm, 73, rfl⟩
abbrev main_call4_v12 : Ref sig .tc := ⟨.hbm, 74, rfl⟩
abbrev main_call4_v13 : Ref sig .tc := ⟨.hbm, 75, rfl⟩
abbrev main_v9 : Ref sig .tc := ⟨.hbm, 76, rfl⟩
abbrev main_c_5 : Ref sig .tc := ⟨.hbm, 77, rfl⟩
abbrev main_v10 : Ref sig .tc := ⟨.hbm, 78, rfl⟩
abbrev main_v11 : Ref sig .tc := ⟨.hbm, 79, rfl⟩
abbrev main_cst_6 : Ref sig .tc := ⟨.hbm, 80, rfl⟩
abbrev main_call5_v0 : Ref sig .tc := ⟨.hbm, 81, rfl⟩
abbrev main_call5_v1 : Ref sig .tc := ⟨.hbm, 82, rfl⟩
abbrev main_v12 : Ref sig .tc := ⟨.hbm, 83, rfl⟩
abbrev main_c_7 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_call6_v5 : Ref sig .tc := ⟨.hbm, 90, rfl⟩
abbrev main_call6_v6 : Ref sig .tc := ⟨.hbm, 91, rfl⟩
abbrev main_call6_v7 : Ref sig .tc := ⟨.hbm, 92, rfl⟩
abbrev main_call6_v8 : Ref sig .tc := ⟨.hbm, 93, rfl⟩
abbrev main_call6_c : Ref sig .tc := ⟨.hbm, 94, rfl⟩
abbrev main_call6_v9 : Ref sig .tc := ⟨.hbm, 95, rfl⟩
abbrev main_call6_v10 : Ref sig .tc := ⟨.hbm, 96, rfl⟩
abbrev main_call6_v11 : Ref sig .tc := ⟨.hbm, 97, rfl⟩
abbrev main_call6_c_0 : Ref sig .tc := ⟨.hbm, 98, rfl⟩
abbrev main_call6_v12 : Ref sig .tc := ⟨.hbm, 99, rfl⟩
abbrev main_call6_v13 : Ref sig .tc := ⟨.hbm, 100, rfl⟩
abbrev main_v13 : Ref sig .tc := ⟨.hbm, 101, rfl⟩
abbrev main_c_8 : Ref sig .tc := ⟨.hbm, 102, rfl⟩
abbrev main_v14 : Ref sig .tc := ⟨.hbm, 103, rfl⟩
abbrev main_v15 : Ref sig .tc := ⟨.hbm, 104, rfl⟩
abbrev main_cst_9 : Ref sig .tc := ⟨.hbm, 105, rfl⟩
abbrev main_call7_v0 : Ref sig .tc := ⟨.hbm, 106, rfl⟩
abbrev main_call7_v1 : Ref sig .tc := ⟨.hbm, 107, rfl⟩
abbrev main_v16 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_v20 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_v26_0 : Ref sig .tc := ⟨.hbm, 118, rfl⟩
abbrev main_v26_1 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SguReferenceIdeal.lean ====
abbrev S16384x1024 : Shape := ⟨2, ![16384, 1024]⟩
abbrev S1x1024x1792 : Shape := ⟨3, ![1, 1024, 1792]⟩
abbrev S1x768 : Shape := ⟨2, ![1, 768]⟩
abbrev S1x6x128x128 : Shape := ⟨4, ![1, 6, 128, 128]⟩
abbrev S1x6x128 : Shape := ⟨3, ![1, 6, 128]⟩
abbrev S2x2x256x256 : Shape := ⟨4, ![2, 2, 256, 256]⟩
abbrev S1024x1792 : Shape := ⟨2, ![1024, 1792]⟩
abbrev S16384x1792 : Shape := ⟨2, ![16384, 1792]⟩
abbrev S16384x768 : Shape := ⟨2, ![16384, 768]⟩
abbrev S_ : Shape := ⟨0, ![]⟩
abbrev S16384 : Shape := ⟨1, ![16384]⟩
abbrev S16384x1 : Shape := ⟨2, ![16384, 1]⟩
abbrev S128 : Shape := ⟨1, ![128]⟩
abbrev S1x128x1 : Shape := ⟨3, ![1, 128, 1]⟩
abbrev S1x1x128 : Shape := ⟨3, ![1, 1, 128]⟩
abbrev S1x128x128 : Shape := ⟨3, ![1, 128, 128]⟩
abbrev S6x128x128 : Shape := ⟨3, ![6, 128, 128]⟩
abbrev S128x128x6x128 : Shape := ⟨4, ![128, 128, 6, 128]⟩
abbrev S6x128x128x128 : Shape := ⟨4, ![6, 128, 128, 128]⟩
abbrev S6x128 : Shape := ⟨2, ![6, 128]⟩
abbrev S128x6 : Shape := ⟨2, ![128, 6]⟩
abbrev S128x6x1 : Shape := ⟨3, ![128, 6, 1]⟩
abbrev S1x128x6x1 : Shape := ⟨4, ![1, 128, 6, 1]⟩

abbrev nBuf : Space → Nat
  | .hbm => 97
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x1792, .f32⟩
  | .hbm, ⟨2, _⟩ => ⟨S1x768, .f32⟩
  | .hbm, ⟨3, _⟩ => ⟨S1x768, .f32⟩
  | .hbm, ⟨4, _⟩ => ⟨S1x6x128x128, .f32⟩
  | .hbm, ⟨5, _⟩ => ⟨S1x6x128, .f32⟩
  | .hbm, ⟨6, _⟩ => ⟨S2x2x256x256, .f32⟩
  | .hbm, ⟨7, _⟩ => ⟨S2x2x256x256, .f32⟩
  | .hbm, ⟨8, _⟩ => ⟨S1024x1792, .f32⟩
  | .hbm, ⟨9, _⟩ => ⟨S16384x1792, .f32⟩
  | .hbm, ⟨10, _⟩ => ⟨S16384x768, .f32⟩
  | .hbm, ⟨11, _⟩ => ⟨S16384x768, .f32⟩
  | .hbm, ⟨12, _⟩ => ⟨S16384x768, .f32⟩
  | .hbm, ⟨13, _⟩ => ⟨S_, .f32⟩
  | .hbm, ⟨14, _⟩ => ⟨S16384x768, .f32⟩
  | .hbm, ⟨15, _⟩ => ⟨S16384x768, .f32⟩
  | .hbm, ⟨16, _⟩ => ⟨S16384x768, .f32⟩
  | .hbm, ⟨17, _⟩ => ⟨S_, .f32⟩
  | .hbm, ⟨18, _⟩ => ⟨S16384x768, .f32⟩
  | .hbm, ⟨19, _⟩ => ⟨S16384x768, .f32⟩
  | .hbm, ⟨20, _⟩ => ⟨S16384x768, .f32⟩
  | .hbm, ⟨21, _⟩ => ⟨S_, .f32⟩
  | .hbm, ⟨22, _⟩ => ⟨S16384x768, .f32⟩
  | .hbm, ⟨23, _⟩ => ⟨S16384x768, .f32⟩
  | .hbm, ⟨24, _⟩ => ⟨S_, .f32⟩
  | .hbm, ⟨25, _⟩ => ⟨S16384x768, .f32⟩
  | .hbm, ⟨26, _⟩ => ⟨S16384x768, .f32⟩
  | .hbm, ⟨27, _⟩ => ⟨S16384x768, .f32⟩
  | .hbm, ⟨28, _⟩ => ⟨S16384x768, .f32⟩
  | .hbm, ⟨29, _⟩ => ⟨S16384x768, .f32⟩
  | .hbm, ⟨30, _⟩ => ⟨S16384x768, .f32⟩
  | .hbm, ⟨31, _⟩ => ⟨S_, .f32⟩
  | .hbm, ⟨32, _⟩ => ⟨S16384x768, .f32⟩
  | .hbm, ⟨33, _⟩ => ⟨S16384x768, .f32⟩
  | .hbm, ⟨34, _⟩ => ⟨S16384x768, .f32⟩
  | .hbm, ⟨35, _⟩ => ⟨S_, .f32⟩
  | .hbm, ⟨36, _⟩ => ⟨S16384x768, .f32⟩
  | .hbm, ⟨37, _⟩ => ⟨S16384x768, .f32⟩
  | .hbm, ⟨38, _⟩ => ⟨S16384x768, .f32⟩
  | .hbm, ⟨39, _⟩ => ⟨S_, .f32⟩
  | .hbm, ⟨40, _⟩ => ⟨S16384x768, .f32⟩
  | .hbm, ⟨41, _⟩ => ⟨S16384x768, .f32⟩
  | .hbm, ⟨42, _⟩ => ⟨S_, .f32⟩
  | .hbm, ⟨43, _⟩ => ⟨S16384x768, .f32⟩
  | .hbm, ⟨44, _⟩ => ⟨S16384x768, .f32⟩
  | .hbm, ⟨45, _⟩ => ⟨S16384x768, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x768, .f32⟩
  | .hbm, ⟨53, _⟩ => ⟨S16384x768, .f32⟩
  | .hbm, ⟨54, _⟩ => ⟨S16384x768, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x768, .f32⟩
  | .hbm, ⟨62, _⟩ => ⟨S16384x768, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x768, .f32⟩
  | .hbm, ⟨68, _⟩ => ⟨S16384x768, .f32⟩
  | .hbm, ⟨69, _⟩ => ⟨S16384x768, .f32⟩
  | .hbm, ⟨70, _⟩ => ⟨S16384x768, .f32⟩
  | .hbm, ⟨71, _⟩ => ⟨S16384x768, .f32⟩
  | .hbm, ⟨72, _⟩ => ⟨S16384x768, .f32⟩
  | .hbm, ⟨73, _⟩ => ⟨S128, .i32⟩
  | .hbm, ⟨74, _⟩ => ⟨S1x128x1, .i32⟩
  | .hbm, ⟨75, _⟩ => ⟨S1x1x128, .i32⟩
  | .hbm, ⟨76, _⟩ => ⟨S1x128x128, .i32⟩
  | .hbm, ⟨77, _⟩ => ⟨S1x128x128, .i32⟩
  | .hbm, ⟨78, _⟩ => ⟨S1x128x128, .i1⟩
  | .hbm, ⟨79, _⟩ => ⟨S6x128x128, .f32⟩
  | .hbm, ⟨80, _⟩ => ⟨S_, .f32⟩
  | .hbm, ⟨81, _⟩ => ⟨S_, .f32⟩
  | .hbm, ⟨82, _⟩ => ⟨S6x128x128, .i1⟩
  | .hbm, ⟨83, _⟩ => ⟨S6x128x128, .f32⟩
  | .hbm, ⟨84, _⟩ => ⟨S6x128x128, .f32⟩
  | .hbm, ⟨85, _⟩ => ⟨S128x128x6x128, .f32⟩
  | .hbm, ⟨86, _⟩ => ⟨S6x128x128x128, .f32⟩
  | .hbm, ⟨87, _⟩ => ⟨S128x128x6x128, .f32⟩
  | .hbm, ⟨88, _⟩ => ⟨S6x128, .f32⟩
  | .hbm, ⟨89, _⟩ => ⟨S128x6, .f32⟩
  | .hbm, ⟨90, _⟩ => ⟨S128x6x1, .f32⟩
  | .hbm, ⟨91, _⟩ => ⟨S1x128x6x1, .f32⟩
  | .hbm, ⟨92, _⟩ => ⟨S128x128x6x128, .f32⟩
  | .hbm, ⟨93, _⟩ => ⟨S128x128x6x128, .f32⟩
  | .hbm, ⟨94, _⟩ => ⟨S16384x768, .f32⟩
  | .hbm, ⟨95, _⟩ => ⟨S16384x768, .f32⟩
  | .hbm, ⟨96, _⟩ => ⟨S16384x768, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Proof.AttnPre.lean ====
/- What the precondition says: the queries, keys, values and the four vectors hold real numbers. -/
module

public import proofs.«01_k».proof.Pre_finite_inputs
public import Idealize.ShloMosaic.Lib.Pointwise
public import Idealize.ShloMosaic.Lib.ReduceAll

@[expose] public section

set_option maxRecDepth 16384

noncomputable section

namespace Cert.Pre_finite_inputs

open Idealize.ShloMosaic Facts

theorem inf_top : Ideal.ofBits .f32 0x7F800000#32 = ⊤ := by
  simp [Ideal.ofBits, Ideal.ieee]

/-- A number whose magnitude compares less than infinity is real. -/
theorem real_of_lt (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- The shape relations of the test, proved. -/
theorem facts : Facts where
  bcast_S_S2x6x8192x128 := by decide
  reducesTo_S2x6x8192x128_S_d0_1_2_3 := by decide
  h_S_ := by decide
  bcast_S_S4x64 := by decide
  reducesTo_S4x64_S_d0_1 := by decide

variable [Facts]

instance : Subsingleton S_.Idx := ⟨fun a b => funext fun i => i.elim0⟩

/-- One of the four tests at one entry. -/
theorem entry {s : Shape} {axes : List (Fin s.rank)} (x : FVec Ideal s .f32) (hb : S_.BroadcastsInDim s (![] : Fin 0 → Fin s.rank))
    (hr : s.ReducesTo axes S_) (e : Host.reduce IntOp.andi (cmpf .olt (Host.absf x) (broadcastInDim s ![] hb (constant (F := Ideal) S_ .f32 0x7F800000#32)))
      (constantI S_ 1 1#1) hr h_S_ ix0 = 1#1) (i : s.Idx) : ∃ r : ℝ, x i = (r : EReal) := by
  have h1 := Host.reduce_andi_all _ _ hr h_S_ ix0 e i
  have h2 : Ideal.cmp .olt (max (x i) (-x i)) (Ideal.ofBits .f32 0x7F800000#32) = 1#1 := h1
  rw [inf_top] at h2
  exact real_of_lt _ h2

theorem finite (a0 a1 a2 : FVec Ideal S2x6x8192x128 .f32) (a3 : FVec Ideal S4x64 .f32) (a4 : FVec Ideal S1x128 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have e := congrFun h ix0
  obtain ⟨e, e3⟩ := IntOp.andi_eq_one.1 (e : IntOp.andi _ _ = 1#1)
  obtain ⟨e, e2⟩ := IntOp.andi_eq_one.1 (e : IntOp.andi _ _ = 1#1)
  obtain ⟨e0, e1⟩ := IntOp.andi_eq_one.1 (e : IntOp.andi _ _ = 1#1)
  exact ⟨entry a0 _ _ e0, entry a1 _ _ e1, entry a2 _ _ e2, entry a3 _ _ e3⟩

end Cert.Pre_finite_inputs

end
-- ==== Proof.AttnRow.lean ====
/- The arithmetic of one query's softmax, key block by key block: what the running maximum, the running sum of powers
   and the running weighted sum hold after some keys, and how one more block of keys carries them on. -/
module

public import Idealize.ShloMosaic.PureOps.Ideal
public import Mathlib.Analysis.SpecialFunctions.Pow.Real

@[expose] public section

noncomputable section

open Idealize.ShloMosaic

namespace Cert.Proof.AttnRow

/-- A coercion of a sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- What the running quantities of one query hold after the first `t` keys: nothing yet, or the sums of the powers of
    two of the scores, all against some one real shift. -/
def Holds (S : ℕ → ℝ) (V : ℕ → Fin 128 → ℝ) (t : ℕ) (μ l : EReal) (a : Fin 128 → EReal) : Prop :=
  (t = 0 ∧ μ = ⊥ ∧ l = 0 ∧ ∀ e, a e = 0) ∨
  ∃ x : ℝ, μ = ↑x ∧ l = ↑(∑ κ ∈ Finset.range t, (2 : ℝ) ^ (S κ - x)) ∧
    ∀ e, a e = ↑(∑ κ ∈ Finset.range t, (2 : ℝ) ^ (S κ - x) * V κ e)

theorem holds_zero (S : ℕ → ℝ) (V : ℕ → Fin 128 → ℝ) (a : Fin 128 → EReal) (ha : ∀ e, a e = 0) : Holds S V 0 ⊥ 0 a :=
  Or.inl ⟨rfl, rfl, rfl, ha⟩

/-- The greatest of finitely many values none of which is `⊤`, one of them real, is real. -/
theorem fold_max_real {N : ℕ} (s : Fin N → EReal) (htop : ∀ r, s r ≠ ⊤) (b : EReal) (hb : b ≠ ⊤)
    (h : b ≠ ⊥ ∨ ∃ r, s r ≠ ⊥) : ∃ x : ℝ, Finset.univ.fold max b s = ↑x := by
  have h1 : Finset.univ.fold max b s ≠ ⊤ := by
    have : Finset.univ.fold max b s < ⊤ := by
      rw [Finset.fold_max_lt]
      exact ⟨lt_top_iff_ne_top.mpr hb, fun r _ => lt_top_iff_ne_top.mpr (htop r)⟩
    exact this.ne
  have h2 : Finset.univ.fold max b s ≠ ⊥ := by
    have : ⊥ < Finset.univ.fold max b s := by
      rw [Finset.lt_fold_max]
      rcases h with h | ⟨r, h⟩
      · exact Or.inl (bot_lt_iff_ne_bot.mpr h)
      · exact Or.inr ⟨r, Finset.mem_univ _, bot_lt_iff_ne_bot.mpr h⟩
    exact this.ne'
  exact ⟨_, (EReal.coe_toReal h1 h2).symm⟩

/-- The power of two of a score less the shift, of a key that is counted, and of one masked out. -/
theorem exp2_score (c : Prop) [Decidable c] (y x : ℝ) :
    Ideal.exp2 ((if c then (y : EReal) else ⊥) - (x : EReal)) = ((if c then (2 : ℝ) ^ (y - x) else 0 : ℝ) : EReal) := by
  split
  · rw [← EReal.coe_sub, Ideal.exp2_coe]; rfl
  · rw [EReal.bot_sub]; simp [Ideal.exp2_bot]

/-- A sum over a block whose first `cnt` keys count is the sum over those keys. -/
theorem sum_block {N : ℕ} (t cnt : ℕ) (hc : cnt ≤ N) (g : ℕ → ℝ) :
    ∑ r : Fin N, (if r.val < cnt then g (t + r.val) else 0) = ∑ i ∈ Finset.range cnt, g (t + i) := by
  rw [Fin.sum_univ_eq_sum_range (fun i => if i < cnt then g (t + i) else 0) N, ← Finset.sum_filter]
  congr 1
  ext i
  simp only [Finset.mem_filter, Finset.mem_range]
  omega

/-- One more block of keys: its first `cnt` keys are counted, the others masked. -/
theorem holds_step {S : ℕ → ℝ} {V : ℕ → Fin 128 → ℝ} {t N : ℕ} (cnt : ℕ) (hc : cnt ≤ N) (h0 : 0 < cnt)
    {μ l : EReal} {a : Fin 128 → EReal} (h : Holds S V t μ l a)
    (s : Fin N → EReal) (hs : ∀ r, s r = if r.val < cnt then ((S (t + r.val) : ℝ) : EReal) else ⊥)
    (w : Fin N → Fin 128 → EReal) (hw : ∀ r e, w r e = ((V (t + r.val) e : ℝ) : EReal))
    (o : Fin N → EReal) (ho : ∀ r, o r = 1)
    (μ' : EReal) (hμ : μ' = max μ (Finset.univ.fold max ⊥ s)) :
    Holds S V (t + cnt) μ' (Ideal.exp2 (μ - μ') * l + ∑ r, o r * Ideal.exp2 (s r - μ'))
      (fun e => Ideal.exp2 (μ - μ') * a e + ∑ r, w r e * Ideal.exp2 (s r - μ')) := by
  obtain ⟨y, hy⟩ : ∃ y : ℝ, Finset.univ.fold max ⊥ s = ↑y := by
    refine fold_max_real s (fun r => ?_) ⊥ bot_ne_top (Or.inr ⟨⟨0, by omega⟩, ?_⟩)
    · rw [hs]; split <;> simp
    · rw [hs, if_pos h0]; exact EReal.coe_ne_bot _
  have hreal : ∃ x : ℝ, μ' = ↑x := by
    rw [hμ, hy]
    rcases h with ⟨_, h, _⟩ | ⟨x, h, _⟩
    · exact ⟨y, by rw [h]; simp⟩
    · exact ⟨max x y, by rw [h]; exact (EReal.coe_strictMono.monotone.map_max).symm⟩
  obtain ⟨x', hx'⟩ := hreal
  have hp : ∀ r, Ideal.exp2 (s r - μ') = ((if r.val < cnt then (2 : ℝ) ^ (S (t + r.val) - x') else 0 : ℝ) : EReal) := fun r => by
    rw [hs, hx', exp2_score]
  have hl : ∑ r, o r * Ideal.exp2 (s r - μ') = ((∑ i ∈ Finset.range cnt, (2 : ℝ) ^ (S (t + i) - x') : ℝ) : EReal) := by
    rw [← sum_block t cnt hc (fun κ => (2 : ℝ) ^ (S κ - x')), coe_sum]
    refine Finset.sum_congr rfl fun r _ => ?_
    rw [ho, one_mul, hp]
  have ha : ∀ e, ∑ r, w r e * Ideal.exp2 (s r - μ')
      = ((∑ i ∈ Finset.range cnt, (2 : ℝ) ^ (S (t + i) - x') * V (t + i) e : ℝ) : EReal) := fun e => by
    rw [← sum_block t cnt hc (fun κ => (2 : ℝ) ^ (S κ - x') * V κ e), coe_sum]
    refine Finset.sum_congr rfl fun r _ => ?_
    rw [hw, hp, ← EReal.coe_mul]
    congr 1
    split
    · ring
    · ring
  rw [hl]
  refine Or.inr ⟨x', hx', ?_, fun e => ?_⟩
  · rcases h with ⟨h1, h2, h3, h4⟩ | ⟨x, h1, h2, h3⟩
    · subst h1; rw [h3, mul_zero, zero_add, zero_add]; simp
    · rw [h1, hx', h2, ← EReal.coe_sub, Ideal.exp2_coe, ← EReal.coe_mul, ← EReal.coe_add, Finset.sum_range_add, Finset.mul_sum]
      congr 2
      refine Finset.sum_congr rfl fun κ _ => ?_
      show (2 : ℝ) ^ (x - x') * _ = _
      rw [← Real.rpow_add two_pos]; congr 1; ring
  · beta_reduce
    rw [ha]
    rcases h with ⟨h1, h2, h3, h4⟩ | ⟨x, h1, h2, h3⟩
    · subst h1; rw [h4, mul_zero, zero_add, zero_add]; simp
    · rw [h1, hx', h3, ← EReal.coe_sub, Ideal.exp2_coe, ← EReal.coe_mul, ← EReal.coe_add, Finset.sum_range_add, Finset.mul_sum]
      congr 2
      refine Finset.sum_congr rfl fun κ _ => ?_
      show (2 : ℝ) ^ (x - x') * (_ * _) = _
      rw [← mul_assoc, ← Real.rpow_add two_pos]; congr 2; ring

/-- The softmax average of the values over the first `t` keys, by exponentials of the scores. -/
def avg (S : ℕ → ℝ) (V : ℕ → Fin 128 → ℝ) (t : ℕ) (e : Fin 128) : ℝ :=
  (∑ κ ∈ Finset.range t, (2 : ℝ) ^ S κ * V κ e) / ∑ κ ∈ Finset.range t, (2 : ℝ) ^ S κ

/-- The weighted sum over the sum of powers is that average, whatever the shift. -/
theorem holds_avg {S : ℕ → ℝ} {V : ℕ → Fin 128 → ℝ} {t : ℕ} (ht : 0 < t) {μ l : EReal} {a : Fin 128 → EReal}
    (h : Holds S V t μ l a) (e : Fin 128) : a e * Ideal.div 1 l = ((avg S V t e : ℝ) : EReal) := by
  rcases h with ⟨h, _⟩ | ⟨x, _, hl, ha⟩
  · omega
  have hpos : ∀ x : ℝ, 0 < ∑ κ ∈ Finset.range t, (2 : ℝ) ^ (S κ - x) := fun x =>
    Finset.sum_pos (fun κ _ => Real.rpow_pos_of_pos two_pos _) ⟨0, Finset.mem_range.mpr ht⟩
  rw [hl, ha, Ideal.div_coe (hpos x).ne', one_mul, ← EReal.coe_mul]
  congr 1
  have h1 : ∀ κ, (2 : ℝ) ^ (S κ - x) = (2 : ℝ) ^ S κ * (2 : ℝ) ^ (-x) := fun κ => by
    rw [← Real.rpow_add two_pos]; rfl
  have h2 : (2 : ℝ) ^ (-x) ≠ 0 := (Real.rpow_pos_of_pos two_pos _).ne'
  have h3 : (∑ κ ∈ Finset.range t, (2 : ℝ) ^ S κ) ≠ 0 := by
    have := hpos 0; simp only [sub_zero] at this; exact this.ne'
  unfold avg
  simp only [h1, mul_right_comm _ ((2 : ℝ) ^ (-x)), ← Finset.sum_mul]
  field_simp

end Cert.Proof.AttnRow

end
-- ==== Proof.AttnChain.lean ====
/- One block of keys against one half of a query block, in the kernel's own operations, read at one query's column. -/
module

public import proofs.«01_k».proof.Proof.Gen.KernelIdeal.Value
public import proofs.«01_k».proof.Proof.AttnRow
public import Idealize.ShloMosaic.Lib.Pointwise
public import Idealize.ShloMosaic.PureOps.Ideal.Laws

@[expose] public section

set_option maxRecDepth 16384

noncomputable section

namespace Cert.KernelIdeal.Attn

open Cert.KernelIdeal Cert.KernelIdeal.Gen Idealize.ShloMosaic Idealize.ShloMosaic.TcCoe Idealize.SL.Sem
open Cert.Proof.AttnRow

/-- The running maximum, one row of it as loaded. -/
def ldRow (v : Vec Ideal S1x1x512 .f32) : FVec Ideal S1x512 .f32 := shapeCast S1x512 v shapeCasts_S1x1x512_S1x512
/-- The running weighted sum as loaded. -/
def ldAcc (v : Vec Ideal S1x128x512 .f32) : FVec Ideal S128x512 .f32 := shapeCast S128x512 v shapeCasts_S1x128x512_S128x512
/-- A row stored over all eight sublanes. -/
def stRow (v : FVec Ideal S1x512 .f32) : FVec Ideal S1x8x512 .f32 :=
  shapeCast S1x8x512 (broadcastTo S8x512 (shapeCast S1x512 v shapeCasts_S1x512_S1x512) broadcasts_S1x512_S8x512)
    shapeCasts_S8x512_S1x8x512
/-- The weighted sum as stored. -/
def stAcc (v : FVec Ideal S128x512 .f32) : FVec Ideal S1x128x512 .f32 := shapeCast S1x128x512 v shapeCasts_S128x512_S1x128x512

/-- The new maximum of a block of 1024 keys. -/
def newM (s : FVec Ideal S1024x512 .f32) (m : FVec Ideal S1x512 .f32) : FVec Ideal S1x512 .f32 :=
  maximumf m (shapeCast S1x512 (multiReduction .maximumf [0] S512 s 0xFF800000#32 reduces_S1024x512_S512 (.inl rfl) rfl)
    shapeCasts_S512_S1x512)
/-- The factor the sums so far are scaled by. -/
def newA (s : FVec Ideal S1024x512 .f32) (m : FVec Ideal S1x512 .f32) : FVec Ideal S1x512 .f32 := exp2 (subf m (newM s m))
/-- The block's weighted values, with the sums of the weights below them. -/
def newP (vt : FVec Ideal S144x1024 .bf16) (s : FVec Ideal S1024x512 .f32) (m : FVec Ideal S1x512 .f32) :
    FVec Ideal S144x512 .f32 :=
  matmul (φ₂ := .bf16) dot_S144x1024_S1024x512_S144x512_1_0_0_1_n_n none vt
    (truncf .bf16 (exp2 (subf s (broadcastTo S1024x512 (newM s m) broadcasts_S1x512_S1024x512))) bitsLt_bf16_f32)
    (constant S144x512 .f32 0x00000000#32)
/-- The new sum of weights. -/
def newL (vt : FVec Ideal S144x1024 .bf16) (s : FVec Ideal S1024x512 .f32) (m l : FVec Ideal S1x512 .f32) :
    FVec Ideal S1x512 .f32 :=
  addf (mulf (newA s m) l) (extractStridedSlice S1x512 ![128, 0] (newP vt s m) slices_S144x512_o128_0_S1x512)
/-- The new weighted sum. -/
def newAcc (vt : FVec Ideal S144x1024 .bf16) (s : FVec Ideal S1024x512 .f32) (m : FVec Ideal S1x512 .f32)
    (a : FVec Ideal S128x512 .f32) : FVec Ideal S128x512 .f32 :=
  addf (mulf (broadcastTo S128x512 (newA s m) broadcasts_S1x512_S128x512) a)
    (extractStridedSlice S128x512 ![0, 0] (newP vt s m) slices_S144x512_o0_0_S128x512)

theorem stRow_at (v : FVec Ideal S1x512 .f32) (n : Fin 512) : stRow v (ix3 0 0 n) = v (ix2 0 n) := by
  unfold stRow; pointwise

theorem stAcc_at (v : FVec Ideal S128x512 .f32) (e : Fin 128) (n : Fin 512) : stAcc v (ix3 0 e n) = v (ix2 e n) := by
  unfold stAcc; pointwise

theorem ldRow_at (v : Vec Ideal S1x1x512 .f32) (n : Fin 512) : ldRow v (ix2 0 n) = v (ix3 0 0 n) := by
  unfold ldRow; pointwise

theorem ldAcc_at (v : Vec Ideal S1x128x512 .f32) (e : Fin 128) (n : Fin 512) : ldAcc v (ix2 e n) = v (ix3 0 e n) := by
  unfold ldAcc; pointwise

/-- Minus infinity's bits. -/
theorem negInf : Ideal.ofBits .f32 0xFF800000#32 = ⊥ := by
  simp [Ideal.ofBits, Ideal.ieee]

theorem newM_at (s : FVec Ideal S1024x512 .f32) (m : FVec Ideal S1x512 .f32) (n : Fin 512) :
    newM s m (ix2 0 n) = max (m (ix2 0 n)) (Finset.univ.fold max (⊥ : EReal) fun r : Fin 1024 => s (ix2 r n)) := by
  unfold newM; pointwise; rw [negInf]

theorem newP_at (vt : FVec Ideal S144x1024 .bf16) (s : FVec Ideal S1024x512 .f32) (m : FVec Ideal S1x512 .f32)
    (e : Fin 144) (n : Fin 512) :
    newP vt s m (ix2 e n) = ∑ r : Fin 1024, vt (ix2 e r) * Ideal.exp2 (s (ix2 r n) - newM s m (ix2 0 n)) := by
  unfold newP; pointwise; rfl

theorem newL_at (vt : FVec Ideal S144x1024 .bf16) (s : FVec Ideal S1024x512 .f32) (m l : FVec Ideal S1x512 .f32) (n : Fin 512) :
    newL vt s m l (ix2 0 n) = Ideal.exp2 (m (ix2 0 n) - newM s m (ix2 0 n)) * l (ix2 0 n) + newP vt s m (ix2 128 n) := by
  unfold newL newA; pointwise; rfl

theorem newAcc_at (vt : FVec Ideal S144x1024 .bf16) (s : FVec Ideal S1024x512 .f32) (m : FVec Ideal S1x512 .f32)
    (a : FVec Ideal S128x512 .f32) (e : Fin 128) (n : Fin 512) :
    newAcc vt s m a (ix2 e n) = Ideal.exp2 (m (ix2 0 n) - newM s m (ix2 0 n)) * a (ix2 e n)
      + newP vt s m (ix2 (⟨e.val, by omega⟩ : Fin 144) n) := by
  unfold newAcc newA; pointwise; rfl

/-- One block of 1024 keys carries a query's running quantities on by the keys it counts. -/
theorem chain {S : ℕ → ℝ} {V : ℕ → Fin 128 → ℝ} {t : ℕ} (cnt : ℕ) (hc : cnt ≤ 1024) (h0 : 0 < cnt)
    {vt : FVec Ideal S144x1024 .bf16} {s : FVec Ideal S1024x512 .f32} {m l : Vec Ideal S1x1x512 .f32}
    {a : Vec Ideal S1x128x512 .f32} {n : Fin 512}
    (hs : ∀ r : Fin 1024, s (ix2 r n) = if r.val < cnt then ((S (t + r.val) : ℝ) : EReal) else ⊥)
    (hv : ∀ (e : Fin 128) (r : Fin 1024), vt (ix2 (⟨e.val, by omega⟩ : Fin 144) r) = ((V (t + r.val) e : ℝ) : EReal))
    (ho : ∀ r : Fin 1024, vt (ix2 128 r) = 1)
    (h : Holds S V t (m (ix3 0 0 n)) (l (ix3 0 0 n)) (fun e => a (ix3 0 e n))) :
    Holds S V (t + cnt) (stRow (newM s (ldRow m)) (ix3 0 0 n)) (stRow (newL vt s (ldRow m) (ldRow l)) (ix3 0 0 n))
      (fun e => stAcc (newAcc vt s (ldRow m) (ldAcc a)) (ix3 0 e n)) := by
  have := holds_step cnt hc h0 h (fun r => s (ix2 r n)) hs (fun r e => vt (ix2 (⟨e.val, by omega⟩ : Fin 144) r))
    (fun r e => hv e r) (fun r => vt (ix2 128 r)) ho (newM s (ldRow m) (ix2 0 n)) (by rw [newM_at, ldRow_at])
  simp only [stRow_at, stAcc_at, newL_at, newAcc_at, newP_at, ldRow_at, ldAcc_at]
  exact this

/-! The same of a block of 512 keys, the lower half of a diagonal block. -/

/-- The new maximum of a block of 512 keys. -/
def newMH (s : FVec Ideal S512x512 .f32) (m : FVec Ideal S1x512 .f32) : FVec Ideal S1x512 .f32 :=
  maximumf m (shapeCast S1x512 (multiReduction .maximumf [0] S512 s 0xFF800000#32 reduces_S512x512_S512 (.inl rfl) rfl)
    shapeCasts_S512_S1x512)
/-- The factor the sums so far are scaled by. -/
def newAH (s : FVec Ideal S512x512 .f32) (m : FVec Ideal S1x512 .f32) : FVec Ideal S1x512 .f32 := exp2 (subf m (newMH s m))
/-- The block's weighted values, with the sums of the weights below them. -/
def newPH (vt : FVec Ideal S144x512 .bf16) (s : FVec Ideal S512x512 .f32) (m : FVec Ideal S1x512 .f32) :
    FVec Ideal S144x512 .f32 :=
  matmul (φ₂ := .bf16) dot_S144x512_S512x512_S144x512_1_0_0_1_n_n none vt
    (truncf .bf16 (exp2 (subf s (broadcastTo S512x512 (newMH s m) broadcasts_S1x512_S512x512))) bitsLt_bf16_f32)
    (constant S144x512 .f32 0x00000000#32)
/-- The new sum of weights. -/
def newLH (vt : FVec Ideal S144x512 .bf16) (s : FVec Ideal S512x512 .f32) (m l : FVec Ideal S1x512 .f32) :
    FVec Ideal S1x512 .f32 :=
  addf (mulf (newAH s m) l) (extractStridedSlice S1x512 ![128, 0] (newPH vt s m) slices_S144x512_o128_0_S1x512)
/-- The new weighted sum. -/
def newAccH (vt : FVec Ideal S144x512 .bf16) (s : FVec Ideal S512x512 .f32) (m : FVec Ideal S1x512 .f32)
    (a : FVec Ideal S128x512 .f32) : FVec Ideal S128x512 .f32 :=
  addf (mulf (broadcastTo S128x512 (newAH s m) broadcasts_S1x512_S128x512) a)
    (extractStridedSlice S128x512 ![0, 0] (newPH vt s m) slices_S144x512_o0_0_S128x512)

theorem newMH_at (s : FVec Ideal S512x512 .f32) (m : FVec Ideal S1x512 .f32) (n : Fin 512) :
    newMH s m (ix2 0 n) = max (m (ix2 0 n)) (Finset.univ.fold max (⊥ : EReal) fun r : Fin 512 => s (ix2 r n)) := by
  unfold newMH; pointwise; rw [negInf]

theorem newPH_at (vt : FVec Ideal S144x512 .bf16) (s : FVec Ideal S512x512 .f32) (m : FVec Ideal S1x512 .f32)
    (e : Fin 144) (n : Fin 512) :
    newPH vt s m (ix2 e n) = ∑ r : Fin 512, vt (ix2 e r) * Ideal.exp2 (s (ix2 r n) - newMH s m (ix2 0 n)) := by
  unfold newPH; pointwise; rfl

theorem newLH_at (vt : FVec Ideal S144x512 .bf16) (s : FVec Ideal S512x512 .f32) (m l : FVec Ideal S1x512 .f32) (n : Fin 512) :
    newLH vt s m l (ix2 0 n) = Ideal.exp2 (m (ix2 0 n) - newMH s m (ix2 0 n)) * l (ix2 0 n) + newPH vt s m (ix2 128 n) := by
  unfold newLH newAH; pointwise; rfl

theorem newAccH_at (vt : FVec Ideal S144x512 .bf16) (s : FVec Ideal S512x512 .f32) (m : FVec Ideal S1x512 .f32)
    (a : FVec Ideal S128x512 .f32) (e : Fin 128) (n : Fin 512) :
    newAccH vt s m a (ix2 e n) = Ideal.exp2 (m (ix2 0 n) - newMH s m (ix2 0 n)) * a (ix2 e n)
      + newPH vt s m (ix2 (⟨e.val, by omega⟩ : Fin 144) n) := by
  unfold newAccH newAH; pointwise; rfl

/-- One block of 512 keys carries a query's running quantities on by the keys it counts. -/
theorem chainH {S : ℕ → ℝ} {V : ℕ → Fin 128 → ℝ} {t : ℕ} (cnt : ℕ) (hc : cnt ≤ 512) (h0 : 0 < cnt)
    {vt : FVec Ideal S144x512 .bf16} {s : FVec Ideal S512x512 .f32} {m l : Vec Ideal S1x1x512 .f32}
    {a : Vec Ideal S1x128x512 .f32} {n : Fin 512}
    (hs : ∀ r : Fin 512, s (ix2 r n) = if r.val < cnt then ((S (t + r.val) : ℝ) : EReal) else ⊥)
    (hv : ∀ (e : Fin 128) (r : Fin 512), vt (ix2 (⟨e.val, by omega⟩ : Fin 144) r) = ((V (t + r.val) e : ℝ) : EReal))
    (ho : ∀ r : Fin 512, vt (ix2 128 r) = 1)
    (h : Holds S V t (m (ix3 0 0 n)) (l (ix3 0 0 n)) (fun e => a (ix3 0 e n))) :
    Holds S V (t + cnt) (stRow (newMH s (ldRow m)) (ix3 0 0 n)) (stRow (newLH vt s (ldRow m) (ldRow l)) (ix3 0 0 n))
      (fun e => stAcc (newAccH vt s (ldRow m) (ldAcc a)) (ix3 0 e n)) := by
  have := holds_step cnt hc h0 h (fun r => s (ix2 r n)) hs (fun r e => vt (ix2 (⟨e.val, by omega⟩ : Fin 144) r))
    (fun r e => hv e r) (fun r => vt (ix2 128 r)) ho (newMH s (ldRow m) (ix2 0 n)) (by rw [newMH_at, ldRow_at])
  simp only [stRow_at, stAcc_at, newLH_at, newAccH_at, newPH_at, ldRow_at, ldAcc_at]
  exact this

end Cert.KernelIdeal.Attn

end
-- ==== Proof.AttnState.lean ====
/- What the attention kernel's scratch buffers hold between two blocks of keys, and the reading of its loads and
   stores at an index. -/
module

public import proofs.«01_k».proof.Proof.AttnChain
public import Idealize.ShloMosaic.Lib.WritesUnit

@[expose] public section

set_option maxRecDepth 16384

noncomputable section

namespace Cert.KernelIdeal.Attn

open Cert.KernelIdeal Cert.KernelIdeal.Gen Idealize.ShloMosaic Idealize.ShloMosaic.TcCoe Idealize.SL.Sem
open Cert.Proof.AttnRow

/-- Query `n` of half `b` of the query block. -/
abbrev col (b : Fin 2) (n : Fin 512) : Fin 1024 := ⟨512 * b.val + n.val, by have := b.isLt; have := n.isLt; omega⟩

/-- The score of key `κ` against query `n` in map `c`. -/
def score (K : ℕ → Fin 128 → ℝ) (Q : Fin 2 → Fin 1024 → Fin 128 → ℝ) (c : Fin 2) (n : Fin 1024) (κ : ℕ) : ℝ :=
  ∑ e, K κ e * Q c n e

/-- What the keys, the values with the ones under them, and the scaled queries hold, as reals. -/
structure Srcs (K V : ℕ → Fin 128 → ℝ) (Q : Fin 2 → Fin 1024 → Fin 128 → ℝ) (R4 : S1x1x8192x128.Idx → EReal)
    (R5 : S1x1x8x144x1024.Idx → EReal) (R9 : S2x1024x128.Idx → EReal) : Prop where
  key : ∀ (κ : Fin 8192) (e : Fin 128), R4 (ix4 0 0 κ e) = ((K κ.val e : ℝ) : EReal)
  val : ∀ (j : Fin 8) (e : Fin 128) (r : Fin 1024),
    R5 (ix5 0 0 j (⟨e.val, by omega⟩ : Fin 144) r) = ((V (1024 * j.val + r.val) e : ℝ) : EReal)
  one : ∀ (j : Fin 8) (r : Fin 1024), R5 (ix5 0 0 j (128 : Fin 144) r) = 1
  qry : ∀ (c : Fin 2) (n : Fin 1024) (e : Fin 128), R9 (ix3 c n e) = ((Q c n e : ℝ) : EReal)

/-- What the running buffers hold of the queries after `t c b` keys. -/
def Runs (K V : ℕ → Fin 128 → ℝ) (Q : Fin 2 → Fin 1024 → Fin 128 → ℝ) (t : ℕ)
    (R10 R11 : S2x8x1024.Idx → EReal) (R12 : S2x128x1024.Idx → EReal) : Prop :=
  ∀ (c b : Fin 2) (n : Fin 512), Holds (score K Q c (col b n)) V t (R10 (ix3 c 0 (col b n))) (R11 (ix3 c 0 (col b n)))
    (fun e => R12 (ix3 c e (col b n)))

/-- What the score buffer holds: the scores of the keys from `t` on against the second half of the queries. -/
def Next (K : ℕ → Fin 128 → ℝ) (Q : Fin 2 → Fin 1024 → Fin 128 → ℝ) (t : ℕ) (R13 : S2x1024x512.Idx → EReal) : Prop :=
  ∀ (c : Fin 2) (r : Fin 1024) (n : Fin 512), R13 (ix3 c r n) = ((score K Q c (col 1 n) (t + r.val) : ℝ) : EReal)

theorem holds_of_eq {S : ℕ → ℝ} {V : ℕ → Fin 128 → ℝ} {t : ℕ} {μ l μ' l' : EReal} {a a' : Fin 128 → EReal}
    (h : Holds S V t μ l a) (h1 : μ' = μ) (h2 : l' = l) (h3 : ∀ e, a' e = a e) : Holds S V t μ' l' a' := by
  rw [h1, h2, funext h3]; exact h

section Reads

variable {sp : Space}

/-- A stored half-row block read inside it. -/
theorem put_mem {R : ℕ} (v : View sig .tc sp ⟨3, ![2, R, 1024]⟩ .f32) (f : v.ty.Contents (Elt Ideal)) {off : Fin 3 → ℕ}
    (inb : ∀ a, off a + (![1, R, 512] : Fin 3 → ℕ) a ≤ (![2, R, 1024] : Fin 3 → ℕ) a)
    (w : (⟨3, ![1, R, 512]⟩ : Shape).Idx → EReal) (L : List (View.Piece (Elt Ideal) ⟨3, ![2, R, 1024]⟩ .f32))
    (c b : Fin 2) (e : Fin R) (n : Fin 512) (h : off = ![c.val, 0, 512 * b.val]) :
    v.read (Elt Ideal) (v.writes (Elt Ideal) f
      ((⟨Rect.unit (s := ⟨3, ![2, R, 1024]⟩) off (![1, R, 512] : Fin 3 → ℕ) inb, w⟩ : View.Piece (Elt Ideal) ⟨3, ![2, R, 1024]⟩ .f32) :: L))
      (ix3 c e (col b n)) = w (ix3 0 e n) :=
  v.read_writes_cons_unit_of_mem f inb w L (ix3 c e (col b n)) (ix3 0 e n) h (fun a => by
    fin_cases a
    · show c.val = c.val + 0; omega
    · show e.val = 0 + e.val; omega
    · rfl)

/-- A stored half-row block read outside it. -/
theorem put_ne {R : ℕ} (v : View sig .tc sp ⟨3, ![2, R, 1024]⟩ .f32) (f : v.ty.Contents (Elt Ideal)) {off : Fin 3 → ℕ}
    (inb : ∀ a, off a + (![1, R, 512] : Fin 3 → ℕ) a ≤ (![2, R, 1024] : Fin 3 → ℕ) a)
    (w : (⟨3, ![1, R, 512]⟩ : Shape).Idx → EReal) (L : List (View.Piece (Elt Ideal) ⟨3, ![2, R, 1024]⟩ .f32))
    (c' b' : Fin 2) (h : off = ![c'.val, 0, 512 * b'.val]) (c b : Fin 2) (e : Fin R) (n : Fin 512) (hne : c ≠ c' ∨ b ≠ b') :
    v.read (Elt Ideal) (v.writes (Elt Ideal) f
      ((⟨Rect.unit (s := ⟨3, ![2, R, 1024]⟩) off (![1, R, 512] : Fin 3 → ℕ) inb, w⟩ : View.Piece (Elt Ideal) ⟨3, ![2, R, 1024]⟩ .f32) :: L))
      (ix3 c e (col b n)) = v.read (Elt Ideal) (v.writes (Elt Ideal) f L) (ix3 c e (col b n)) := by
  by_cases hc : c = c'
  · have hb : b ≠ b' := hne.resolve_left fun h => h hc
    refine v.read_writes_cons_unit_of_not_mem f inb w L _ h 2 ?_
    show 512 * b.val + n.val < 512 * b'.val ∨ 512 * b'.val + 512 ≤ 512 * b.val + n.val
    have : b.val ≠ b'.val := fun h => hb (Fin.ext h)
    omega
  · refine v.read_writes_cons_unit_of_not_mem f inb w L _ h 0 ?_
    show c.val < c'.val ∨ c'.val + 1 ≤ c.val
    have : c.val ≠ c'.val := fun h => hc (Fin.ext h)
    omega

/-- A stored score block read inside it, and outside it. -/
theorem sput_mem (v : View sig .tc sp S2x1024x512 .f32) (f : v.ty.Contents (Elt Ideal)) {off : Fin 3 → ℕ}
    (inb : ∀ a, off a + S1x1024x512.size a ≤ S2x1024x512.size a)
    (w : S1x1024x512.Idx → EReal) (L : List (View.Piece (Elt Ideal) S2x1024x512 .f32))
    (c : Fin 2) (r : Fin 1024) (n : Fin 512) (h : off = ![c.val, 0, 0]) :
    v.read (Elt Ideal) (v.writes (Elt Ideal) f
      ((⟨Rect.unit (s := S2x1024x512) off S1x1024x512.size inb, w⟩ : View.Piece (Elt Ideal) S2x1024x512 .f32) :: L))
      (ix3 c r n) = w (ix3 0 r n) :=
  v.read_writes_cons_unit_of_mem f inb w L (ix3 c r n) (ix3 0 r n) h (fun a => by
    fin_cases a
    · show c.val = c.val + 0; omega
    · show r.val = 0 + r.val; omega
    · show n.val = 0 + n.val; omega)

theorem sput_ne (v : View sig .tc sp S2x1024x512 .f32) (f : v.ty.Contents (Elt Ideal)) {off : Fin 3 → ℕ}
    (inb : ∀ a, off a + S1x1024x512.size a ≤ S2x1024x512.size a)
    (w : S1x1024x512.Idx → EReal) (L : List (View.Piece (Elt Ideal) S2x1024x512 .f32))
    (c' : Fin 2) (h : off = ![c'.val, 0, 0]) (c : Fin 2) (r : Fin 1024) (n : Fin 512) (hne : c ≠ c') :
    v.read (Elt Ideal) (v.writes (Elt Ideal) f
      ((⟨Rect.unit (s := S2x1024x512) off S1x1024x512.size inb, w⟩ : View.Piece (Elt Ideal) S2x1024x512 .f32) :: L))
      (ix3 c r n) = v.read (Elt Ideal) (v.writes (Elt Ideal) f L) (ix3 c r n) := by
  refine v.read_writes_cons_unit_of_not_mem f inb w L _ h 0 ?_
  show c.val < c'.val ∨ c'.val + 1 ≤ c.val
  have : c.val ≠ c'.val := fun h => hne (Fin.ext h)
  omega

/-- A half row as loaded: `R` is how many rows of the buffer the load takes. -/
theorem ld_half {R R' : ℕ} (hR : R' ≤ R) (v : View sig .tc sp ⟨3, ![2, R, 1024]⟩ .f32) (f : v.ty.Contents (Elt Ideal)) {off : Fin 3 → ℕ}
    (inb : ∀ a, off a + (![1, R', 512] : Fin 3 → ℕ) a ≤ (![2, R, 1024] : Fin 3 → ℕ) a)
    (c b : Fin 2) (e : Fin R') (n : Fin 512) (h : off = ![c.val, 0, 512 * b.val]) :
    v.readAt (Elt Ideal) (Rect.unit (s := ⟨3, ![2, R, 1024]⟩) off (![1, R', 512] : Fin 3 → ℕ) inb).toLoadRect f (ix3 0 e n)
      = v.read (Elt Ideal) f (ix3 c (⟨e.val, by omega⟩ : Fin R) (col b n)) := by
  subst h
  rw [View.readAt_apply]
  congr 1
  funext a
  fin_cases a
  · apply Fin.ext; show c.val + 1 * 0 = c.val; omega
  · apply Fin.ext; show 0 + 1 * e.val = e.val; omega
  · apply Fin.ext; show 512 * b.val + 1 * n.val = 512 * b.val + n.val; omega

theorem ld_scores (v : View sig .tc sp S2x1024x512 .f32) (f : v.ty.Contents (Elt Ideal)) {off : Fin 3 → ℕ}
    (inb : ∀ a, off a + S1x1024x512.size a ≤ S2x1024x512.size a)
    (c : Fin 2) (r : Fin 1024) (n : Fin 512) (h : off = ![c.val, 0, 0]) :
    v.readAt (Elt Ideal) (Rect.unit (s := S2x1024x512) off S1x1024x512.size inb).toLoadRect f (ix3 0 r n)
      = v.read (Elt Ideal) f (ix3 c r n) := by
  subst h
  rw [View.readAt_apply]
  congr 1
  funext a
  fin_cases a
  · apply Fin.ext; show c.val + 1 * 0 = c.val; omega
  · apply Fin.ext; show 0 + 1 * r.val = r.val; omega
  · apply Fin.ext; show 0 + 1 * n.val = n.val; omega

theorem ld_keys {N : ℕ} (v : View sig .tc sp S1x1x8192x128 .bf16) (f : v.ty.Contents (Elt Ideal)) {off : Fin 4 → ℕ}
    (inb : ∀ a, off a + (![1, 1, N, 128] : Fin 4 → ℕ) a ≤ S1x1x8192x128.size a) (t : ℕ) (ht : t + N ≤ 8192)
    (r : Fin N) (e : Fin 128) (h : off = ![0, 0, t, 0]) :
    v.readAt (Elt Ideal) (Rect.unit (s := S1x1x8192x128) off (![1, 1, N, 128] : Fin 4 → ℕ) inb).toLoadRect f (ix4 0 0 r e)
      = v.read (Elt Ideal) f (ix4 0 0 (⟨t + r.val, by omega⟩ : Fin 8192) e) := by
  subst h
  rw [View.readAt_apply]
  congr 1
  funext a
  fin_cases a
  · rfl
  · rfl
  · apply Fin.ext; show t + 1 * r.val = t + r.val; omega
  · apply Fin.ext; show 0 + 1 * e.val = e.val; omega

theorem ld_vals (v : View sig .tc sp S1x1x8x144x1024 .bf16) (f : v.ty.Contents (Elt Ideal)) {off : Fin 5 → ℕ}
    (inb : ∀ a, off a + S1x1x1x144x1024.size a ≤ S1x1x8x144x1024.size a) (j : Fin 8)
    (e : Fin 144) (r : Fin 1024) (h : off = ![0, 0, j.val, 0, 0]) :
    v.readAt (Elt Ideal) (Rect.unit (s := S1x1x8x144x1024) off S1x1x1x144x1024.size inb).toLoadRect f (ix5 0 0 0 e r)
      = v.read (Elt Ideal) f (ix5 0 0 j e r) := by
  subst h
  rw [View.readAt_apply]
  congr 1
  funext a
  fin_cases a
  · rfl
  · rfl
  · apply Fin.ext; show j.val + 1 * 0 = j.val; omega
  · apply Fin.ext; show 0 + 1 * e.val = e.val; omega
  · apply Fin.ext; show 0 + 1 * r.val = r.val; omega

theorem ld_qrys (v : View sig .tc sp S2x1024x128 .bf16) (f : v.ty.Contents (Elt Ideal)) {off : Fin 3 → ℕ}
    (inb : ∀ a, off a + S1x512x128.size a ≤ S2x1024x128.size a) (c b : Fin 2)
    (n : Fin 512) (e : Fin 128) (h : off = ![c.val, 512 * b.val, 0]) :
    v.readAt (Elt Ideal) (Rect.unit (s := S2x1024x128) off S1x512x128.size inb).toLoadRect f (ix3 0 n e)
      = v.read (Elt Ideal) f (ix3 c (col b n) e) := by
  subst h
  rw [View.readAt_apply]
  congr 1
  funext a
  fin_cases a
  · apply Fin.ext; show c.val + 1 * 0 = c.val; omega
  · apply Fin.ext; show 512 * b.val + 1 * n.val = 512 * b.val + n.val; omega
  · apply Fin.ext; show 0 + 1 * e.val = e.val; omega

end Reads

/-- The four stores of a block give the running buffers. -/
theorem runs_of_four {K V : ℕ → Fin 128 → ℝ} {Q : Fin 2 → Fin 1024 → Fin 128 → ℝ} {t : ℕ} {sp : Space}
    (v10 v11 : View sig .tc sp S2x8x1024 .f32) (v12 : View sig .tc sp S2x128x1024 .f32)
    (f10 : v10.ty.Contents (Elt Ideal)) (f11 : v11.ty.Contents (Elt Ideal)) (f12 : v12.ty.Contents (Elt Ideal))
    (i1 i2 i3 i4 j1 j2 j3 j4 k1 k2 k3 k4)
    (A10 B10 C10 D10 A11 B11 C11 D11 : S1x8x512.Idx → EReal) (A12 B12 C12 D12 : S1x128x512.Idx → EReal)
    (L10 L11 : List (View.Piece (Elt Ideal) S2x8x1024 .f32)) (L12 : List (View.Piece (Elt Ideal) S2x128x1024 .f32))
    (hA : ∀ n : Fin 512, Holds (score K Q 1 (col 0 n)) V t (A10 (ix3 0 0 n)) (A11 (ix3 0 0 n)) (fun e => A12 (ix3 0 e n)))
    (hB : ∀ n : Fin 512, Holds (score K Q 0 (col 0 n)) V t (B10 (ix3 0 0 n)) (B11 (ix3 0 0 n)) (fun e => B12 (ix3 0 e n)))
    (hC : ∀ n : Fin 512, Holds (score K Q 1 (col 1 n)) V t (C10 (ix3 0 0 n)) (C11 (ix3 0 0 n)) (fun e => C12 (ix3 0 e n)))
    (hD : ∀ n : Fin 512, Holds (score K Q 0 (col 1 n)) V t (D10 (ix3 0 0 n)) (D11 (ix3 0 0 n)) (fun e => D12 (ix3 0 e n))) :
    Runs K V Q t
      (v10.read (Elt Ideal) (v10.writes (Elt Ideal) f10 (⟨Rect.unit ![1, 0, 0] S1x8x512.size i1, A10⟩ :: ⟨Rect.unit ![0, 0, 0] S1x8x512.size i2, B10⟩
        :: ⟨Rect.unit ![1, 0, 512] S1x8x512.size i3, C10⟩ :: ⟨Rect.unit ![0, 0, 512] S1x8x512.size i4, D10⟩ :: L10)))
      (v11.read (Elt Ideal) (v11.writes (Elt Ideal) f11 (⟨Rect.unit ![1, 0, 0] S1x8x512.size j1, A11⟩ :: ⟨Rect.unit ![0, 0, 0] S1x8x512.size j2, B11⟩
        :: ⟨Rect.unit ![1, 0, 512] S1x8x512.size j3, C11⟩ :: ⟨Rect.unit ![0, 0, 512] S1x8x512.size j4, D11⟩ :: L11)))
      (v12.read (Elt Ideal) (v12.writes (Elt Ideal) f12 (⟨Rect.unit ![1, 0, 0] S1x128x512.size k1, A12⟩ :: ⟨Rect.unit ![0, 0, 0] S1x128x512.size k2, B12⟩
        :: ⟨Rect.unit ![1, 0, 512] S1x128x512.size k3, C12⟩ :: ⟨Rect.unit ![0, 0, 512] S1x128x512.size k4, D12⟩ :: L12))) := by
  intro c b n
  fin_cases c <;> fin_cases b
  · refine holds_of_eq (hB n) ?_ ?_ fun e => ?_
    · exact (put_ne v10 f10 _ _ _ 1 0 rfl 0 0 0 n (by decide)).trans (put_mem v10 f10 _ _ _ 0 0 0 n rfl)
    · exact (put_ne v11 f11 _ _ _ 1 0 rfl 0 0 0 n (by decide)).trans (put_mem v11 f11 _ _ _ 0 0 0 n rfl)
    · exact (put_ne v12 f12 _ _ _ 1 0 rfl 0 0 e n (by decide)).trans (put_mem v12 f12 _ _ _ 0 0 e n rfl)
  · refine holds_of_eq (hD n) ?_ ?_ fun e => ?_
    · exact (put_ne v10 f10 _ _ _ 1 0 rfl 0 1 0 n (by decide)).trans ((put_ne v10 f10 _ _ _ 0 0 rfl 0 1 0 n (by decide)).trans
        ((put_ne v10 f10 _ _ _ 1 1 rfl 0 1 0 n (by decide)).trans (put_mem v10 f10 _ _ _ 0 1 0 n rfl)))
    · exact (put_ne v11 f11 _ _ _ 1 0 rfl 0 1 0 n (by decide)).trans ((put_ne v11 f11 _ _ _ 0 0 rfl 0 1 0 n (by decide)).trans
        ((put_ne v11 f11 _ _ _ 1 1 rfl 0 1 0 n (by decide)).trans (put_mem v11 f11 _ _ _ 0 1 0 n rfl)))
    · exact (put_ne v12 f12 _ _ _ 1 0 rfl 0 1 e n (by decide)).trans ((put_ne v12 f12 _ _ _ 0 0 rfl 0 1 e n (by decide)).trans
        ((put_ne v12 f12 _ _ _ 1 1 rfl 0 1 e n (by decide)).trans (put_mem v12 f12 _ _ _ 0 1 e n rfl)))
  · refine holds_of_eq (hA n) ?_ ?_ fun e => ?_
    · exact put_mem v10 f10 _ _ _ 1 0 0 n rfl
    · exact put_mem v11 f11 _ _ _ 1 0 0 n rfl
    · exact put_mem v12 f12 _ _ _ 1 0 e n rfl
  · refine holds_of_eq (hC n) ?_ ?_ fun e => ?_
    · exact (put_ne v10 f10 _ _ _ 1 0 rfl 1 1 0 n (by decide)).trans ((put_ne v10 f10 _ _ _ 0 0 rfl 1 1 0 n (by decide)).trans
        (put_mem v10 f10 _ _ _ 1 1 0 n rfl))
    · exact (put_ne v11 f11 _ _ _ 1 0 rfl 1 1 0 n (by decide)).trans ((put_ne v11 f11 _ _ _ 0 0 rfl 1 1 0 n (by decide)).trans
        (put_mem v11 f11 _ _ _ 1 1 0 n rfl))
    · exact (put_ne v12 f12 _ _ _ 1 0 rfl 1 1 e n (by decide)).trans ((put_ne v12 f12 _ _ _ 0 0 rfl 1 1 e n (by decide)).trans
        (put_mem v12 f12 _ _ _ 1 1 e n rfl))

/-- The two stores of a block's next scores. -/
theorem next_of_two {K : ℕ → Fin 128 → ℝ} {Q : Fin 2 → Fin 1024 → Fin 128 → ℝ} {t : ℕ} {sp : Space}
    (v : View sig .tc sp S2x1024x512 .f32) (f : v.ty.Contents (Elt Ideal)) (i1 i2) (A B : S1x1024x512.Idx → EReal)
    (L : List (View.Piece (Elt Ideal) S2x1024x512 .f32))
    (hA : ∀ (r : Fin 1024) (n : Fin 512), A (ix3 0 r n) = ((score K Q 1 (col 1 n) (t + r.val) : ℝ) : EReal))
    (hB : ∀ (r : Fin 1024) (n : Fin 512), B (ix3 0 r n) = ((score K Q 0 (col 1 n) (t + r.val) : ℝ) : EReal)) :
    Next K Q t (v.read (Elt Ideal) (v.writes (Elt Ideal) f (⟨Rect.unit ![1, 0, 0] S1x1024x512.size i1, A⟩
      :: ⟨Rect.unit ![0, 0, 0] S1x1024x512.size i2, B⟩ :: L))) := by
  intro c r n
  fin_cases c
  · exact (sput_ne v f _ _ _ 1 rfl 0 r n (by decide)).trans ((sput_mem v f _ _ _ 0 r n rfl).trans (hB r n))
  · exact (sput_mem v f _ _ _ 1 r n rfl).trans (hA r n)

end Cert.KernelIdeal.Attn

end
-- ==== Proof.AttnTrip.lean ====
/- One trip of each of the attention kernel's loops carries the running quantities on by its blocks of keys. -/
module

public import proofs.«01_k».proof.Proof.AttnState

@[expose] public section

set_option maxRecDepth 16384

noncomputable section

namespace Cert.KernelIdeal.Attn

open Cert.KernelIdeal Cert.KernelIdeal.Gen Idealize.ShloMosaic Idealize.ShloMosaic.TcCoe Idealize.SL.Sem
open Cert.Proof.AttnRow

/-- Loaded key rows and loaded queries as matrices. -/
def ldK (v : Vec Ideal S1x1x1024x128 .bf16) : FVec Ideal S1024x128 .bf16 := shapeCast S1024x128 v shapeCasts_S1x1x1024x128_S1024x128
def ldQ (v : Vec Ideal S1x512x128 .bf16) : FVec Ideal S512x128 .bf16 := shapeCast S512x128 v shapeCasts_S1x512x128_S512x128
def ldV (v : Vec Ideal S1x1x1x144x1024 .bf16) : FVec Ideal S144x1024 .bf16 := shapeCast S144x1024 v shapeCasts_S1x1x1x144x1024_S144x1024
/-- The scores of a block. -/
def scoreV (k : FVec Ideal S1024x128 .bf16) (q : FVec Ideal S512x128 .bf16) : FVec Ideal S1024x512 .f32 :=
  matmul (φ₂ := .bf16) dot_S1024x128_S512x128_S1024x512_1_1_0_0_n_n none k q (constant S1024x512 .f32 0x00000000#32)
/-- Scores as loaded from and stored in the score buffer. -/
def ldS (v : Vec Ideal S1x1024x512 .f32) : FVec Ideal S1024x512 .f32 := shapeCast S1024x512 v shapeCasts_S1x1024x512_S1024x512
def stS (v : FVec Ideal S1024x512 .f32) : FVec Ideal S1x1024x512 .f32 := shapeCast S1x1024x512 v shapeCasts_S1024x512_S1x1024x512

theorem ldV_at (v : Vec Ideal S1x1x1x144x1024 .bf16) (e : Fin 144) (r : Fin 1024) : ldV v (ix2 e r) = v (ix5 0 0 0 e r) := by
  unfold ldV; pointwise
theorem ldS_at (v : Vec Ideal S1x1024x512 .f32) (r : Fin 1024) (n : Fin 512) : ldS v (ix2 r n) = v (ix3 0 r n) := by
  unfold ldS; pointwise
theorem stS_at (v : FVec Ideal S1024x512 .f32) (r : Fin 1024) (n : Fin 512) : stS v (ix3 0 r n) = v (ix2 r n) := by
  unfold stS; pointwise
theorem scoreV_at (k : Vec Ideal S1x1x1024x128 .bf16) (q : Vec Ideal S1x512x128 .bf16) (r : Fin 1024) (n : Fin 512) :
    scoreV (ldK k) (ldQ q) (ix2 r n) = ∑ e : Fin 128, k (ix4 0 0 r e) * q (ix3 0 n e) := by
  unfold scoreV ldK ldQ; pointwise

section

variable {K V : ℕ → Fin 128 → ℝ} {Q : Fin 2 → Fin 1024 → Fin 128 → ℝ} {R4 : S1x1x8192x128.Idx → EReal}
  {R5 : S1x1x8x144x1024.Idx → EReal} {R9 : S2x1024x128.Idx → EReal}

/-- The scores of the keys from `t` on against half `b` of the queries in map `c`. -/
theorem scores {sp : Space} {v4 : View sig .tc sp S1x1x8192x128 .bf16} {f4 : v4.ty.Contents (Elt Ideal)}
    {v9 : View sig .tc sp S2x1024x128 .bf16} {f9 : v9.ty.Contents (Elt Ideal)}
    (h : Srcs K V Q (v4.read (Elt Ideal) f4) R5 (v9.read (Elt Ideal) f9)) {off4 : Fin 4 → ℕ} {off9 : Fin 3 → ℕ}
    (i4 : ∀ a, off4 a + S1x1x1024x128.size a ≤ S1x1x8192x128.size a) (i9 : ∀ a, off9 a + S1x512x128.size a ≤ S2x1024x128.size a)
    (t : ℕ) (ht : t + 1024 ≤ 8192) (c b : Fin 2) (h4 : off4 = ![0, 0, t, 0]) (h9 : off9 = ![c.val, 512 * b.val, 0])
    (r : Fin 1024) (n : Fin 512) :
    scoreV (ldK (v4.readAt (Elt Ideal) (Rect.unit (s := S1x1x8192x128) off4 S1x1x1024x128.size i4).toLoadRect f4))
      (ldQ (v9.readAt (Elt Ideal) (Rect.unit (s := S2x1024x128) off9 S1x512x128.size i9).toLoadRect f9)) (ix2 r n)
      = ((score K Q c (col b n) (t + r.val) : ℝ) : EReal) := by
  rw [scoreV_at]
  unfold score
  rw [coe_sum]
  refine Finset.sum_congr rfl fun e _ => ?_
  rw [EReal.coe_mul]
  exact congrArg₂ (· * ·) ((ld_keys v4 f4 i4 t ht r e h4).trans (h.key _ e))
    ((ld_qrys v9 f9 i9 c b n e h9).trans (h.qry c (col b n) e))

/-- The values of block `j`, and the ones below them. -/
theorem values {sp : Space} {v5 : View sig .tc sp S1x1x8x144x1024 .bf16} {f5 : v5.ty.Contents (Elt Ideal)}
    (h : Srcs K V Q R4 (v5.read (Elt Ideal) f5) R9) {off : Fin 5 → ℕ}
    (i5 : ∀ a, off a + S1x1x1x144x1024.size a ≤ S1x1x8x144x1024.size a) (j : Fin 8) (h5 : off = ![0, 0, j.val, 0, 0])
    (e : Fin 128) (r : Fin 1024) :
    ldV (v5.readAt (Elt Ideal) (Rect.unit (s := S1x1x8x144x1024) off S1x1x1x144x1024.size i5).toLoadRect f5)
      (ix2 (⟨e.val, by omega⟩ : Fin 144) r) = ((V (1024 * j.val + r.val) e : ℝ) : EReal) := by
  rw [ldV_at]
  exact (ld_vals v5 f5 i5 j _ r h5).trans (h.val j e r)

theorem ones {sp : Space} {v5 : View sig .tc sp S1x1x8x144x1024 .bf16} {f5 : v5.ty.Contents (Elt Ideal)}
    (h : Srcs K V Q R4 (v5.read (Elt Ideal) f5) R9) {off : Fin 5 → ℕ}
    (i5 : ∀ a, off a + S1x1x1x144x1024.size a ≤ S1x1x8x144x1024.size a) (j : Fin 8) (h5 : off = ![0, 0, j.val, 0, 0])
    (r : Fin 1024) :
    ldV (v5.readAt (Elt Ideal) (Rect.unit (s := S1x1x8x144x1024) off S1x1x1x144x1024.size i5).toLoadRect f5)
      (ix2 128 r) = 1 := by
  rw [ldV_at]
  exact (ld_vals v5 f5 i5 j _ r h5).trans (h.one j r)

/-- A whole block of keys carries a query's running quantities on. -/
theorem full {S : ℕ → ℝ} {t : ℕ}
    {vt : FVec Ideal S144x1024 .bf16} {s : FVec Ideal S1024x512 .f32} {m l : Vec Ideal S1x1x512 .f32}
    {a : Vec Ideal S1x128x512 .f32} {n : Fin 512}
    (hs : ∀ r : Fin 1024, s (ix2 r n) = ((S (t + r.val) : ℝ) : EReal))
    (hv : ∀ (e : Fin 128) (r : Fin 1024), vt (ix2 (⟨e.val, by omega⟩ : Fin 144) r) = ((V (t + r.val) e : ℝ) : EReal))
    (ho : ∀ r : Fin 1024, vt (ix2 128 r) = 1)
    (h : Holds S V t (m (ix3 0 0 n)) (l (ix3 0 0 n)) (fun e => a (ix3 0 e n))) :
    Holds S V (t + 1024) (stRow (newM s (ldRow m)) (ix3 0 0 n)) (stRow (newL vt s (ldRow m) (ldRow l)) (ix3 0 0 n))
      (fun e => stAcc (newAcc vt s (ldRow m) (ldAcc a)) (ix3 0 e n)) :=
  chain 1024 le_rfl (by decide) (fun r => by rw [if_pos r.isLt]; exact hs r) hv ho h

end

theorem off11 : ∀ i : grid0.Coords, (i 2).val % 2 = 1 → k0_off11 i = ![0, 0, (i 2).val - 1, 0, 0] := by decide +kernel
theorem off12 : ∀ i : grid0.Coords, (i 2).val % 2 = 1 → k0_off12 i = ![0, 0, 1024 * ((i 2).val - 1), 0] := by decide +kernel
theorem trips3 : ∀ i : grid0.Coords, (k0_t3_loop i).trips = (i 2).val % 2 := by decide +kernel
theorem trips1 : ∀ i : grid0.Coords, (k0_t1_loop i).trips = (i 2).val / 2 := by decide +kernel
theorem off1 : ∀ (i : grid0.Coords) (k : Fin (k0_t1_loop i).trips), k0_off1 i k = ![0, 0, 2 * k.val, 0, 0] := by decide +kernel
theorem off2 : ∀ (i : grid0.Coords) (k : Fin (k0_t1_loop i).trips), k0_off2 i k = ![0, 0, 1024 * (2 * k.val), 0] := by decide +kernel
theorem off3 : ∀ (i : grid0.Coords) (k : Fin (k0_t1_loop i).trips), k0_off3 i k = ![0, 0, 1024 * (2 * k.val + 1), 0] := by decide +kernel
theorem off4 : ∀ (i : grid0.Coords) (k : Fin (k0_t1_loop i).trips), k0_off4 i k = ![0, 0, 2 * k.val + 1, 0, 0] := by decide +kernel
theorem off5 : ∀ (i : grid0.Coords) (k : Fin (k0_t1_loop i).trips), k0_off5 i k = ![0, 0, 1024 * (2 * k.val + 2), 0] := by decide +kernel

end Cert.KernelIdeal.Attn

end
-- ==== Proof.AttnTrip1.lean ====
/- One trip of the loop over pairs of key blocks. -/
module

public import proofs.«01_k».proof.Proof.AttnTrip

@[expose] public section

set_option maxRecDepth 16384

noncomputable section

namespace Cert.KernelIdeal.Attn

open Cert.KernelIdeal Cert.KernelIdeal.Gen Idealize.ShloMosaic Idealize.ShloMosaic.TcCoe Idealize.SL.Sem
open Cert.Proof.AttnRow

variable {K V : ℕ → Fin 128 → ℝ} {Q : Fin 2 → Fin 1024 → Fin 128 → ℝ}

section

variable {𝒱 : Variants} {c : Dev nD} {bd : Option 𝒱.V} {i : grid0.Coords} {arg3 : Memref sig .tc .vmem S1x1x1024x128 .f32} {harg3 : arg3.IsWhole} {arg4 : Memref sig .tc .vmem S1x1x8192x128 .bf16} {harg4 : arg4.IsWhole} {arg5 : Memref sig .tc .vmem S1x1x8x144x1024 .bf16} {harg5 : arg5.IsWhole} {arg6 : Memref sig .tc .vmem S4x64 .f32} {harg6 : arg6.IsWhole} {arg7 : Memref sig .tc .vmem S1x128 .f32} {harg7 : arg7.IsWhole} {arg8 : Memref sig .tc .vmem S1x1024x128 .bf16} {harg8 : arg8.IsWhole} {arg9 : Memref sig .tc .vmem S2x1024x128 .bf16} {harg9 : arg9.IsWhole} {arg10 : Memref sig .tc .vmem S2x8x1024 .f32} {harg10 : arg10.IsWhole} {arg11 : Memref sig .tc .vmem S2x8x1024 .f32} {harg11 : arg11.IsWhole} {arg12 : Memref sig .tc .vmem S2x128x1024 .f32} {harg12 : arg12.IsWhole} {arg13 : Memref sig .tc .vmem S2x1024x512 .f32} {harg13 : arg13.IsWhole} {arg2 : BitVec 32} {c0_i32_43 : BitVec 32} {v56 : BitVec 32} {c1_i32_45 : BitVec 32} {X_arg4 : BufTy.Contents (Elt Ideal) arg4.view.ty} {X_arg5 : BufTy.Contents (Elt Ideal) arg5.view.ty} {X_arg9 : BufTy.Contents (Elt Ideal) arg9.view.ty}

set_option maxHeartbeats 4000000 in
/-- The first block of a trip, as the loads of the second find it. -/
theorem mid1 (hsrc : Srcs K V Q (arg4.view.read (Elt Ideal) X_arg4) (arg5.view.read (Elt Ideal) X_arg5) (arg9.view.read (Elt Ideal) X_arg9))
    (k : Fin (k0_t1_loop i).trips) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty)
    (hr : Runs K V Q (1024 * (2 * k.val)) (arg10.view.read (Elt Ideal) f_arg10) (arg11.view.read (Elt Ideal) f_arg11) (arg12.view.read (Elt Ideal) f_arg12))
    (hn : Next K Q (1024 * (2 * k.val)) (arg13.view.read (Elt Ideal) f_arg13)) :
    Runs K V Q (1024 * (2 * k.val) + 1024)
      (arg10.view.read (Elt Ideal) (arg10.view.writes (Elt Ideal) arg10.view.junk (trip_k0_t1.sl.HW_arg10_4 i arg4 arg9 arg10 arg13 X_arg4 X_arg9 k f_arg10 f_arg13)))
      (arg11.view.read (Elt Ideal) (arg11.view.writes (Elt Ideal) arg11.view.junk (trip_k0_t1.sl.HW_arg11_4 i arg4 arg5 arg9 arg10 arg11 arg13 X_arg4 X_arg5 X_arg9 k f_arg10 f_arg11 f_arg13)))
      (arg12.view.read (Elt Ideal) (arg12.view.writes (Elt Ideal) arg12.view.junk (trip_k0_t1.sl.HW_arg12_4 i arg4 arg5 arg9 arg10 arg12 arg13 X_arg4 X_arg5 X_arg9 k f_arg10 f_arg12 f_arg13))) := by
  have hk := lt_of_lt_of_eq k.isLt (trips1 i)
  have hlt : (i 2).val < 8 := (i 2).isLt
  refine runs_of_four arg10.view arg11.view arg12.view _ _ _ _ _ _ _ _ _ _ _ _ _ _ _ _ _ _ _ _ _ _ _ _ _ _ _ _ _ _ ?_ ?_ ?_ ?_
  · intro n
    refine full (fun r => ?_) (fun e r => ?_) (fun r => ?_) ?_
    · exact scores hsrc _ _ (1024 * (2 * k.val)) (by omega) 1 0 (off2 i k) rfl r n
    · exact values hsrc _ ⟨2 * k.val, by omega⟩ (off1 i k) e r
    · exact ones hsrc _ ⟨2 * k.val, by omega⟩ (off1 i k) r
    · exact holds_of_eq (hr 1 0 n) (ld_half (by decide) arg10.view _ _ 1 0 0 n rfl) (ld_half (by decide) arg11.view _ _ 1 0 0 n rfl)
        fun e => ld_half le_rfl arg12.view _ _ 1 0 e n rfl
  · intro n
    refine full (fun r => ?_) (fun e r => ?_) (fun r => ?_) ?_
    · exact scores hsrc _ _ (1024 * (2 * k.val)) (by omega) 0 0 (off2 i k) rfl r n
    · exact values hsrc _ ⟨2 * k.val, by omega⟩ (off1 i k) e r
    · exact ones hsrc _ ⟨2 * k.val, by omega⟩ (off1 i k) r
    · exact holds_of_eq (hr 0 0 n) (ld_half (by decide) arg10.view _ _ 0 0 0 n rfl) (ld_half (by decide) arg11.view _ _ 0 0 0 n rfl)
        fun e => ld_half le_rfl arg12.view _ _ 0 0 e n rfl
  · intro n
    refine full (fun r => ?_) (fun e r => ?_) (fun r => ?_) ?_
    · exact (ldS_at _ r n).trans ((ld_scores arg13.view _ _ 1 r n rfl).trans (hn 1 r n))
    · exact values hsrc _ ⟨2 * k.val, by omega⟩ (off1 i k) e r
    · exact ones hsrc _ ⟨2 * k.val, by omega⟩ (off1 i k) r
    · exact holds_of_eq (hr 1 1 n) (ld_half (by decide) arg10.view _ _ 1 1 0 n rfl) (ld_half (by decide) arg11.view _ _ 1 1 0 n rfl)
        fun e => ld_half le_rfl arg12.view _ _ 1 1 e n rfl
  · intro n
    refine full (fun r => ?_) (fun e r => ?_) (fun r => ?_) ?_
    · exact (ldS_at _ r n).trans ((ld_scores arg13.view _ _ 0 r n rfl).trans (hn 0 r n))
    · exact values hsrc _ ⟨2 * k.val, by omega⟩ (off1 i k) e r
    · exact ones hsrc _ ⟨2 * k.val, by omega⟩ (off1 i k) r
    · exact holds_of_eq (hr 0 1 n) (ld_half (by decide) arg10.view _ _ 0 1 0 n rfl) (ld_half (by decide) arg11.view _ _ 0 1 0 n rfl)
        fun e => ld_half le_rfl arg12.view _ _ 0 1 e n rfl

set_option maxHeartbeats 4000000 in
/-- The scores the first block of a trip leaves for the second. -/
theorem next1 (hsrc : Srcs K V Q (arg4.view.read (Elt Ideal) X_arg4) (arg5.view.read (Elt Ideal) X_arg5) (arg9.view.read (Elt Ideal) X_arg9))
    (k : Fin (k0_t1_loop i).trips) :
    Next K Q (1024 * (2 * k.val + 1))
      (arg13.view.read (Elt Ideal) (arg13.view.writes (Elt Ideal) arg13.view.junk (trip_k0_t1.sl.HW_arg13_2 i arg4 arg9 X_arg4 X_arg9 k))) := by
  have hk := lt_of_lt_of_eq k.isLt (trips1 i)
  have hlt : (i 2).val < 8 := (i 2).isLt
  refine next_of_two arg13.view _ _ _ _ _ _ (fun r n => ?_) (fun r n => ?_)
  · exact (stS_at _ r n).trans (scores hsrc _ _ (1024 * (2 * k.val + 1)) (by omega) 1 1 (off3 i k) rfl r n)
  · exact (stS_at _ r n).trans (scores hsrc _ _ (1024 * (2 * k.val + 1)) (by omega) 0 1 (off3 i k) rfl r n)

end

variable (𝒱 : Variants) (c : Dev nD) (bd : Option 𝒱.V) (i : grid0.Coords) (arg3 : Memref sig .tc .vmem S1x1x1024x128 .f32) (harg3 : arg3.IsWhole) (arg4 : Memref sig .tc .vmem S1x1x8192x128 .bf16) (harg4 : arg4.IsWhole) (arg5 : Memref sig .tc .vmem S1x1x8x144x1024 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2x1024x128 .bf16) (harg9 : arg9.IsWhole) (arg10 : Memref sig .tc .vmem S2x8x1024 .f32) (harg10 : arg10.IsWhole) (arg11 : Memref sig .tc .vmem S2x8x1024 .f32) (harg11 : arg11.IsWhole) (arg12 : Memref sig .tc .vmem S2x128x1024 .f32) (harg12 : arg12.IsWhole) (arg13 : Memref sig .tc .vmem S2x1024x512 .f32) (harg13 : arg13.IsWhole) (arg2 : BitVec 32) (c0_i32_43 : BitVec 32) (v56 : BitVec 32) (c1_i32_45 : BitVec 32) (X_arg4 : BufTy.Contents (Elt Ideal) arg4.view.ty) (X_arg5 : BufTy.Contents (Elt Ideal) arg5.view.ty) (X_arg9 : BufTy.Contents (Elt Ideal) arg9.view.ty)

set_option maxHeartbeats 8000000 in
/-- A trip over two blocks. -/
theorem trip1 (hsrc : Srcs K V Q (arg4.view.read (Elt Ideal) X_arg4) (arg5.view.read (Elt Ideal) X_arg5) (arg9.view.read (Elt Ideal) X_arg9))
    (k : Fin (k0_t1_loop i).trips) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty)
    (hr : Runs K V Q (1024 * (2 * k.val)) (arg10.view.read (Elt Ideal) f_arg10) (arg11.view.read (Elt Ideal) f_arg11) (arg12.view.read (Elt Ideal) f_arg12))
    (hn : Next K Q (1024 * (2 * k.val)) (arg13.view.read (Elt Ideal) f_arg13)) :
    Runs K V Q (1024 * (2 * k.val + 1) + 1024)
      (arg10.view.read (Elt Ideal) (arg10.view.writes (Elt Ideal) f_arg10 (tripL_k0_t1 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 k f_arg10 f_arg11 f_arg12 f_arg13).1))
      (arg11.view.read (Elt Ideal) (arg11.view.writes (Elt Ideal) f_arg11 (tripL_k0_t1 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 k f_arg10 f_arg11 f_arg12 f_arg13).2.1))
      (arg12.view.read (Elt Ideal) (arg12.view.writes (Elt Ideal) f_arg12 (tripL_k0_t1 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 k f_arg10 f_arg11 f_arg12 f_arg13).2.2.1))
    ∧ Next K Q (1024 * (2 * k.val + 2))
      (arg13.view.read (Elt Ideal) (arg13.view.writes (Elt Ideal) f_arg13 (tripL_k0_t1 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 k f_arg10 f_arg11 f_arg12 f_arg13).2.2.2)) := by
  have hk := lt_of_lt_of_eq k.isLt (trips1 i)
  have hlt : (i 2).val < 8 := (i 2).isLt
  have mid := mid1 (i := i) (arg4 := arg4) (arg5 := arg5) (arg9 := arg9) (arg10 := arg10) (arg11 := arg11) (arg12 := arg12) (arg13 := arg13) hsrc k f_arg10 f_arg11 f_arg12 f_arg13 hr hn
  have nmid := next1 (i := i) (arg4 := arg4) (arg5 := arg5) (arg9 := arg9) (arg13 := arg13) hsrc k
  have ek : 1024 * (2 * k.val) + 1024 = 1024 * (2 * k.val + 1) := by omega
  rw [ek] at mid
  unfold tripL_k0_t1 trip_k0_t1
  dsimp only
  constructor
  · refine runs_of_four arg10.view arg11.view arg12.view _ _ _ _ _ _ _ _ _ _ _ _ _ _ _ _ _ _ _ _ _ _ _ _ _ _ _ _ _ _ ?_ ?_ ?_ ?_
    · intro n
      refine full (fun r => ?_) (fun e r => ?_) (fun r => ?_) ?_
      · exact scores hsrc _ _ (1024 * (2 * k.val + 1)) (by omega) 1 0 (off3 i k) rfl r n
      · exact values hsrc _ ⟨2 * k.val + 1, by omega⟩ (off4 i k) e r
      · exact ones hsrc _ ⟨2 * k.val + 1, by omega⟩ (off4 i k) r
      · exact holds_of_eq (mid 1 0 n) (((ld_half (by decide) arg10.view _ _ 1 0 0 n rfl).trans (put_ne arg10.view _ _ _ _ 1 1 rfl 1 0 0 n (by decide))).trans (put_ne arg10.view _ _ _ _ 0 1 rfl 1 0 0 n (by decide))) ((((ld_half (by decide) arg11.view _ _ 1 0 0 n rfl).trans (put_ne arg11.view _ _ _ _ 0 0 rfl 1 0 0 n (by decide))).trans (put_ne arg11.view _ _ _ _ 1 1 rfl 1 0 0 n (by decide))).trans (put_ne arg11.view _ _ _ _ 0 1 rfl 1 0 0 n (by decide)))
          fun e => ((((ld_half le_rfl arg12.view _ _ 1 0 e n rfl).trans (put_ne arg12.view _ _ _ _ 0 0 rfl 1 0 e n (by decide))).trans (put_ne arg12.view _ _ _ _ 1 1 rfl 1 0 e n (by decide))).trans (put_ne arg12.view _ _ _ _ 0 1 rfl 1 0 e n (by decide)))
    · intro n
      refine full (fun r => ?_) (fun e r => ?_) (fun r => ?_) ?_
      · exact scores hsrc _ _ (1024 * (2 * k.val + 1)) (by omega) 0 0 (off3 i k) rfl r n
      · exact values hsrc _ ⟨2 * k.val + 1, by omega⟩ (off4 i k) e r
      · exact ones hsrc _ ⟨2 * k.val + 1, by omega⟩ (off4 i k) r
      · exact holds_of_eq (mid 0 0 n) ((ld_half (by decide) arg10.view _ _ 0 0 0 n rfl).trans (put_ne arg10.view _ _ _ _ 0 1 rfl 0 0 0 n (by decide))) (((ld_half (by decide) arg11.view _ _ 0 0 0 n rfl).trans (put_ne arg11.view _ _ _ _ 1 1 rfl 0 0 0 n (by decide))).trans (put_ne arg11.view _ _ _ _ 0 1 rfl 0 0 0 n (by decide)))
          fun e => (((ld_half le_rfl arg12.view _ _ 0 0 e n rfl).trans (put_ne arg12.view _ _ _ _ 1 1 rfl 0 0 e n (by decide))).trans (put_ne arg12.view _ _ _ _ 0 1 rfl 0 0 e n (by decide)))
    · intro n
      refine full (fun r => ?_) (fun e r => ?_) (fun r => ?_) ?_
      · exact (ldS_at _ r n).trans ((ld_scores arg13.view _ _ 1 r n rfl).trans (nmid 1 r n))
      · exact values hsrc _ ⟨2 * k.val + 1, by omega⟩ (off4 i k) e r
      · exact ones hsrc _ ⟨2 * k.val + 1, by omega⟩ (off4 i k) r
      · exact holds_of_eq (mid 1 1 n) (ld_half (by decide) arg10.view _ _ 1 1 0 n rfl) ((ld_half (by decide) arg11.view _ _ 1 1 0 n rfl).trans (put_ne arg11.view _ _ _ _ 0 1 rfl 1 1 0 n (by decide)))
          fun e => ((ld_half le_rfl arg12.view _ _ 1 1 e n rfl).trans (put_ne arg12.view _ _ _ _ 0 1 rfl 1 1 e n (by decide)))
    · intro n
      refine full (fun r => ?_) (fun e r => ?_) (fun r => ?_) ?_
      · exact (ldS_at _ r n).trans ((ld_scores arg13.view _ _ 0 r n rfl).trans (nmid 0 r n))
      · exact values hsrc _ ⟨2 * k.val + 1, by omega⟩ (off4 i k) e r
      · exact ones hsrc _ ⟨2 * k.val + 1, by omega⟩ (off4 i k) r
      · exact holds_of_eq (mid 0 1 n) (ld_half (by decide) arg10.view _ _ 0 1 0 n rfl) (ld_half (by decide) arg11.view _ _ 0 1 0 n rfl)
          fun e => (ld_half le_rfl arg12.view _ _ 0 1 e n rfl)
  · refine next_of_two arg13.view _ _ _ _ _ _ (fun r n => ?_) (fun r n => ?_)
    · exact (stS_at _ r n).trans (scores hsrc _ _ (1024 * (2 * k.val + 2)) (by omega) 1 1 (off5 i k) rfl r n)
    · exact (stS_at _ r n).trans (scores hsrc _ _ (1024 * (2 * k.val + 2)) (by omega) 0 1 (off5 i k) rfl r n)

end Cert.KernelIdeal.Attn

end
-- ==== Proof.AttnTrip3.lean ====
/- The trip over the last odd block of keys. -/
module

public import proofs.«01_k».proof.Proof.AttnTrip

@[expose] public section

set_option maxRecDepth 16384

noncomputable section

namespace Cert.KernelIdeal.Attn

open Cert.KernelIdeal Cert.KernelIdeal.Gen Idealize.ShloMosaic Idealize.ShloMosaic.TcCoe Idealize.SL.Sem
open Cert.Proof.AttnRow

variable (𝒱 : Variants) (c : Dev nD) (bd : Option 𝒱.V) (i : grid0.Coords) (arg3 : Memref sig .tc .vmem S1x1x1024x128 .f32) (harg3 : arg3.IsWhole) (arg4 : Memref sig .tc .vmem S1x1x8192x128 .bf16) (harg4 : arg4.IsWhole) (arg5 : Memref sig .tc .vmem S1x1x8x144x1024 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2x1024x128 .bf16) (harg9 : arg9.IsWhole) (arg10 : Memref sig .tc .vmem S2x8x1024 .f32) (harg10 : arg10.IsWhole) (arg11 : Memref sig .tc .vmem S2x8x1024 .f32) (harg11 : arg11.IsWhole) (arg12 : Memref sig .tc .vmem S2x128x1024 .f32) (harg12 : arg12.IsWhole) (arg13 : Memref sig .tc .vmem S2x1024x512 .f32) (harg13 : arg13.IsWhole) (arg2 : BitVec 32) (c0_i32_43 : BitVec 32) (v56 : BitVec 32) (c1_i32_45 : BitVec 32) (X_arg4 : BufTy.Contents (Elt Ideal) arg4.view.ty) (X_arg5 : BufTy.Contents (Elt Ideal) arg5.view.ty) (X_arg9 : BufTy.Contents (Elt Ideal) arg9.view.ty)
variable {K V : ℕ → Fin 128 → ℝ} {Q : Fin 2 → Fin 1024 → Fin 128 → ℝ}

theorem off13 : ∀ i : grid0.Coords, k0_off13 i = ![0, 0, 1024 * (i 2).val, 0] := by decide +kernel

set_option maxHeartbeats 4000000 in
/-- The trip over the last odd block. -/
theorem trip3 (hsrc : Srcs K V Q (arg4.view.read (Elt Ideal) X_arg4) (arg5.view.read (Elt Ideal) X_arg5) (arg9.view.read (Elt Ideal) X_arg9))
    (k : Fin (k0_t3_loop i).trips) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty)
    (hr : Runs K V Q (1024 * ((i 2).val - 1)) (arg10.view.read (Elt Ideal) f_arg10) (arg11.view.read (Elt Ideal) f_arg11) (arg12.view.read (Elt Ideal) f_arg12))
    (hn : Next K Q (1024 * ((i 2).val - 1)) (arg13.view.read (Elt Ideal) f_arg13)) :
    Runs K V Q (1024 * ((i 2).val - 1) + 1024)
      (arg10.view.read (Elt Ideal) (arg10.view.writes (Elt Ideal) f_arg10 (tripL_k0_t3 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 k f_arg10 f_arg11 f_arg12 f_arg13).1))
      (arg11.view.read (Elt Ideal) (arg11.view.writes (Elt Ideal) f_arg11 (tripL_k0_t3 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 k f_arg10 f_arg11 f_arg12 f_arg13).2.1))
      (arg12.view.read (Elt Ideal) (arg12.view.writes (Elt Ideal) f_arg12 (tripL_k0_t3 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 k f_arg10 f_arg11 f_arg12 f_arg13).2.2.1))
    ∧ Next K Q (1024 * ((i 2).val - 1) + 1024)
      (arg13.view.read (Elt Ideal) (arg13.view.writes (Elt Ideal) f_arg13 (tripL_k0_t3 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 k f_arg10 f_arg11 f_arg12 f_arg13).2.2.2)) := by
  have hi : (i 2).val % 2 = 1 := by
    have h1 := lt_of_lt_of_eq k.isLt (trips3 i)
    omega
  have hlt : (i 2).val < 8 := (i 2).isLt
  have ej : (1024 * ((i 2).val - 1) + 1024) = 1024 * (i 2).val := by omega
  unfold tripL_k0_t3 trip_k0_t3
  dsimp only
  constructor
  · refine runs_of_four arg10.view arg11.view arg12.view _ _ _ _ _ _ _ _ _ _ _ _ _ _ _ _ _ _ _ _ _ _ _ _ _ _ _ _ _ _ ?_ ?_ ?_ ?_
    · intro n
      refine full (fun r => ?_) (fun e r => ?_) (fun r => ?_) ?_
      · exact scores hsrc _ _ (1024 * ((i 2).val - 1)) (by omega) 1 0 (off12 i hi) rfl r n
      · exact values hsrc _ ⟨(i 2).val - 1, by omega⟩ (off11 i hi) e r
      · exact ones hsrc _ ⟨(i 2).val - 1, by omega⟩ (off11 i hi) r
      · exact holds_of_eq (hr 1 0 n) (ld_half (by decide) arg10.view _ _ 1 0 0 n rfl) (ld_half (by decide) arg11.view _ _ 1 0 0 n rfl)
          fun e => ld_half le_rfl arg12.view _ _ 1 0 e n rfl
    · intro n
      refine full (fun r => ?_) (fun e r => ?_) (fun r => ?_) ?_
      · exact scores hsrc _ _ (1024 * ((i 2).val - 1)) (by omega) 0 0 (off12 i hi) rfl r n
      · exact values hsrc _ ⟨(i 2).val - 1, by omega⟩ (off11 i hi) e r
      · exact ones hsrc _ ⟨(i 2).val - 1, by omega⟩ (off11 i hi) r
      · exact holds_of_eq (hr 0 0 n) (ld_half (by decide) arg10.view _ _ 0 0 0 n rfl) (ld_half (by decide) arg11.view _ _ 0 0 0 n rfl)
          fun e => ld_half le_rfl arg12.view _ _ 0 0 e n rfl
    · intro n
      refine full (fun r => ?_) (fun e r => ?_) (fun r => ?_) ?_
      · exact (ldS_at _ r n).trans ((ld_scores arg13.view _ _ 1 r n rfl).trans (hn 1 r n))
      · exact values hsrc _ ⟨(i 2).val - 1, by omega⟩ (off11 i hi) e r
      · exact ones hsrc _ ⟨(i 2).val - 1, by omega⟩ (off11 i hi) r
      · exact holds_of_eq (hr 1 1 n) (ld_half (by decide) arg10.view _ _ 1 1 0 n rfl) (ld_half (by decide) arg11.view _ _ 1 1 0 n rfl)
          fun e => ld_half le_rfl arg12.view _ _ 1 1 e n rfl
    · intro n
      refine full (fun r => ?_) (fun e r => ?_) (fun r => ?_) ?_
      · exact (ldS_at _ r n).trans ((ld_scores arg13.view _ _ 0 r n rfl).trans (hn 0 r n))
      · exact values hsrc _ ⟨(i 2).val - 1, by omega⟩ (off11 i hi) e r
      · exact ones hsrc _ ⟨(i 2).val - 1, by omega⟩ (off11 i hi) r
      · exact holds_of_eq (hr 0 1 n) (ld_half (by decide) arg10.view _ _ 0 1 0 n rfl) (ld_half (by decide) arg11.view _ _ 0 1 0 n rfl)
          fun e => ld_half le_rfl arg12.view _ _ 0 1 e n rfl
  · rw [ej]
    refine next_of_two arg13.view _ _ _ _ _ _ (fun r n => ?_) (fun r n => ?_)
    · exact (stS_at _ r n).trans (scores hsrc _ _ (1024 * (i 2).val) (by omega) 1 1 (off13 i) rfl r n)
    · exact (stS_at _ r n).trans (scores hsrc _ _ (1024 * (i 2).val) (by omega) 0 1 (off13 i) rfl r n)

end Cert.KernelIdeal.Attn

end
-- ==== Proof.AttnLoops.lean ====
/- The attention kernel's loops over the whole blocks of keys before the diagonal one. -/
module

public import proofs.«01_k».proof.Proof.AttnTrip1
public import proofs.«01_k».proof.Proof.AttnTrip3

@[expose] public section

set_option maxRecDepth 16384

noncomputable section

namespace Cert.KernelIdeal.Attn

open Cert.KernelIdeal Cert.KernelIdeal.Gen Idealize.ShloMosaic Idealize.ShloMosaic.TcCoe Idealize.SL.Sem
open Cert.Proof.AttnRow

theorem trips2 : ∀ i : grid0.Coords, (k0_t2_loop i).trips = 0 := by decide +kernel
theorem trips4 : ∀ i : grid0.Coords, (k0_t4_loop i).trips = 0 := by decide +kernel

/-- What the four buffers hold after `t` keys. -/
def Good (K V : ℕ → Fin 128 → ℝ) (Q : Fin 2 → Fin 1024 → Fin 128 → ℝ) (t : ℕ)
    (R10 R11 : S2x8x1024.Idx → EReal) (R12 : S2x128x1024.Idx → EReal) (R13 : S2x1024x512.Idx → EReal) : Prop :=
  Runs K V Q t R10 R11 R12 ∧ Next K Q t R13

variable {K V : ℕ → Fin 128 → ℝ} {Q : Fin 2 → Fin 1024 → Fin 128 → ℝ}

section

variable (𝒱 : Variants) (c : Dev nD) (bd : Option 𝒱.V) (i : grid0.Coords) (arg3 : Memref sig .tc .vmem S1x1x1024x128 .f32) (harg3 : arg3.IsWhole) (arg4 : Memref sig .tc .vmem S1x1x8192x128 .bf16) (harg4 : arg4.IsWhole) (arg5 : Memref sig .tc .vmem S1x1x8x144x1024 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2x1024x128 .bf16) (harg9 : arg9.IsWhole) (arg10 : Memref sig .tc .vmem S2x8x1024 .f32) (harg10 : arg10.IsWhole) (arg11 : Memref sig .tc .vmem S2x8x1024 .f32) (harg11 : arg11.IsWhole) (arg12 : Memref sig .tc .vmem S2x128x1024 .f32) (harg12 : arg12.IsWhole) (arg13 : Memref sig .tc .vmem S2x1024x512 .f32) (harg13 : arg13.IsWhole) (arg2 : BitVec 32) (c0_i32_43 : BitVec 32) (v56 : BitVec 32) (c1_i32_45 : BitVec 32) (X_arg4 : BufTy.Contents (Elt Ideal) arg4.view.ty) (X_arg5 : BufTy.Contents (Elt Ideal) arg5.view.ty) (X_arg9 : BufTy.Contents (Elt Ideal) arg9.view.ty)

/-- After `n` trips over pairs of blocks. -/
theorem many1 (hsrc : Srcs K V Q (arg4.view.read (Elt Ideal) X_arg4) (arg5.view.read (Elt Ideal) X_arg5) (arg9.view.read (Elt Ideal) X_arg9))
    (G10 : BufTy.Contents (Elt Ideal) arg10.view.ty) (G11 : BufTy.Contents (Elt Ideal) arg11.view.ty) (G12 : BufTy.Contents (Elt Ideal) arg12.view.ty) (G13 : BufTy.Contents (Elt Ideal) arg13.view.ty)
    (h : Good K V Q (0) (arg10.view.read (Elt Ideal) G10) (arg11.view.read (Elt Ideal) G11) (arg12.view.read (Elt Ideal) G12) (arg13.view.read (Elt Ideal) G13)) :
    ∀ n : ℕ, n ≤ (k0_t1_loop i).trips → Good K V Q (1024 * (2 * n)) (arg10.view.read (Elt Ideal) (arg10.view.writes (Elt Ideal) G10 ((pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 G10 G11 G12 G13 n).1))) (arg11.view.read (Elt Ideal) (arg11.view.writes (Elt Ideal) G11 ((pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 G10 G11 G12 G13 n).2.1))) (arg12.view.read (Elt Ideal) (arg12.view.writes (Elt Ideal) G12 ((pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 G10 G11 G12 G13 n).2.2.1))) (arg13.view.read (Elt Ideal) (arg13.view.writes (Elt Ideal) G13 ((pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 G10 G11 G12 G13 n).2.2.2))) := by
  intro n
  induction n with
  | zero => intro _; exact h
  | succ n ih =>
    intro hn
    have h2 := trip1 (K := K) (V := V) (Q := Q) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 hsrc ⟨n, hn⟩ _ _ _ _ (ih (by omega)).1 (ih (by omega)).2
    unfold Good
    erw [pb_k0_t1_succ (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 G10 G11 G12 G13 ⟨n, hn⟩]
    dsimp only
    rw [View.writes_append, View.writes_append, View.writes_append, View.writes_append]
    exact h2

/-- After the odd block. -/
theorem many3 (hsrc : Srcs K V Q (arg4.view.read (Elt Ideal) X_arg4) (arg5.view.read (Elt Ideal) X_arg5) (arg9.view.read (Elt Ideal) X_arg9))
    (G10 : BufTy.Contents (Elt Ideal) arg10.view.ty) (G11 : BufTy.Contents (Elt Ideal) arg11.view.ty) (G12 : BufTy.Contents (Elt Ideal) arg12.view.ty) (G13 : BufTy.Contents (Elt Ideal) arg13.view.ty)
    (h : Good K V Q (1024 * ((i 2).val - (i 2).val % 2)) (arg10.view.read (Elt Ideal) G10) (arg11.view.read (Elt Ideal) G11) (arg12.view.read (Elt Ideal) G12) (arg13.view.read (Elt Ideal) G13)) :
    Good K V Q (1024 * (i 2).val) (arg10.view.read (Elt Ideal) (arg10.view.writes (Elt Ideal) G10 ((pb_k0_t3 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 G10 G11 G12 G13 (k0_t3_loop i).trips).1))) (arg11.view.read (Elt Ideal) (arg11.view.writes (Elt Ideal) G11 ((pb_k0_t3 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 G10 G11 G12 G13 (k0_t3_loop i).trips).2.1))) (arg12.view.read (Elt Ideal) (arg12.view.writes (Elt Ideal) G12 ((pb_k0_t3 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 G10 G11 G12 G13 (k0_t3_loop i).trips).2.2.1))) (arg13.view.read (Elt Ideal) (arg13.view.writes (Elt Ideal) G13 ((pb_k0_t3 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 G10 G11 G12 G13 (k0_t3_loop i).trips).2.2.2))) := by
  have ht := trips3 i
  rcases Nat.mod_two_eq_zero_or_one (i 2).val with h0 | h0
  · rw [h0] at ht h
    rw [ht]
    exact h
  · rw [h0] at ht h
    have h2 := trip3 (K := K) (V := V) (Q := Q) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 hsrc ⟨0, by omega⟩ G10 G11 G12 G13 h.1 h.2
    have e1 : 1024 * ((i 2).val - 1) + 1024 = 1024 * (i 2).val := by omega
    rw [e1] at h2
    rw [ht]
    unfold Good
    erw [pb_k0_t3_succ (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 G10 G11 G12 G13 ⟨0, by omega⟩]
    dsimp only
    rw [View.writes_append, View.writes_append, View.writes_append, View.writes_append]
    exact h2

end

section

/-- The stores made so far into the four buffers, latest first. -/
abbrev Lists : Type := List (View.Piece (Elt Ideal) S2x8x1024 .f32) × List (View.Piece (Elt Ideal) S2x8x1024 .f32)
  × List (View.Piece (Elt Ideal) S2x128x1024 .f32) × List (View.Piece (Elt Ideal) S2x1024x512 .f32)

def joined (p H : Lists) : Lists := (p.1 ++ H.1, p.2.1 ++ H.2.1, p.2.2.1 ++ H.2.2.1, p.2.2.2 ++ H.2.2.2)

variable (𝒱 : Variants) (c : Dev nD) (bd : Option 𝒱.V) (i : grid0.Coords) (arg3 : Memref sig .tc .vmem S1x1x1024x128 .f32) (harg3 : arg3.IsWhole) (arg4 : Memref sig .tc .vmem S1x1x8192x128 .bf16) (harg4 : arg4.IsWhole) (arg5 : Memref sig .tc .vmem S1x1x8x144x1024 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2x1024x128 .bf16) (harg9 : arg9.IsWhole) (arg10 : Memref sig .tc .vmem S2x8x1024 .f32) (harg10 : arg10.IsWhole) (arg11 : Memref sig .tc .vmem S2x8x1024 .f32) (harg11 : arg11.IsWhole) (arg12 : Memref sig .tc .vmem S2x128x1024 .f32) (harg12 : arg12.IsWhole) (arg13 : Memref sig .tc .vmem S2x1024x512 .f32) (harg13 : arg13.IsWhole) (arg2 : BitVec 32) (c0_i32_43 : BitVec 32) (v56 : BitVec 32) (c1_i32_45 : BitVec 32) (X_arg4 : BufTy.Contents (Elt Ideal) arg4.view.ty) (X_arg5 : BufTy.Contents (Elt Ideal) arg5.view.ty) (X_arg9 : BufTy.Contents (Elt Ideal) arg9.view.ty) (v62 : BitVec 32)

def after1 (H : Lists) : Lists :=
  joined (pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (arg10.view.writes (Elt Ideal) arg10.view.junk H.1) (arg11.view.writes (Elt Ideal) arg11.view.junk H.2.1) (arg12.view.writes (Elt Ideal) arg12.view.junk H.2.2.1) (arg13.view.writes (Elt Ideal) arg13.view.junk H.2.2.2) (k0_t1_loop i).trips) H

def after2 (H : Lists) : Lists :=
  joined (pb_k0_t2 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (arg10.view.writes (Elt Ideal) arg10.view.junk H.1) (arg11.view.writes (Elt Ideal) arg11.view.junk H.2.1) (arg12.view.writes (Elt Ideal) arg12.view.junk H.2.2.1) (arg13.view.writes (Elt Ideal) arg13.view.junk H.2.2.2) (k0_t2_loop i).trips) H

def after3 (H : Lists) : Lists :=
  joined (pb_k0_t3 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (arg10.view.writes (Elt Ideal) arg10.view.junk H.1) (arg11.view.writes (Elt Ideal) arg11.view.junk H.2.1) (arg12.view.writes (Elt Ideal) arg12.view.junk H.2.2.1) (arg13.view.writes (Elt Ideal) arg13.view.junk H.2.2.2) (k0_t3_loop i).trips) H

def after4 (H : Lists) : Lists :=
  joined (pb_k0_t4 (F := Ideal) 𝒱 c bd i arg3 harg3 arg4 harg4 arg5 harg5 arg6 harg6 arg7 harg7 arg8 harg8 arg9 harg9 arg10 harg10 arg11 harg11 arg12 harg12 arg13 harg13 arg2 c0_i32_43 v56 c1_i32_45 v62 X_arg4 X_arg5 X_arg9 (arg10.view.writes (Elt Ideal) arg10.view.junk H.1) (arg11.view.writes (Elt Ideal) arg11.view.junk H.2.1) (arg12.view.writes (Elt Ideal) arg12.view.junk H.2.2.1) (arg13.view.writes (Elt Ideal) arg13.view.junk H.2.2.2) (k0_t4_loop i).trips) H

/-- After all the blocks before the diagonal one. -/
theorem before (hsrc : Srcs K V Q (arg4.view.read (Elt Ideal) X_arg4) (arg5.view.read (Elt Ideal) X_arg5) (arg9.view.read (Elt Ideal) X_arg9))
    (H : Lists) (h : Good K V Q (0) (arg10.view.read (Elt Ideal) (arg10.view.writes (Elt Ideal) arg10.view.junk (H).1)) (arg11.view.read (Elt Ideal) (arg11.view.writes (Elt Ideal) arg11.view.junk (H).2.1)) (arg12.view.read (Elt Ideal) (arg12.view.writes (Elt Ideal) arg12.view.junk (H).2.2.1)) (arg13.view.read (Elt Ideal) (arg13.view.writes (Elt Ideal) arg13.view.junk (H).2.2.2))) :
    Good K V Q (1024 * (i 2).val) (arg10.view.read (Elt Ideal) (arg10.view.writes (Elt Ideal) arg10.view.junk (after4 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 v62 (after3 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after2 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after1 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 H)))).1)) (arg11.view.read (Elt Ideal) (arg11.view.writes (Elt Ideal) arg11.view.junk (after4 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 v62 (after3 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after2 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after1 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 H)))).2.1)) (arg12.view.read (Elt Ideal) (arg12.view.writes (Elt Ideal) arg12.view.junk (after4 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 v62 (after3 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after2 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after1 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 H)))).2.2.1)) (arg13.view.read (Elt Ideal) (arg13.view.writes (Elt Ideal) arg13.view.junk (after4 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 v62 (after3 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after2 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after1 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 H)))).2.2.2)) := by
  have h1 := many1 (K := K) (V := V) (Q := Q) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 hsrc _ _ _ _ h (k0_t1_loop i).trips le_rfl
  have e1 : 1024 * (2 * (k0_t1_loop i).trips) = 1024 * ((i 2).val - (i 2).val % 2) := by rw [trips1 i]; omega
  rw [e1] at h1
  rw [← View.writes_append, ← View.writes_append, ← View.writes_append, ← View.writes_append] at h1
  have h2 : Good K V Q (1024 * ((i 2).val - (i 2).val % 2)) (arg10.view.read (Elt Ideal) (arg10.view.writes (Elt Ideal) arg10.view.junk (after2 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after1 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 H)).1)) (arg11.view.read (Elt Ideal) (arg11.view.writes (Elt Ideal) arg11.view.junk (after2 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after1 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 H)).2.1)) (arg12.view.read (Elt Ideal) (arg12.view.writes (Elt Ideal) arg12.view.junk (after2 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after1 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 H)).2.2.1)) (arg13.view.read (Elt Ideal) (arg13.view.writes (Elt Ideal) arg13.view.junk (after2 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 (after1 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 H)).2.2.2)) := by
    unfold after2
    rw [trips2 i]
    exact h1
  have h3 := many3 (K := K) (V := V) (Q := Q) 𝒱 c bd i arg3 harg3 arg4 harg4 arg5 harg5 arg6 harg6 arg7 harg7 arg8 harg8 arg9 harg9 arg10 harg10 arg11 harg11 arg12 harg12 arg13 harg13 arg2 c0_i32_43 v56 c1_i32_45 X_arg4 X_arg5 X_arg9 hsrc _ _ _ _ h2
  rw [← View.writes_append, ← View.writes_append, ← View.writes_append, ← View.writes_append] at h3
  unfold after4
  rw [trips4 i]
  exact h3

end

end Cert.KernelIdeal.Attn

end
-- ==== Proof.AttnMask.lean ====
/- The attention kernel's scaled queries and its masked diagonal scores, at an index. -/
module

public import proofs.«01_k».proof.Proof.AttnTrip
public import Idealize.ShloMosaic.Lib.WordCmp

@[expose] public section

set_option maxRecDepth 16384

noncomputable section

namespace Cert.KernelIdeal.Attn

open Idealize.ShloMosaic.WordCmp
open Cert.KernelIdeal Cert.KernelIdeal.Gen Idealize.ShloMosaic Idealize.ShloMosaic.TcCoe Idealize.SL.Sem

theorem word_toInt {a : ℕ} (h : a < 2147483648) : (BitVec.ofNat 32 a).toInt = a := by
  rw [BitVec.toInt_eq_toNat_of_lt (by rw [BitVec.toNat_ofNat, Nat.mod_eq_of_lt (by omega)]; omega), BitVec.toNat_ofNat,
    Nat.mod_eq_of_lt (by omega)]

theorem select_sle {a b : ℕ} (ha : a < 2147483648) (hb : b < 2147483648) (x y : EReal) :
    Scalar.select (IntOp.cmpi CmpIPredicate.sle (BitVec.ofNat 32 a) (BitVec.ofNat 32 b)) x y = if a ≤ b then x else y := by
  rw [cmpi_sle_eq, word_toInt ha, word_toInt hb]
  unfold Scalar.select
  by_cases h : a ≤ b <;> simp [h]

theorem select_slt {a b : ℕ} (ha : a < 2147483648) (hb : b < 2147483648) (x y : EReal) :
    Scalar.select (IntOp.cmpi CmpIPredicate.slt (BitVec.ofNat 32 a) (BitVec.ofNat 32 b)) x y = if a < b then x else y := by
  rw [cmpi_slt_eq, word_toInt ha, word_toInt hb]
  unfold Scalar.select
  by_cases h : a < b <;> simp [h]

theorem select_sge {a b : ℕ} (ha : a < 2147483648) (hb : b < 2147483648) (x y : EReal) :
    Scalar.select (IntOp.cmpi CmpIPredicate.sge (BitVec.ofNat 32 a) (BitVec.ofNat 32 b)) x y = if a < b then y else x := by
  rw [cmpi_sge_eq, word_toInt ha, word_toInt hb]
  unfold Scalar.select
  by_cases h : a < b
  · have : ¬ b ≤ a := by omega
    simp [h, this]
  · have : b ≤ a := by omega
    simp [h, this]

theorem mask_eq : Named.named (F := Ideal) κ "mask" (φ := .f32) 4048155338#32 = (⊥ : EReal) :=
  IdealRules.named_const.ideal_named_scalar _ _ _ _ rfl

theorem scale_eq : Named.named (F := Ideal) κ "qk_scale_log2" (φ := .f32) 1043900987#32 = (((1 / 8) * (Real.log 2)⁻¹ : ℝ) : EReal) :=
  IdealRules.named_const.ideal_named_scalar _ _ _ _ rfl

theorem add_word (a b : ℕ) : IntOp.addi (BitVec.ofNat 32 a) (BitVec.ofNat 32 b) = BitVec.ofNat 32 (a + b) := by
  unfold IntOp.addi; rw [BitVec.ofNat_add]

/-- The masked scores of the second half of the queries, and of the first. -/
theorem mask0_at (v : Vec Ideal S1x1024x512 .f32) (r : Fin 1024) (n : Fin 512) :
    k0_pay255 (F := Ideal) v (ix2 r n) = if r.val < 512 + n.val + 1 then v (ix3 0 r n) else ⊥ := by
  have hn := n.isLt
  have hr := r.isLt
  unfold k0_pay255; pointwise
  rw [mask_eq, add_word 512 n.val, select_sle (by omega) (by omega)]
  exact if_congr (by omega) rfl rfl

theorem mask1_at (v : Vec Ideal S1x1024x512 .f32) (r : Fin 1024) (n : Fin 512) :
    k0_pay256 (F := Ideal) v (ix2 r n) = if r.val < 512 + n.val + 1 then v (ix3 0 r n) else ⊥ := mask0_at v r n

theorem maskH0_at (k : Vec Ideal S1x1x512x128 .bf16) (q : Vec Ideal S1x512x128 .bf16) (r : Fin 512) (n : Fin 512) :
    k0_pay257 (F := Ideal) k q (ix2 r n) = if r.val < n.val + 1 then ∑ e : Fin 128, k (ix4 0 0 r e) * q (ix3 0 n e) else ⊥ := by
  have hn := n.isLt
  have hr := r.isLt
  unfold k0_pay257; pointwise
  rw [mask_eq, add_word 0 n.val, select_sle (by omega) (by omega)]
  exact if_congr (by omega) rfl rfl

theorem maskH1_at (k : Vec Ideal S1x1x512x128 .bf16) (q : Vec Ideal S1x512x128 .bf16) (r : Fin 512) (n : Fin 512) :
    k0_pay270 (F := Ideal) k q (ix2 r n) = if r.val < n.val + 1 then ∑ e : Fin 128, k (ix4 0 0 r e) * q (ix3 0 n e) else ⊥ :=
  maskH0_at k q r n

/-- The queries of the first map and of the second, scaled, in the lanes of the other zero. -/
theorem qry0_at (x : Vec Ideal S1x1x1024x128 .f32) (n : Fin 1024) (e : Fin 128) :
    k0_pay236 (F := Ideal) x (ix3 0 n e) = if e.val < 64 then x (ix4 0 0 n e) * (((1 / 8) * (Real.log 2)⁻¹ : ℝ) : EReal) else 0 := by
  have he := e.isLt
  unfold k0_pay236 k0_pay234 k0_pay235; pointwise
  rw [scale_eq, select_slt (by omega) (by omega)]

theorem qry1_at (x : Vec Ideal S1x1x1024x128 .f32) (n : Fin 1024) (e : Fin 128) :
    k0_pay237 (F := Ideal) x (ix3 0 n e) = if e.val < 64 then 0 else x (ix4 0 0 n e) * (((1 / 8) * (Real.log 2)⁻¹ : ℝ) : EReal) := by
  have he := e.isLt
  unfold k0_pay237 k0_pay234 k0_pay235; pointwise
  rw [scale_eq, select_sge (by omega) (by omega)]

/-- The scaled queries of map `c`, as reals. -/
def half (q : Fin 1024 → Fin 128 → ℝ) (c : Fin 2) (n : Fin 1024) (e : Fin 128) : ℝ :=
  if (e.val < 64 ↔ c = 0) then q n e * ((1 / 8) * (Real.log 2)⁻¹) else 0

theorem qry0_real {x : Vec Ideal S1x1x1024x128 .f32} {q : Fin 1024 → Fin 128 → ℝ} (h : ∀ n e, x (ix4 0 0 n e) = ((q n e : ℝ) : EReal))
    (n : Fin 1024) (e : Fin 128) : k0_pay236 (F := Ideal) x (ix3 0 n e) = ((half q 0 n e : ℝ) : EReal) := by
  rw [qry0_at, h]
  unfold half
  by_cases he : e.val < 64
  · simp only [he, if_true]; rw [← EReal.coe_mul]
  · simp [he]

theorem qry1_real {x : Vec Ideal S1x1x1024x128 .f32} {q : Fin 1024 → Fin 128 → ℝ} (h : ∀ n e, x (ix4 0 0 n e) = ((q n e : ℝ) : EReal))
    (n : Fin 1024) (e : Fin 128) : k0_pay237 (F := Ideal) x (ix3 0 n e) = ((half q 1 n e : ℝ) : EReal) := by
  rw [qry1_at, h]
  unfold half
  by_cases he : e.val < 64
  · simp [he]
  · simp only [he, if_false, false_iff]; rw [← EReal.coe_mul]; simp

theorem init10_at (c : Fin 2) (e : Fin 8) (n : Fin 1024) : k0_pay238 (F := Ideal) (ix3 c e n) = ⊥ := by
  unfold k0_pay238; pointwise; exact mask_eq
theorem init11_at (c : Fin 2) (e : Fin 8) (n : Fin 1024) : k0_pay239 (F := Ideal) (ix3 c e n) = 0 := by
  unfold k0_pay239; pointwise
theorem init12_at (c : Fin 2) (e : Fin 128) (n : Fin 1024) : k0_pay241 (F := Ideal) k0_pay240 (ix3 c e n) = 0 := by
  unfold k0_pay241 k0_pay240; pointwise

end Cert.KernelIdeal.Attn

end
-- ==== Proof.AttnDiag.lean ====
/- The attention kernel's diagonal block, masked, and what the buffers hold at the end of a grid point. -/
module

public import proofs.«01_k».proof.Proof.AttnLoops
public import proofs.«01_k».proof.Proof.AttnMask

@[expose] public section

set_option maxRecDepth 16384

noncomputable section

namespace Cert.KernelIdeal.Attn

open Cert.KernelIdeal Cert.KernelIdeal.Gen Idealize.ShloMosaic Idealize.ShloMosaic.TcCoe Idealize.SL.Sem
open Cert.Proof.AttnRow

/-- What a grid point reads, as reals: the keys, the values with the ones below them, and the queries. -/
structure Ins (K V : ℕ → Fin 128 → ℝ) (q : Fin 1024 → Fin 128 → ℝ) (x0 : S1x1x1024x128.Idx → EReal)
    (x1 : S1x1x8192x128.Idx → EReal) (x2 : S1x1x8x144x1024.Idx → EReal) : Prop where
  qry : ∀ (n : Fin 1024) (e : Fin 128), x0 (ix4 0 0 n e) = ((q n e : ℝ) : EReal)
  key : ∀ (κ : Fin 8192) (e : Fin 128), x1 (ix4 0 0 κ e) = ((K κ.val e : ℝ) : EReal)
  val : ∀ (j : Fin 8) (e : Fin 128) (r : Fin 1024),
    x2 (ix5 0 0 j (⟨e.val, by omega⟩ : Fin 144) r) = ((V (1024 * j.val + r.val) e : ℝ) : EReal)
  one : ∀ (j : Fin 8) (r : Fin 1024), x2 (ix5 0 0 j (128 : Fin 144) r) = 1

theorem off17 : ∀ i : grid0.Coords, k0_off17 i = ![0, 0, (i 2).val, 0, 0] := by decide +kernel
theorem off18 : ∀ i : grid0.Coords, k0_off18 i = ![0, 0, 1024 * (i 2).val, 0] := by decide +kernel

/-- A buffer filled by one store. -/
theorem fill {R : ℕ} {sp : Space} (v : View sig .tc sp ⟨3, ![2, R, 1024]⟩ .f32) (f : v.ty.Contents (Elt Ideal))
    (inb : ∀ a, (![0, 0, 0] : Fin 3 → ℕ) a + (![2, R, 1024] : Fin 3 → ℕ) a ≤ (![2, R, 1024] : Fin 3 → ℕ) a)
    (w : (⟨3, ![2, R, 1024]⟩ : Shape).Idx → EReal) (L : List (View.Piece (Elt Ideal) ⟨3, ![2, R, 1024]⟩ .f32))
    (c : Fin 2) (e : Fin R) (n : Fin 1024) :
    v.read (Elt Ideal) (v.writes (Elt Ideal) f
      ((⟨Rect.unit (s := ⟨3, ![2, R, 1024]⟩) ![0, 0, 0] (![2, R, 1024] : Fin 3 → ℕ) inb, w⟩ : View.Piece (Elt Ideal) ⟨3, ![2, R, 1024]⟩ .f32) :: L))
      (ix3 c e n) = w (ix3 c e n) :=
  v.read_writes_cons_unit_of_mem f inb w L (ix3 c e n) (ix3 c e n) rfl (fun a => by
    fin_cases a
    · show c.val = 0 + c.val; omega
    · show e.val = 0 + e.val; omega
    · show n.val = 0 + n.val; omega)

/-- The query buffer's two stores. -/
theorem qput {sp : Space} (v : View sig .tc sp S2x1024x128 .bf16) (f : v.ty.Contents (Elt Ideal)) (i1 i2)
    (A B : S1x1024x128.Idx → EReal) (L : List (View.Piece (Elt Ideal) S2x1024x128 .bf16)) (c : Fin 2) (n : Fin 1024) (e : Fin 128) :
    v.read (Elt Ideal) (v.writes (Elt Ideal) f (⟨Rect.unit (s := S2x1024x128) ![1, 0, 0] S1x1024x128.size i1, A⟩
      :: ⟨Rect.unit (s := S2x1024x128) ![0, 0, 0] S1x1024x128.size i2, B⟩ :: L)) (ix3 c n e) = if c = 0 then B (ix3 0 n e) else A (ix3 0 n e) := by
  fin_cases c
  · refine (v.read_writes_cons_unit_of_not_mem f i1 A _ (ix3 0 n e) rfl 0 (Or.inl (by show (0 : ℕ) < 1; decide))).trans ?_
    exact v.read_writes_cons_unit_of_mem f i2 B L (ix3 0 n e) (ix3 0 n e) rfl (fun a => by
      fin_cases a
      · rfl
      · show n.val = 0 + n.val; omega
      · show e.val = 0 + e.val; omega)
  · exact v.read_writes_cons_unit_of_mem f i1 A _ (ix3 1 n e) (ix3 0 n e) rfl (fun a => by
      fin_cases a
      · rfl
      · show n.val = 0 + n.val; omega
      · show e.val = 0 + e.val; omega)

/-- A whole row of a buffer as loaded. -/
theorem ld_row {R R' : ℕ} (hR : R' ≤ R) {sp : Space} (v : View sig .tc sp ⟨3, ![2, R, 1024]⟩ .f32) (f : v.ty.Contents (Elt Ideal)) {off : Fin 3 → ℕ}
    (inb : ∀ a, off a + (![1, R', 1024] : Fin 3 → ℕ) a ≤ (![2, R, 1024] : Fin 3 → ℕ) a)
    (c : Fin 2) (e : Fin R') (n : Fin 1024) (h : off = ![c.val, 0, 0]) :
    v.readAt (Elt Ideal) (Rect.unit (s := ⟨3, ![2, R, 1024]⟩) off (![1, R', 1024] : Fin 3 → ℕ) inb).toLoadRect f (ix3 0 e n)
      = v.read (Elt Ideal) f (ix3 c (⟨e.val, by omega⟩ : Fin R) n) := by
  subst h
  rw [View.readAt_apply]
  congr 1
  funext a
  fin_cases a
  · apply Fin.ext; show c.val + 1 * 0 = c.val; omega
  · apply Fin.ext; show 0 + 1 * e.val = e.val; omega
  · apply Fin.ext; show 0 + 1 * n.val = n.val; omega

theorem low_at (v : FVec Ideal S144x1024 .bf16) (e : Fin 144) (r : Fin 512) :
    extractStridedSlice S144x512 ![0, 0] v slices_S144x1024_o0_0_S144x512 (ix2 e r) = v (ix2 e (⟨r.val, by omega⟩ : Fin 1024)) := by
  pointwise

section

variable {K V : ℕ → Fin 128 → ℝ} {Q : Fin 2 → Fin 1024 → Fin 128 → ℝ} {R4 : S1x1x8192x128.Idx → EReal}
  {R5 : S1x1x8x144x1024.Idx → EReal} {R9 : S2x1024x128.Idx → EReal}

/-- The scores of 512 keys from `t` on. -/
theorem scores512 {sp : Space} {v4 : View sig .tc sp S1x1x8192x128 .bf16} {f4 : v4.ty.Contents (Elt Ideal)}
    {v9 : View sig .tc sp S2x1024x128 .bf16} {f9 : v9.ty.Contents (Elt Ideal)}
    (h : Srcs K V Q (v4.read (Elt Ideal) f4) R5 (v9.read (Elt Ideal) f9)) {off4 : Fin 4 → ℕ} {off9 : Fin 3 → ℕ}
    (i4 : ∀ a, off4 a + S1x1x512x128.size a ≤ S1x1x8192x128.size a) (i9 : ∀ a, off9 a + S1x512x128.size a ≤ S2x1024x128.size a)
    (t : ℕ) (ht : t + 512 ≤ 8192) (c b : Fin 2) (h4 : off4 = ![0, 0, t, 0]) (h9 : off9 = ![c.val, 512 * b.val, 0])
    (r : Fin 512) (n : Fin 512) :
    ∑ e : Fin 128, (v4.readAt (Elt Ideal) (Rect.unit (s := S1x1x8192x128) off4 S1x1x512x128.size i4).toLoadRect f4 (ix4 0 0 r e) : EReal)
      * (v9.readAt (Elt Ideal) (Rect.unit (s := S2x1024x128) off9 S1x512x128.size i9).toLoadRect f9 (ix3 0 n e) : EReal)
      = ((score K Q c (col b n) (t + r.val) : ℝ) : EReal) := by
  unfold score
  rw [coe_sum]
  refine Finset.sum_congr rfl fun e _ => ?_
  rw [EReal.coe_mul]
  exact congrArg₂ (· * ·) ((ld_keys v4 f4 i4 t ht r e h4).trans (h.key _ e))
    ((ld_qrys v9 f9 i9 c b n e h9).trans (h.qry c (col b n) e))

end

variable {K V : ℕ → Fin 128 → ℝ} {q : Fin 1024 → Fin 128 → ℝ}

variable (c : Dev nD) (i : grid0.Coords) (arg3 : Memref sig .tc .vmem S1x1x1024x128 .f32) (harg3 : arg3.IsWhole) (arg4 : Memref sig .tc .vmem S1x1x8192x128 .bf16) (harg4 : arg4.IsWhole) (arg5 : Memref sig .tc .vmem S1x1x8x144x1024 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2x1024x128 .bf16) (harg9 : arg9.IsWhole) (arg10 : Memref sig .tc .vmem S2x8x1024 .f32) (harg10 : arg10.IsWhole) (arg11 : Memref sig .tc .vmem S2x8x1024 .f32) (harg11 : arg11.IsWhole) (arg12 : Memref sig .tc .vmem S2x128x1024 .f32) (harg12 : arg12.IsWhole) (arg13 : Memref sig .tc .vmem S2x1024x512 .f32) (harg13 : arg13.IsWhole)
  (x0 : Vec Ideal S1x1x1024x128 .f32) (x1 : Vec Ideal S1x1x8192x128 .bf16) (x2 : Vec Ideal S1x1x8x144x1024 .bf16)
include c i arg3 harg3 arg4 harg4 arg5 harg5 arg6 harg6 arg7 harg7 arg8 harg8 arg9 harg9 arg10 harg10 arg11 harg11 arg12 harg12 arg13 harg13 x0 x1 x2

theorem srcs (h : Ins K V q x0 x1 x2) : Srcs K V (half q) (arg4.view.read (Elt Ideal) (harg4.unread x1)) (arg5.view.read (Elt Ideal) (harg5.unread x2)) (arg9.view.read (Elt Ideal) (arg9.view.writes (Elt Ideal) arg9.view.junk (kernelRun0_A.sl.HS0_2 (F := Ideal) c arg3 harg3 x0))) := by
  rw [Memref.IsWhole.read_unread, Memref.IsWhole.read_unread]
  refine ⟨h.key, h.val, h.one, fun c' n e => ?_⟩
  refine (qput arg9.view _ _ _ _ _ _ c' n e).trans ?_
  have e0 : ∀ (n : Fin 1024) (e : Fin 128), View.readAt (Elt Ideal) arg3.view (Rect.unit (s := S1x1x1024x128) ![0, 0, 0, 0] S1x1x1024x128.size inb_S1x1x1024x128_S1x1x1024x128_0_0_0_0).toLoadRect (harg3.unread x0) (ix4 0 0 n e) = ((q n e : ℝ) : EReal) := by
    intro n e
    refine (congrFun (harg3.read_unread x0) _).trans (Eq.trans (congrArg x0 ?_) (h.qry n e))
    funext a
    fin_cases a
    · rfl
    · rfl
    · apply Fin.ext; show 0 + 1 * n.val = n.val; omega
    · apply Fin.ext; show 0 + 1 * e.val = e.val; omega
  fin_cases c'
  · exact qry0_real e0 n e
  · exact qry1_real e0 n e

theorem first (h : Ins K V q x0 x1 x2) :
    Good K V (half q) 0 (arg10.view.read (Elt Ideal) (arg10.view.writes (Elt Ideal) arg10.view.junk (kernelRun0_A.sl.HS1_1 (F := Ideal) ))) (arg11.view.read (Elt Ideal) (arg11.view.writes (Elt Ideal) arg11.view.junk (kernelRun0_A.sl.HS2_1 (F := Ideal) ))) (arg12.view.read (Elt Ideal) (arg12.view.writes (Elt Ideal) arg12.view.junk (kernelRun0_A.sl.HS3_1 (F := Ideal) ))) (arg13.view.read (Elt Ideal) (arg13.view.writes (Elt Ideal) arg13.view.junk (kernelRun0_A.sl.HS4_2 (F := Ideal) c arg3 harg3 arg4 harg4 arg9 x0 x1))) := by
  have hs := srcs c i arg3 harg3 arg4 harg4 arg5 harg5 arg6 harg6 arg7 harg7 arg8 harg8 arg9 harg9 arg10 harg10 arg11 harg11 arg12 harg12 arg13 harg13 x0 x1 x2 h
  refine ⟨fun c' b n => ?_, ?_⟩
  · refine holds_of_eq (holds_zero (score K (half q) c' (col b n)) V (fun _ => 0) (fun _ => rfl)) ?_ ?_ fun e => ?_
    · exact (fill arg10.view _ _ _ _ c' 0 (col b n)).trans (init10_at c' 0 (col b n))
    · exact (fill arg11.view _ _ _ _ c' 0 (col b n)).trans (init11_at c' 0 (col b n))
    · exact (fill arg12.view _ _ _ _ c' e (col b n)).trans (init12_at c' e (col b n))
  · refine next_of_two arg13.view _ _ _ _ _ _ (fun r n => ?_) (fun r n => ?_)
    · exact (stS_at _ r n).trans (scores hs _ _ 0 (by omega) 1 1 rfl rfl r n)
    · exact (stS_at _ r n).trans (scores hs _ _ 0 (by omega) 0 1 rfl rfl r n)

set_option maxHeartbeats 4000000 in
theorem start (h : Ins K V q x0 x1 x2) :
    Runs K V (half q) (1024 * (i 2).val) (arg10.view.read (Elt Ideal) (arg10.view.writes (Elt Ideal) arg10.view.junk (kernelRun0_A.sl.HS1_1_1 (F := Ideal) c i arg3 harg3 arg4 harg4 arg5 harg5 arg6 harg6 arg7 harg7 arg8 harg8 arg9 harg9 arg10 harg10 arg11 harg11 arg12 harg12 arg13 harg13 x0 x1 x2).tail)) (arg11.view.read (Elt Ideal) (arg11.view.writes (Elt Ideal) arg11.view.junk (kernelRun0_A.sl.HS2_1_1 (F := Ideal) c i arg3 harg3 arg4 harg4 arg5 harg5 arg6 harg6 arg7 harg7 arg8 harg8 arg9 harg9 arg10 harg10 arg11 harg11 arg12 harg12 arg13 harg13 x0 x1 x2).tail)) (arg12.view.read (Elt Ideal) (arg12.view.writes (Elt Ideal) arg12.view.junk (kernelRun0_A.sl.HS3_1_1 (F := Ideal) c i arg3 harg3 arg4 harg4 arg5 harg5 arg6 harg6 arg7 harg7 arg8 harg8 arg9 harg9 arg10 harg10 arg11 harg11 arg12 harg12 arg13 harg13 x0 x1 x2).tail))
    ∧ (∀ (r : Fin 1024) (n : Fin 512), (kernelRun0_A.sl.v66 (F := Ideal) c i arg3 harg3 arg4 harg4 arg5 harg5 arg6 harg6 arg7 harg7 arg8 harg8 arg9 harg9 arg10 harg10 arg11 harg11 arg12 harg12 arg13 harg13 x0 x1 x2) (ix3 0 r n) = ((score K (half q) 0 (col 1 n) (1024 * (i 2).val + r.val) : ℝ) : EReal))
    ∧ (∀ (r : Fin 1024) (n : Fin 512), (kernelRun0_A.sl.v75 (F := Ideal) c i arg3 harg3 arg4 harg4 arg5 harg5 arg6 harg6 arg7 harg7 arg8 harg8 arg9 harg9 arg10 harg10 arg11 harg11 arg12 harg12 arg13 harg13 x0 x1 x2) (ix3 0 r n) = ((score K (half q) 1 (col 1 n) (1024 * (i 2).val + r.val) : ℝ) : EReal)) := by
  have hs := srcs c i arg3 harg3 arg4 harg4 arg5 harg5 arg6 harg6 arg7 harg7 arg8 harg8 arg9 harg9 arg10 harg10 arg11 harg11 arg12 harg12 arg13 harg13 x0 x1 x2 h
  have hf := first c i arg3 harg3 arg4 harg4 arg5 harg5 arg6 harg6 arg7 harg7 arg8 harg8 arg9 harg9 arg10 harg10 arg11 harg11 arg12 harg12 arg13 harg13 x0 x1 x2 h
  have hb := before Variants.none c none i arg3 harg3 arg4 harg4 arg5 harg5 arg6 harg6 arg7 harg7 arg8 harg8 arg9 harg9 arg10 harg10 arg11 harg11 arg12 harg12 arg13 harg13
    (BitVec.ofNat 32 (i 2).val) 0#32 (kernelRun0_A.sl.v56 i) 1#32 _ _ _ (kernelRun0_A.sl.v62 i) hs ((kernelRun0_A.sl.HS1_1 (F := Ideal) ), (kernelRun0_A.sl.HS2_1 (F := Ideal) ), (kernelRun0_A.sl.HS3_1 (F := Ideal) ), (kernelRun0_A.sl.HS4_2 (F := Ideal) c arg3 harg3 arg4 harg4 arg9 x0 x1)) hf
  refine ⟨hb.1, fun r n => ?_, fun r n => ?_⟩
  · exact (ld_scores arg13.view _ _ 0 r n rfl).trans (hb.2 0 r n)
  · exact (ld_scores arg13.view _ _ 1 r n rfl).trans (hb.2 1 r n)

set_option maxHeartbeats 4000000 in
theorem diag01 (h : Ins K V q x0 x1 x2) (n : Fin 512) :
    Holds (score K (half q) 0 (col 1 n)) V (1024 * (i 2).val + (512 + n.val + 1))
      (k0_pay268 (kernelRun0_A.sl.r_5 (F := Ideal) c i arg3 harg3 arg4 harg4 arg5 harg5 arg6 harg6 arg7 harg7 arg8 harg8 arg9 harg9 arg10 harg10 arg11 harg11 arg12 harg12 arg13 harg13 x0 x1 x2) (ix3 0 0 n))
      (k0_pay269 (kernelRun0_A.sl.r_9 (F := Ideal) c i arg3 harg3 arg4 harg4 arg5 harg5 arg6 harg6 arg7 harg7 arg8 harg8 arg9 harg9 arg10 harg10 arg11 harg11 arg12 harg12 arg13 harg13 x0 x1 x2) (ix3 0 0 n))
      (fun e => k0_pay267 (kernelRun0_A.sl.r_8 (F := Ideal) c i arg3 harg3 arg4 harg4 arg5 harg5 arg6 harg6 arg7 harg7 arg8 harg8 arg9 harg9 arg10 harg10 arg11 harg11 arg12 harg12 arg13 harg13 x0 x1 x2) (kernelRun0_A.sl.r_10 (F := Ideal) c i arg3 harg3 arg4 harg4 arg5 harg5 arg6 harg6 arg7 harg7 arg8 harg8 arg9 harg9 arg10 harg10 arg11 harg11 arg12 harg12 arg13 harg13 x0 x1 x2) (ix3 0 e n)) := by
  have hs := srcs c i arg3 harg3 arg4 harg4 arg5 harg5 arg6 harg6 arg7 harg7 arg8 harg8 arg9 harg9 arg10 harg10 arg11 harg11 arg12 harg12 arg13 harg13 x0 x1 x2 h
  obtain ⟨hr, hv0, hv1⟩ := start c i arg3 harg3 arg4 harg4 arg5 harg5 arg6 harg6 arg7 harg7 arg8 harg8 arg9 harg9 arg10 harg10 arg11 harg11 arg12 harg12 arg13 harg13 x0 x1 x2 h
  have hi : (i 2).val < 8 := (i 2).isLt
  have hn := n.isLt
  refine chain (512 + n.val + 1) (by omega) (by omega) (fun r => ?_) (fun e r => ?_) (fun r => ?_) ?_
  · exact (mask0_at _ r n).trans (if_congr Iff.rfl (hv0 r n) rfl)
  · exact values hs _ ⟨(i 2).val, hi⟩ (off17 i) e r
  · exact ones hs _ ⟨(i 2).val, hi⟩ (off17 i) r
  · exact holds_of_eq (hr 0 1 n) (ld_half (by decide) arg10.view _ _ 0 1 0 n rfl) (ld_half (by decide) arg11.view _ _ 0 1 0 n rfl)
      fun e => (ld_half le_rfl arg12.view _ _ 0 1 e n rfl)

set_option maxHeartbeats 4000000 in
theorem diag11 (h : Ins K V q x0 x1 x2) (n : Fin 512) :
    Holds (score K (half q) 1 (col 1 n)) V (1024 * (i 2).val + (512 + n.val + 1))
      (k0_pay277 (kernelRun0_A.sl.r_6 (F := Ideal) c i arg3 harg3 arg4 harg4 arg5 harg5 arg6 harg6 arg7 harg7 arg8 harg8 arg9 harg9 arg10 harg10 arg11 harg11 arg12 harg12 arg13 harg13 x0 x1 x2) (ix3 0 0 n))
      (k0_pay278 (kernelRun0_A.sl.r (F := Ideal) i arg5 harg5 x2) (kernelRun0_A.sl.r_2 (F := Ideal) c i arg3 harg3 arg4 harg4 arg5 harg5 arg6 harg6 arg7 harg7 arg8 harg8 arg9 harg9 arg10 harg10 arg11 harg11 arg12 harg12 arg13 harg13 x0 x1 x2) (kernelRun0_A.sl.r_6 (F := Ideal) c i arg3 harg3 arg4 harg4 arg5 harg5 arg6 harg6 arg7 harg7 arg8 harg8 arg9 harg9 arg10 harg10 arg11 harg11 arg12 harg12 arg13 harg13 x0 x1 x2) (kernelRun0_A.sl.r_7 (F := Ideal) c i arg3 harg3 arg4 harg4 arg5 harg5 arg6 harg6 arg7 harg7 arg8 harg8 arg9 harg9 arg10 harg10 arg11 harg11 arg12 harg12 arg13 harg13 x0 x1 x2) (kernelRun0_A.sl.v169 (F := Ideal) c i arg3 harg3 arg4 harg4 arg5 harg5 arg6 harg6 arg7 harg7 arg8 harg8 arg9 harg9 arg10 harg10 arg11 harg11 arg12 harg12 arg13 harg13 x0 x1 x2) (ix3 0 0 n))
      (fun e => k0_pay276 (kernelRun0_A.sl.r (F := Ideal) i arg5 harg5 x2) (kernelRun0_A.sl.r_2 (F := Ideal) c i arg3 harg3 arg4 harg4 arg5 harg5 arg6 harg6 arg7 harg7 arg8 harg8 arg9 harg9 arg10 harg10 arg11 harg11 arg12 harg12 arg13 harg13 x0 x1 x2) (kernelRun0_A.sl.r_6 (F := Ideal) c i arg3 harg3 arg4 harg4 arg5 harg5 arg6 harg6 arg7 harg7 arg8 harg8 arg9 harg9 arg10 harg10 arg11 harg11 arg12 harg12 arg13 harg13 x0 x1 x2) (kernelRun0_A.sl.r_7 (F := Ideal) c i arg3 harg3 arg4 harg4 arg5 harg5 arg6 harg6 arg7 harg7 arg8 harg8 arg9 harg9 arg10 harg10 arg11 harg11 arg12 harg12 arg13 harg13 x0 x1 x2) (kernelRun0_A.sl.v174 (F := Ideal) c i arg3 harg3 arg4 harg4 arg5 harg5 arg6 harg6 arg7 harg7 arg8 harg8 arg9 harg9 arg10 harg10 arg11 harg11 arg12 harg12 arg13 harg13 x0 x1 x2) (ix3 0 e n)) := by
  have hs := srcs c i arg3 harg3 arg4 harg4 arg5 harg5 arg6 harg6 arg7 harg7 arg8 harg8 arg9 harg9 arg10 harg10 arg11 harg11 arg12 harg12 arg13 harg13 x0 x1 x2 h
  obtain ⟨hr, hv0, hv1⟩ := start c i arg3 harg3 arg4 harg4 arg5 harg5 arg6 harg6 arg7 harg7 arg8 harg8 arg9 harg9 arg10 harg10 arg11 harg11 arg12 harg12 arg13 harg13 x0 x1 x2 h
  have hi : (i 2).val < 8 := (i 2).isLt
  have hn := n.isLt
  refine chain (512 + n.val + 1) (by omega) (by omega) (fun r => ?_) (fun e r => ?_) (fun r => ?_) ?_
  · exact (mask1_at _ r n).trans (if_congr Iff.rfl (hv1 r n) rfl)
  · exact values hs _ ⟨(i 2).val, hi⟩ (off17 i) e r
  · exact ones hs _ ⟨(i 2).val, hi⟩ (off17 i) r
  · exact holds_of_eq (hr 1 1 n) (ld_half (by decide) arg10.view _ _ 1 1 0 n rfl) ((ld_half (by decide) arg11.view _ _ 1 1 0 n rfl).trans (put_ne arg11.view _ _ _ _ 0 1 rfl 1 1 0 n (by decide)))
      fun e => ((ld_half le_rfl arg12.view _ _ 1 1 e n rfl).trans (put_ne arg12.view _ _ _ _ 0 1 rfl 1 1 e n (by decide)))

set_option maxHeartbeats 4000000 in
theorem diag10 (h : Ins K V q x0 x1 x2) (n : Fin 512) :
    Holds (score K (half q) 1 (col 0 n)) V (1024 * (i 2).val + (n.val + 1))
      (k0_pay288 (kernelRun0_A.sl.r_17 (F := Ideal) c i arg3 harg3 arg4 harg4 arg5 harg5 arg6 harg6 arg7 harg7 arg8 harg8 arg9 harg9 arg10 harg10 arg11 harg11 arg12 harg12 arg13 harg13 x0 x1 x2) (ix3 0 0 n))
      (k0_pay289 (kernelRun0_A.sl.r_18 (F := Ideal) c i arg3 harg3 arg4 harg4 arg5 harg5 arg6 harg6 arg7 harg7 arg8 harg8 arg9 harg9 arg10 harg10 arg11 harg11 arg12 harg12 arg13 harg13 x0 x1 x2) (kernelRun0_A.sl.r_19 (F := Ideal) c i arg3 harg3 arg4 harg4 arg5 harg5 arg6 harg6 arg7 harg7 arg8 harg8 arg9 harg9 arg10 harg10 arg11 harg11 arg12 harg12 arg13 harg13 x0 x1 x2) (kernelRun0_A.sl.v236 (F := Ideal) c i arg3 harg3 arg4 harg4 arg5 harg5 arg6 harg6 arg7 harg7 arg8 harg8 arg9 harg9 arg10 harg10 arg11 harg11 arg12 harg12 arg13 harg13 x0 x1 x2) (ix3 0 0 n))
      (fun e => k0_pay287 (kernelRun0_A.sl.r_18 (F := Ideal) c i arg3 harg3 arg4 harg4 arg5 harg5 arg6 harg6 arg7 harg7 arg8 harg8 arg9 harg9 arg10 harg10 arg11 harg11 arg12 harg12 arg13 harg13 x0 x1 x2) (kernelRun0_A.sl.r_19 (F := Ideal) c i arg3 harg3 arg4 harg4 arg5 harg5 arg6 harg6 arg7 harg7 arg8 harg8 arg9 harg9 arg10 harg10 arg11 harg11 arg12 harg12 arg13 harg13 x0 x1 x2) (kernelRun0_A.sl.v241 (F := Ideal) c i arg3 harg3 arg4 harg4 arg5 harg5 arg6 harg6 arg7 harg7 arg8 harg8 arg9 harg9 arg10 harg10 arg11 harg11 arg12 harg12 arg13 harg13 x0 x1 x2) (ix3 0 e n)) := by
  have hs := srcs c i arg3 harg3 arg4 harg4 arg5 harg5 arg6 harg6 arg7 harg7 arg8 harg8 arg9 harg9 arg10 harg10 arg11 harg11 arg12 harg12 arg13 harg13 x0 x1 x2 h
  obtain ⟨hr, hv0, hv1⟩ := start c i arg3 harg3 arg4 harg4 arg5 harg5 arg6 harg6 arg7 harg7 arg8 harg8 arg9 harg9 arg10 harg10 arg11 harg11 arg12 harg12 arg13 harg13 x0 x1 x2 h
  have hi : (i 2).val < 8 := (i 2).isLt
  have hn := n.isLt
  refine chainH (n.val + 1) (by omega) (by omega) (fun r => ?_) (fun e r => ?_) (fun r => ?_) ?_
  · exact (maskH1_at _ _ r n).trans (if_congr Iff.rfl (scores512 hs _ _ (1024 * (i 2).val) (by omega) 1 0 (off18 i) rfl r n) rfl)
  · exact (low_at _ _ r).trans (values hs _ ⟨(i 2).val, hi⟩ (off17 i) e ⟨r.val, by omega⟩)
  · exact (low_at _ _ r).trans (ones hs _ ⟨(i 2).val, hi⟩ (off17 i) ⟨r.val, by omega⟩)
  · exact holds_of_eq (hr 1 0 n) (((ld_half (by decide) arg10.view _ _ 1 0 0 n rfl).trans (put_ne arg10.view _ _ _ _ 1 1 rfl 1 0 0 n (by decide))).trans (put_ne arg10.view _ _ _ _ 0 1 rfl 1 0 0 n (by decide))) ((((ld_half (by decide) arg11.view _ _ 1 0 0 n rfl).trans (put_ne arg11.view _ _ _ _ 0 0 rfl 1 0 0 n (by decide))).trans (put_ne arg11.view _ _ _ _ 1 1 rfl 1 0 0 n (by decide))).trans (put_ne arg11.view _ _ _ _ 0 1 rfl 1 0 0 n (by decide)))
      fun e => ((((ld_half le_rfl arg12.view _ _ 1 0 e n rfl).trans (put_ne arg12.view _ _ _ _ 0 0 rfl 1 0 e n (by decide))).trans (put_ne arg12.view _ _ _ _ 1 1 rfl 1 0 e n (by decide))).trans (put_ne arg12.view _ _ _ _ 0 1 rfl 1 0 e n (by decide)))

end Cert.KernelIdeal.Attn

end
-- ==== Proof.AttnFinal.lean ====
/- The first half of the queries against the diagonal block in the first map, and what the buffers hold at the end of a grid point. -/
module

public import proofs.«01_k».proof.Proof.AttnDiag

@[expose] public section

set_option maxRecDepth 16384

noncomputable section

namespace Cert.KernelIdeal.Attn

open Cert.KernelIdeal Cert.KernelIdeal.Gen Idealize.ShloMosaic Idealize.ShloMosaic.TcCoe Idealize.SL.Sem
open Cert.Proof.AttnRow

variable {K V : ℕ → Fin 128 → ℝ} {q : Fin 1024 → Fin 128 → ℝ}

variable (c : Dev nD) (i : grid0.Coords) (arg3 : Memref sig .tc .vmem S1x1x1024x128 .f32) (harg3 : arg3.IsWhole) (arg4 : Memref sig .tc .vmem S1x1x8192x128 .bf16) (harg4 : arg4.IsWhole) (arg5 : Memref sig .tc .vmem S1x1x8x144x1024 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2x1024x128 .bf16) (harg9 : arg9.IsWhole) (arg10 : Memref sig .tc .vmem S2x8x1024 .f32) (harg10 : arg10.IsWhole) (arg11 : Memref sig .tc .vmem S2x8x1024 .f32) (harg11 : arg11.IsWhole) (arg12 : Memref sig .tc .vmem S2x128x1024 .f32) (harg12 : arg12.IsWhole) (arg13 : Memref sig .tc .vmem S2x1024x512 .f32) (harg13 : arg13.IsWhole)
  (x0 : Vec Ideal S1x1x1024x128 .f32) (x1 : Vec Ideal S1x1x8192x128 .bf16) (x2 : Vec Ideal S1x1x8x144x1024 .bf16)
include c i arg3 harg3 arg4 harg4 arg5 harg5 arg6 harg6 arg7 harg7 arg8 harg8 arg9 harg9 arg10 harg10 arg11 harg11 arg12 harg12 arg13 harg13 x0 x1 x2

/-- The first map's stores for the first half of the queries are one block of 512 keys. -/
theorem store10 (n : Fin 512) : k0_pay284 (kernelRun0_A.sl.r_14 (F := Ideal) c i arg3 harg3 arg4 harg4 arg5 harg5 arg6 harg6 arg7 harg7 arg8 harg8 arg9 harg9 arg10 harg10 arg11 harg11 arg12 harg12 arg13 harg13 x0 x1 x2) (ix3 0 0 n) = stRow (newMH (kernelRun0_A.sl.r_4 (F := Ideal) c i arg3 harg3 arg4 harg4 arg9 x0 x1) (ldRow (kernelRun0_A.sl.v157 (F := Ideal) c i arg3 harg3 arg4 harg4 arg5 harg5 arg6 harg6 arg7 harg7 arg8 harg8 arg9 harg9 arg10 harg10 arg11 harg11 arg12 harg12 arg13 harg13 x0 x1 x2))) (ix3 0 0 n) := rfl
theorem store11 (n : Fin 512) : k0_pay285 (kernelRun0_A.sl.r (F := Ideal) i arg5 harg5 x2) (kernelRun0_A.sl.r_4 (F := Ideal) c i arg3 harg3 arg4 harg4 arg9 x0 x1) (kernelRun0_A.sl.r_14 (F := Ideal) c i arg3 harg3 arg4 harg4 arg5 harg5 arg6 harg6 arg7 harg7 arg8 harg8 arg9 harg9 arg10 harg10 arg11 harg11 arg12 harg12 arg13 harg13 x0 x1 x2) (kernelRun0_A.sl.r_15 (F := Ideal) c i arg3 harg3 arg4 harg4 arg5 harg5 arg6 harg6 arg7 harg7 arg8 harg8 arg9 harg9 arg10 harg10 arg11 harg11 arg12 harg12 arg13 harg13 x0 x1 x2) (kernelRun0_A.sl.v206 (F := Ideal) c i arg3 harg3 arg4 harg4 arg5 harg5 arg6 harg6 arg7 harg7 arg8 harg8 arg9 harg9 arg10 harg10 arg11 harg11 arg12 harg12 arg13 harg13 x0 x1 x2) (ix3 0 0 n)
    = stRow (newLH (extractStridedSlice S144x512 ![0, 0] (kernelRun0_A.sl.r (F := Ideal) i arg5 harg5 x2) slices_S144x1024_o0_0_S144x512) (kernelRun0_A.sl.r_4 (F := Ideal) c i arg3 harg3 arg4 harg4 arg9 x0 x1) (ldRow (kernelRun0_A.sl.v157 (F := Ideal) c i arg3 harg3 arg4 harg4 arg5 harg5 arg6 harg6 arg7 harg7 arg8 harg8 arg9 harg9 arg10 harg10 arg11 harg11 arg12 harg12 arg13 harg13 x0 x1 x2)) (ldRow (kernelRun0_A.sl.v206 (F := Ideal) c i arg3 harg3 arg4 harg4 arg5 harg5 arg6 harg6 arg7 harg7 arg8 harg8 arg9 harg9 arg10 harg10 arg11 harg11 arg12 harg12 arg13 harg13 x0 x1 x2))) (ix3 0 0 n) := rfl
theorem store12 (n : Fin 512) (e : Fin 128) : k0_pay283 (kernelRun0_A.sl.r (F := Ideal) i arg5 harg5 x2) (kernelRun0_A.sl.r_4 (F := Ideal) c i arg3 harg3 arg4 harg4 arg9 x0 x1) (kernelRun0_A.sl.r_14 (F := Ideal) c i arg3 harg3 arg4 harg4 arg5 harg5 arg6 harg6 arg7 harg7 arg8 harg8 arg9 harg9 arg10 harg10 arg11 harg11 arg12 harg12 arg13 harg13 x0 x1 x2) (kernelRun0_A.sl.r_15 (F := Ideal) c i arg3 harg3 arg4 harg4 arg5 harg5 arg6 harg6 arg7 harg7 arg8 harg8 arg9 harg9 arg10 harg10 arg11 harg11 arg12 harg12 arg13 harg13 x0 x1 x2) (kernelRun0_A.sl.v211 (F := Ideal) c i arg3 harg3 arg4 harg4 arg5 harg5 arg6 harg6 arg7 harg7 arg8 harg8 arg9 harg9 arg10 harg10 arg11 harg11 arg12 harg12 arg13 harg13 x0 x1 x2) (ix3 0 e n)
    = stAcc (newAccH (extractStridedSlice S144x512 ![0, 0] (kernelRun0_A.sl.r (F := Ideal) i arg5 harg5 x2) slices_S144x1024_o0_0_S144x512) (kernelRun0_A.sl.r_4 (F := Ideal) c i arg3 harg3 arg4 harg4 arg9 x0 x1) (ldRow (kernelRun0_A.sl.v157 (F := Ideal) c i arg3 harg3 arg4 harg4 arg5 harg5 arg6 harg6 arg7 harg7 arg8 harg8 arg9 harg9 arg10 harg10 arg11 harg11 arg12 harg12 arg13 harg13 x0 x1 x2)) (ldAcc (kernelRun0_A.sl.v211 (F := Ideal) c i arg3 harg3 arg4 harg4 arg5 harg5 arg6 harg6 arg7 harg7 arg8 harg8 arg9 harg9 arg10 harg10 arg11 harg11 arg12 harg12 arg13 harg13 x0 x1 x2))) (ix3 0 e n) := rfl

theorem sc00 (h : Ins K V q x0 x1 x2) (n : Fin 512) (r : Fin 512) :
    (kernelRun0_A.sl.r_4 (F := Ideal) c i arg3 harg3 arg4 harg4 arg9 x0 x1) (ix2 r n) = if r.val < n.val + 1 then ((score K (half q) 0 (col 0 n) (1024 * (i 2).val + r.val) : ℝ) : EReal) else ⊥ := by
  have hs := srcs c i arg3 harg3 arg4 harg4 arg5 harg5 arg6 harg6 arg7 harg7 arg8 harg8 arg9 harg9 arg10 harg10 arg11 harg11 arg12 harg12 arg13 harg13 x0 x1 x2 h
  have hi : (i 2).val < 8 := (i 2).isLt
  exact (maskH0_at _ _ r n).trans (if_congr Iff.rfl (scores512 hs _ _ (1024 * (i 2).val) (by omega) 0 0 (off18 i) rfl r n) rfl)

theorem vl00 (h : Ins K V q x0 x1 x2) (e : Fin 128) (r : Fin 512) :
    extractStridedSlice S144x512 ![0, 0] (kernelRun0_A.sl.r (F := Ideal) i arg5 harg5 x2) slices_S144x1024_o0_0_S144x512 (ix2 (⟨e.val, by omega⟩ : Fin 144) r)
      = ((V (1024 * (i 2).val + r.val) e : ℝ) : EReal) := by
  have hs := srcs c i arg3 harg3 arg4 harg4 arg5 harg5 arg6 harg6 arg7 harg7 arg8 harg8 arg9 harg9 arg10 harg10 arg11 harg11 arg12 harg12 arg13 harg13 x0 x1 x2 h
  have hi : (i 2).val < 8 := (i 2).isLt
  exact (low_at _ _ r).trans (values hs _ ⟨(i 2).val, hi⟩ (off17 i) e ⟨r.val, by omega⟩)

theorem on00 (h : Ins K V q x0 x1 x2) (r : Fin 512) :
    extractStridedSlice S144x512 ![0, 0] (kernelRun0_A.sl.r (F := Ideal) i arg5 harg5 x2) slices_S144x1024_o0_0_S144x512 (ix2 128 r) = 1 := by
  have hs := srcs c i arg3 harg3 arg4 harg4 arg5 harg5 arg6 harg6 arg7 harg7 arg8 harg8 arg9 harg9 arg10 harg10 arg11 harg11 arg12 harg12 arg13 harg13 x0 x1 x2 h
  have hi : (i 2).val < 8 := (i 2).isLt
  exact (low_at _ _ r).trans (ones hs _ ⟨(i 2).val, hi⟩ (off17 i) ⟨r.val, by omega⟩)

set_option maxHeartbeats 1000000 in
theorem ld00 (h : Ins K V q x0 x1 x2) (n : Fin 512) :
    Holds (score K (half q) 0 (col 0 n)) V (1024 * (i 2).val) ((kernelRun0_A.sl.v157 (F := Ideal) c i arg3 harg3 arg4 harg4 arg5 harg5 arg6 harg6 arg7 harg7 arg8 harg8 arg9 harg9 arg10 harg10 arg11 harg11 arg12 harg12 arg13 harg13 x0 x1 x2) (ix3 0 0 n)) ((kernelRun0_A.sl.v206 (F := Ideal) c i arg3 harg3 arg4 harg4 arg5 harg5 arg6 harg6 arg7 harg7 arg8 harg8 arg9 harg9 arg10 harg10 arg11 harg11 arg12 harg12 arg13 harg13 x0 x1 x2) (ix3 0 0 n))
      (fun e => (kernelRun0_A.sl.v211 (F := Ideal) c i arg3 harg3 arg4 harg4 arg5 harg5 arg6 harg6 arg7 harg7 arg8 harg8 arg9 harg9 arg10 harg10 arg11 harg11 arg12 harg12 arg13 harg13 x0 x1 x2) (ix3 0 e n)) := by
  obtain ⟨hr, hv0, hv1⟩ := start c i arg3 harg3 arg4 harg4 arg5 harg5 arg6 harg6 arg7 harg7 arg8 harg8 arg9 harg9 arg10 harg10 arg11 harg11 arg12 harg12 arg13 harg13 x0 x1 x2 h
  exact holds_of_eq (hr 0 0 n) ((ld_half (by decide) arg10.view _ _ 0 0 0 n rfl).trans (put_ne arg10.view _ _ _ _ 0 1 rfl 0 0 0 n (by decide))) (((ld_half (by decide) arg11.view _ _ 0 0 0 n rfl).trans (put_ne arg11.view _ _ _ _ 1 1 rfl 0 0 0 n (by decide))).trans (put_ne arg11.view _ _ _ _ 0 1 rfl 0 0 0 n (by decide)))
      fun e => (((ld_half le_rfl arg12.view _ _ 0 0 e n rfl).trans (put_ne arg12.view _ _ _ _ 1 1 rfl 0 0 e n (by decide))).trans (put_ne arg12.view _ _ _ _ 0 1 rfl 0 0 e n (by decide)))

theorem ch00 (h : Ins K V q x0 x1 x2) (n : Fin 512) :
    Holds (score K (half q) 0 (col 0 n)) V (1024 * (i 2).val + (n.val + 1)) (stRow (newMH (kernelRun0_A.sl.r_4 (F := Ideal) c i arg3 harg3 arg4 harg4 arg9 x0 x1) (ldRow (kernelRun0_A.sl.v157 (F := Ideal) c i arg3 harg3 arg4 harg4 arg5 harg5 arg6 harg6 arg7 harg7 arg8 harg8 arg9 harg9 arg10 harg10 arg11 harg11 arg12 harg12 arg13 harg13 x0 x1 x2))) (ix3 0 0 n))
      (stRow (newLH (extractStridedSlice S144x512 ![0, 0] (kernelRun0_A.sl.r (F := Ideal) i arg5 harg5 x2) slices_S144x1024_o0_0_S144x512) (kernelRun0_A.sl.r_4 (F := Ideal) c i arg3 harg3 arg4 harg4 arg9 x0 x1) (ldRow (kernelRun0_A.sl.v157 (F := Ideal) c i arg3 harg3 arg4 harg4 arg5 harg5 arg6 harg6 arg7 harg7 arg8 harg8 arg9 harg9 arg10 harg10 arg11 harg11 arg12 harg12 arg13 harg13 x0 x1 x2)) (ldRow (kernelRun0_A.sl.v206 (F := Ideal) c i arg3 harg3 arg4 harg4 arg5 harg5 arg6 harg6 arg7 harg7 arg8 harg8 arg9 harg9 arg10 harg10 arg11 harg11 arg12 harg12 arg13 harg13 x0 x1 x2))) (ix3 0 0 n))
      (fun e => stAcc (newAccH (extractStridedSlice S144x512 ![0, 0] (kernelRun0_A.sl.r (F := Ideal) i arg5 harg5 x2) slices_S144x1024_o0_0_S144x512) (kernelRun0_A.sl.r_4 (F := Ideal) c i arg3 harg3 arg4 harg4 arg9 x0 x1) (ldRow (kernelRun0_A.sl.v157 (F := Ideal) c i arg3 harg3 arg4 harg4 arg5 harg5 arg6 harg6 arg7 harg7 arg8 harg8 arg9 harg9 arg10 harg10 arg11 harg11 arg12 harg12 arg13 harg13 x0 x1 x2)) (ldAcc (kernelRun0_A.sl.v211 (F := Ideal) c i arg3 harg3 arg4 harg4 arg5 harg5 arg6 harg6 arg7 harg7 arg8 harg8 arg9 harg9 arg10 harg10 arg11 harg11 arg12 harg12 arg13 harg13 x0 x1 x2))) (ix3 0 e n)) :=
  chainH (n.val + 1) n.isLt (Nat.succ_pos _) (sc00 c i arg3 harg3 arg4 harg4 arg5 harg5 arg6 harg6 arg7 harg7 arg8 harg8 arg9 harg9 arg10 harg10 arg11 harg11 arg12 harg12 arg13 harg13 x0 x1 x2 h n) (vl00 c i arg3 harg3 arg4 harg4 arg5 harg5 arg6 harg6 arg7 harg7 arg8 harg8 arg9 harg9 arg10 harg10 arg11 harg11 arg12 harg12 arg13 harg13 x0 x1 x2 h) (on00 c i arg3 harg3 arg4 harg4 arg5 harg5 arg6 harg6 arg7 harg7 arg8 harg8 arg9 harg9 arg10 harg10 arg11 harg11 arg12 harg12 arg13 harg13 x0 x1 x2 h) (ld00 c i arg3 harg3 arg4 harg4 arg5 harg5 arg6 harg6 arg7 harg7 arg8 harg8 arg9 harg9 arg10 harg10 arg11 harg11 arg12 harg12 arg13 harg13 x0 x1 x2 h n)

theorem diag00 (h : Ins K V q x0 x1 x2) (n : Fin 512) :
    Holds (score K (half q) 0 (col 0 n)) V (1024 * (i 2).val + (n.val + 1))
      (k0_pay284 (kernelRun0_A.sl.r_14 (F := Ideal) c i arg3 harg3 arg4 harg4 arg5 harg5 arg6 harg6 arg7 harg7 arg8 harg8 arg9 harg9 arg10 harg10 arg11 harg11 arg12 harg12 arg13 harg13 x0 x1 x2) (ix3 0 0 n))
      (k0_pay285 (kernelRun0_A.sl.r (F := Ideal) i arg5 harg5 x2) (kernelRun0_A.sl.r_4 (F := Ideal) c i arg3 harg3 arg4 harg4 arg9 x0 x1) (kernelRun0_A.sl.r_14 (F := Ideal) c i arg3 harg3 arg4 harg4 arg5 harg5 arg6 harg6 arg7 harg7 arg8 harg8 arg9 harg9 arg10 harg10 arg11 harg11 arg12 harg12 arg13 harg13 x0 x1 x2) (kernelRun0_A.sl.r_15 (F := Ideal) c i arg3 harg3 arg4 harg4 arg5 harg5 arg6 harg6 arg7 harg7 arg8 harg8 arg9 harg9 arg10 harg10 arg11 harg11 arg12 harg12 arg13 harg13 x0 x1 x2) (kernelRun0_A.sl.v206 (F := Ideal) c i arg3 harg3 arg4 harg4 arg5 harg5 arg6 harg6 arg7 harg7 arg8 harg8 arg9 harg9 arg10 harg10 arg11 harg11 arg12 harg12 arg13 harg13 x0 x1 x2) (ix3 0 0 n))
      (fun e => k0_pay283 (kernelRun0_A.sl.r (F := Ideal) i arg5 harg5 x2) (kernelRun0_A.sl.r_4 (F := Ideal) c i arg3 harg3 arg4 harg4 arg9 x0 x1) (kernelRun0_A.sl.r_14 (F := Ideal) c i arg3 harg3 arg4 harg4 arg5 harg5 arg6 harg6 arg7 harg7 arg8 harg8 arg9 harg9 arg10 harg10 arg11 harg11 arg12 harg12 arg13 harg13 x0 x1 x2) (kernelRun0_A.sl.r_15 (F := Ideal) c i arg3 harg3 arg4 harg4 arg5 harg5 arg6 harg6 arg7 harg7 arg8 harg8 arg9 harg9 arg10 harg10 arg11 harg11 arg12 harg12 arg13 harg13 x0 x1 x2) (kernelRun0_A.sl.v211 (F := Ideal) c i arg3 harg3 arg4 harg4 arg5 harg5 arg6 harg6 arg7 harg7 arg8 harg8 arg9 harg9 arg10 harg10 arg11 harg11 arg12 harg12 arg13 harg13 x0 x1 x2) (ix3 0 e n)) :=
  holds_of_eq (ch00 c i arg3 harg3 arg4 harg4 arg5 harg5 arg6 harg6 arg7 harg7 arg8 harg8 arg9 harg9 arg10 harg10 arg11 harg11 arg12 harg12 arg13 harg13 x0 x1 x2 h n) (store10 c i arg3 harg3 arg4 harg4 arg5 harg5 arg6 harg6 arg7 harg7 arg8 harg8 arg9 harg9 arg10 harg10 arg11 harg11 arg12 harg12 arg13 harg13 x0 x1 x2 n) (store11 c i arg3 harg3 arg4 harg4 arg5 harg5 arg6 harg6 arg7 harg7 arg8 harg8 arg9 harg9 arg10 harg10 arg11 harg11 arg12 harg12 arg13 harg13 x0 x1 x2 n) (store12 c i arg3 harg3 arg4 harg4 arg5 harg5 arg6 harg6 arg7 harg7 arg8 harg8 arg9 harg9 arg10 harg10 arg11 harg11 arg12 harg12 arg13 harg13 x0 x1 x2 n)

set_option maxHeartbeats 1000000 in
/-- What the last part of the body loads of map 0. -/
theorem final0 (h : Ins K V q x0 x1 x2) (m : Fin 1024) :
    ∃ μ, Holds (score K (half q) 0 m) V (1024 * (i 2).val + m.val + 1) μ ((kernelRun0_A.sl.v276 (F := Ideal) c i arg3 harg3 arg4 harg4 arg5 harg5 arg6 harg6 arg7 harg7 arg8 harg8 arg9 harg9 arg10 harg10 arg11 harg11 arg12 harg12 arg13 harg13 x0 x1 x2) (ix3 0 0 m)) (fun e => (kernelRun0_A.sl.v284 (F := Ideal) c i arg3 harg3 arg4 harg4 arg5 harg5 arg6 harg6 arg7 harg7 arg8 harg8 arg9 harg9 arg10 harg10 arg11 harg11 arg12 harg12 arg13 harg13 x0 x1 x2) (ix3 0 e m)) := by
  by_cases hm : m.val < 512
  · obtain ⟨n, rfl⟩ : ∃ n : Fin 512, m = col 0 n := ⟨⟨m.val, hm⟩, Fin.ext (by show m.val = 512 * 0 + m.val; omega)⟩
    have hd := diag00 c i arg3 harg3 arg4 harg4 arg5 harg5 arg6 harg6 arg7 harg7 arg8 harg8 arg9 harg9 arg10 harg10 arg11 harg11 arg12 harg12 arg13 harg13 x0 x1 x2 h n
    have e1 : 1024 * (i 2).val + (n.val + 1) = 1024 * (i 2).val + (col 0 n).val + 1 := by
      show _ = 1024 * (i 2).val + (512 * 0 + n.val) + 1; omega
    rw [e1] at hd
    exact ⟨_, holds_of_eq hd rfl ((ld_row (by decide) arg11.view _ _ 0 0 (col 0 n) rfl).trans ((put_ne arg11.view _ _ _ _ 1 0 rfl 0 0 0 n (by decide)).trans (put_mem arg11.view _ _ _ _ 0 0 0 n rfl)))
      fun e => (ld_row le_rfl arg12.view _ _ 0 e (col 0 n) rfl).trans ((put_ne arg12.view _ _ _ _ 1 0 rfl 0 0 e n (by decide)).trans (put_mem arg12.view _ _ _ _ 0 0 e n rfl))⟩
  · obtain ⟨n, rfl⟩ : ∃ n : Fin 512, m = col 1 n := ⟨⟨m.val - 512, by omega⟩, Fin.ext (by show m.val = 512 * 1 + (m.val - 512); omega)⟩
    have hd := diag01 c i arg3 harg3 arg4 harg4 arg5 harg5 arg6 harg6 arg7 harg7 arg8 harg8 arg9 harg9 arg10 harg10 arg11 harg11 arg12 harg12 arg13 harg13 x0 x1 x2 h n
    have e1 : 1024 * (i 2).val + (512 + n.val + 1) = 1024 * (i 2).val + (col 1 n).val + 1 := by
      show _ = 1024 * (i 2).val + (512 * 1 + n.val) + 1; omega
    rw [e1] at hd
    exact ⟨_, holds_of_eq hd rfl ((ld_row (by decide) arg11.view _ _ 0 0 (col 1 n) rfl).trans ((put_ne arg11.view _ _ _ _ 1 0 rfl 0 1 0 n (by decide)).trans ((put_ne arg11.view _ _ _ _ 0 0 rfl 0 1 0 n (by decide)).trans ((put_ne arg11.view _ _ _ _ 1 1 rfl 0 1 0 n (by decide)).trans (put_mem arg11.view _ _ _ _ 0 1 0 n rfl)))))
      fun e => (ld_row le_rfl arg12.view _ _ 0 e (col 1 n) rfl).trans ((put_ne arg12.view _ _ _ _ 1 0 rfl 0 1 e n (by decide)).trans ((put_ne arg12.view _ _ _ _ 0 0 rfl 0 1 e n (by decide)).trans ((put_ne arg12.view _ _ _ _ 1 1 rfl 0 1 e n (by decide)).trans (put_mem arg12.view _ _ _ _ 0 1 e n rfl))))⟩

set_option maxHeartbeats 1000000 in
/-- What the last part of the body loads of map 1. -/
theorem final1 (h : Ins K V q x0 x1 x2) (m : Fin 1024) :
    ∃ μ, Holds (score K (half q) 1 m) V (1024 * (i 2).val + m.val + 1) μ ((kernelRun0_A.sl.v280 (F := Ideal) c i arg3 harg3 arg4 harg4 arg5 harg5 arg6 harg6 arg7 harg7 arg8 harg8 arg9 harg9 arg10 harg10 arg11 harg11 arg12 harg12 arg13 harg13 x0 x1 x2) (ix3 0 0 m)) (fun e => (kernelRun0_A.sl.v288 (F := Ideal) c i arg3 harg3 arg4 harg4 arg5 harg5 arg6 harg6 arg7 harg7 arg8 harg8 arg9 harg9 arg10 harg10 arg11 harg11 arg12 harg12 arg13 harg13 x0 x1 x2) (ix3 0 e m)) := by
  by_cases hm : m.val < 512
  · obtain ⟨n, rfl⟩ : ∃ n : Fin 512, m = col 0 n := ⟨⟨m.val, hm⟩, Fin.ext (by show m.val = 512 * 0 + m.val; omega)⟩
    have hd := diag10 c i arg3 harg3 arg4 harg4 arg5 harg5 arg6 harg6 arg7 harg7 arg8 harg8 arg9 harg9 arg10 harg10 arg11 harg11 arg12 harg12 arg13 harg13 x0 x1 x2 h n
    have e1 : 1024 * (i 2).val + (n.val + 1) = 1024 * (i 2).val + (col 0 n).val + 1 := by
      show _ = 1024 * (i 2).val + (512 * 0 + n.val) + 1; omega
    rw [e1] at hd
    exact ⟨_, holds_of_eq hd rfl ((ld_row (by decide) arg11.view _ _ 1 0 (col 0 n) rfl).trans (put_mem arg11.view _ _ _ _ 1 0 0 n rfl))
      fun e => (ld_row le_rfl arg12.view _ _ 1 e (col 0 n) rfl).trans (put_mem arg12.view _ _ _ _ 1 0 e n rfl)⟩
  · obtain ⟨n, rfl⟩ : ∃ n : Fin 512, m = col 1 n := ⟨⟨m.val - 512, by omega⟩, Fin.ext (by show m.val = 512 * 1 + (m.val - 512); omega)⟩
    have hd := diag11 c i arg3 harg3 arg4 harg4 arg5 harg5 arg6 harg6 arg7 harg7 arg8 harg8 arg9 harg9 arg10 harg10 arg11 harg11 arg12 harg12 arg13 harg13 x0 x1 x2 h n
    have e1 : 1024 * (i 2).val + (512 + n.val + 1) = 1024 * (i 2).val + (col 1 n).val + 1 := by
      show _ = 1024 * (i 2).val + (512 * 1 + n.val) + 1; omega
    rw [e1] at hd
    exact ⟨_, holds_of_eq hd rfl ((ld_row (by decide) arg11.view _ _ 1 0 (col 1 n) rfl).trans ((put_ne arg11.view _ _ _ _ 1 0 rfl 1 1 0 n (by decide)).trans ((put_ne arg11.view _ _ _ _ 0 0 rfl 1 1 0 n (by decide)).trans (put_mem arg11.view _ _ _ _ 1 1 0 n rfl))))
      fun e => (ld_row le_rfl arg12.view _ _ 1 e (col 1 n) rfl).trans ((put_ne arg12.view _ _ _ _ 1 0 rfl 1 1 e n (by decide)).trans ((put_ne arg12.view _ _ _ _ 0 0 rfl 1 1 e n (by decide)).trans (put_mem arg12.view _ _ _ _ 1 1 e n rfl)))⟩

end Cert.KernelIdeal.Attn

end
-- ==== Proof.AttnTail.lean ====
/- What follows the two softmax maps of one query: the difference of the averages, its normalisation and the gain. -/
module

public import proofs.«01_k».proof.Proof.AttnFinal
public import Idealize.ShloMosaic.Lib.Pointwise

@[expose] public section

set_option maxRecDepth 16384

noncomputable section

namespace Cert.Proof.AttnTail

open Idealize.ShloMosaic Cert.Proof.AttnRow

/-- Lane `e` of map `u` among the 128 lanes of a head. -/
def lane (u : Fin 2) (e : Fin 64) : Fin 128 := ⟨u.val * 64 + e.val, by omega⟩

/-- The factor of the second map from its four vectors. -/
def lamOf (l : Fin 4 → Fin 64 → EReal) : EReal :=
  Ideal.exp (∑ e, l 0 e * l 1 e) - Ideal.exp (∑ e, l 2 e * l 3 e) + Ideal.ofBits .f32 0x3E4CCCCD#32

/-- A row divided by its root mean square, times the gain and the constant factor. -/
def tailRow (o g : Fin 128 → EReal) (e : Fin 128) : EReal :=
  o e * Ideal.rsqrt (Ideal.div (∑ r, o r * o r) (Ideal.ofBits .f32 0x43000000#32) + Ideal.ofBits .f32 0x3727C5AC#32) * g e
    * Ideal.ofBits .f32 0x3F4CCCCD#32

/-- One query's row of one head: the average of the values under the first map less `lamOf l` times that under the second,
    over the first `t` keys, then `tailRow`. -/
def headRow (q : Fin 128 → ℝ) (K V : ℕ → Fin 128 → ℝ) (t : ℕ) (l : Fin 4 → Fin 64 → EReal) (g : Fin 128 → EReal) : Fin 128 → EReal :=
  tailRow (fun e => (avg (Cert.KernelIdeal.Attn.score K (Cert.KernelIdeal.Attn.half fun _ => q) 0 0) V t e : EReal)
    - lamOf l * (avg (Cert.KernelIdeal.Attn.score K (Cert.KernelIdeal.Attn.half fun _ => q) 1 0) V t e : EReal)) g

/-- The rows of one head of an array, as reals. -/
def rows (x : FVec Ideal ⟨4, ![2, 6, 8192, 128]⟩ .f32) (b : Fin 2) (h : Fin 6) (κ : ℕ) (e : Fin 128) : ℝ :=
  if hκ : κ < 8192 then EReal.toReal (x (ix4 b h ⟨κ, hκ⟩ e)) else 0

/-- The whole result array from the five arguments. -/
def attn (q k v : FVec Ideal ⟨4, ![2, 6, 8192, 128]⟩ .f32) (l : FVec Ideal ⟨2, ![4, 64]⟩ .f32) (g : FVec Ideal ⟨2, ![1, 128]⟩ .f32)
    (b : Fin 2) (n : Fin 8192) (h : Fin 6) (e : Fin 128) : EReal :=
  headRow (rows q b h n.val) (rows k b h) (rows v b h) (n.val + 1) (fun j i => l (ix2 j i)) (fun i => g (ix2 0 i)) e

/-- The same read at an index of the result. -/
def result (q k v : FVec Ideal ⟨4, ![2, 6, 8192, 128]⟩ .f32) (l : FVec Ideal ⟨2, ![4, 64]⟩ .f32) (g : FVec Ideal ⟨2, ![1, 128]⟩ .f32)
    (y : (⟨3, ![2, 8192, 768]⟩ : Shape).Idx) : EReal :=
  attn q k v l g (y 0) (y 1) ⟨(y 2).val / 128, by have := (y 2).isLt; change (y 2).val < 768 at this; omega⟩ ⟨(y 2).val % 128, Nat.mod_lt _ (by decide)⟩

theorem result_at (q k v : FVec Ideal ⟨4, ![2, 6, 8192, 128]⟩ .f32) (l : FVec Ideal ⟨2, ![4, 64]⟩ .f32) (g : FVec Ideal ⟨2, ![1, 128]⟩ .f32)
    (b : Fin 2) (n : Fin 8192) (h : Fin 6) (e : Fin 128) :
    result q k v l g (ix3 b n (⟨128 * h.val + e.val, by omega⟩ : Fin 768)) = attn q k v l g b n h e := by
  unfold result
  show attn q k v l g b n ⟨(128 * h.val + e.val) / 128, _⟩ ⟨(128 * h.val + e.val) % 128, _⟩ = _
  congr 1
  · exact Fin.ext (by show (128 * h.val + e.val) / 128 = h.val; omega)
  · exact Fin.ext (by show (128 * h.val + e.val) % 128 = e.val; omega)

end Cert.Proof.AttnTail

namespace Cert.KernelIdeal.Attn

open Cert.KernelIdeal Cert.KernelIdeal.Gen Idealize.ShloMosaic Idealize.ShloMosaic.TcCoe Idealize.SL.Sem
open Cert.Proof.AttnRow Cert.Proof.AttnTail

/-- The body's factor of the second map, at its one index. -/
theorem pay290_at (l : Vec Ideal S4x64 .f32) :
    k0_pay290 (F := Ideal) l (ix2 0 0) + k0_pay291 (F := Ideal) (ix2 0 0) = lamOf (fun j e => l (ix2 j e)) := by
  unfold lamOf
  unfold_payloads
  pointwise []
  try rfl

/-- The last payload at an index: the row formula of the loaded quantities. -/
theorem pay292_at (a b : FVec Ideal S1x1 .f32) (l0 l1 : Vec Ideal S1x1x1024 .f32) (a0 a1 : Vec Ideal S1x128x1024 .f32) (g : Vec Ideal S1x128 .f32)
    (n : Fin 1024) (e : Fin 128) :
    k0_pay292 (F := Ideal) a b l0 l1 a0 a1 g (ix2 n e)
      = tailRow (fun r => a0 (ix3 0 r n) * Ideal.div 1 (l0 (ix3 0 0 n)) - (a (ix2 0 0) + b (ix2 0 0)) * (a1 (ix3 0 r n) * Ideal.div 1 (l1 (ix3 0 0 n))))
          (fun r => g (ix2 0 r)) e := by
  unfold tailRow
  unfold_payloads
  pointwise []
  exact (mul_assoc _ _ _).symm

end Cert.KernelIdeal.Attn

end
-- ==== Proof.AttnBlock.lean ====
/- The block of the result one grid point leaves. -/
module

public import proofs.«01_k».proof.Proof.AttnTail

@[expose] public section

set_option maxRecDepth 16384

noncomputable section

namespace Cert.KernelIdeal.Attn

open Cert.KernelIdeal Cert.KernelIdeal.Gen Idealize.ShloMosaic Idealize.ShloMosaic.TcCoe Idealize.SL.Sem
open Cert.Proof.AttnRow Cert.Proof.AttnTail

variable {K V : ℕ → Fin 128 → ℝ} {q : Fin 1024 → Fin 128 → ℝ}

variable (c : Dev nD) (i : grid0.Coords) (arg3 : Memref sig .tc .vmem S1x1x1024x128 .f32) (harg3 : arg3.IsWhole) (arg4 : Memref sig .tc .vmem S1x1x8192x128 .bf16) (harg4 : arg4.IsWhole) (arg5 : Memref sig .tc .vmem S1x1x8x144x1024 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2x1024x128 .bf16) (harg9 : arg9.IsWhole) (arg10 : Memref sig .tc .vmem S2x8x1024 .f32) (harg10 : arg10.IsWhole) (arg11 : Memref sig .tc .vmem S2x8x1024 .f32) (harg11 : arg11.IsWhole) (arg12 : Memref sig .tc .vmem S2x128x1024 .f32) (harg12 : arg12.IsWhole) (arg13 : Memref sig .tc .vmem S2x1024x512 .f32) (harg13 : arg13.IsWhole)
  (x0 : Vec Ideal S1x1x1024x128 .f32) (x1 : Vec Ideal S1x1x8192x128 .bf16) (x2 : Vec Ideal S1x1x8x144x1024 .bf16)
include c i arg3 harg3 arg4 harg4 arg5 harg5 arg6 harg6 arg7 harg7 arg8 harg8 arg9 harg9 arg10 harg10 arg11 harg11 arg12 harg12 arg13 harg13 x0 x1 x2

/-- The first map's weighted values over their weights: the average. -/
theorem avg0 (h : Ins K V q x0 x1 x2) (n : Fin 1024) (e : Fin 128) :
    (kernelRun0_A.sl.v284 (F := Ideal) c i arg3 harg3 arg4 harg4 arg5 harg5 arg6 harg6 arg7 harg7 arg8 harg8 arg9 harg9 arg10 harg10 arg11 harg11 arg12 harg12 arg13 harg13 x0 x1 x2) (ix3 0 e n) * Ideal.div 1 ((kernelRun0_A.sl.v276 (F := Ideal) c i arg3 harg3 arg4 harg4 arg5 harg5 arg6 harg6 arg7 harg7 arg8 harg8 arg9 harg9 arg10 harg10 arg11 harg11 arg12 harg12 arg13 harg13 x0 x1 x2) (ix3 0 0 n))
      = (avg (score K (half fun _ => q n) 0 0) V (1024 * (i 2).val + n.val + 1) e : EReal) := by
  obtain ⟨μ, hh⟩ := final0 c i arg3 harg3 arg4 harg4 arg5 harg5 arg6 harg6 arg7 harg7 arg8 harg8 arg9 harg9 arg10 harg10 arg11 harg11 arg12 harg12 arg13 harg13 x0 x1 x2 h n
  exact holds_avg (Nat.succ_pos _) hh e

/-- The same of the second map. -/
theorem avg1 (h : Ins K V q x0 x1 x2) (n : Fin 1024) (e : Fin 128) :
    (kernelRun0_A.sl.v288 (F := Ideal) c i arg3 harg3 arg4 harg4 arg5 harg5 arg6 harg6 arg7 harg7 arg8 harg8 arg9 harg9 arg10 harg10 arg11 harg11 arg12 harg12 arg13 harg13 x0 x1 x2) (ix3 0 e n) * Ideal.div 1 ((kernelRun0_A.sl.v280 (F := Ideal) c i arg3 harg3 arg4 harg4 arg5 harg5 arg6 harg6 arg7 harg7 arg8 harg8 arg9 harg9 arg10 harg10 arg11 harg11 arg12 harg12 arg13 harg13 x0 x1 x2) (ix3 0 0 n))
      = (avg (score K (half fun _ => q n) 1 0) V (1024 * (i 2).val + n.val + 1) e : EReal) := by
  obtain ⟨μ, hh⟩ := final1 c i arg3 harg3 arg4 harg4 arg5 harg5 arg6 harg6 arg7 harg7 arg8 harg8 arg9 harg9 arg10 harg10 arg11 harg11 arg12 harg12 arg13 harg13 x0 x1 x2 h n
  exact holds_avg (Nat.succ_pos _) hh e

variable (x3 : Vec Ideal S4x64 .f32) (x4 : Vec Ideal S1x128 .f32)

/-- What the body computes last, at a query and a lane. -/
theorem last_at (h : Ins K V q x0 x1 x2) (n : Fin 1024) (e : Fin 128) :
    kernelRun0_A.sl.r_21 (F := Ideal) c i arg3 harg3 arg4 harg4 arg5 harg5 arg6 harg6 arg7 harg7 arg8 harg8 arg9 harg9 arg10 harg10 arg11 harg11 arg12 harg12 arg13 harg13 x0 x1 x2 x3 x4 (ix2 n e)
      = headRow (q n) K V (1024 * (i 2).val + n.val + 1) (fun j r => x3 (ix2 j r)) (fun r => x4 (ix2 0 r)) e := by
  have e3 : View.readAt (Elt Ideal) arg6.view (Rect.unit (s := S4x64) ![0, 0] S4x64.size inb_S4x64_S4x64_0_0).toLoadRect (harg6.unread x3) = x3 := by
    funext z
    refine (congrFun (harg6.read_unread x3) _).trans (congrArg x3 (funext fun a => Fin.ext ?_))
    fin_cases a
    · exact (Nat.zero_add _).trans (Nat.one_mul _)
    · exact (Nat.zero_add _).trans (Nat.one_mul _)
  have e4 : View.readAt (Elt Ideal) arg7.view (Rect.unit (s := S1x128) ![0, 0] S1x128.size inb_S1x128_S1x128_0_0).toLoadRect (harg7.unread x4) = x4 := by
    funext z
    refine (congrFun (harg7.read_unread x4) _).trans (congrArg x4 (funext fun a => Fin.ext ?_))
    fin_cases a
    · exact (Nat.zero_add _).trans (Nat.one_mul _)
    · exact (Nat.zero_add _).trans (Nat.one_mul _)
  refine (pay292_at _ _ (kernelRun0_A.sl.v276 (F := Ideal) c i arg3 harg3 arg4 harg4 arg5 harg5 arg6 harg6 arg7 harg7 arg8 harg8 arg9 harg9 arg10 harg10 arg11 harg11 arg12 harg12 arg13 harg13 x0 x1 x2) (kernelRun0_A.sl.v280 (F := Ideal) c i arg3 harg3 arg4 harg4 arg5 harg5 arg6 harg6 arg7 harg7 arg8 harg8 arg9 harg9 arg10 harg10 arg11 harg11 arg12 harg12 arg13 harg13 x0 x1 x2) (kernelRun0_A.sl.v284 (F := Ideal) c i arg3 harg3 arg4 harg4 arg5 harg5 arg6 harg6 arg7 harg7 arg8 harg8 arg9 harg9 arg10 harg10 arg11 harg11 arg12 harg12 arg13 harg13 x0 x1 x2) (kernelRun0_A.sl.v288 (F := Ideal) c i arg3 harg3 arg4 harg4 arg5 harg5 arg6 harg6 arg7 harg7 arg8 harg8 arg9 harg9 arg10 harg10 arg11 harg11 arg12 harg12 arg13 harg13 x0 x1 x2) _ n e).trans ?_
  unfold headRow
  rw [show kernelRun0_A.sl.r_20 (F := Ideal) c arg6 harg6 x3 = k0_pay290 (F := Ideal) x3 from congrArg k0_pay290 e3, pay290_at, e4]
  simp only [avg0 c i arg3 harg3 arg4 harg4 arg5 harg5 arg6 harg6 arg7 harg7 arg8 harg8 arg9 harg9 arg10 harg10 arg11 harg11 arg12 harg12 arg13 harg13 x0 x1 x2 h n, avg1 c i arg3 harg3 arg4 harg4 arg5 harg5 arg6 harg6 arg7 harg7 arg8 harg8 arg9 harg9 arg10 harg10 arg11 harg11 arg12 harg12 arg13 harg13 x0 x1 x2 h n]

/-- The block of the result that a grid point leaves. -/
theorem block_at (h : Ins K V q x0 x1 x2) (n : Fin 1024) (e : Fin 128) :
    out0_A_5 (F := Ideal) c i arg3 harg3 arg4 harg4 arg5 harg5 arg6 harg6 arg7 harg7 arg8 harg8 arg9 harg9 arg10 harg10 arg11 harg11 arg12 harg12 arg13 harg13 x0 x1 x2 x3 x4 (ix3 0 n e)
      = headRow (q n) K V (1024 * (i 2).val + n.val + 1) (fun j r => x3 (ix2 j r)) (fun r => x4 (ix2 0 r)) e := by
  refine Eq.trans ?_ (last_at c i arg3 harg3 arg4 harg4 arg5 harg5 arg6 harg6 arg7 harg7 arg8 harg8 arg9 harg9 arg10 harg10 arg11 harg11 arg12 harg12 arg13 harg13 x0 x1 x2 x3 x4 h n e)
  unfold out0_A_5
  refine (View.read_writes_cons_unit_of_mem VO0_5 (Val := Elt Ideal) (off' := ![0, 0, 0]) _ _ _ _ (ix3 0 n e) (ix3 0 n e) rfl (fun a => ?_)).trans ?_
  · fin_cases a
    · rfl
    · show n.val = 0 + n.val; omega
    · show e.val = 0 + e.val; omega
  · unfold k0_pay1
    pointwise []

end Cert.KernelIdeal.Attn

end
-- ==== Proof.AttnValue.lean ====
/- The attention kernel's result array, as the row formula of its arguments. -/
module

public import proofs.«01_k».proof.Proof.AttnBlock
public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Cert.Proof.AttnRow Cert.Proof.AttnTail

variable (m : (ℓ : Loc nD τ sig) → Buf (Elt Ideal) ℓ) (c : Dev nD)

abbrev qK : FVec Ideal S2x6x8192x128 .f32 := m ((c : Thread nD τ).loc main_arg0)
abbrev kK : FVec Ideal S2x6x8192x128 .f32 := m ((c : Thread nD τ).loc main_arg1)
abbrev vK : FVec Ideal S2x6x8192x128 .f32 := m ((c : Thread nD τ).loc main_arg2)
abbrev lK : FVec Ideal S4x64 .f32 := m ((c : Thread nD τ).loc main_arg3)
abbrev gK : FVec Ideal S1x128 .f32 := m ((c : Thread nD τ).loc main_arg4)

/-- The values as the kernel takes them: transposed in blocks of 1024, with rows of ones under them. -/
def valT (v : FVec Ideal S2x6x8192x128 .f32) : FVec Ideal S2x6x8x144x1024 .bf16 :=
  concatenate S2x6x8x144x1024 3
    [⟨S2x6x8x128x1024, truncf (F := Ideal) (φ := .f32) .bf16 (transpose S2x6x8x128x1024 [0, 1, 2, 4, 3] (shapeCast S2x6x8x1024x128 v shapeCasts_S2x6x8192x128_S2x6x8x1024x128) transposes_S2x6x8x1024x128_S2x6x8x128x1024_0_1_2_4_3) bitsLt_bf16_f32⟩,
      ⟨S2x6x8x16x1024, broadcastInDim S2x6x8x16x1024 ![] bcast_S_S2x6x8x16x1024 (constant (F := Ideal) S_ .bf16 0x3F80#16)⟩]
    concatenates_S2x6x8x128x1024_S2x6x8x16x1024_S2x6x8x144x1024_d3

theorem V_v0 : V m c main_v0 = (truncf (F := Ideal) (s := S2x6x8192x128) (φ := .f32) .bf16 (kK m c) bitsLt_bf16_f32) := by
  unfold V; after_results
theorem V_v5 : V m c main_v5 = valT (vK m c) := by
  unfold V; after_results; rfl

theorem valT_val (v : FVec Ideal S2x6x8192x128 .f32) (b : Fin 2) (h : Fin 6) (j : Fin 8) (e : Fin 128) (r : Fin 1024) :
    valT v (ix5 b h j (⟨e.val, by omega⟩ : Fin 144) r) = v (ix4 b h ⟨j.val * 1024 + r.val, by omega⟩ e) := by
  unfold valT
  pointwise []

theorem valT_one (v : FVec Ideal S2x6x8192x128 .f32) (b : Fin 2) (h : Fin 6) (j : Fin 8) (r : Fin 1024) :
    valT v (ix5 b h j (128 : Fin 144) r) = 1 := by
  unfold valT
  pointwise []

/-- Where each window stands at a grid point. -/
theorem e0 : ∀ t : Fin cfg0.N, win0_0.index t = ![t.val / 48, t.val / 8 % 6, t.val % 8, 0] := (by decide +kernel : ∀ t : Fin grid0.N, _)
theorem e1 : ∀ t : Fin cfg0.N, win0_1.index t = ![t.val / 48, t.val / 8 % 6, 0, 0] := (by decide +kernel : ∀ t : Fin grid0.N, _)
theorem e2 : ∀ t : Fin cfg0.N, win0_2.index t = ![t.val / 48, t.val / 8 % 6, 0, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 48, t.val % 8, t.val / 8 % 6] := (by decide +kernel : ∀ t : Fin grid0.N, _)
theorem pos : ∀ t : Fin cfg0.N, (grid0.coords t 2).val = t.val % 8 := (by decide +kernel : ∀ t : Fin grid0.N, _)

/-- An entry that is real is its real part. -/
theorem real_at {x : FVec Ideal S2x6x8192x128 .f32} (h : ∀ i, ∃ r : ℝ, x i = (r : EReal)) (b : Fin 2) (hd : Fin 6) (κ : Fin 8192) (e : Fin 128) :
    x (ix4 b hd κ e) = (rows x b hd κ.val e : EReal) := by
  obtain ⟨r, hr⟩ := h (ix4 b hd κ e)
  unfold rows
  rw [dif_pos κ.isLt]
  show x (ix4 b hd κ e) = ((EReal.toReal (x (ix4 b hd κ e)) : ℝ) : EReal)
  rw [hr, EReal.toReal_coe]

/-- What the blocks hold at a grid point, as reals. -/
theorem ins (hq : ∀ i, ∃ r : ℝ, qK m c i = (r : EReal)) (hk : ∀ i, ∃ r : ℝ, kK m c i = (r : EReal)) (hv : ∀ i, ∃ r : ℝ, vK m c i = (r : EReal))
    (t : Fin cfg0.N) (b : Fin 2) (hd : Fin 6) (hb : b.val = t.val / 48) (hh : hd.val = t.val / 8 % 6) :
    Ins (rows (kK m c) b hd) (rows (vK m c) b hd) (fun n => rows (qK m c) b hd (1024 * (grid0.coords t 2).val + n.val))
      (iblk m c 0 t) (iblk m c 1 t) (iblk m c 2 t) where
  qry n e := by
    have ht := pos t
    have hn : 1024 * (grid0.coords t 2).val + n.val < 8192 := by omega
    refine Eq.trans ?_ (real_at hq b hd ⟨_, hn⟩ e)
    show _ = qK m c _
    rw [show qK m c = V m c main_arg0 from (V_main_arg0 m c).symm]
    blk_ext [iblk, e0]
  key κ e := by
    refine Eq.trans ?_ (real_at hk b hd κ e)
    refine Eq.trans ?_ (congrFun (V_v0 m c) (ix4 b hd κ e))
    blk_ext [iblk, e1]
  val j e r := by
    refine Eq.trans ?_ (Eq.trans (valT_val (vK m c) b hd j e r) ((real_at hv b hd _ e).trans ?_))
    · refine Eq.trans ?_ (congrFun (V_v5 m c) _)
      blk_ext [iblk, e2]
    · exact congrArg (fun i => ((rows (vK m c) b hd i e : ℝ) : EReal)) (by show j.val * 1024 + r.val = 1024 * j.val + r.val; omega)
  one j r := by
    refine Eq.trans ?_ (valT_one (vK m c) b hd j r)
    refine Eq.trans ?_ (congrFun (V_v5 m c) _)
    blk_ext [iblk, e2]

/-- The result array after the run. -/
theorem final (hq : ∀ i, ∃ r : ℝ, qK m c i = (r : EReal)) (hk : ∀ i, ∃ r : ℝ, kK m c i = (r : EReal)) (hv : ∀ i, ∃ r : ℝ, vK m c i = (r : EReal)) :
    (dats m 0 c).arrAt 5 cfg0.N = result (qK m c) (kK m c) (vK m c) (lK m c) (gK m c) := by
  refine (dats m 0 c).arrAt_eq_of_covers 5 _ (by decide +kernel) fun t hf y => ?_
  blk_simp
  rw [after0_5]
  have ht : t.val < 96 := lt_of_lt_of_eq t.isLt N_0
  obtain ⟨n, e, rfl⟩ : ∃ (n : Fin 1024) (e : Fin 128), y = ix3 0 n e := ⟨y 1, y 2, by
    refine (eq_ix3 y).trans ?_
    congr 1
    exact Fin.ext (by have := (y 0).isLt; change (y 0).val < 1 at this; show (y 0).val = 0; omega)⟩
  have hp := pos t
  have h3 : ∀ (j : Fin 4) (r : Fin 64), iblk m c 3 t (ix2 j r) = lK m c (ix2 j r) := by
    intro j r
    rw [show lK m c = V m c main_arg3 from (V_main_arg3 m c).symm]
    blk_ext [iblk, e3]
  have h4 : ∀ (r : Fin 128), iblk m c 4 t (ix2 0 r) = gK m c (ix2 0 r) := by
    intro r
    rw [show gK m c = V m c main_arg4 from (V_main_arg4 m c).symm]
    blk_ext [iblk, e4]
  unfold outsAt0
  refine (block_at _ _ _ _ _ _ _ _ _ _ _ _ _ _ _ _ _ _ _ _ _ _ _ _ _ _ _ _ _ (ins m c hq hk hv t ⟨t.val / 48, by omega⟩ ⟨t.val / 8 % 6, by omega⟩ rfl rfl) n e).trans ?_
  have hi : ((win0_5.blk t).view.emb (ix3 0 n e) : S2x8192x768.Idx)
      = ix3 (⟨t.val / 48, by omega⟩ : Fin 2) (⟨t.val % 8 * 1024 + n.val, by omega⟩ : Fin 8192) (⟨128 * (⟨t.val / 8 % 6, by omega⟩ : Fin 6).val + e.val, by show 128 * (t.val / 8 % 6) + e.val < 768; omega⟩ : Fin 768) := by
    blk_ext [e5]
  refine Eq.trans ?_ ((result_at (qK m c) (kK m c) (vK m c) (lK m c) (gK m c) ⟨t.val / 48, by omega⟩ ⟨t.val % 8 * 1024 + n.val, by omega⟩ ⟨t.val / 8 % 6, by omega⟩ e).symm.trans
    (congrArg (result (qK m c) (kK m c) (vK m c) (lK m c) (gK m c)) hi.symm))
  unfold attn
  simp only [h3, h4]
  rw [hp, show 1024 * (t.val % 8) + n.val = t.val % 8 * 1024 + n.val by omega]

end Cert.KernelIdeal.Attn

end
-- ==== Proof.AttnReference.lean ====
/- The plain attention's result array, read at an index. -/
module

public import proofs.«01_k».proof.Proof.AttnTail
public import proofs.«01_k».proof.Proof.Gen.ReferenceIdeal.Run
public import Idealize.ShloMosaic.Lib.Pointwise
public import Idealize.ShloMosaic.Lib.Tactic.CleanTypes
public import Idealize.ShloMosaic.Lib.WordCmp

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Cert.Proof.AttnRow Cert.ReferenceIdeal.Value Cert.Proof.AttnTail

/-- The masked scores. -/
def scores (q k : FVec Ideal S2x6x8192x128 .f32) : FVec Ideal S2x6x2x8192x8192 .f32 :=
  (select (broadcastInDim S2x6x2x8192x8192 ![3, 4] bcast_S8192x8192_S2x6x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (Host.dotGeneral dot_S2x6x8192x2x64_S2x6x8192x2x64_S2x6x2x8192x8192_4_4_2_2_013_013 none (shapeCast _ q shapeCasts_S2x6x8192x128_S2x6x8192x2x64) (shapeCast _ k shapeCasts_S2x6x8192x128_S2x6x8192x2x64)) (broadcastInDim S2x6x2x8192x8192 ![] bcast_S_S2x6x2x8192x8192 (constant S_ .f32 0x3E000000#32))) (broadcastInDim S2x6x2x8192x8192 ![] bcast_S_S2x6x2x8192x8192 (id (constant S_ .f32 0xFF800000#32))))

/-- The largest score of each query. -/
def top (s : FVec Ideal S2x6x2x8192x8192 .f32) : FVec Ideal S2x6x2x8192 .f32 :=
  (maximumf (broadcastInDim S2x6x2x8192 ![] bcast_S_S2x6x2x8192 (constant S_ .f32 0xFF800000#32)) (Host.reduce FloatOps.maximumf s (constant S_ .f32 0xFF800000#32) reducesTo_S2x6x2x8192x8192_S2x6x2x8192_d4 h_S_))

/-- The exponentials of the scores under their largest. -/
def expo (s : FVec Ideal S2x6x2x8192x8192 .f32) (M : FVec Ideal S2x6x2x8192 .f32) : FVec Ideal S2x6x2x8192x8192 .f32 :=
  (Host.exp (subf s (broadcastInDim S2x6x2x8192x8192 ![0, 1, 2, 3, 4] bcast_S2x6x2x8192x1_S2x6x2x8192x8192_0_1_2_3_4 (broadcastInDim S2x6x2x8192x1 ![0, 1, 2, 3] bcast_S2x6x2x8192_S2x6x2x8192x1_0_1_2_3 M))))

/-- The softmax's weights from the exponentials. -/
def prob (x : FVec Ideal S2x6x2x8192x8192 .f32) : FVec Ideal S2x6x2x8192x8192 .f32 :=
  (Host.divf x (broadcastInDim S2x6x2x8192x8192 ![0, 1, 2, 3, 4] bcast_S2x6x2x8192x1_S2x6x2x8192x8192_0_1_2_3_4 (broadcastInDim S2x6x2x8192x1 ![0, 1, 2, 3] bcast_S2x6x2x8192_S2x6x2x8192x1_0_1_2_3 (Host.reduceAdd x (constant S_ .f32 0x00000000#32) reducesTo_S2x6x2x8192x8192_S2x6x2x8192_d4 h_S_))))

/-- The factor of the second map. -/
def lamArr (l : FVec Ideal S4x64 .f32) : FVec Ideal S_ .f32 :=
  (addf (subf (Host.exp (Host.reduceAdd (mulf (shapeCast _ (extractStridedSlice S1x64 ![0, 0] l slices_S4x64_S1x64_0_0) shapeCasts_S1x64_S64) (shapeCast _ (extractStridedSlice S1x64 ![1, 0] l slices_S4x64_S1x64_1_0) shapeCasts_S1x64_S64)) (constant S_ .f32 0x00000000#32) reducesTo_S64_S_d0 h_S_)) (Host.exp (Host.reduceAdd (mulf (shapeCast _ (extractStridedSlice S1x64 ![2, 0] l slices_S4x64_S1x64_2_0) shapeCasts_S1x64_S64) (shapeCast _ (extractStridedSlice S1x64 ![3, 0] l slices_S4x64_S1x64_3_0) shapeCasts_S1x64_S64)) (constant S_ .f32 0x00000000#32) reducesTo_S64_S_d0 h_S_))) (constant S_ .f32 0x3E4CCCCD#32))

/-- The values under the difference of the two maps. -/
def outs (v : FVec Ideal S2x6x8192x128 .f32) (p : FVec Ideal S2x6x2x8192x8192 .f32) (l : FVec Ideal S_ .f32) : FVec Ideal S2x8192x6x128 .f32 :=
  (transpose S2x8192x6x128 [0, 3, 1, 2] (Host.dotGeneral dot_S2x6x8192x128_S2x6x8192x8192_S2x6x128x8192_2_3_3_2_01_01 none v (subf (shapeCast _ (extractStridedSlice S2x6x1x8192x8192 ![0, 0, 0, 0, 0] p slices_S2x6x2x8192x8192_S2x6x1x8192x8192_0_0_0_0_0) shapeCasts_S2x6x1x8192x8192_S2x6x8192x8192) (mulf (broadcastInDim S2x6x8192x8192 ![] bcast_S_S2x6x8192x8192 l) (shapeCast _ (extractStridedSlice S2x6x1x8192x8192 ![0, 0, 1, 0, 0] p slices_S2x6x2x8192x8192_S2x6x1x8192x8192_0_0_1_0_0) shapeCasts_S2x6x1x8192x8192_S2x6x8192x8192)))) transposes_S2x6x128x8192_S2x8192x6x128_0_3_1_2)

/-- The normalised result. -/
def normed (o : FVec Ideal S2x8192x6x128 .f32) (g : FVec Ideal S1x128 .f32) : FVec Ideal S2x8192x768 .bf16 :=
  truncf .bf16 (shapeCast _ (mulf (mulf (mulf o (broadcastInDim S2x8192x6x128 ![0, 1, 2, 3] bcast_S2x8192x6x1_S2x8192x6x128_0_1_2_3 (Host.rsqrt (addf (Host.divf (broadcastInDim S2x8192x6x1 ![0, 1, 2] bcast_S2x8192x6_S2x8192x6x1_0_1_2 (Host.reduceAdd (mulf o o) (constant S_ .f32 0x00000000#32) reducesTo_S2x8192x6x128_S2x8192x6_d3 h_S_)) (broadcastInDim S2x8192x6x1 ![] bcast_S_S2x8192x6x1 (constant S_ .f32 0x43000000#32))) (broadcastInDim S2x8192x6x1 ![] bcast_S_S2x8192x6x1 (constant S_ .f32 0x3727C5AC#32)))))) (broadcastInDim S2x8192x6x128 ![0, 1, 2, 3] bcast_S1x1x1x128_S2x8192x6x128_0_1_2_3 (broadcastInDim S1x1x1x128 ![3] bcast_S128_S1x1x1x128_3 (shapeCast _ g shapeCasts_S1x128_S128)))) (broadcastInDim S2x8192x6x128 ![] bcast_S_S2x8192x6x128 (constant S_ .f32 0x3F4CCCCD#32))) shapeCasts_S2x8192x6x128_S2x8192x768) bitsLt_bf16_f32

variable (m : (ℓ : Loc nD τ sig) → Buf (Elt Ideal) ℓ) (c : Dev nD)

abbrev qA : FVec Ideal S2x6x8192x128 .f32 := m ((c.tc : Thread nD τ).loc main_arg0)
abbrev kA : FVec Ideal S2x6x8192x128 .f32 := m ((c.tc : Thread nD τ).loc main_arg1)
abbrev vA : FVec Ideal S2x6x8192x128 .f32 := m ((c.tc : Thread nD τ).loc main_arg2)
abbrev lA : FVec Ideal S4x64 .f32 := m ((c.tc : Thread nD τ).loc main_arg3)
abbrev gA : FVec Ideal S1x128 .f32 := m ((c.tc : Thread nD τ).loc main_arg4)

/-- The printed result is those stages one after the other. -/
theorem result_stages : res_main_v65 (F := Ideal) m c
    = normed (outs (vA m c) (prob (expo (scores (qA m c) (kA m c)) (top (scores (qA m c) (kA m c))))) (lamArr (lA m c))) (gA m c) := rfl

theorem scores_at (q k : FVec Ideal S2x6x8192x128 .f32) (b : Fin 2) (h : Fin 6) (u : Fin 2) (n κ : Fin 8192) :
    scores q k (ix5 b h u n κ)
      = if κ.val ≤ n.val then (∑ e : Fin 64, q (ix4 b h n (lane u e)) * k (ix4 b h κ (lane u e))) * Ideal.ofBits .f32 0x3E000000#32
        else Ideal.ofBits .f32 0xFF800000#32 := by
  unfold scores
  pointwise []
  rw [Cert.KernelIdeal.Attn.select_sle (by omega) (by omega)]
  rfl

/-- The largest entry along the last of five axes. -/
theorem hostMax_at {n0 n1 n2 n3 n4 : ℕ} {u : Shape} (x : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel) (a : Fin n0) (b : Fin n1) (c : Fin n2) (d : Fin n3) :
    Host.reduce FloatOps.maximumf x init h hu (ix4 a b c d)
      = Finset.univ.fold max (init (Shape.Idx.first hu)) fun κ : Fin n4 => x (ix5 a b c d κ) := by
  rw [Host.reduce_eq_fold, Shape.ReducesTo.fold_fiber_r5_a4]
  rfl

theorem max_at {s : Shape} (a b : FVec Ideal s .f32) (i : s.Idx) : maximumf a b i = max (a i) (b i) := rfl

theorem word_at {t : Shape} (w : BitVec 32) (h : S_.BroadcastsInDim t (![] : Fin 0 → Fin t.rank)) (i : t.Idx) :
    broadcastInDim t ![] h (constant (F := Ideal) S_ .f32 w) i = Ideal.ofBits .f32 w := rfl

theorem top_at (s : FVec Ideal S2x6x2x8192x8192 .f32) (b : Fin 2) (h : Fin 6) (u : Fin 2) (n : Fin 8192) :
    top s (ix4 b h u n)
      = max (Ideal.ofBits .f32 0xFF800000#32) (Finset.univ.fold max (constant (F := Ideal) S_ .f32 0xFF800000#32 (Shape.Idx.first h_S_)) fun κ : Fin 8192 => s (ix5 b h u n κ)) := by
  unfold top
  rw [max_at, word_at, hostMax_at]

theorem expo_at (s : FVec Ideal S2x6x2x8192x8192 .f32) (M : FVec Ideal S2x6x2x8192 .f32) (b : Fin 2) (h : Fin 6) (u : Fin 2) (n κ : Fin 8192) :
    expo s M (ix5 b h u n κ) = Ideal.exp (s (ix5 b h u n κ) - M (ix4 b h u n)) := by
  unfold expo
  pointwise []
  try rfl

theorem prob_at (x : FVec Ideal S2x6x2x8192x8192 .f32) (b : Fin 2) (h : Fin 6) (u : Fin 2) (n κ : Fin 8192) :
    prob x (ix5 b h u n κ) = Ideal.div (x (ix5 b h u n κ)) (∑ r : Fin 8192, x (ix5 b h u n r)) := by
  unfold prob
  pointwise []
  try rfl

theorem lam_at (l : FVec Ideal S4x64 .f32) : lamArr l ix0 = lamOf (fun j e => l (ix2 j e)) := by
  unfold lamArr lamOf
  pointwise []
  try rfl

theorem outs_at (v : FVec Ideal S2x6x8192x128 .f32) (p : FVec Ideal S2x6x2x8192x8192 .f32) (l : FVec Ideal S_ .f32) (b : Fin 2) (n : Fin 8192) (h : Fin 6) (e : Fin 128) :
    outs v p l (ix4 b n h e) = ∑ κ : Fin 8192, v (ix4 b h κ e) * (p (ix5 b h 0 n κ) - l ix0 * p (ix5 b h 1 n κ)) := by
  unfold outs
  pointwise []
  try rfl

theorem normed_at (o : FVec Ideal S2x8192x6x128 .f32) (g : FVec Ideal S1x128 .f32) (b : Fin 2) (n : Fin 8192) (h : Fin 6) (e : Fin 128) :
    normed o g (ix3 b n ⟨128 * h.val + e.val, by omega⟩) = tailRow (fun e => o (ix4 b n h e)) (fun e => g (ix2 0 e)) e := by
  unfold normed tailRow
  pointwise []
  try rfl

end Cert.ReferenceIdeal.Attn

end
-- ==== Proof.AttnSoftmax.lean ====
/- The softmax over the keys up to a query, as an average over those keys. -/
module

public import proofs.«01_k».proof.Proof.AttnTail

@[expose] public section

set_option maxRecDepth 16384

noncomputable section

namespace Cert.Proof.AttnSoftmax

open Idealize.ShloMosaic Cert.Proof.AttnRow Cert.Proof.AttnTail Cert.KernelIdeal.Attn

theorem eighth : Ideal.ofBits .f32 0x3E000000#32 = ((1 / 8 : ℝ) : EReal) := by
  simp [Ideal.ofBits, Ideal.ieee, -EReal.coe_mul]; norm_num

theorem fifth : ∃ r : ℝ, Ideal.ofBits .f32 0x3E4CCCCD#32 = (r : EReal) := by
  simp [Ideal.ofBits, Ideal.ieee, -EReal.coe_mul]

/-- The factor of the second map is real where its vectors are. -/
theorem lam_real (l : Fin 4 → Fin 64 → EReal) (x : Fin 4 → Fin 64 → ℝ) (h : ∀ j e, l j e = (x j e : EReal)) :
    ∃ r : ℝ, lamOf l = (r : EReal) := by
  obtain ⟨f, hf⟩ := fifth
  refine ⟨Real.exp (∑ e, x 0 e * x 1 e) - Real.exp (∑ e, x 2 e * x 3 e) + f, ?_⟩
  unfold lamOf
  simp only [h, hf, ← EReal.coe_mul, ← coe_sum, Ideal.exp_coe, ← EReal.coe_sub, ← EReal.coe_add]

/-- The power of two of a scaled score is the exponential of the product over the map's 64 lanes times 1/8. -/
theorem two_pow_score (q : Fin 128 → ℝ) (K : ℕ → Fin 128 → ℝ) (u : Fin 2) (κ : ℕ) :
    (2 : ℝ) ^ score K (half fun _ => q) u 0 κ = Real.exp ((∑ e : Fin 64, q (lane u e) * K κ (lane u e)) * (1 / 8)) := by
  have key : score K (half fun _ => q) u 0 κ = (∑ e : Fin 64, q (lane u e) * K κ (lane u e)) * (1 / 8) * (Real.log 2)⁻¹ := by
    unfold score
    rw [show (∑ e : Fin 128, K κ e * half (fun _ => q) u 0 e) = ∑ e : Fin (64 + 64), K κ e * half (fun _ => q) u 0 e from rfl,
      Fin.sum_univ_add, Finset.sum_mul, Finset.sum_mul]
    obtain rfl | rfl : u = 0 ∨ u = 1 := by fin_cases u <;> simp
    · rw [show ∑ i : Fin 64, K κ (Fin.natAdd 64 i) * half (fun _ => q) 0 0 (Fin.natAdd 64 i) = 0 from
        Finset.sum_eq_zero fun i _ => by
          have : ¬ ((Fin.natAdd 64 i : Fin 128).val < 64 ↔ (0 : Fin 2) = 0) := by simp
          unfold half; rw [if_neg this, mul_zero]]
      rw [add_zero]
      refine Finset.sum_congr rfl fun i _ => ?_
      have : ((Fin.castAdd 64 i : Fin 128).val < 64 ↔ (0 : Fin 2) = 0) := by simp
      have e : (Fin.castAdd 64 i : Fin 128) = lane 0 i := Fin.ext (by show i.val = 0 * 64 + i.val; omega)
      show K κ (Fin.castAdd 64 i) * half (fun _ => q) 0 0 (Fin.castAdd 64 i) = q (lane 0 i) * K κ (lane 0 i) * (1 / 8) * (Real.log 2)⁻¹
      unfold half; rw [if_pos this, e]; ring
    · rw [show ∑ i : Fin 64, K κ (Fin.castAdd 64 i) * half (fun _ => q) 1 0 (Fin.castAdd 64 i) = 0 from
        Finset.sum_eq_zero fun i _ => by
          have : ¬ ((Fin.castAdd 64 i : Fin 128).val < 64 ↔ (1 : Fin 2) = 0) := by simp
          unfold half; rw [if_neg this, mul_zero]]
      rw [zero_add]
      refine Finset.sum_congr rfl fun i _ => ?_
      have : ((Fin.natAdd 64 i : Fin 128).val < 64 ↔ (1 : Fin 2) = 0) := by simp
      have e : (Fin.natAdd 64 i : Fin 128) = lane 1 i := Fin.ext (by show 64 + i.val = 1 * 64 + i.val; omega)
      show K κ (Fin.natAdd 64 i) * half (fun _ => q) 1 0 (Fin.natAdd 64 i) = q (lane 1 i) * K κ (lane 1 i) * (1 / 8) * (Real.log 2)⁻¹
      unfold half; rw [if_pos this, e]; ring
  rw [key, Real.rpow_def_of_pos two_pos]
  congr 1
  have : Real.log 2 ≠ 0 := (Real.log_pos one_lt_two).ne'
  field_simp

/-- The softmax of scores masked past key `n`: real weights, under which the values sum to the average over the first `n + 1`
    keys weighted by the exponentials. -/
theorem softmax_avg {N : ℕ} (n : Fin N) (s p : Fin N → EReal) (x S : ℕ → ℝ) (V : ℕ → Fin 128 → ℝ)
    (hs : ∀ κ : Fin N, s κ = if κ.val ≤ n.val then (x κ.val : EReal) else ⊥)
    (hp : ∀ κ, p κ = Ideal.div (Ideal.exp (s κ - max ⊥ (Finset.univ.fold max ⊥ s))) (∑ r, Ideal.exp (s r - max ⊥ (Finset.univ.fold max ⊥ s))))
    (hS : ∀ κ, (2 : ℝ) ^ S κ = Real.exp (x κ)) :
    ∃ w : Fin N → ℝ, (∀ κ, p κ = (w κ : EReal)) ∧ ∀ e, ∑ κ : Fin N, V κ.val e * w κ = avg S V (n.val + 1) e := by
  obtain ⟨y, hy⟩ : ∃ y : ℝ, Finset.univ.fold max ⊥ s = (y : EReal) :=
    fold_max_real s (fun r => by rw [hs]; split <;> simp) ⊥ (by simp) (Or.inr ⟨n, by rw [hs, if_pos le_rfl]; simp⟩)
  have hm : max (⊥ : EReal) (Finset.univ.fold max ⊥ s) = (y : EReal) := by rw [hy]; exact max_eq_right bot_le
  rw [hm] at hp
  have he : ∀ κ : Fin N, Ideal.exp (s κ - (y : EReal)) = ((if κ.val < n.val + 1 then Real.exp (x (0 + κ.val) - y) else 0 : ℝ) : EReal) := by
    intro κ
    rw [hs, Nat.zero_add]
    by_cases h : κ.val ≤ n.val
    · rw [if_pos h, if_pos (Nat.lt_succ_of_le h), ← EReal.coe_sub, Ideal.exp_coe]
    · rw [if_neg h, if_neg (by omega), EReal.bot_sub]; simp
  simp only [he] at hp
  have hD : ∑ r : Fin N, (if r.val < n.val + 1 then Real.exp (x (0 + r.val) - y) else 0) = ∑ i ∈ Finset.range (n.val + 1), Real.exp (x (0 + i) - y) :=
    sum_block 0 (n.val + 1) n.isLt fun i => Real.exp (x i - y)
  have hpos : 0 < ∑ i ∈ Finset.range (n.val + 1), Real.exp (x (0 + i) - y) :=
    Finset.sum_pos (fun i _ => Real.exp_pos _) ⟨0, Finset.mem_range.mpr (Nat.succ_pos _)⟩
  refine ⟨fun κ => (if κ.val < n.val + 1 then Real.exp (x (0 + κ.val) - y) else 0) * (1 / ∑ i ∈ Finset.range (n.val + 1), Real.exp (x (0 + i) - y)), fun κ => ?_, fun e => ?_⟩
  · rw [hp, ← coe_sum, hD, Ideal.div_coe hpos.ne', ← EReal.coe_mul]
  · have h1 : ∑ κ : Fin N, V κ.val e * ((if κ.val < n.val + 1 then Real.exp (x (0 + κ.val) - y) else 0) * (1 / ∑ i ∈ Finset.range (n.val + 1), Real.exp (x (0 + i) - y)))
        = (∑ i ∈ Finset.range (n.val + 1), V (0 + i) e * Real.exp (x (0 + i) - y)) * (1 / ∑ i ∈ Finset.range (n.val + 1), Real.exp (x (0 + i) - y)) := by
      rw [← sum_block 0 (n.val + 1) n.isLt fun i => V i e * Real.exp (x i - y), Finset.sum_mul]
      refine Finset.sum_congr rfl fun κ _ => ?_
      rw [Nat.zero_add]
      split <;> ring
    rw [h1]
    unfold avg
    have h2 : ∀ i, (2 : ℝ) ^ S i = Real.exp y * Real.exp (x (0 + i) - y) := fun i => by
      rw [hS, ← Real.exp_add, Nat.zero_add]; congr 1; ring
    have h3 : ∑ κ ∈ Finset.range (n.val + 1), (2 : ℝ) ^ S κ * V κ e = Real.exp y * ∑ i ∈ Finset.range (n.val + 1), V (0 + i) e * Real.exp (x (0 + i) - y) := by
      rw [Finset.mul_sum]
      refine Finset.sum_congr rfl fun i _ => ?_
      rw [h2, Nat.zero_add]; ring
    have h4 : ∑ κ ∈ Finset.range (n.val + 1), (2 : ℝ) ^ S κ = Real.exp y * ∑ i ∈ Finset.range (n.val + 1), Real.exp (x (0 + i) - y) := by
      rw [Finset.mul_sum]
      exact Finset.sum_congr rfl fun i _ => h2 i
    rw [h3, h4, mul_div_mul_left _ _ (Real.exp_pos y).ne', mul_one_div]

/-- The values under the difference of two softmaxes, against the difference of the averages. -/
theorem diff_avg {N : ℕ} (V : ℕ → Fin 128 → ℝ) (e : Fin 128) (v p0 p1 : Fin N → EReal) (w0 w1 : Fin N → ℝ) (lam : EReal) (r : ℝ) (a0 a1 : ℝ)
    (hv : ∀ κ, v κ = (V κ.val e : EReal)) (h0 : ∀ κ, p0 κ = (w0 κ : EReal)) (h1 : ∀ κ, p1 κ = (w1 κ : EReal)) (hl : lam = (r : EReal))
    (s0 : ∑ κ : Fin N, V κ.val e * w0 κ = a0) (s1 : ∑ κ : Fin N, V κ.val e * w1 κ = a1) :
    ∑ κ, v κ * (p0 κ - lam * p1 κ) = (a0 : EReal) - lam * (a1 : EReal) := by
  subst s0 s1
  simp only [hv, h0, h1, hl, ← EReal.coe_mul, ← EReal.coe_sub, ← coe_sum]
  congr 1
  rw [Finset.mul_sum, ← Finset.sum_sub_distrib]
  exact Finset.sum_congr rfl fun κ _ => by ring

end Cert.Proof.AttnSoftmax

end
-- ==== Proof.AttnEqual.lean ====
/- The plain attention's result array, as the row formula of its arguments. -/
module

public import proofs.«01_k».proof.Proof.AttnReference
public import proofs.«01_k».proof.Proof.AttnSoftmax

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Cert.Proof.AttnRow Cert.ReferenceIdeal.Value Cert.Proof.AttnTail Cert.Proof.AttnSoftmax

/-- An entry that is real is its real part. -/
theorem real_at {x : FVec Ideal S2x6x8192x128 .f32} (h : ∀ i, ∃ r : ℝ, x i = (r : EReal)) (b : Fin 2) (hd : Fin 6) (κ : Fin 8192) (e : Fin 128) :
    x (ix4 b hd κ e) = (rows x b hd κ.val e : EReal) := by
  obtain ⟨r, hr⟩ := h (ix4 b hd κ e)
  unfold rows
  rw [dif_pos κ.isLt]
  show x (ix4 b hd κ e) = ((EReal.toReal (x (ix4 b hd κ e)) : ℝ) : EReal)
  rw [hr, EReal.toReal_coe]

/-- The product of a query and a key over the 64 lanes of a map, times 1/8. -/
def prodS (q k : FVec Ideal S2x6x8192x128 .f32) (b : Fin 2) (hd : Fin 6) (u : Fin 2) (n : Fin 8192) (κ : ℕ) : ℝ :=
  (∑ e : Fin 64, rows q b hd n.val (lane u e) * rows k b hd κ (lane u e)) * (1 / 8)

theorem scores_real {q k : FVec Ideal S2x6x8192x128 .f32} (hq : ∀ i, ∃ r : ℝ, q i = (r : EReal)) (hk : ∀ i, ∃ r : ℝ, k i = (r : EReal))
    (b : Fin 2) (hd : Fin 6) (u : Fin 2) (n κ : Fin 8192) :
    scores q k (ix5 b hd u n κ) = if κ.val ≤ n.val then (prodS q k b hd u n κ.val : EReal) else ⊥ := by
  rw [scores_at, eighth, Cert.KernelIdeal.Attn.negInf]
  simp only [real_at hq, real_at hk, ← EReal.coe_mul, ← coe_sum]
  rfl

/-- The weights of one map at a query: real, and the average under them. -/
theorem prob_avg {q k : FVec Ideal S2x6x8192x128 .f32} (hq : ∀ i, ∃ r : ℝ, q i = (r : EReal)) (hk : ∀ i, ∃ r : ℝ, k i = (r : EReal))
    (V : ℕ → Fin 128 → ℝ) (b : Fin 2) (hd : Fin 6) (u : Fin 2) (n : Fin 8192) :
    ∃ w : Fin 8192 → ℝ, (∀ κ, prob (expo (scores q k) (top (scores q k))) (ix5 b hd u n κ) = (w κ : EReal))
      ∧ ∀ e, ∑ κ : Fin 8192, V κ.val e * w κ
        = avg (Cert.KernelIdeal.Attn.score (rows k b hd) (Cert.KernelIdeal.Attn.half fun _ => rows q b hd n.val) u 0) V (n.val + 1) e := by
  refine softmax_avg n (fun κ => scores q k (ix5 b hd u n κ)) _ (prodS q k b hd u n) _ V (fun κ => scores_real hq hk b hd u n κ) (fun κ => ?_)
    (fun κ => two_pow_score _ _ u κ)
  rw [prob_at]
  simp only [expo_at, top_at]
  rw [show (constant (F := Ideal) S_ .f32 0xFF800000#32 (Shape.Idx.first h_S_) : EReal) = ⊥ from Cert.KernelIdeal.Attn.negInf, Cert.KernelIdeal.Attn.negInf]

variable (m : (ℓ : Loc nD τ sig) → Buf (Elt Ideal) ℓ) (c : Dev nD)

/-- The result array is the row formula's, of real arguments. -/
theorem result_eq (hq : ∀ i, ∃ r : ℝ, qA m c i = (r : EReal)) (hk : ∀ i, ∃ r : ℝ, kA m c i = (r : EReal)) (hv : ∀ i, ∃ r : ℝ, vA m c i = (r : EReal))
    (hl : ∀ i, ∃ r : ℝ, lA m c i = (r : EReal)) :
    res_main_v65 (F := Ideal) m c = result (qA m c) (kA m c) (vA m c) (lA m c) (gA m c) := by
  rw [result_stages]
  funext y
  obtain ⟨b, n, i, rfl⟩ : ∃ (b : Fin 2) (n : Fin 8192) (i : Fin 768), y = ix3 b n i := ⟨y 0, y 1, y 2, eq_ix3 y⟩
  obtain ⟨hd, e, rfl⟩ : ∃ (hd : Fin 6) (e : Fin 128), i = ⟨128 * hd.val + e.val, by omega⟩ :=
    ⟨⟨i.val / 128, by omega⟩, ⟨i.val % 128, by omega⟩, Fin.ext (by show i.val = 128 * (i.val / 128) + i.val % 128; omega)⟩
  rw [result_at, normed_at]
  unfold attn headRow
  congr 1
  funext r
  rw [outs_at, lam_at]
  choose x hx using fun (j : Fin 4) (i : Fin 64) => hl (ix2 j i)
  obtain ⟨lam, hlam⟩ := lam_real (fun j i => lA m c (ix2 j i)) x hx
  obtain ⟨w0, p0, s0⟩ := prob_avg hq hk (rows (vA m c) b hd) b hd 0 n
  obtain ⟨w1, p1, s1⟩ := prob_avg hq hk (rows (vA m c) b hd) b hd 1 n
  exact diff_avg (rows (vA m c) b hd) r _ _ _ w0 w1 _ lam _ _ (fun κ => real_at hv b hd κ r) p0 p1 hlam (s0 r) (s1 r)

end Cert.ReferenceIdeal.Attn

end
-- ==== Proof.FfnRow.lean ====
/- The feed-forward part of a layer on one row of tokens, over the extended reals: the formula that the kernel's
   tiles and the plain reference both compute. -/
module

public import Idealize.ShloMosaic.Lib.Pointwise
public import Idealize.ShloMosaic.PureOps.Ideal.Laws

@[expose] public section

noncomputable section

namespace Cert.FfnRow

open Idealize.ShloMosaic

/-- The row length 1024, the small number under the root and the residual factor, as the programs write them. -/
abbrev len : EReal := Ideal.ofBits .f32 0x44800000#32
abbrev eps : EReal := Ideal.ofBits .f32 0x3727C5AC#32
abbrev alpha : EReal := Ideal.ofBits .f32 0x3FB504F3#32

/-- The mean of a row. -/
def mean (x : Fin 1024 → EReal) : EReal := FloatOps.divf (F := Ideal) (φ := .f32) (∑ k, x k) len

/-- Layer norm of the row `x` with gain `g` and shift `b` at place `j`. -/
def ln (x : Fin 1024 → EReal) (g b : EReal) (j : Fin 1024) : EReal :=
  (x j - mean x) * FloatOps.rsqrt (F := Ideal) (φ := .f32) (mean (fun k => (x k - mean x) * (x k - mean x)) + eps) * g + b

/-- The attention outputs, side by side, through the output weights, at column `j`. -/
def mix (a : Fin 768 → EReal) (c : Fin 256 → EReal) (w : Fin 1024 → Fin 1024 → EReal) (j : Fin 1024) : EReal :=
  (∑ k : Fin 768, a k * w ⟨k.val, by omega⟩ j) + ∑ k : Fin 256, c k * w ⟨768 + k.val, by omega⟩ j

/-- The squared positive part of hidden unit `j` before the down weights. -/
def hid (y : Fin 1024 → EReal) (wu : Fin 1024 → Fin 4096 → EReal) (j : Fin 4096) : EReal :=
  max (∑ k, y k * wu k j) 0 * max (∑ k, y k * wu k j) 0

/-- The feed-forward sum at column `q`. -/
def ffn (y : Fin 1024 → EReal) (wu : Fin 1024 → Fin 4096 → EReal) (wd : Fin 4096 → Fin 1024 → EReal) (q : Fin 1024) : EReal :=
  ∑ j, hid y wu j * wd j q

/-- The part of the feed-forward sum that hidden units `o .. o + 1023` give. -/
def part (y : Fin 1024 → EReal) (wu : Fin 1024 → Fin 4096 → EReal) (wd : Fin 4096 → Fin 1024 → EReal) (o : ℕ) (ho : o + 1024 ≤ 4096)
    (q : Fin 1024) : EReal :=
  ∑ j : Fin 1024, hid y wu ⟨o + j.val, by omega⟩ * wd ⟨o + j.val, by omega⟩ q

/-- The four parts make the whole sum. -/
theorem parts (y : Fin 1024 → EReal) (wu : Fin 1024 → Fin 4096 → EReal) (wd : Fin 4096 → Fin 1024 → EReal) (q : Fin 1024) :
    part y wu wd 0 (by omega) q + part y wu wd 1024 (by omega) q + part y wu wd 2048 (by omega) q + part y wu wd 3072 (by omega) q
      = ffn y wu wd q := by
  unfold ffn part
  generalize hf : (fun j : Fin 4096 => hid y wu j * wd j q) = f
  have hj : ∀ (j : Fin 4096), hid y wu j * wd j q = f j := fun j => congrFun hf j
  simp only [hj]
  rw [show (∑ j, f j) = ∑ j : Fin (1024 + 1024 + 1024 + 1024), f (Fin.cast rfl j) from rfl,
    Fin.sum_univ_add, Fin.sum_univ_add, Fin.sum_univ_add]
  refine congrArg₂ _ (congrArg₂ _ (congrArg₂ _ ?_ ?_) ?_) ?_ <;>
    exact Finset.sum_congr rfl fun j _ => congrArg f (Fin.ext (by simp <;> omega))

/-- The row after the attention part: layer norm of `α x` plus the mixed attention outputs. -/
def mid (x : Fin 1024 → EReal) (a : Fin 768 → EReal) (c : Fin 256 → EReal) (wo : Fin 1024 → Fin 1024 → EReal)
    (g b : Fin 1024 → EReal) (j : Fin 1024) : EReal :=
  ln (fun k => alpha * x k + mix a c wo k) (g j) (b j) j

/-- The row at the end of the layer. -/
def out (x : Fin 1024 → EReal) (a : Fin 768 → EReal) (c : Fin 256 → EReal) (wo : Fin 1024 → Fin 1024 → EReal)
    (g b : Fin 1024 → EReal) (wu : Fin 1024 → Fin 4096 → EReal) (wd : Fin 4096 → Fin 1024 → EReal) (g' b' : Fin 1024 → EReal)
    (q : Fin 1024) : EReal :=
  ln (fun k => alpha * mid x a c wo g b k + ffn (mid x a c wo g b) wu wd k) (g' q) (b' q) q

end Cert.FfnRow

end
-- ==== Proof.FfnTile.lean ====
/- One tile of 256 rows of the feed-forward kernel, read at an index. -/
module

public import proofs.«01_k».proof.Proof.Gen.FfnIdeal.Value
public import proofs.«01_k».proof.Proof.FfnRow
public import Idealize.ShloMosaic.Lib.Pointwise

@[expose] public section

set_option maxRecDepth 16384

noncomputable section

namespace Cert.FfnIdeal.Tile

open Cert.FfnIdeal Cert.FfnIdeal.Gen Idealize.ShloMosaic Idealize.ShloMosaic.TcCoe Idealize.SL.Sem
open Cert.FfnRow

/-- Layer norm of a tile's rows, as the kernel spells it (its gain and shift are rows). -/
def lnV (x : FVec Ideal S256x1024 .f32) (g b : Vec Ideal S1x1024 .f32) : FVec Ideal S256x1024 .f32 := k0_pay1 g b x

/-- The mixed attention outputs of a tile. -/
def mixV (a : Vec Ideal S256x768 .bf16) (w : Vec Ideal S1x768x1024 .bf16) (c : Vec Ideal S256x256 .bf16)
    (w' : Vec Ideal S1x256x1024 .bf16) : FVec Ideal S256x1024 .f32 := k0_pay2 a w c w'

/-- One chunk of the feed-forward sum. -/
def chunkV (y : FVec Ideal S256x1024 .bf16) (wu wd : Vec Ideal S1x1024x1024 .bf16) : FVec Ideal S256x1024 .f32 :=
  let h := maximumf (matmul (φ₂ := .bf16) dot_S256x1024_S1024x1024_S256x1024_1_0_0_1_n_n none y (shapeCast S1024x1024 wu shapeCasts_S1x1024x1024_S1024x1024)
    (constant S256x1024 .f32 0x00000000#32)) (broadcast S256x1024 (Scalar.ofBits .f32 0x00000000#32))
  matmul (φ₂ := .bf16) dot_S256x1024_S1024x1024_S256x1024_1_0_0_1_n_n none (truncf .bf16 (mulf h h) bitsLt_bf16_f32)
    (shapeCast S1024x1024 wd shapeCasts_S1x1024x1024_S1024x1024) (constant S256x1024 .f32 0x00000000#32)

/-- The first residual row before its norm, and the same for the second. -/
def resV (x d : FVec Ideal S256x1024 .f32) : FVec Ideal S256x1024 .f32 :=
  addf (mulf (broadcast S256x1024 (Scalar.ofBits .f32 0x3FB504F3#32)) x) d

/-- A whole tile. -/
def tileV (x : Vec Ideal S256x1024 .f32) (a : Vec Ideal S256x768 .bf16) (c : Vec Ideal S256x256 .bf16)
    (w : Vec Ideal S1x768x1024 .bf16) (w' : Vec Ideal S1x256x1024 .bf16) (g b g' b' : Vec Ideal S1x1024 .f32)
    (u0 u1 u2 u3 d0 d1 d2 d3 : Vec Ideal S1x1024x1024 .bf16) : FVec Ideal S256x1024 .f32 :=
  let y := lnV (resV x (mixV a w c w')) g b
  let yb := truncf .bf16 y bitsLt_bf16_f32
  lnV (resV y (addf (addf (addf (addf (broadcast S256x1024 (Scalar.ofBits .f32 0x00000000#32)) (chunkV yb u0 d0)) (chunkV yb u1 d1))
    (chunkV yb u2 d2)) (chunkV yb u3 d3))) g' b'

theorem lnV_apply (x : FVec Ideal S256x1024 .f32) (g b : Vec Ideal S1x1024 .f32) (r : Fin 256) (q : Fin 1024) :
    lnV x g b (ix2 r q) = ln (fun k => x (ix2 r k)) (g (ix2 0 q)) (b (ix2 0 q)) q := by
  unfold lnV ln mean
  pointwise [k0_pay1]

theorem mixV_apply (a : Vec Ideal S256x768 .bf16) (w : Vec Ideal S1x768x1024 .bf16) (c : Vec Ideal S256x256 .bf16)
    (w' : Vec Ideal S1x256x1024 .bf16) (r : Fin 256) (q : Fin 1024) :
    mixV a w c w' (ix2 r q) = (∑ k : Fin 768, a (ix2 r k) * w (ix3 0 k q)) + ∑ k : Fin 256, c (ix2 r k) * w' (ix3 0 k q) := by
  unfold mixV
  pointwise [k0_pay2]

theorem chunkV_apply (y : FVec Ideal S256x1024 .bf16) (wu wd : Vec Ideal S1x1024x1024 .bf16) (r : Fin 256) (q : Fin 1024) :
    chunkV y wu wd (ix2 r q) = ∑ j : Fin 1024, (max (∑ k : Fin 1024, y (ix2 r k) * wu (ix3 0 k j)) 0
      * max (∑ k : Fin 1024, y (ix2 r k) * wu (ix3 0 k j)) 0) * wd (ix3 0 j q) := by
  unfold chunkV
  pointwise

theorem resV_apply (x d : FVec Ideal S256x1024 .f32) (r : Fin 256) (q : Fin 1024) :
    resV x d (ix2 r q) = alpha * x (ix2 r q) + d (ix2 r q) := by
  unfold resV
  pointwise

/-- A tile's entry is the layer's row formula of the rows it is given. -/
theorem tileV_apply (x : Vec Ideal S256x1024 .f32) (a : Vec Ideal S256x768 .bf16) (c : Vec Ideal S256x256 .bf16)
    (w : Vec Ideal S1x768x1024 .bf16) (w' : Vec Ideal S1x256x1024 .bf16) (g b g' b' : Vec Ideal S1x1024 .f32)
    (u0 u1 u2 u3 d0 d1 d2 d3 : Vec Ideal S1x1024x1024 .bf16)
    (WO : Fin 1024 → Fin 1024 → EReal) (WU : Fin 1024 → Fin 4096 → EReal) (WD : Fin 4096 → Fin 1024 → EReal)
    (hw : ∀ (k : Fin 768) q, w (ix3 0 k q) = WO ⟨k.val, by omega⟩ q) (hw' : ∀ (k : Fin 256) q, w' (ix3 0 k q) = WO ⟨768 + k.val, by omega⟩ q)
    (hu0 : ∀ k (j : Fin 1024), u0 (ix3 0 k j) = WU k ⟨0 + j.val, by omega⟩) (hd0 : ∀ (j : Fin 1024) q, d0 (ix3 0 j q) = WD ⟨0 + j.val, by omega⟩ q)
    (hu1 : ∀ k (j : Fin 1024), u1 (ix3 0 k j) = WU k ⟨1024 + j.val, by omega⟩) (hd1 : ∀ (j : Fin 1024) q, d1 (ix3 0 j q) = WD ⟨1024 + j.val, by omega⟩ q)
    (hu2 : ∀ k (j : Fin 1024), u2 (ix3 0 k j) = WU k ⟨2048 + j.val, by omega⟩) (hd2 : ∀ (j : Fin 1024) q, d2 (ix3 0 j q) = WD ⟨2048 + j.val, by omega⟩ q)
    (hu3 : ∀ k (j : Fin 1024), u3 (ix3 0 k j) = WU k ⟨3072 + j.val, by omega⟩) (hd3 : ∀ (j : Fin 1024) q, d3 (ix3 0 j q) = WD ⟨3072 + j.val, by omega⟩ q)
    (r : Fin 256) (q : Fin 1024) :
    tileV x a c w w' g b g' b' u0 u1 u2 u3 d0 d1 d2 d3 (ix2 r q)
      = out (fun k => x (ix2 r k)) (fun k => a (ix2 r k)) (fun k => c (ix2 r k)) WO (fun k => g (ix2 0 k)) (fun k => b (ix2 0 k)) WU WD
          (fun k => g' (ix2 0 k)) (fun k => b' (ix2 0 k)) q := by
  have hy : ∀ k, lnV (resV x (mixV a w c w')) g b (ix2 r k)
      = mid (fun k => x (ix2 r k)) (fun k => a (ix2 r k)) (fun k => c (ix2 r k)) WO (fun k => g (ix2 0 k)) (fun k => b (ix2 0 k)) k := by
    intro k
    rw [lnV_apply]
    simp only [resV_apply, mixV_apply, hw, hw']
    rfl
  unfold tileV
  rw [lnV_apply]
  unfold out
  refine congrArg (fun f => ln f _ _ q) (funext fun k => ?_)
  rw [resV_apply, hy, ← parts]
  refine congrArg (fun z => alpha * mid _ _ _ _ _ _ k + z) ?_
  generalize lnV (resV x (mixV a w c w')) g b = y at hy ⊢
  have hyb : ∀ k, truncf (F := Ideal) .bf16 y bitsLt_bf16_f32 (ix2 r k) = mid (fun k => x (ix2 r k)) (fun k => a (ix2 r k)) (fun k => c (ix2 r k)) WO (fun k => g (ix2 0 k)) (fun k => b (ix2 0 k)) k := fun k => hy k
  show (((Ideal.ofBits .f32 0x00000000#32 + chunkV _ u0 d0 (ix2 r k)) + chunkV _ u1 d1 (ix2 r k)) + chunkV _ u2 d2 (ix2 r k)) + chunkV _ u3 d3 (ix2 r k) = _
  rw [Ideal.ofBits_zero_f32, zero_add]
  simp only [chunkV_apply, hyb, hu0, hu1, hu2, hu3, hd0, hd1, hd2, hd3]
  rfl

/-- The body's stores are the four tiles. -/
theorem out_eq (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32) :

    out0_10 (F := Ideal) x0 x1 x2 x3 x4 x5 x6 x7 x8 x9 = View.canon [
      ⟨r0_22, tileV (View.ld x0 r0_22) (View.ld x1 r0_19) (View.ld x2 r0_20) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15)⟩,
      ⟨r0_21, tileV (View.ld x0 r0_21) (View.ld x1 r0_16) (View.ld x2 r0_17) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15)⟩,
      ⟨r0_18, tileV (View.ld x0 r0_18) (View.ld x1 r0_5) (View.ld x2 r0_6) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15)⟩,
      ⟨r0_7, tileV (View.ld x0 r0_7) (View.ld x1 r0_1) (View.ld x2 r0_3) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15)⟩] := by

  unfold out0_10 tileV lnV resV mixV chunkV
  unfold_payloads
  rfl

end Cert.FfnIdeal.Tile

end
-- ==== Proof.FfnValue.lean ====
/- The feed-forward kernel's result array, as the row formula of its arguments. -/
module

public import proofs.«01_k».proof.Proof.FfnTile
public import Idealize.ShloMosaic.Lib.Pipeline.ValueKit

@[expose] public section

set_option maxRecDepth 16384

noncomputable section

namespace Cert.FfnIdeal.Result

open Cert.FfnIdeal Cert.FfnIdeal.Gen Idealize.ShloMosaic Idealize.ShloMosaic.TcCoe Idealize.SL.Sem
open Cert.FfnRow Cert.FfnIdeal.Tile

/-- The result at an index, from the ten argument arrays. -/
def G (x : S16384x1024.Idx → EReal) (a : S16384x768.Idx → EReal) (c : S16384x256.Idx → EReal) (wo : S2x1024x1024.Idx → EReal)
    (g b : S2x1024.Idx → EReal) (wu : S2x1024x4096.Idx → EReal) (wd : S2x4096x1024.Idx → EReal) (g' b' : S2x1024.Idx → EReal) :
    S16384x1024.Idx → EReal := fun i =>
  FfnRow.out (fun k => x (ix2 (i 0) k)) (fun k => a (ix2 (i 0) k)) (fun k => c (ix2 (i 0) k)) (fun k j => wo (ix3 1 k j))
    (fun k => g (ix2 1 k)) (fun k => b (ix2 1 k)) (fun k j => wu (ix3 1 k j)) (fun j k => wd (ix3 1 j k)) (fun k => g' (ix2 1 k)) (fun k => b' (ix2 1 k)) (i 1)

/-- The row formula over a block's ten input blocks: row `r`, column `q`. -/
def B (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32)
    (r q : Fin 1024) : EReal :=
  FfnRow.out (fun k => x0 (ix2 r k)) (fun k => x1 (ix2 r k)) (fun k => x2 (ix2 r k)) (fun k j => x3 (ix3 0 k j))
    (fun k => x4 (ix2 1 k)) (fun k => x5 (ix2 1 k)) (fun k j => x6 (ix3 0 k j)) (fun j k => x7 (ix3 0 j k)) (fun k => x8 (ix2 1 k)) (fun k => x9 (ix2 1 k)) q

/-- A piece's local index in the block. -/
theorem emb_row (o : ℕ) (ho : o + 256 ≤ 1024) (inb) (r : Fin 256) (q : Fin 1024) :
    (Rect.unit (s := S1024x1024) ![o, 0] S256x1024.size inb).emb (ix2 r q) = (ix2 (⟨o + r.val, by omega⟩ : Fin 1024) q : S1024x1024.Idx) := by
  funext a
  apply Fin.ext
  rw [ValueKit.rect_emb_unit_val]
  match a with
  | ⟨0, _⟩ => rfl
  | ⟨1, _⟩ => exact Nat.zero_add _

/-- Tile 0 of a block holds the row formula. -/
theorem tile0 (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32) (r : Fin 256) (q : Fin 1024) :
    tileV (View.ld x0 r0_7) (View.ld x1 r0_1) (View.ld x2 r0_3) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15) (ix2 r q)
      = B x0 x1 x2 x3 x4 x5 x6 x7 x8 x9 ⟨0 + r.val, by omega⟩ q := by
  unfold B
  refine (tileV_apply _ _ _ _ _ _ _ _ _ _ _ _ _ _ _ _ _ (fun k j => x3 (ix3 0 k j)) (fun k j => x6 (ix3 0 k j)) (fun j k => x7 (ix3 0 j k))
    ?_ ?_ ?_ ?_ ?_ ?_ ?_ ?_ ?_ ?_ r q).trans ?_
  iterate 10 (intro k q; pointwise <;> rfl)
  pointwise

/-- Tile 1 of a block holds the row formula. -/
theorem tile1 (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32) (r : Fin 256) (q : Fin 1024) :
    tileV (View.ld x0 r0_18) (View.ld x1 r0_5) (View.ld x2 r0_6) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15) (ix2 r q)
      = B x0 x1 x2 x3 x4 x5 x6 x7 x8 x9 ⟨256 + r.val, by omega⟩ q := by
  unfold B
  refine (tileV_apply _ _ _ _ _ _ _ _ _ _ _ _ _ _ _ _ _ (fun k j => x3 (ix3 0 k j)) (fun k j => x6 (ix3 0 k j)) (fun j k => x7 (ix3 0 j k))
    ?_ ?_ ?_ ?_ ?_ ?_ ?_ ?_ ?_ ?_ r q).trans ?_
  iterate 10 (intro k q; pointwise <;> rfl)
  pointwise

/-- Tile 2 of a block holds the row formula. -/
theorem tile2 (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32) (r : Fin 256) (q : Fin 1024) :
    tileV (View.ld x0 r0_21) (View.ld x1 r0_16) (View.ld x2 r0_17) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15) (ix2 r q)
      = B x0 x1 x2 x3 x4 x5 x6 x7 x8 x9 ⟨512 + r.val, by omega⟩ q := by
  unfold B
  refine (tileV_apply _ _ _ _ _ _ _ _ _ _ _ _ _ _ _ _ _ (fun k j => x3 (ix3 0 k j)) (fun k j => x6 (ix3 0 k j)) (fun j k => x7 (ix3 0 j k))
    ?_ ?_ ?_ ?_ ?_ ?_ ?_ ?_ ?_ ?_ r q).trans ?_
  iterate 10 (intro k q; pointwise <;> rfl)
  pointwise

/-- Tile 3 of a block holds the row formula. -/
theorem tile3 (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32) (r : Fin 256) (q : Fin 1024) :
    tileV (View.ld x0 r0_22) (View.ld x1 r0_19) (View.ld x2 r0_20) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15) (ix2 r q)
      = B x0 x1 x2 x3 x4 x5 x6 x7 x8 x9 ⟨768 + r.val, by omega⟩ q := by
  unfold B
  refine (tileV_apply _ _ _ _ _ _ _ _ _ _ _ _ _ _ _ _ _ (fun k j => x3 (ix3 0 k j)) (fun k j => x6 (ix3 0 k j)) (fun j k => x7 (ix3 0 j k))
    ?_ ?_ ?_ ?_ ?_ ?_ ?_ ?_ ?_ ?_ r q).trans ?_
  iterate 10 (intro k q; pointwise <;> rfl)
  pointwise

/-- The formula at a block index. -/
def f (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32)
    (y : S1024x1024.Idx) : EReal := B x0 x1 x2 x3 x4 x5 x6 x7 x8 x9 (y 0) (y 1)

theorem piece3 (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32) (z : S256x1024.Idx) :
    tileV (View.ld x0 r0_22) (View.ld x1 r0_19) (View.ld x2 r0_20) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15) z
      = f x0 x1 x2 x3 x4 x5 x6 x7 x8 x9 (r0_22.emb z) := by
  idx_vars z
  rw [emb_row 768 (by omega), tile3]
  rfl

theorem piece2 (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32) (z : S256x1024.Idx) :
    tileV (View.ld x0 r0_21) (View.ld x1 r0_16) (View.ld x2 r0_17) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15) z
      = f x0 x1 x2 x3 x4 x5 x6 x7 x8 x9 (r0_21.emb z) := by
  idx_vars z
  rw [emb_row 512 (by omega), tile2]
  rfl

theorem piece1 (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32) (z : S256x1024.Idx) :
    tileV (View.ld x0 r0_18) (View.ld x1 r0_5) (View.ld x2 r0_6) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15) z
      = f x0 x1 x2 x3 x4 x5 x6 x7 x8 x9 (r0_18.emb z) := by
  idx_vars z
  rw [emb_row 256 (by omega), tile1]
  rfl

theorem piece0 (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32) (z : S256x1024.Idx) :
    tileV (View.ld x0 r0_7) (View.ld x1 r0_1) (View.ld x2 r0_3) (View.ld x3 r0_2) (View.ld x3 r0_4) (View.ld x4 r0_0) (View.ld x5 r0_0) (View.ld x8 r0_0) (View.ld x9 r0_0)
        (View.ld x6 r0_8) (View.ld x6 r0_10) (View.ld x6 r0_12) (View.ld x6 r0_14) (View.ld x7 r0_9) (View.ld x7 r0_11) (View.ld x7 r0_13) (View.ld x7 r0_15) z
      = f x0 x1 x2 x3 x4 x5 x6 x7 x8 x9 (r0_7.emb z) := by
  idx_vars z
  rw [emb_row 0 (by omega), tile0]
  rfl

/-- One block of 1024 rows as the body leaves it. -/
theorem block_apply (x0 : Vec Ideal S1024x1024 .f32) (x1 : Vec Ideal S1024x768 .bf16) (x2 : Vec Ideal S1024x256 .bf16) (x3 : Vec Ideal S1x1024x1024 .bf16)
    (x4 x5 : Vec Ideal S2x1024 .f32) (x6 : Vec Ideal S1x1024x4096 .bf16) (x7 : Vec Ideal S1x4096x1024 .bf16) (x8 x9 : Vec Ideal S2x1024 .f32)
    (y : S1024x1024.Idx) :
    out0_10 (F := Ideal) x0 x1 x2 x3 x4 x5 x6 x7 x8 x9 y = B x0 x1 x2 x3 x4 x5 x6 x7 x8 x9 (y 0) (y 1) := by
  rw [out_eq]
  refine View.canon_apply_of_pieces (Val := Elt Ideal) (e := .f32) (f x0 x1 x2 x3 x4 x5 x6 x7 x8 x9) _ ?_ y (cover0_10 _ _ _ _ y)
  intro p hp z
  simp only [List.mem_cons, List.not_mem_nil, or_false] at hp
  rcases hp with rfl | rfl | rfl | rfl
  · exact piece3 x0 x1 x2 x3 x4 x5 x6 x7 x8 x9 z
  · exact piece2 x0 x1 x2 x3 x4 x5 x6 x7 x8 x9 z
  · exact piece1 x0 x1 x2 x3 x4 x5 x6 x7 x8 x9 z
  · exact piece0 x0 x1 x2 x3 x4 x5 x6 x7 x8 x9 z

variable (m : (ℓ : Loc nD τ sig) → Buf (Elt Ideal) ℓ) (ρ : Dev nD → PrngReg)

theorem V_v0 (c : Dev nD) : V m c main_v0 = (truncf (F := Ideal) (s := S2x1024x1024) (φ := .f32) .bf16 (m ((c : Thread nD τ).loc main_arg3)) bitsLt_bf16_f32) := by
  unfold V; after_results
theorem V_v1 (c : Dev nD) : V m c main_v1 = (truncf (F := Ideal) (s := S2x1024x4096) (φ := .f32) .bf16 (m ((c : Thread nD τ).loc main_arg6)) bitsLt_bf16_f32) := by
  unfold V; after_results
theorem V_v2 (c : Dev nD) : V m c main_v2 = (truncf (F := Ideal) (s := S2x4096x1024) (φ := .f32) .bf16 (m ((c : Thread nD τ).loc main_arg7)) bitsLt_bf16_f32) := by
  unfold V; after_results

/-- Where each window stands at a grid point. -/
theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![1, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![1, 0, 0] := (by decide +kernel : ∀ t : Fin grid0.N, _)
theorem e7 : ∀ t : Fin cfg0.N, win0_7.index t = ![1, 0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val, 0] := (by decide +kernel : ∀ t : Fin grid0.N, _)

/-- The result array after the run. -/
theorem final (c : Dev nD) : (dats m 0 c).arrAt 10 cfg0.N =
    G (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) := by
  refine (dats m 0 c).arrAt_eq_of_covers 10 _ (by decide +kernel) fun t hf y => ?_
  blk_simp
  rw [after0_10]
  refine (block_apply _ _ _ _ _ _ _ _ _ _ _).trans ?_
  have ht : t.val < 16 := lt_of_lt_of_eq t.isLt N_0
  have h0 : ∀ (r : Fin 1024) (k : Fin 1024), iblk m c 0 t (ix2 r k) = m ((c : Thread nD τ).loc main_arg0) (ix2 ⟨t.val * 1024 + r.val, by omega⟩ k) := by
    intro r k
    rw [← V_main_arg0 m c]
    blk_ext [iblk, e0]
  have h1 : ∀ (r : Fin 1024) (k : Fin 768), iblk m c 1 t (ix2 r k) = m ((c : Thread nD τ).loc main_arg1) (ix2 ⟨t.val * 1024 + r.val, by omega⟩ k) := by
    intro r k
    rw [← V_main_arg1 m c]
    blk_ext [iblk, e1]
  have h2 : ∀ (r : Fin 1024) (k : Fin 256), iblk m c 2 t (ix2 r k) = m ((c : Thread nD τ).loc main_arg2) (ix2 ⟨t.val * 1024 + r.val, by omega⟩ k) := by
    intro r k
    rw [← V_main_arg2 m c]
    blk_ext [iblk, e2]
  have h3 : ∀ (k j : Fin 1024), iblk m c 3 t (ix3 0 k j) = m ((c : Thread nD τ).loc main_arg3) (ix3 1 k j) := by
    intro k j
    refine Eq.trans ?_ (congrFun (V_v0 m c) (ix3 1 k j))
    blk_ext [iblk, e3]
  have h4 : ∀ (k : Fin 1024), iblk m c 4 t (ix2 1 k) = m ((c : Thread nD τ).loc main_arg4) (ix2 1 k) := by
    intro k
    rw [← V_main_arg4 m c]
    blk_ext [iblk, e4]
  have h5 : ∀ (k : Fin 1024), iblk m c 5 t (ix2 1 k) = m ((c : Thread nD τ).loc main_arg5) (ix2 1 k) := by
    intro k
    rw [← V_main_arg5 m c]
    blk_ext [iblk, e5]
  have h6 : ∀ (k : Fin 1024) (j : Fin 4096), iblk m c 6 t (ix3 0 k j) = m ((c : Thread nD τ).loc main_arg6) (ix3 1 k j) := by
    intro k j
    refine Eq.trans ?_ (congrFun (V_v1 m c) (ix3 1 k j))
    blk_ext [iblk, e6]
  have h7 : ∀ (j : Fin 4096) (k : Fin 1024), iblk m c 7 t (ix3 0 j k) = m ((c : Thread nD τ).loc main_arg7) (ix3 1 j k) := by
    intro j k
    refine Eq.trans ?_ (congrFun (V_v2 m c) (ix3 1 j k))
    blk_ext [iblk, e7]
  have h8 : ∀ (k : Fin 1024), iblk m c 8 t (ix2 1 k) = m ((c : Thread nD τ).loc main_arg8) (ix2 1 k) := by
    intro k
    rw [← V_main_arg8 m c]
    blk_ext [iblk, e8]
  have h9 : ∀ (k : Fin 1024), iblk m c 9 t (ix2 1 k) = m ((c : Thread nD τ).loc main_arg9) (ix2 1 k) := by
    intro k
    rw [← V_main_arg9 m c]
    blk_ext [iblk, e9]
  obtain ⟨r, q, rfl⟩ : ∃ (r q : Fin 1024), y = ix2 r q := ⟨y 0, y 1, eq_ix2 y⟩
  have hi : ((win0_10.blk t).view.emb (ix2 r q) : S16384x1024.Idx) = ix2 ⟨t.val * 1024 + r.val, by omega⟩ q := by
    blk_ext [e10]
  show B _ _ _ _ _ _ _ _ _ _ r q = _
  refine Eq.trans ?_ (congrArg (G _ _ _ _ _ _ _ _ _ _) hi.symm)
  unfold B G
  simp only [h0, h1, h2, h3, h4, h5, h6, h7, h8, h9]
  rfl

end Cert.FfnIdeal.Result

end
-- ==== Proof.FfnReference.lean ====
/- The plain feed-forward reference's result array, as the row formula of its arguments. -/
module

public import proofs.«01_k».proof.Proof.FfnRow
public import proofs.«01_k».proof.Proof.Gen.FfnReferenceIdeal.Run
public import Idealize.ShloMosaic.Lib.Pointwise
public import Idealize.ShloMosaic.Lib.Tactic.CleanTypes

@[expose] public section

set_option maxRecDepth 16384

noncomputable section

namespace Cert.FfnReferenceIdeal.Result

open Cert.FfnReferenceIdeal Cert.FfnReferenceIdeal.Gen Idealize.ShloMosaic Idealize.ShloMosaic.TcCoe Idealize.SL.Sem
open Cert.FfnRow Cert.FfnReferenceIdeal.Value

variable (V0 : Valuation τ sig (Elt Ideal))

abbrev xA : S16384x1024.Idx → EReal := V0 (Proc.devRef .tc main_arg0)
abbrev aA : S16384x768.Idx → EReal := V0 (Proc.devRef .tc main_arg1)
abbrev cA : S16384x256.Idx → EReal := V0 (Proc.devRef .tc main_arg2)
abbrev woA : S2x1024x1024.Idx → EReal := V0 (Proc.devRef .tc main_arg3)
abbrev gA : S2x1024.Idx → EReal := V0 (Proc.devRef .tc main_arg4)
abbrev bA : S2x1024.Idx → EReal := V0 (Proc.devRef .tc main_arg5)
abbrev wuA : S2x1024x4096.Idx → EReal := V0 (Proc.devRef .tc main_arg6)
abbrev wdA : S2x4096x1024.Idx → EReal := V0 (Proc.devRef .tc main_arg7)
abbrev g'A : S2x1024.Idx → EReal := V0 (Proc.devRef .tc main_arg8)
abbrev b'A : S2x1024.Idx → EReal := V0 (Proc.devRef .tc main_arg9)

abbrev r8 : S16384x1024.Idx → EReal := res_main_v8 V0
abbrev r16 : S16384x1.Idx → EReal := res_main_v16 V0
abbrev r36 : S16384x1024.Idx → EReal := res_main_v36 V0
abbrev r40 : S16384x4096.Idx → EReal := res_main_v40 V0
abbrev r47 : S16384x1024.Idx → EReal := res_main_v47 V0
abbrev r55 : S16384x1.Idx → EReal := res_main_v55 V0

theorem v8_apply (i : Fin 16384) (j : Fin 1024) : r8 V0 (ix2 i j)
    = alpha * xA V0 (ix2 i j) + mix (fun k => aA V0 (ix2 i k)) (fun k => cA V0 (ix2 i k)) (fun k j => woA V0 (ix3 1 k j)) j := by
  unfold r8 res_main_v8 mix
  clean_types
  pointwise

theorem v16_apply (i : Fin 16384) : r16 V0 (ix2 i 0)
    = mean (fun k => r8 V0 (ix2 i k)) := by
  unfold r16 r8 res_main_v16 mean
  clean_types
  pointwise

theorem v36_apply (i : Fin 16384) (j : Fin 1024) : r36 V0 (ix2 i j)
    = ln (fun k => r8 V0 (ix2 i k)) (gA V0 (ix2 1 j)) (bA V0 (ix2 1 j)) j := by
  unfold r36 r8 res_main_v36 res_main_v18 ln
  clean_types
  pointwise [v16_apply V0]
  rfl

theorem v40_apply (i : Fin 16384) (j : Fin 4096) : r40 V0 (ix2 i j)
    = max (∑ k, r36 V0 (ix2 i k) * wuA V0 (ix3 1 k j)) 0 := by
  unfold r40 r36 res_main_v40
  clean_types
  pointwise

theorem v47_apply (i : Fin 16384) (j : Fin 1024) : r47 V0 (ix2 i j)
    = alpha * r36 V0 (ix2 i j)
      + ffn (fun k => r36 V0 (ix2 i k)) (fun k j => wuA V0 (ix3 1 k j)) (fun j k => wdA V0 (ix3 1 j k)) j := by
  unfold r47 r36 res_main_v47 ffn hid
  clean_types
  pointwise [v40_apply V0]

theorem v55_apply (i : Fin 16384) : r55 V0 (ix2 i 0)
    = mean (fun k => r47 V0 (ix2 i k)) := by
  unfold r55 r47 res_main_v55 mean
  clean_types
  pointwise

/-- The result at an index. -/
theorem result_apply (i : Fin 16384) (q : Fin 1024) :
    ((addf (mulf (mulf (subf (res_main_v47 V0) (broadcastInDim S16384x1024 ![0, 1] bcast_S16384x1_S16384x1024_0_1 (res_main_v55 V0))) (broadcastInDim S16384x1024 ![0, 1] bcast_S16384x1_S16384x1024_0_1 (Host.rsqrt (addf (Host.divf (broadcastInDim S16384x1 ![0] bcast_S16384_S16384x1_0 (Host.reduceAdd (mulf (res_main_v57 V0) (res_main_v57 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 (shapeCast _ (extractStridedSlice S1x1024 ![1, 0] (V0 (Proc.devRef .tc main_arg8)) slices_S2x1024_S1x1024_1_0) shapeCasts_S1x1024_S1024)))) (broadcastInDim S16384x1024 ![0, 1] bcast_S1x1024_S16384x1024_0_1 (broadcastInDim S1x1024 ![1] bcast_S1024_S1x1024_1 (shapeCast _ (extractStridedSlice S1x1024 ![1, 0] (V0 (Proc.devRef .tc main_arg9)) slices_S2x1024_S1x1024_1_0) shapeCasts_S1x1024_S1024)))) : S16384x1024.Idx → EReal) (ix2 i q)
      = FfnRow.out (fun k => xA V0 (ix2 i k)) (fun k => aA V0 (ix2 i k)) (fun k => cA V0 (ix2 i k)) (fun k j => woA V0 (ix3 1 k j))
    (fun k => gA V0 (ix2 1 k)) (fun k => bA V0 (ix2 1 k)) (fun k j => wuA V0 (ix3 1 k j)) (fun j k => wdA V0 (ix3 1 j k))
    (fun k => g'A V0 (ix2 1 k)) (fun k => b'A V0 (ix2 1 k)) q := by
  have h : ∀ k, r36 V0 (ix2 i k) = mid (fun k => xA V0 (ix2 i k)) (fun k => aA V0 (ix2 i k)) (fun k => cA V0 (ix2 i k)) (fun k j => woA V0 (ix3 1 k j))
      (fun k => gA V0 (ix2 1 k)) (fun k => bA V0 (ix2 1 k)) k := by
    intro k
    rw [v36_apply, funext (fun k => v8_apply V0 i k)]
    rfl
  unfold FfnRow.out
  rw [← funext h]
  simp only [← v47_apply]
  unfold r47 res_main_v57 ln
  clean_types
  pointwise [v55_apply V0]
  rfl

end Cert.FfnReferenceIdeal.Result

end
-- ==== Proof.MemKvValue.lean ====
/- The prompt's memory keys and values: the kernel's two result arrays and the plain reference's are the same columns of one product, columns by memory rows. -/
module

public import proofs.«01_k».proof.Proof.Gen.MemKvIdeal.Value
public import proofs.«01_k».proof.Proof.Gen.MemKvReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Proof.Memory

open Idealize.ShloMosaic

/-- Column `q` of the 256 columns from `lo`. -/
def col (lo : ℕ) (h : lo + 256 ≤ 512) (q : Fin 256) : Fin 512 := ⟨lo + q.val, by omega⟩

/-- Column `j` of layer `l`'s product at memory row `r` of batch `b`. -/
def entry (x : Shape.Idx ⟨3, ![2, 256, 1024]⟩ → EReal) (w : Shape.Idx ⟨3, ![2, 1024, 512]⟩ → EReal) (l b : Fin 2) (j : Fin 512) (r : Fin 256) : EReal :=
  ∑ k, x (ix3 b r k) * w (ix3 l k j)

/-- The columns from `lo` of every layer's product, columns by memory rows. -/
def cols (lo : ℕ) (h : lo + 256 ≤ 512) (x : Shape.Idx ⟨3, ![2, 256, 1024]⟩ → EReal) (w : Shape.Idx ⟨3, ![2, 1024, 512]⟩ → EReal) :
    Shape.Idx ⟨4, ![2, 2, 256, 256]⟩ → EReal := fun i => entry x w (i 0) (i 1) (col lo h (i 2)) (i 3)

end Cert.Proof.Memory

namespace Cert.MemKvIdeal.Result

open Cert.MemKvIdeal Cert.MemKvIdeal.Gen Idealize.ShloMosaic Idealize.ShloMosaic.TcCoe Idealize.SL.Sem Cert.Proof.Memory

variable (m : (ℓ : Loc nD τ sig) → Buf (Elt Ideal) ℓ)

theorem V_v0 (c : Dev nD) : V m c main_v0 = (truncf (F := Ideal) (s := S2x1024x512) (φ := .f32) .bf16 (m ((c : Thread nD τ).loc main_arg1)) bitsLt_bf16_f32) := by
  unfold V; after_results <;> rfl

/-- The layer of a grid point. -/
def layer (t : Fin cfg0.N) : Fin 2 := ⟨t.val / 2, Nat.div_lt_of_lt_mul (t.isLt.trans_eq (by decide +kernel))⟩
/-- The batch row of a grid point. -/
def batch (t : Fin cfg0.N) : Fin 2 := ⟨t.val % 2, Nat.mod_lt _ (by omega)⟩

theorem e0 : ∀ t : Fin cfg0.N, win0_0.index t = ![t.val % 2, 0, 0] := (by decide +kernel : ∀ t : Fin grid0.N, _)
theorem e1 : ∀ t : Fin cfg0.N, win0_1.index t = ![t.val / 2, 0, 0] := (by decide +kernel : ∀ t : Fin grid0.N, _)
theorem e2 : ∀ t : Fin cfg0.N, win0_2.index t = ![t.val / 2, t.val % 2, 0, 0] := (by decide +kernel : ∀ t : Fin grid0.N, _)
theorem e3 : ∀ t : Fin cfg0.N, win0_3.index t = ![t.val / 2, t.val % 2, 0, 0] := (by decide +kernel : ∀ t : Fin grid0.N, _)

theorem in0 (c : Dev nD) (t : Fin cfg0.N) (r : Fin 256) (k : Fin 1024) :
    iblk m c 0 t (ix3 0 r k) = m ((c : Thread nD τ).loc main_arg0) (ix3 (batch t) r k) := by
  rw [← V_main_arg0 m c]
  unfold batch
  blk_ext [iblk, e0]

theorem in1 (c : Dev nD) (t : Fin cfg0.N) (k : Fin 1024) (j : Fin 512) :
    iblk m c 1 t (ix3 0 k j) = m ((c : Thread nD τ).loc main_arg1) (ix3 (layer t) k j) := by
  have h : iblk m c 1 t (ix3 0 k j) = V m c main_v0 (ix3 (layer t) k j) := by
    unfold layer
    blk_ext [iblk, e1]
  rw [h, V_v0]
  rfl

/-- The keys of one block of the body: columns from 0 of the product, transposed. -/
theorem pay2 (v0 : Vec Ideal S1x256x1024 .f32) (v3 : Vec Ideal S1x1024x512 .bf16) (q r : Fin 256) :
    k0_pay6 (F := Ideal) v0 v3 (ix4 0 0 q r) = ∑ k : Fin 1024, v0 (ix3 0 r k) * v3 (ix3 0 k (col 0 (by omega) q)) := by
  unfold_payloads
  unfold col
  pointwise

/-- The body's formula of the keys at a block index. -/
def f2 (x0 : Vec Ideal S1x256x1024 .f32) (x1 : Vec Ideal S1x1024x512 .bf16) (y : S1x1x256x256.Idx) : EReal :=
  ∑ k : Fin 1024, x0 (ix3 0 (y 3) k) * x1 (ix3 0 k (col 0 (by omega) (y 2)))

theorem piece2 (x0 : Vec Ideal S1x256x1024 .f32) (x1 : Vec Ideal S1x1024x512 .bf16) (q r : Fin 256) :
    k0_pay6 (F := Ideal) (View.ld x0 r0_0) (View.ld x1 r0_1) (ix4 0 0 q r) = f2 x0 x1 (ix4 0 0 q r) := by
  refine (pay2 _ _ q r).trans ?_
  unfold f2 col
  pointwise

theorem emb2 (q r : Fin 256) : (r0_2.emb (ix4 0 0 q r) : S1x1x256x256.Idx) = ix4 0 0 q r := by
  funext a
  apply Fin.ext
  unfold r0_2
  rw [ValueKit.rect_emb_unit_val]
  match a with
  | ⟨0, _⟩ => exact Nat.zero_add _
  | ⟨1, _⟩ => exact Nat.zero_add _
  | ⟨2, _⟩ => exact Nat.zero_add _
  | ⟨3, _⟩ => exact Nat.zero_add _

theorem idx2 (y : S1x1x256x256.Idx) : ∃ q r : Fin 256, y = ix4 0 0 q r :=
  ⟨y 2, y 3, (eq_ix4 y).trans (congrArg₂ (fun (a b : Fin 1) => ix4 a b (y 2) (y 3)) (Subsingleton.elim _ _) (Subsingleton.elim _ _))⟩

theorem out2 (x0 : Vec Ideal S1x256x1024 .f32) (x1 : Vec Ideal S1x1024x512 .bf16) (y : S1x1x256x256.Idx) :
    out0_2 (F := Ideal) x0 x1 y = f2 x0 x1 y := by
  unfold out0_2
  refine View.canon_apply_of_pieces (Val := Elt Ideal) (e := .f32) (f2 x0 x1) _ ?_ y (cover0_2 _ y)
  intro p hp z
  simp only [List.mem_cons, List.not_mem_nil, or_false] at hp
  subst hp
  obtain ⟨q, r, rfl⟩ := idx2 z
  exact (piece2 x0 x1 q r).trans (congrArg (f2 x0 x1) (emb2 q r).symm)

/-- The kernel's result array of the keys. -/
theorem final2 (c : Dev nD) : (dats m 0 c).arrAt 2 cfg0.N =
    cols 0 (by omega) (m ((c : Thread nD τ).loc main_arg0)) (m ((c : Thread nD τ).loc main_arg1)) := by
  refine (dats m 0 c).arrAt_eq_of_covers 2 _ (by decide +kernel) fun t hf y => ?_
  blk_simp
  rw [after0_2]
  refine (out2 _ _ _).trans ?_
  obtain ⟨q, r, rfl⟩ := idx2 y
  have hi : ((win0_2.blk t).view.emb (ix4 0 0 q r) : S2x2x256x256.Idx) = ix4 (layer t) (batch t) q r := by
    unfold layer batch
    blk_ext [e2]
  refine Eq.trans ?_ (congrArg (cols 0 (by omega) _ _) hi.symm)
  unfold f2 cols entry
  refine Finset.sum_congr rfl fun k _ => ?_
  exact congrArg₂ (· * ·) (in0 m c t r k) (in1 m c t k _)

/-- The values of one block of the body: columns from 256 of the product, transposed. -/
theorem pay3 (v0 : Vec Ideal S1x256x1024 .f32) (v3 : Vec Ideal S1x1024x512 .bf16) (q r : Fin 256) :
    k0_pay7 (F := Ideal) v0 v3 (ix4 0 0 q r) = ∑ k : Fin 1024, v0 (ix3 0 r k) * v3 (ix3 0 k (col 256 (by omega) q)) := by
  unfold_payloads
  unfold col
  pointwise

/-- The body's formula of the values at a block index. -/
def f3 (x0 : Vec Ideal S1x256x1024 .f32) (x1 : Vec Ideal S1x1024x512 .bf16) (y : S1x1x256x256.Idx) : EReal :=
  ∑ k : Fin 1024, x0 (ix3 0 (y 3) k) * x1 (ix3 0 k (col 256 (by omega) (y 2)))

theorem piece3 (x0 : Vec Ideal S1x256x1024 .f32) (x1 : Vec Ideal S1x1024x512 .bf16) (q r : Fin 256) :
    k0_pay7 (F := Ideal) (View.ld x0 r0_0) (View.ld x1 r0_1) (ix4 0 0 q r) = f3 x0 x1 (ix4 0 0 q r) := by
  refine (pay3 _ _ q r).trans ?_
  unfold f3 col
  pointwise

theorem emb3 (q r : Fin 256) : (r0_2.emb (ix4 0 0 q r) : S1x1x256x256.Idx) = ix4 0 0 q r := by
  funext a
  apply Fin.ext
  unfold r0_2
  rw [ValueKit.rect_emb_unit_val]
  match a with
  | ⟨0, _⟩ => exact Nat.zero_add _
  | ⟨1, _⟩ => exact Nat.zero_add _
  | ⟨2, _⟩ => exact Nat.zero_add _
  | ⟨3, _⟩ => exact Nat.zero_add _

theorem idx3 (y : S1x1x256x256.Idx) : ∃ q r : Fin 256, y = ix4 0 0 q r :=
  ⟨y 2, y 3, (eq_ix4 y).trans (congrArg₂ (fun (a b : Fin 1) => ix4 a b (y 2) (y 3)) (Subsingleton.elim _ _) (Subsingleton.elim _ _))⟩

theorem out3 (x0 : Vec Ideal S1x256x1024 .f32) (x1 : Vec Ideal S1x1024x512 .bf16) (y : S1x1x256x256.Idx) :
    out0_3 (F := Ideal) x0 x1 y = f3 x0 x1 y := by
  unfold out0_3
  refine View.canon_apply_of_pieces (Val := Elt Ideal) (e := .f32) (f3 x0 x1) _ ?_ y (cover0_3 _ y)
  intro p hp z
  simp only [List.mem_cons, List.not_mem_nil, or_false] at hp
  subst hp
  obtain ⟨q, r, rfl⟩ := idx3 z
  exact (piece3 x0 x1 q r).trans (congrArg (f3 x0 x1) (emb3 q r).symm)

/-- The kernel's result array of the values. -/
theorem final3 (c : Dev nD) : (dats m 0 c).arrAt 3 cfg0.N =
    cols 256 (by omega) (m ((c : Thread nD τ).loc main_arg0)) (m ((c : Thread nD τ).loc main_arg1)) := by
  refine (dats m 0 c).arrAt_eq_of_covers 3 _ (by decide +kernel) fun t hf y => ?_
  blk_simp
  rw [after0_3]
  refine (out3 _ _ _).trans ?_
  obtain ⟨q, r, rfl⟩ := idx3 y
  have hi : ((win0_3.blk t).view.emb (ix4 0 0 q r) : S2x2x256x256.Idx) = ix4 (layer t) (batch t) q r := by
    unfold layer batch
    blk_ext [e3]
  refine Eq.trans ?_ (congrArg (cols 256 (by omega) _ _) hi.symm)
  unfold f3 cols entry
  refine Finset.sum_congr rfl fun k _ => ?_
  exact congrArg₂ (· * ·) (in0 m c t r k) (in1 m c t k _)

end Cert.MemKvIdeal.Result

namespace Cert.MemKvReferenceIdeal.Result

open Cert.MemKvReferenceIdeal Cert.MemKvReferenceIdeal.Gen Idealize.ShloMosaic Idealize.ShloMosaic.TcCoe Idealize.SL.Sem Cert.Proof.Memory

/-- The reference's result array of the keys. -/
theorem result2 (x : FVec Ideal S2x256x1024 .f32) (w : FVec Ideal S2x1024x512 .f32) :
    (transpose S2x2x256x256 [0, 1, 3, 2] (extractStridedSlice S2x2x256x256 ![0, 0, 0, 0] (transpose S2x2x256x512 [0, 2, 3, 1] (Host.dotGeneral dot_S2x1024x512_S2x256x1024_S2x512x2x256_1_2_02_01_n_n none w x) transposes_S2x512x2x256_S2x2x256x512_0_2_3_1) slices_S2x2x256x512_S2x2x256x256_0_0_0_0) transposes_S2x2x256x256_S2x2x256x256_0_1_3_2 : FVec Ideal S2x2x256x256 .f32)
      = cols 0 (by omega) x w := by
  funext y
  obtain ⟨l, b, q, r, rfl⟩ : ∃ (l b : Fin 2) (q r : Fin 256), y = ix4 l b q r := ⟨y 0, y 1, y 2, y 3, eq_ix4 y⟩
  have h : cols 0 (by omega) x w (ix4 l b q r) = ∑ k : Fin 1024, w (ix3 l k (col 0 (by omega) q)) * x (ix3 b r k) := by
    unfold cols entry
    exact Finset.sum_congr rfl fun k _ => mul_comm _ _
  rw [h]
  unfold col
  pointwise

/-- The reference's result array of the values. -/
theorem result3 (x : FVec Ideal S2x256x1024 .f32) (w : FVec Ideal S2x1024x512 .f32) :
    (transpose S2x2x256x256 [0, 1, 3, 2] (extractStridedSlice S2x2x256x256 ![0, 0, 0, 256] (transpose S2x2x256x512 [0, 2, 3, 1] (Host.dotGeneral dot_S2x1024x512_S2x256x1024_S2x512x2x256_1_2_02_01_n_n none w x) transposes_S2x512x2x256_S2x2x256x512_0_2_3_1) slices_S2x2x256x512_S2x2x256x256_0_0_0_256) transposes_S2x2x256x256_S2x2x256x256_0_1_3_2 : FVec Ideal S2x2x256x256 .f32)
      = cols 256 (by omega) x w := by
  funext y
  obtain ⟨l, b, q, r, rfl⟩ : ∃ (l b : Fin 2) (q r : Fin 256), y = ix4 l b q r := ⟨y 0, y 1, y 2, y 3, eq_ix4 y⟩
  have h : cols 256 (by omega) x w (ix4 l b q r) = ∑ k : Fin 1024, w (ix3 l k (col 256 (by omega) q)) * x (ix3 b r k) := by
    unfold cols entry
    exact Finset.sum_congr rfl fun k _ => mul_comm _ _
  rw [h]
  unfold col
  pointwise

end Cert.MemKvReferenceIdeal.Result

end
-- ==== Proof.SampleValue.lean ====
/- The projection of the sample group: the kernel's four result arrays and the plain reference's are the same columns of one product. -/
module

public import proofs.«01_k».proof.Proof.Gen.ProjSampleIdeal.Value
public import proofs.«01_k».proof.Proof.Gen.ProjSampleReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Proof.Sample

open Idealize.ShloMosaic

/-- Entry `(r, j)` of the product of the rows `x` with the one matrix of `w`. -/
def proj (x : Shape.Idx ⟨2, ![32, 1024]⟩ → EReal) (w : Shape.Idx ⟨3, ![1, 1024, 2560]⟩ → EReal) (r : Fin 32) (j : Fin 2560) : EReal :=
  ∑ k, x (ix2 r k) * w (ix3 0 k j)

/-- Column `q` of the `n` columns from `lo`. -/
def col (lo : ℕ) {n : ℕ} (h : lo + n ≤ 2560) (q : Fin n) : Fin 2560 := ⟨lo + q.val, by omega⟩

/-- The columns from `lo` of the product, as an array. -/
def cols (lo n : ℕ) (h : lo + n ≤ 2560) (x : Shape.Idx ⟨2, ![32, 1024]⟩ → EReal) (w : Shape.Idx ⟨3, ![1, 1024, 2560]⟩ → EReal) :
    Shape.Idx ⟨2, ![32, n]⟩ → EReal := fun i => proj x w (i 0) (col lo h (i 1))

end Cert.Proof.Sample

namespace Cert.ProjSampleIdeal.Result

open Cert.ProjSampleIdeal Cert.ProjSampleIdeal.Gen Idealize.ShloMosaic Idealize.ShloMosaic.TcCoe Idealize.SL.Sem Cert.Proof.Sample

variable (m : (ℓ : Loc nD τ sig) → Buf (Elt Ideal) ℓ)

theorem V_v1 (c : Dev nD) : V m c main_v1 = (truncf (F := Ideal) (s := S1024x2560) (φ := .f32) .bf16 (shapeCast S1024x2560 (m ((c : Thread nD τ).loc main_arg1)) shapeCasts_S1x1024x2560_S1024x2560) bitsLt_bf16_f32) := by
  unfold V; after_results <;> rfl

theorem cast_at (w : S1x1024x2560.Idx → EReal) (k : Fin 1024) (j : Fin 2560) :
    (truncf (F := Ideal) (s := S1024x2560) (φ := .f32) .bf16 (shapeCast S1024x2560 w shapeCasts_S1x1024x2560_S1024x2560) bitsLt_bf16_f32) (ix2 k j) = w (ix3 0 k j) := by
  pointwise

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)

theorem in0 (c : Dev nD) (t : Fin cfg0.N) (r : Fin 32) (k : Fin 1024) :
    iblk m c 0 t (ix2 r k) = m ((c : Thread nD τ).loc main_arg0) (ix2 r k) := by
  rw [← V_main_arg0 m c]
  blk_ext [iblk, e0]

theorem in1 (c : Dev nD) (t : Fin cfg0.N) (k : Fin 1024) (j : Fin 2560) :
    iblk m c 1 t (ix2 k j) = m ((c : Thread nD τ).loc main_arg1) (ix3 0 k j) := by
  have h : iblk m c 1 t (ix2 k j) = V m c main_v1 (ix2 k j) := by blk_ext [iblk, e1]
  rw [h, V_v1]
  exact cast_at _ k j

/-- The queries: one block of the body, as columns from 0 of the product. -/
theorem pay2 (v0 : Vec Ideal S32x1024 .f32) (v1 : Vec Ideal S1024x768 .bf16) (r : Fin 32) (q : Fin 768) :
    k0_pay2 (F := Ideal) v0 v1 (ix2 r q) = ∑ k : Fin 1024, v0 (ix2 r k) * v1 (ix2 k q) := by
  unfold_payloads
  pointwise

/-- The body's formula of the queries at a block index. -/
def f2 (x0 : Vec Ideal S32x1024 .f32) (x1 : Vec Ideal S1024x2560 .bf16) (y : S32x768.Idx) : EReal :=
  ∑ k : Fin 1024, x0 (ix2 (y 0) k) * x1 (ix2 k (col 0 (n := 768) (by omega) (y 1)))

theorem piece2 (x0 : Vec Ideal S32x1024 .f32) (x1 : Vec Ideal S1024x2560 .bf16) (r : Fin 32) (q : Fin 768) :
    k0_pay2 (F := Ideal) (View.ld x0 r0_0) (View.ld x1 r0_1) (ix2 r q) = f2 x0 x1 (ix2 r q) := by
  refine (pay2 _ _ r q).trans ?_
  unfold f2 col
  pointwise

theorem emb2 (r : Fin 32) (q : Fin 768) : (r0_5.emb (ix2 r q) : S32x768.Idx) = ix2 r q := by
  funext a
  apply Fin.ext
  unfold r0_5
  rw [ValueKit.rect_emb_unit_val]
  match a with
  | ⟨0, _⟩ => exact Nat.zero_add _
  | ⟨1, _⟩ => exact Nat.zero_add _

theorem out2 (x0 : Vec Ideal S32x1024 .f32) (x1 : Vec Ideal S1024x2560 .bf16) (y : S32x768.Idx) :
    out0_2 (F := Ideal) x0 x1 y = f2 x0 x1 y := by
  unfold out0_2
  refine View.canon_apply_of_pieces (Val := Elt Ideal) (e := .f32) (f2 x0 x1) _ ?_ y (cover0_2 _ y)
  intro p hp z
  simp only [List.mem_cons, List.not_mem_nil, or_false] at hp
  subst hp
  obtain ⟨r, q, rfl⟩ : ∃ (r : Fin 32) (q : Fin 768), z = ix2 r q := ⟨z 0, z 1, eq_ix2 z⟩
  exact (piece2 x0 x1 r q).trans (congrArg (f2 x0 x1) (emb2 r q).symm)

/-- The kernel's result array of the queries. -/
theorem final2 (c : Dev nD) : (dats m 0 c).arrAt 2 cfg0.N =
    cols 0 768 (by omega) (m ((c : Thread nD τ).loc main_arg0)) (m ((c : Thread nD τ).loc main_arg1)) := by
  refine (dats m 0 c).arrAt_eq_of_covers 2 _ (by decide +kernel) fun t hf y => ?_
  blk_simp
  rw [after0_2]
  refine (out2 _ _ _).trans ?_
  obtain ⟨r, q, rfl⟩ : ∃ (r : Fin 32) (q : Fin 768), y = ix2 r q := ⟨y 0, y 1, eq_ix2 y⟩
  have hi : ((win0_2.blk t).view.emb (ix2 r q) : S32x768.Idx) = ix2 r q := by
    blk_ext [e2]
  refine Eq.trans ?_ (congrArg (cols 0 768 (by omega) _ _) hi.symm)
  unfold f2 cols proj
  refine Finset.sum_congr rfl fun k _ => ?_
  exact congrArg₂ (· * ·) (in0 m c t r k) (in1 m c t k _)

/-- The keys: one block of the body, as columns from 768 of the product. -/
theorem pay3 (v0 : Vec Ideal S32x1024 .f32) (v1 : Vec Ideal S1024x768 .bf16) (r : Fin 32) (q : Fin 768) :
    k0_pay3 (F := Ideal) v0 v1 (ix2 r q) = ∑ k : Fin 1024, v0 (ix2 r k) * v1 (ix2 k q) := by
  unfold_payloads
  pointwise

/-- The body's formula of the keys at a block index. -/
def f3 (x0 : Vec Ideal S32x1024 .f32) (x1 : Vec Ideal S1024x2560 .bf16) (y : S32x768.Idx) : EReal :=
  ∑ k : Fin 1024, x0 (ix2 (y 0) k) * x1 (ix2 k (col 768 (n := 768) (by omega) (y 1)))

theorem piece3 (x0 : Vec Ideal S32x1024 .f32) (x1 : Vec Ideal S1024x2560 .bf16) (r : Fin 32) (q : Fin 768) :
    k0_pay3 (F := Ideal) (View.ld x0 r0_0) (View.ld x1 r0_2) (ix2 r q) = f3 x0 x1 (ix2 r q) := by
  refine (pay3 _ _ r q).trans ?_
  unfold f3 col
  pointwise

theorem emb3 (r : Fin 32) (q : Fin 768) : (r0_5.emb (ix2 r q) : S32x768.Idx) = ix2 r q := by
  funext a
  apply Fin.ext
  unfold r0_5
  rw [ValueKit.rect_emb_unit_val]
  match a with
  | ⟨0, _⟩ => exact Nat.zero_add _
  | ⟨1, _⟩ => exact Nat.zero_add _

theorem out3 (x0 : Vec Ideal S32x1024 .f32) (x1 : Vec Ideal S1024x2560 .bf16) (y : S32x768.Idx) :
    out0_3 (F := Ideal) x0 x1 y = f3 x0 x1 y := by
  unfold out0_3
  refine View.canon_apply_of_pieces (Val := Elt Ideal) (e := .f32) (f3 x0 x1) _ ?_ y (cover0_3 _ y)
  intro p hp z
  simp only [List.mem_cons, List.not_mem_nil, or_false] at hp
  subst hp
  obtain ⟨r, q, rfl⟩ : ∃ (r : Fin 32) (q : Fin 768), z = ix2 r q := ⟨z 0, z 1, eq_ix2 z⟩
  exact (piece3 x0 x1 r q).trans (congrArg (f3 x0 x1) (emb3 r q).symm)

/-- The kernel's result array of the keys. -/
theorem final3 (c : Dev nD) : (dats m 0 c).arrAt 3 cfg0.N =
    cols 768 768 (by omega) (m ((c : Thread nD τ).loc main_arg0)) (m ((c : Thread nD τ).loc main_arg1)) := by
  refine (dats m 0 c).arrAt_eq_of_covers 3 _ (by decide +kernel) fun t hf y => ?_
  blk_simp
  rw [after0_3]
  refine (out3 _ _ _).trans ?_
  obtain ⟨r, q, rfl⟩ : ∃ (r : Fin 32) (q : Fin 768), y = ix2 r q := ⟨y 0, y 1, eq_ix2 y⟩
  have hi : ((win0_3.blk t).view.emb (ix2 r q) : S32x768.Idx) = ix2 r q := by
    blk_ext [e3]
  refine Eq.trans ?_ (congrArg (cols 768 768 (by omega) _ _) hi.symm)
  unfold f3 cols proj
  refine Finset.sum_congr rfl fun k _ => ?_
  exact congrArg₂ (· * ·) (in0 m c t r k) (in1 m c t k _)

/-- The values: one block of the body, as columns from 1536 of the product. -/
theorem pay4 (v0 : Vec Ideal S32x1024 .f32) (v1 : Vec Ideal S1024x768 .bf16) (r : Fin 32) (q : Fin 768) :
    k0_pay4 (F := Ideal) v0 v1 (ix2 r q) = ∑ k : Fin 1024, v0 (ix2 r k) * v1 (ix2 k q) := by
  unfold_payloads
  pointwise

/-- The body's formula of the values at a block index. -/
def f4 (x0 : Vec Ideal S32x1024 .f32) (x1 : Vec Ideal S1024x2560 .bf16) (y : S32x768.Idx) : EReal :=
  ∑ k : Fin 1024, x0 (ix2 (y 0) k) * x1 (ix2 k (col 1536 (n := 768) (by omega) (y 1)))

theorem piece4 (x0 : Vec Ideal S32x1024 .f32) (x1 : Vec Ideal S1024x2560 .bf16) (r : Fin 32) (q : Fin 768) :
    k0_pay4 (F := Ideal) (View.ld x0 r0_0) (View.ld x1 r0_3) (ix2 r q) = f4 x0 x1 (ix2 r q) := by
  refine (pay4 _ _ r q).trans ?_
  unfold f4 col
  pointwise

theorem emb4 (r : Fin 32) (q : Fin 768) : (r0_5.emb (ix2 r q) : S32x768.Idx) = ix2 r q := by
  funext a
  apply Fin.ext
  unfold r0_5
  rw [ValueKit.rect_emb_unit_val]
  match a with
  | ⟨0, _⟩ => exact Nat.zero_add _
  | ⟨1, _⟩ => exact Nat.zero_add _

theorem out4 (x0 : Vec Ideal S32x1024 .f32) (x1 : Vec Ideal S1024x2560 .bf16) (y : S32x768.Idx) :
    out0_4 (F := Ideal) x0 x1 y = f4 x0 x1 y := by
  unfold out0_4
  refine View.canon_apply_of_pieces (Val := Elt Ideal) (e := .f32) (f4 x0 x1) _ ?_ y (cover0_4 _ y)
  intro p hp z
  simp only [List.mem_cons, List.not_mem_nil, or_false] at hp
  subst hp
  obtain ⟨r, q, rfl⟩ : ∃ (r : Fin 32) (q : Fin 768), z = ix2 r q := ⟨z 0, z 1, eq_ix2 z⟩
  exact (piece4 x0 x1 r q).trans (congrArg (f4 x0 x1) (emb4 r q).symm)

/-- The kernel's result array of the values. -/
theorem final4 (c : Dev nD) : (dats m 0 c).arrAt 4 cfg0.N =
    cols 1536 768 (by omega) (m ((c : Thread nD τ).loc main_arg0)) (m ((c : Thread nD τ).loc main_arg1)) := by
  refine (dats m 0 c).arrAt_eq_of_covers 4 _ (by decide +kernel) fun t hf y => ?_
  blk_simp
  rw [after0_4]
  refine (out4 _ _ _).trans ?_
  obtain ⟨r, q, rfl⟩ : ∃ (r : Fin 32) (q : Fin 768), y = ix2 r q := ⟨y 0, y 1, eq_ix2 y⟩
  have hi : ((win0_4.blk t).view.emb (ix2 r q) : S32x768.Idx) = ix2 r q := by
    blk_ext [e4]
  refine Eq.trans ?_ (congrArg (cols 1536 768 (by omega) _ _) hi.symm)
  unfold f4 cols proj
  refine Finset.sum_congr rfl fun k _ => ?_
  exact congrArg₂ (· * ·) (in0 m c t r k) (in1 m c t k _)

/-- The memory queries: one block of the body, as columns from 2304 of the product. -/
theorem pay5 (v0 : Vec Ideal S32x1024 .f32) (v1 : Vec Ideal S1024x256 .bf16) (r : Fin 32) (q : Fin 256) :
    k0_pay5 (F := Ideal) v0 v1 (ix2 r q) = ∑ k : Fin 1024, v0 (ix2 r k) * v1 (ix2 k q) := by
  unfold_payloads
  pointwise

/-- The body's formula of the memory queries at a block index. -/
def f5 (x0 : Vec Ideal S32x1024 .f32) (x1 : Vec Ideal S1024x2560 .bf16) (y : S32x256.Idx) : EReal :=
  ∑ k : Fin 1024, x0 (ix2 (y 0) k) * x1 (ix2 k (col 2304 (n := 256) (by omega) (y 1)))

theorem piece5 (x0 : Vec Ideal S32x1024 .f32) (x1 : Vec Ideal S1024x2560 .bf16) (r : Fin 32) (q : Fin 256) :
    k0_pay5 (F := Ideal) (View.ld x0 r0_0) (View.ld x1 r0_4) (ix2 r q) = f5 x0 x1 (ix2 r q) := by
  refine (pay5 _ _ r q).trans ?_
  unfold f5 col
  pointwise

theorem emb5 (r : Fin 32) (q : Fin 256) : (r0_6.emb (ix2 r q) : S32x256.Idx) = ix2 r q := by
  funext a
  apply Fin.ext
  unfold r0_6
  rw [ValueKit.rect_emb_unit_val]
  match a with
  | ⟨0, _⟩ => exact Nat.zero_add _
  | ⟨1, _⟩ => exact Nat.zero_add _

theorem out5 (x0 : Vec Ideal S32x1024 .f32) (x1 : Vec Ideal S1024x2560 .bf16) (y : S32x256.Idx) :
    out0_5 (F := Ideal) x0 x1 y = f5 x0 x1 y := by
  unfold out0_5
  refine View.canon_apply_of_pieces (Val := Elt Ideal) (e := .f32) (f5 x0 x1) _ ?_ y (cover0_5 _ y)
  intro p hp z
  simp only [List.mem_cons, List.not_mem_nil, or_false] at hp
  subst hp
  obtain ⟨r, q, rfl⟩ : ∃ (r : Fin 32) (q : Fin 256), z = ix2 r q := ⟨z 0, z 1, eq_ix2 z⟩
  exact (piece5 x0 x1 r q).trans (congrArg (f5 x0 x1) (emb5 r q).symm)

/-- The kernel's result array of the memory queries. -/
theorem final5 (c : Dev nD) : (dats m 0 c).arrAt 5 cfg0.N =
    cols 2304 256 (by omega) (m ((c : Thread nD τ).loc main_arg0)) (m ((c : Thread nD τ).loc main_arg1)) := by
  refine (dats m 0 c).arrAt_eq_of_covers 5 _ (by decide +kernel) fun t hf y => ?_
  blk_simp
  rw [after0_5]
  refine (out5 _ _ _).trans ?_
  obtain ⟨r, q, rfl⟩ : ∃ (r : Fin 32) (q : Fin 256), y = ix2 r q := ⟨y 0, y 1, eq_ix2 y⟩
  have hi : ((win0_5.blk t).view.emb (ix2 r q) : S32x256.Idx) = ix2 r q := by
    blk_ext [e5]
  refine Eq.trans ?_ (congrArg (cols 2304 256 (by omega) _ _) hi.symm)
  unfold f5 cols proj
  refine Finset.sum_congr rfl fun k _ => ?_
  exact congrArg₂ (· * ·) (in0 m c t r k) (in1 m c t k _)

end Cert.ProjSampleIdeal.Result

namespace Cert.ProjSampleReferenceIdeal.Result

open Cert.ProjSampleReferenceIdeal Cert.ProjSampleReferenceIdeal.Gen Idealize.ShloMosaic Idealize.ShloMosaic.TcCoe Idealize.SL.Sem Cert.Proof.Sample

/-- The reference's result array of the queries. -/
theorem result2 (x : FVec Ideal S32x1024 .f32) (w : FVec Ideal S1x1024x2560 .f32) :
    (extractStridedSlice S32x768 ![0, 0] (Host.dotGeneral dot_S32x1024_S1024x2560_S32x2560_1_0_0_1_n_n none x (shapeCast _ w shapeCasts_S1x1024x2560_S1024x2560)) slices_S32x2560_S32x768_0_0 : FVec Ideal S32x768 .f32)
      = cols 0 768 (by omega) x w := by
  funext y
  obtain ⟨r, q, rfl⟩ : ∃ (r : Fin 32) (q : Fin 768), y = ix2 r q := ⟨y 0, y 1, eq_ix2 y⟩
  unfold cols proj col
  pointwise

/-- The reference's result array of the keys. -/
theorem result3 (x : FVec Ideal S32x1024 .f32) (w : FVec Ideal S1x1024x2560 .f32) :
    (extractStridedSlice S32x768 ![0, 768] (Host.dotGeneral dot_S32x1024_S1024x2560_S32x2560_1_0_0_1_n_n none x (shapeCast _ w shapeCasts_S1x1024x2560_S1024x2560)) slices_S32x2560_S32x768_0_768 : FVec Ideal S32x768 .f32)
      = cols 768 768 (by omega) x w := by
  funext y
  obtain ⟨r, q, rfl⟩ : ∃ (r : Fin 32) (q : Fin 768), y = ix2 r q := ⟨y 0, y 1, eq_ix2 y⟩
  unfold cols proj col
  pointwise

/-- The reference's result array of the values. -/
theorem result4 (x : FVec Ideal S32x1024 .f32) (w : FVec Ideal S1x1024x2560 .f32) :
    (extractStridedSlice S32x768 ![0, 1536] (Host.dotGeneral dot_S32x1024_S1024x2560_S32x2560_1_0_0_1_n_n none x (shapeCast _ w shapeCasts_S1x1024x2560_S1024x2560)) slices_S32x2560_S32x768_0_1536 : FVec Ideal S32x768 .f32)
      = cols 1536 768 (by omega) x w := by
  funext y
  obtain ⟨r, q, rfl⟩ : ∃ (r : Fin 32) (q : Fin 768), y = ix2 r q := ⟨y 0, y 1, eq_ix2 y⟩
  unfold cols proj col
  pointwise

/-- The reference's result array of the memory queries. -/
theorem result5 (x : FVec Ideal S32x1024 .f32) (w : FVec Ideal S1x1024x2560 .f32) :
    (extractStridedSlice S32x256 ![0, 2304] (Host.dotGeneral dot_S32x1024_S1024x2560_S32x2560_1_0_0_1_n_n none x (shapeCast _ w shapeCasts_S1x1024x2560_S1024x2560)) slices_S32x2560_S32x256_0_2304 : FVec Ideal S32x256 .f32)
      = cols 2304 256 (by omega) x w := by
  funext y
  obtain ⟨r, q, rfl⟩ : ∃ (r : Fin 32) (q : Fin 256), y = ix2 r q := ⟨y 0, y 1, eq_ix2 y⟩
  unfold cols proj col
  pointwise

end Cert.ProjSampleReferenceIdeal.Result

end
-- ==== Proof.ProjValue.lean ====
/- The prompt's new keys and values: the kernel stores every page and head of its row block as a cut of a product of 256 rows;
   both result arrays, and the plain reference's, are the same columns of one product, laid out by page and head. -/
module

public import proofs.«01_k».proof.Proof.Gen.ProjIdeal.Value
public import proofs.«01_k».proof.Proof.Gen.ProjReferenceIdeal.Run
public import Idealize.ShloMosaic.Lib.Pipeline.ValueKit
public import Idealize.ShloMosaic.Lib.Pointwise
public import Idealize.ShloMosaic.Lib.Tactic.CleanTypes

@[expose] public section

set_option maxRecDepth 65536

noncomputable section

namespace Cert.Proof.Paged

open Idealize.ShloMosaic

/-- Row `r` of page `p`, among the prompt's rows. -/
def prow (p r : Fin 128) : Fin 16384 := ⟨p.val * 128 + r.val, by omega⟩

/-- Lane `e` of head `h`, among the columns from `lo`. -/
def lane (lo : ℕ) (hlo : lo + 768 ≤ 2560) (h : Fin 6) (e : Fin 128) : Fin 2560 := ⟨lo + (h.val * 128 + e.val), by omega⟩

/-- The columns from `lo` of the product, by page, head, row of the page and lane of the head. -/
def paged (lo : ℕ) (hlo : lo + 768 ≤ 2560) (x : Shape.Idx ⟨2, ![16384, 1024]⟩ → EReal) (w : Shape.Idx ⟨3, ![1, 1024, 2560]⟩ → EReal) :
    Shape.Idx ⟨4, ![128, 6, 128, 128]⟩ → EReal := fun i => ∑ k, x (ix2 (prow (i 0) (i 2)) k) * w (ix3 0 k (lane lo hlo (i 1) (i 3)))

end Cert.Proof.Paged

namespace Cert.ProjIdeal.Result

open Cert.ProjIdeal Cert.ProjIdeal.Gen Idealize.ShloMosaic Idealize.ShloMosaic.TcCoe Idealize.SL.Sem Cert.Proof.Paged

/-- A load of 256 rows from row `o` of the block of inputs. -/
theorem load0 (arg1 : Memref sig .tc .vmem S1024x1024 .f32) (harg1 : arg1.IsWhole) (x0 : Vec Ideal S1024x1024 .f32) (o : ℕ) (ho : o + 256 ≤ 1024) (inb) (r : Fin 256) (k : Fin 1024) :
    View.readAt (Elt Ideal) arg1.view (Rect.unit (s := S1024x1024) ![o, 0] S256x1024.size inb).toLoadRect (harg1.unread x0) (ix2 r k)
      = x0 (ix2 ⟨o + r.val, by omega⟩ k) := by
  refine (congrFun (harg1.read_unread x0) _).trans (congrArg x0 (funext fun a => Fin.ext ?_))
  match a with
  | ⟨0, _⟩ => exact congrArg (o + ·) (Nat.one_mul _)
  | ⟨1, _⟩ => exact (Nat.zero_add _).trans (Nat.one_mul _)

/-- A load of 768 columns from column `lo` of the weights. -/
theorem load1 (arg2 : Memref sig .tc .vmem S1024x2560 .bf16) (harg2 : arg2.IsWhole) (x1 : Vec Ideal S1024x2560 .bf16) (lo : ℕ) (hlo : lo + 768 ≤ 2560) (inb) (k : Fin 1024) (j : Fin 768) :
    View.readAt (Elt Ideal) arg2.view (Rect.unit (s := S1024x2560) ![0, lo] S1024x768.size inb).toLoadRect (harg2.unread x1) (ix2 k j)
      = x1 (ix2 k ⟨lo + j.val, by omega⟩) := by
  refine (congrFun (harg2.read_unread x1) _).trans (congrArg x1 (funext fun a => Fin.ext ?_))
  match a with
  | ⟨0, _⟩ => exact (Nat.zero_add _).trans (Nat.one_mul _)
  | ⟨1, _⟩ => exact congrArg (lo + ·) (Nat.one_mul _)

/-- Row `r` of the input block against column `j` of the weights. -/
def dot (x0 : Vec Ideal S1024x1024 .f32) (x1 : Vec Ideal S1024x2560 .bf16) (r : Fin 1024) (j : Fin 2560) : EReal :=
  ∑ k : Fin 1024, x0 (ix2 r k) * x1 (ix2 k j)

theorem pay7 (v : Vec Ideal S256x1024 .f32) (u : Vec Ideal S1024x768 .bf16) (r : Fin 256) (j : Fin 768) :
    k0_pay7 (F := Ideal) v u (ix2 r j) = ∑ k : Fin 1024, v (ix2 r k) * u (ix2 k j) := by
  unfold_payloads
  pointwise

theorem pay8 (v : Vec Ideal S256x1024 .f32) (u : Vec Ideal S1024x768 .bf16) (r : Fin 256) (j : Fin 768) :
    k0_pay8 (F := Ideal) v u (ix2 r j) = ∑ k : Fin 1024, v (ix2 r k) * u (ix2 k j) := by
  unfold_payloads
  pointwise

theorem pay12 (v : Vec Ideal S256x1024 .f32) (u : Vec Ideal S1024x768 .bf16) (r : Fin 256) (j : Fin 768) :
    k0_pay12 (F := Ideal) v u (ix2 r j) = ∑ k : Fin 1024, v (ix2 r k) * u (ix2 k j) := by
  unfold_payloads
  pointwise

theorem pay13 (v : Vec Ideal S256x1024 .f32) (u : Vec Ideal S1024x768 .bf16) (r : Fin 256) (j : Fin 768) :
    k0_pay13 (F := Ideal) v u (ix2 r j) = ∑ k : Fin 1024, v (ix2 r k) * u (ix2 k j) := by
  unfold_payloads
  pointwise

theorem pay84 (v : Vec Ideal S256x1024 .f32) (u : Vec Ideal S1024x768 .bf16) (r : Fin 256) (j : Fin 768) :
    k0_pay84 (F := Ideal) v u (ix2 r j) = ∑ k : Fin 1024, v (ix2 r k) * u (ix2 k j) := by
  unfold_payloads
  pointwise

theorem pay85 (v : Vec Ideal S256x1024 .f32) (u : Vec Ideal S1024x768 .bf16) (r : Fin 256) (j : Fin 768) :
    k0_pay85 (F := Ideal) v u (ix2 r j) = ∑ k : Fin 1024, v (ix2 r k) * u (ix2 k j) := by
  unfold_payloads
  pointwise

theorem pay158 (v : FVec Ideal S256x1024 .bf16) (u : Vec Ideal S1024x768 .bf16) (r : Fin 256) (j : Fin 768) :
    k0_pay158 (F := Ideal) v u (ix2 r j) = ∑ k : Fin 1024, v (ix2 r k) * u (ix2 k j) := by
  unfold_payloads
  pointwise

theorem pay159 (v : FVec Ideal S256x1024 .bf16) (u : Vec Ideal S1024x768 .bf16) (r : Fin 256) (j : Fin 768) :
    k0_pay159 (F := Ideal) v u (ix2 r j) = ∑ k : Fin 1024, v (ix2 r k) * u (ix2 k j) := by
  unfold_payloads
  pointwise

section
variable (c : Dev nD) (arg1 : Memref sig .tc .vmem S1024x1024 .f32) (harg1 : arg1.IsWhole) (arg2 : Memref sig .tc .vmem S1024x2560 .bf16) (harg2 : arg2.IsWhole)
  (x0 : Vec Ideal S1024x1024 .f32) (x1 : Vec Ideal S1024x2560 .bf16)

/-- The product of the rows from 0 of the block and the columns from 768. -/
theorem tile_r_2 (r : Fin 256) (j : Fin 768) :
    kernelRun0_A.sl.r_2 c arg1 harg1 arg2 harg2 x0 x1 (ix2 r j) = dot x0 x1 ⟨0 + r.val, by omega⟩ ⟨768 + j.val, by omega⟩ := by
  unfold dot
  exact (pay7 _ _ r j).trans (Finset.sum_congr rfl fun k _ =>
    congrArg₂ (· * ·) (load0 arg1 harg1 x0 0 (by omega) _ r k) (load1 arg2 harg2 x1 768 (by omega) _ k j))

/-- The product of the rows from 0 of the block and the columns from 1536. -/
theorem tile_r_3 (r : Fin 256) (j : Fin 768) :
    kernelRun0_A.sl.r_3 c arg1 harg1 arg2 harg2 x0 x1 (ix2 r j) = dot x0 x1 ⟨0 + r.val, by omega⟩ ⟨1536 + j.val, by omega⟩ := by
  unfold dot
  exact (pay8 _ _ r j).trans (Finset.sum_congr rfl fun k _ =>
    congrArg₂ (· * ·) (load0 arg1 harg1 x0 0 (by omega) _ r k) (load1 arg2 harg2 x1 1536 (by omega) _ k j))

/-- The product of the rows from 256 of the block and the columns from 768. -/
theorem tile_r_6 (r : Fin 256) (j : Fin 768) :
    kernelRun0_A.sl.r_6 c arg1 harg1 arg2 harg2 x0 x1 (ix2 r j) = dot x0 x1 ⟨256 + r.val, by omega⟩ ⟨768 + j.val, by omega⟩ := by
  unfold dot
  exact (pay12 _ _ r j).trans (Finset.sum_congr rfl fun k _ =>
    congrArg₂ (· * ·) (load0 arg1 harg1 x0 256 (by omega) _ r k) (load1 arg2 harg2 x1 768 (by omega) _ k j))

/-- The product of the rows from 256 of the block and the columns from 1536. -/
theorem tile_r_7 (r : Fin 256) (j : Fin 768) :
    kernelRun0_A.sl.r_7 c arg1 harg1 arg2 harg2 x0 x1 (ix2 r j) = dot x0 x1 ⟨256 + r.val, by omega⟩ ⟨1536 + j.val, by omega⟩ := by
  unfold dot
  exact (pay13 _ _ r j).trans (Finset.sum_congr rfl fun k _ =>
    congrArg₂ (· * ·) (load0 arg1 harg1 x0 256 (by omega) _ r k) (load1 arg2 harg2 x1 1536 (by omega) _ k j))

/-- The product of the rows from 512 of the block and the columns from 768. -/
theorem tile_r_19 (r : Fin 256) (j : Fin 768) :
    kernelRun0_A.sl.r_19 c arg1 harg1 arg2 harg2 x0 x1 (ix2 r j) = dot x0 x1 ⟨512 + r.val, by omega⟩ ⟨768 + j.val, by omega⟩ := by
  unfold dot
  exact (pay84 _ _ r j).trans (Finset.sum_congr rfl fun k _ =>
    congrArg₂ (· * ·) (load0 arg1 harg1 x0 512 (by omega) _ r k) (load1 arg2 harg2 x1 768 (by omega) _ k j))

/-- The product of the rows from 512 of the block and the columns from 1536. -/
theorem tile_r_20 (r : Fin 256) (j : Fin 768) :
    kernelRun0_A.sl.r_20 c arg1 harg1 arg2 harg2 x0 x1 (ix2 r j) = dot x0 x1 ⟨512 + r.val, by omega⟩ ⟨1536 + j.val, by omega⟩ := by
  unfold dot
  exact (pay85 _ _ r j).trans (Finset.sum_congr rfl fun k _ =>
    congrArg₂ (· * ·) (load0 arg1 harg1 x0 512 (by omega) _ r k) (load1 arg2 harg2 x1 1536 (by omega) _ k j))

/-- The product of the rows from 768 of the block and the columns from 768. -/
theorem tile_r_36 (r : Fin 256) (j : Fin 768) :
    kernelRun0_A.sl.r_36 c arg1 harg1 arg2 harg2 x0 x1 (ix2 r j) = dot x0 x1 ⟨768 + r.val, by omega⟩ ⟨768 + j.val, by omega⟩ := by
  unfold dot
  exact (pay158 _ _ r j).trans (Finset.sum_congr rfl fun k _ =>
    congrArg₂ (· * ·) (load0 arg1 harg1 x0 768 (by omega) _ r k) (load1 arg2 harg2 x1 768 (by omega) _ k j))

/-- The product of the rows from 768 of the block and the columns from 1536. -/
theorem tile_r_37 (r : Fin 256) (j : Fin 768) :
    kernelRun0_A.sl.r_37 c arg1 harg1 arg2 harg2 x0 x1 (ix2 r j) = dot x0 x1 ⟨768 + r.val, by omega⟩ ⟨1536 + j.val, by omega⟩ := by
  unfold dot
  exact (pay159 _ _ r j).trans (Finset.sum_congr rfl fun k _ =>
    congrArg₂ (· * ·) (load0 arg1 harg1 x0 768 (by omega) _ r k) (load1 arg2 harg2 x1 1536 (by omega) _ k j))
end

theorem cut0_0 (T : FVec Ideal S256x768 .f32) (z : S1x1x128x128.Idx) :
    shapeCast S1x1x128x128 (extractStridedSlice S128x128 ![0, 0] T slices_S256x768_o0_0_S128x128) shapeCasts_S128x128_S1x1x128x128 z
      = T (ix2 (⟨0 + (z 2).val, by have := (z 2).isLt; change (z 2).val < 128 at this; omega⟩ : Fin 256) (⟨0 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨0 + r.val, _⟩ : Fin 256) (⟨0 + e.val, _⟩ : Fin 768))
  pointwise

theorem cut0_1 (T : FVec Ideal S256x768 .f32) (z : S1x1x128x128.Idx) :
    shapeCast S1x1x128x128 (extractStridedSlice S128x128 ![0, 128] T slices_S256x768_o0_128_S128x128) shapeCasts_S128x128_S1x1x128x128 z
      = T (ix2 (⟨0 + (z 2).val, by have := (z 2).isLt; change (z 2).val < 128 at this; omega⟩ : Fin 256) (⟨128 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨0 + r.val, _⟩ : Fin 256) (⟨128 + e.val, _⟩ : Fin 768))
  pointwise

theorem cut0_2 (T : FVec Ideal S256x768 .f32) (z : S1x1x128x128.Idx) :
    shapeCast S1x1x128x128 (extractStridedSlice S128x128 ![0, 256] T slices_S256x768_o0_256_S128x128) shapeCasts_S128x128_S1x1x128x128 z
      = T (ix2 (⟨0 + (z 2).val, by have := (z 2).isLt; change (z 2).val < 128 at this; omega⟩ : Fin 256) (⟨256 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨0 + r.val, _⟩ : Fin 256) (⟨256 + e.val, _⟩ : Fin 768))
  pointwise

theorem cut0_3 (T : FVec Ideal S256x768 .f32) (z : S1x1x128x128.Idx) :
    shapeCast S1x1x128x128 (extractStridedSlice S128x128 ![0, 384] T slices_S256x768_o0_384_S128x128) shapeCasts_S128x128_S1x1x128x128 z
      = T (ix2 (⟨0 + (z 2).val, by have := (z 2).isLt; change (z 2).val < 128 at this; omega⟩ : Fin 256) (⟨384 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨0 + r.val, _⟩ : Fin 256) (⟨384 + e.val, _⟩ : Fin 768))
  pointwise

theorem cut0_4 (T : FVec Ideal S256x768 .f32) (z : S1x1x128x128.Idx) :
    shapeCast S1x1x128x128 (extractStridedSlice S128x128 ![0, 512] T slices_S256x768_o0_512_S128x128) shapeCasts_S128x128_S1x1x128x128 z
      = T (ix2 (⟨0 + (z 2).val, by have := (z 2).isLt; change (z 2).val < 128 at this; omega⟩ : Fin 256) (⟨512 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨0 + r.val, _⟩ : Fin 256) (⟨512 + e.val, _⟩ : Fin 768))
  pointwise

theorem cut0_5 (T : FVec Ideal S256x768 .f32) (z : S1x1x128x128.Idx) :
    shapeCast S1x1x128x128 (extractStridedSlice S128x128 ![0, 640] T slices_S256x768_o0_640_S128x128) shapeCasts_S128x128_S1x1x128x128 z
      = T (ix2 (⟨0 + (z 2).val, by have := (z 2).isLt; change (z 2).val < 128 at this; omega⟩ : Fin 256) (⟨640 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨0 + r.val, _⟩ : Fin 256) (⟨640 + e.val, _⟩ : Fin 768))
  pointwise

theorem cut128_0 (T : FVec Ideal S256x768 .f32) (z : S1x1x128x128.Idx) :
    shapeCast S1x1x128x128 (extractStridedSlice S128x128 ![128, 0] T slices_S256x768_o128_0_S128x128) shapeCasts_S128x128_S1x1x128x128 z
      = T (ix2 (⟨128 + (z 2).val, by have := (z 2).isLt; change (z 2).val < 128 at this; omega⟩ : Fin 256) (⟨0 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨128 + r.val, _⟩ : Fin 256) (⟨0 + e.val, _⟩ : Fin 768))
  pointwise

theorem cut128_1 (T : FVec Ideal S256x768 .f32) (z : S1x1x128x128.Idx) :
    shapeCast S1x1x128x128 (extractStridedSlice S128x128 ![128, 128] T slices_S256x768_o128_128_S128x128) shapeCasts_S128x128_S1x1x128x128 z
      = T (ix2 (⟨128 + (z 2).val, by have := (z 2).isLt; change (z 2).val < 128 at this; omega⟩ : Fin 256) (⟨128 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨128 + r.val, _⟩ : Fin 256) (⟨128 + e.val, _⟩ : Fin 768))
  pointwise

theorem cut128_2 (T : FVec Ideal S256x768 .f32) (z : S1x1x128x128.Idx) :
    shapeCast S1x1x128x128 (extractStridedSlice S128x128 ![128, 256] T slices_S256x768_o128_256_S128x128) shapeCasts_S128x128_S1x1x128x128 z
      = T (ix2 (⟨128 + (z 2).val, by have := (z 2).isLt; change (z 2).val < 128 at this; omega⟩ : Fin 256) (⟨256 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨128 + r.val, _⟩ : Fin 256) (⟨256 + e.val, _⟩ : Fin 768))
  pointwise

theorem cut128_3 (T : FVec Ideal S256x768 .f32) (z : S1x1x128x128.Idx) :
    shapeCast S1x1x128x128 (extractStridedSlice S128x128 ![128, 384] T slices_S256x768_o128_384_S128x128) shapeCasts_S128x128_S1x1x128x128 z
      = T (ix2 (⟨128 + (z 2).val, by have := (z 2).isLt; change (z 2).val < 128 at this; omega⟩ : Fin 256) (⟨384 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨128 + r.val, _⟩ : Fin 256) (⟨384 + e.val, _⟩ : Fin 768))
  pointwise

theorem cut128_4 (T : FVec Ideal S256x768 .f32) (z : S1x1x128x128.Idx) :
    shapeCast S1x1x128x128 (extractStridedSlice S128x128 ![128, 512] T slices_S256x768_o128_512_S128x128) shapeCasts_S128x128_S1x1x128x128 z
      = T (ix2 (⟨128 + (z 2).val, by have := (z 2).isLt; change (z 2).val < 128 at this; omega⟩ : Fin 256) (⟨512 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨128 + r.val, _⟩ : Fin 256) (⟨512 + e.val, _⟩ : Fin 768))
  pointwise

theorem cut128_5 (T : FVec Ideal S256x768 .f32) (z : S1x1x128x128.Idx) :
    shapeCast S1x1x128x128 (extractStridedSlice S128x128 ![128, 640] T slices_S256x768_o128_640_S128x128) shapeCasts_S128x128_S1x1x128x128 z
      = T (ix2 (⟨128 + (z 2).val, by have := (z 2).isLt; change (z 2).val < 128 at this; omega⟩ : Fin 256) (⟨640 + (z 3).val, by have := (z 3).isLt; change (z 3).val < 128 at this; omega⟩ : Fin 768)) := by
  obtain ⟨p, q, r, e, rfl⟩ : ∃ (p q : Fin 1) (r e : Fin 128), z = ix4 p q r e := ⟨z 0, z 1, z 2, z 3, eq_ix4 z⟩
  obtain rfl : p = 0 := Subsingleton.elim _ _
  obtain rfl : q = 0 := Subsingleton.elim _ _
  change _ = T (ix2 (⟨128 + r.val, _⟩ : Fin 256) (⟨640 + e.val, _⟩ : Fin 768))
  pointwise

/-- The entry of a block's page, head, row and lane, from the columns from `lo`. -/
def f (lo : ℕ) (hlo : lo + 768 ≤ 2560) (x0 : Vec Ideal S1024x1024 .f32) (x1 : Vec Ideal S1024x2560 .bf16) (y : S8x6x128x128.Idx) : EReal :=
  dot x0 x1 ⟨128 * (y 0).val + (y 2).val, by
      have h0 := (y 0).isLt; have h2 := (y 2).isLt
      change (y 0).val < 8 at h0; change (y 2).val < 128 at h2; omega⟩ (lane lo hlo (y 1) (y 3))

/-- One stored piece: the cut at row `a` and lane `b` of the product of the rows from `o` is page `P`, head `H`. -/
theorem member (lo : ℕ) (hlo : lo + 768 ≤ 2560) (o a b P H : ℕ) (ho : o + 256 ≤ 1024) (ha : a + 128 ≤ 256) (hb : b + 128 ≤ 768) (hP : o + a = 128 * P) (hH : b = 128 * H)
    (inb) (x0 : Vec Ideal S1024x1024 .f32) (x1 : Vec Ideal S1024x2560 .bf16) (T : FVec Ideal S256x768 .f32)
    (hT : ∀ (r : Fin 256) (j : Fin 768), T (ix2 r j) = dot x0 x1 ⟨o + r.val, by omega⟩ ⟨lo + j.val, by omega⟩)
    (v : S1x1x128x128.Idx → EReal)
    (hv : ∀ z, v z = T (ix2 (⟨a + (z 2).val, by have := (z 2).isLt; change (z 2).val < 128 at this; omega⟩ : Fin 256) (⟨b + (z 3).val, by have := (z 3).isLt; change (z 3).val < 128 at this; omega⟩ : Fin 768)))
    (z : S1x1x128x128.Idx) :
    v z = f lo hlo x0 x1 ((Rect.unit (s := S8x6x128x128) ![P, H, 0, 0] S1x1x128x128.size inb).emb z) := by
  refine ((hv z).trans (hT _ _)).trans ?_
  have z0 : (z 0).val = 0 := by have := (z 0).isLt; change (z 0).val < 1 at this; omega
  have z1 : (z 1).val = 0 := by have := (z 1).isLt; change (z 1).val < 1 at this; omega
  have e0 : ((Rect.unit (s := S8x6x128x128) ![P, H, 0, 0] S1x1x128x128.size inb).emb z 0).val = P := by
    rw [ValueKit.rect_emb_unit_val]
    change P + (z 0).val = P
    omega
  have e1 : ((Rect.unit (s := S8x6x128x128) ![P, H, 0, 0] S1x1x128x128.size inb).emb z 1).val = H := by
    rw [ValueKit.rect_emb_unit_val]
    change H + (z 1).val = H
    omega
  have e2 : ((Rect.unit (s := S8x6x128x128) ![P, H, 0, 0] S1x1x128x128.size inb).emb z 2).val = (z 2).val := by
    rw [ValueKit.rect_emb_unit_val]
    exact Nat.zero_add _
  have e3 : ((Rect.unit (s := S8x6x128x128) ![P, H, 0, 0] S1x1x128x128.size inb).emb z 3).val = (z 3).val := by
    rw [ValueKit.rect_emb_unit_val]
    exact Nat.zero_add _
  unfold f lane
  refine congrArg₂ (dot x0 x1) (Fin.ext ?_) (Fin.ext ?_)
  · change o + (a + (z 2).val) = 128 * _ + _
    rw [e0, e2]
    omega
  · change lo + (b + (z 3).val) = lo + (_ * 128 + _)
    rw [e1, e3]
    omega

/-- The block of output 9 the body leaves. -/
theorem out9 (c : Dev nD) (i : grid0.Coords) (arg1 : Memref sig .tc .vmem S1024x1024 .f32) (harg1 : arg1.IsWhole) (arg2 : Memref sig .tc .vmem S1024x2560 .bf16) (harg2 : arg2.IsWhole) (arg3 : Memref sig .tc .vmem S1x1x256x256 .bf16) (harg3 : arg3.IsWhole) (arg4 : Memref sig .tc .vmem S1x1x1024x256 .bf16) (harg4 : arg4.IsWhole) (arg5 : Memref sig .tc .vmem S128x1024 .f32) (harg5 : arg5.IsWhole) (arg6 : Memref sig .tc .vmem S128x4096 .f32) (harg6 : arg6.IsWhole) (arg7 : Memref sig .tc .vmem S512x1024 .f32) (harg7 : arg7.IsWhole) (arg8 : Memref sig .tc .vmem S64x1792 .f32) (harg8 : arg8.IsWhole) (arg9 : Memref sig .tc .vmem S1x6x1024x128 .bf16) (harg9 : arg9.IsWhole) (arg10 : Memref sig .tc .vmem S8x6x128x128 .f32) (harg10 : arg10.IsWhole) (arg11 : Memref sig .tc .vmem S8x6x128x128 .f32) (harg11 : arg11.IsWhole) (arg12 : Memref sig .tc .vmem S1x6x1024x128 .bf16) (harg12 : arg12.IsWhole) (arg13 : Memref sig .tc .vmem S1x6x1x144x1024 .bf16) (harg13 : arg13.IsWhole) (arg14 : Memref sig .tc .vmem S1024x256 .bf16) (harg14 : arg14.IsWhole) (arg15 : Memref sig .tc .vmem S128x1024 .bf16) (harg15 : arg15.IsWhole) (arg16 : Memref sig .tc .vmem S128x4096 .bf16) (harg16 : arg16.IsWhole) (arg17 : Memref sig .tc .vmem S512x1024 .bf16) (harg17 : arg17.IsWhole) (arg18 : Memref sig .tc .vmem S64x1792 .bf16) (harg18 : arg18.IsWhole)
(x0 : Vec Ideal S1024x1024 .f32) (x1 : Vec Ideal S1024x2560 .bf16) (x2 : Vec Ideal S1x1x256x256 .bf16) (x3 : Vec Ideal S1x1x1024x256 .bf16) (x4 : Vec Ideal S128x1024 .f32) (x5 : Vec Ideal S128x4096 .f32) (x6 : Vec Ideal S512x1024 .f32) (x7 : Vec Ideal S64x1792 .f32)
    (y : S8x6x128x128.Idx) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = f 768 (by omega) x0 x1 y := by
  unfold out0_A_9
  refine View.read_writes_apply_of_pieces VO0_9 VO0_9.junk (f 768 (by omega) x0 x1) _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y)
  unfold kernelRun0_A
  dsimp only
  refine List.forall_mem_cons.2 ⟨fun z => member 768 (by omega) 768 128 640 7 5 (by omega) (by omega) (by omega) rfl rfl inb_S8x6x128x128_S1x1x128x128_7_5_0_0 x0 x1 _ (tile_r_36 c arg1 harg1 arg2 harg2 x0 x1) _ (fun z => cut128_5 _ z) z, ?_⟩
  refine List.forall_mem_cons.2 ⟨fun z => member 768 (by omega) 768 0 640 6 5 (by omega) (by omega) (by omega) rfl rfl inb_S8x6x128x128_S1x1x128x128_6_5_0_0 x0 x1 _ (tile_r_36 c arg1 harg1 arg2 harg2 x0 x1) _ (fun z => cut0_5 _ z) z, ?_⟩
  refine List.forall_mem_cons.2 ⟨fun z => member 768 (by omega) 768 128 512 7 4 (by omega) (by omega) (by omega) rfl rfl inb_S8x6x128x128_S1x1x128x128_7_4_0_0 x0 x1 _ (tile_r_36 c arg1 harg1 arg2 harg2 x0 x1) _ (fun z => cut128_4 _ z) z, ?_⟩
  refine List.forall_mem_cons.2 ⟨fun z => member 768 (by omega) 768 0 512 6 4 (by omega) (by omega) (by omega) rfl rfl inb_S8x6x128x128_S1x1x128x128_6_4_0_0 x0 x1 _ (tile_r_36 c arg1 harg1 arg2 harg2 x0 x1) _ (fun z => cut0_4 _ z) z, ?_⟩
  refine List.forall_mem_cons.2 ⟨fun z => member 768 (by omega) 768 128 384 7 3 (by omega) (by omega) (by omega) rfl rfl inb_S8x6x128x128_S1x1x128x128_7_3_0_0 x0 x1 _ (tile_r_36 c arg1 harg1 arg2 harg2 x0 x1) _ (fun z => cut128_3 _ z) z, ?_⟩
  refine List.forall_mem_cons.2 ⟨fun z => member 768 (by omega) 768 0 384 6 3 (by omega) (by omega) (by omega) rfl rfl inb_S8x6x128x128_S1x1x128x128_6_3_0_0 x0 x1 _ (tile_r_36 c arg1 harg1 arg2 harg2 x0 x1) _ (fun z => cut0_3 _ z) z, ?_⟩
  refine List.forall_mem_cons.2 ⟨fun z => member 768 (by omega) 768 128 256 7 2 (by omega) (by omega) (by omega) rfl rfl inb_S8x6x128x128_S1x1x128x128_7_2_0_0 x0 x1 _ (tile_r_36 c arg1 harg1 arg2 harg2 x0 x1) _ (fun z => cut128_2 _ z) z, ?_⟩
  refine List.forall_mem_cons.2 ⟨fun z => member 768 (by omega) 768 0 256 6 2 (by omega) (by omega) (by omega) rfl rfl inb_S8x6x128x128_S1x1x128x128_6_2_0_0 x0 x1 _ (tile_r_36 c arg1 harg1 arg2 harg2 x0 x1) _ (fun z => cut0_2 _ z) z, ?_⟩
  refine List.forall_mem_cons.2 ⟨fun z => member 768 (by omega) 768 128 128 7 1 (by omega) (by omega) (by omega) rfl rfl inb_S8x6x128x128_S1x1x128x128_7_1_0_0 x0 x1 _ (tile_r_36 c arg1 harg1 arg2 harg2 x0 x1) _ (fun z => cut128_1 _ z) z, ?_⟩
  refine List.forall_mem_cons.2 ⟨fun z => member 768 (by omega) 768 0 128 6 1 (by omega) (by omega) (by omega) rfl rfl inb_S8x6x128x128_S1x1x128x128_6_1_0_0 x0 x1 _ (tile_r_36 c arg1 harg1 arg2 harg2 x0 x1) _ (fun z => cut0_1 _ z) z, ?_⟩
  refine List.forall_mem_cons.2 ⟨fun z => member 768 (by omega) 768 128 0 7 0 (by omega) (by omega) (by omega) rfl rfl inb_S8x6x128x128_S1x1x128x128_7_0_0_0 x0 x1 _ (tile_r_36 c arg1 harg1 arg2 harg2 x0 x1) _ (fun z => cut128_0 _ z) z, ?_⟩
  refine List.forall_mem_cons.2 ⟨fun z => member 768 (by omega) 768 0 0 6 0 (by omega) (by omega) (by omega) rfl rfl inb_S8x6x128x128_S1x1x128x128_6_0_0_0 x0 x1 _ (tile_r_36 c arg1 harg1 arg2 harg2 x0 x1) _ (fun z => cut0_0 _ z) z, ?_⟩
  refine List.forall_mem_cons.2 ⟨fun z => member 768 (by omega) 512 128 640 5 5 (by omega) (by omega) (by omega) rfl rfl inb_S8x6x128x128_S1x1x128x128_5_5_0_0 x0 x1 _ (tile_r_19 c arg1 harg1 arg2 harg2 x0 x1) _ (fun z => cut128_5 _ z) z, ?_⟩
  refine List.forall_mem_cons.2 ⟨fun z => member 768 (by omega) 512 0 640 4 5 (by omega) (by omega) (by omega) rfl rfl inb_S8x6x128x128_S1x1x128x128_4_5_0_0 x0 x1 _ (tile_r_19 c arg1 harg1 arg2 harg2 x0 x1) _ (fun z => cut0_5 _ z) z, ?_⟩
  refine List.forall_mem_cons.2 ⟨fun z => member 768 (by omega) 512 128 512 5 4 (by omega) (by omega) (by omega) rfl rfl inb_S8x6x128x128_S1x1x128x128_5_4_0_0 x0 x1 _ (tile_r_19 c arg1 harg1 arg2 harg2 x0 x1) _ (fun z => cut128_4 _ z) z, ?_⟩
  refine List.forall_mem_cons.2 ⟨fun z => member 768 (by omega) 512 0 512 4 4 (by omega) (by omega) (by omega) rfl rfl inb_S8x6x128x128_S1x1x128x128_4_4_0_0 x0 x1 _ (tile_r_19 c arg1 harg1 arg2 harg2 x0 x1) _ (fun z => cut0_4 _ z) z, ?_⟩
  refine List.forall_mem_cons.2 ⟨fun z => member 768 (by omega) 512 128 384 5 3 (by omega) (by omega) (by omega) rfl rfl inb_S8x6x128x128_S1x1x128x128_5_3_0_0 x0 x1 _ (tile_r_19 c arg1 harg1 arg2 harg2 x0 x1) _ (fun z => cut128_3 _ z) z, ?_⟩
  refine List.forall_mem_cons.2 ⟨fun z => member 768 (by omega) 512 0 384 4 3 (by omega) (by omega) (by omega) rfl rfl inb_S8x6x128x128_S1x1x128x128_4_3_0_0 x0 x1 _ (tile_r_19 c arg1 harg1 arg2 harg2 x0 x1) _ (fun z => cut0_3 _ z) z, ?_⟩
  refine List.forall_mem_cons.2 ⟨fun z => member 768 (by omega) 512 128 256 5 2 (by omega) (by omega) (by omega) rfl rfl inb_S8x6x128x128_S1x1x128x128_5_2_0_0 x0 x1 _ (tile_r_19 c arg1 harg1 arg2 harg2 x0 x1) _ (fun z => cut128_2 _ z) z, ?_⟩
  refine List.forall_mem_cons.2 ⟨fun z => member 768 (by omega) 512 0 256 4 2 (by omega) (by omega) (by omega) rfl rfl inb_S8x6x128x128_S1x1x128x128_4_2_0_0 x0 x1 _ (tile_r_19 c arg1 harg1 arg2 harg2 x0 x1) _ (fun z => cut0_2 _ z) z, ?_⟩
  refine List.forall_mem_cons.2 ⟨fun z => member 768 (by omega) 512 128 128 5 1 (by omega) (by omega) (by omega) rfl rfl inb_S8x6x128x128_S1x1x128x128_5_1_0_0 x0 x1 _ (tile_r_19 c arg1 harg1 arg2 harg2 x0 x1) _ (fun z => cut128_1 _ z) z, ?_⟩
  refine List.forall_mem_cons.2 ⟨fun z => member 768 (by omega) 512 0 128 4 1 (by omega) (by omega) (by omega) rfl rfl inb_S8x6x128x128_S1x1x128x128_4_1_0_0 x0 x1 _ (tile_r_19 c arg1 harg1 arg2 harg2 x0 x1) _ (fun z => cut0_1 _ z) z, ?_⟩
  refine List.forall_mem_cons.2 ⟨fun z => member 768 (by omega) 512 128 0 5 0 (by omega) (by omega) (by omega) rfl rfl inb_S8x6x128x128_S1x1x128x128_5_0_0_0 x0 x1 _ (tile_r_19 c arg1 harg1 arg2 harg2 x0 x1) _ (fun z => cut128_0 _ z) z, ?_⟩
  refine List.forall_mem_cons.2 ⟨fun z => member 768 (by omega) 512 0 0 4 0 (by omega) (by omega) (by omega) rfl rfl inb_S8x6x128x128_S1x1x128x128_4_0_0_0 x0 x1 _ (tile_r_19 c arg1 harg1 arg2 harg2 x0 x1) _ (fun z => cut0_0 _ z) z, ?_⟩
  refine List.forall_mem_cons.2 ⟨fun z => member 768 (by omega) 256 128 640 3 5 (by omega) (by omega) (by omega) rfl rfl inb_S8x6x128x128_S1x1x128x128_3_5_0_0 x0 x1 _ (tile_r_6 c arg1 harg1 arg2 harg2 x0 x1) _ (fun z => cut128_5 _ z) z, ?_⟩
  refine List.forall_mem_cons.2 ⟨fun z => member 768 (by omega) 256 0 640 2 5 (by omega) (by omega) (by omega) rfl rfl inb_S8x6x128x128_S1x1x128x128_2_5_0_0 x0 x1 _ (tile_r_6 c arg1 harg1 arg2 harg2 x0 x1) _ (fun z => cut0_5 _ z) z, ?_⟩
  refine List.forall_mem_cons.2 ⟨fun z => member 768 (by omega) 256 128 512 3 4 (by omega) (by omega) (by omega) rfl rfl inb_S8x6x128x128_S1x1x128x128_3_4_0_0 x0 x1 _ (tile_r_6 c arg1 harg1 arg2 harg2 x0 x1) _ (fun z => cut128_4 _ z) z, ?_⟩
  refine List.forall_mem_cons.2 ⟨fun z => member 768 (by omega) 256 0 512 2 4 (by omega) (by omega) (by omega) rfl rfl inb_S8x6x128x128_S1x1x128x128_2_4_0_0 x0 x1 _ (tile_r_6 c arg1 harg1 arg2 harg2 x0 x1) _ (fun z => cut0_4 _ z) z, ?_⟩
  refine List.forall_mem_cons.2 ⟨fun z => member 768 (by omega) 256 128 384 3 3 (by omega) (by omega) (by omega) rfl rfl inb_S8x6x128x128_S1x1x128x128_3_3_0_0 x0 x1 _ (tile_r_6 c arg1 harg1 arg2 harg2 x0 x1) _ (fun z => cut128_3 _ z) z, ?_⟩
  refine List.forall_mem_cons.2 ⟨fun z => member 768 (by omega) 256 0 384 2 3 (by omega) (by omega) (by omega) rfl rfl inb_S8x6x128x128_S1x1x128x128_2_3_0_0 x0 x1 _ (tile_r_6 c arg1 harg1 arg2 harg2 x0 x1) _ (fun z => cut0_3 _ z) z, ?_⟩
  refine List.forall_mem_cons.2 ⟨fun z => member 768 (by omega) 256 128 256 3 2 (by omega) (by omega) (by omega) rfl rfl inb_S8x6x128x128_S1x1x128x128_3_2_0_0 x0 x1 _ (tile_r_6 c arg1 harg1 arg2 harg2 x0 x1) _ (fun z => cut128_2 _ z) z, ?_⟩
  refine List.forall_mem_cons.2 ⟨fun z => member 768 (by omega) 256 0 256 2 2 (by omega) (by omega) (by omega) rfl rfl inb_S8x6x128x128_S1x1x128x128_2_2_0_0 x0 x1 _ (tile_r_6 c arg1 harg1 arg2 harg2 x0 x1) _ (fun z => cut0_2 _ z) z, ?_⟩
  refine List.forall_mem_cons.2 ⟨fun z => member 768 (by omega) 256 128 128 3 1 (by omega) (by omega) (by omega) rfl rfl inb_S8x6x128x128_S1x1x128x128_3_1_0_0 x0 x1 _ (tile_r_6 c arg1 harg1 arg2 harg2 x0 x1) _ (fun z => cut128_1 _ z) z, ?_⟩
  refine List.forall_mem_cons.2 ⟨fun z => member 768 (by omega) 256 0 128 2 1 (by omega) (by omega) (by omega) rfl rfl inb_S8x6x128x128_S1x1x128x128_2_1_0_0 x0 x1 _ (tile_r_6 c arg1 harg1 arg2 harg2 x0 x1) _ (fun z => cut0_1 _ z) z, ?_⟩
  refine List.forall_mem_cons.2 ⟨fun z => member 768 (by omega) 256 128 0 3 0 (by omega) (by omega) (by omega) rfl rfl inb_S8x6x128x128_S1x1x128x128_3_0_0_0 x0 x1 _ (tile_r_6 c arg1 harg1 arg2 harg2 x0 x1) _ (fun z => cut128_0 _ z) z, ?_⟩
  refine List.forall_mem_cons.2 ⟨fun z => member 768 (by omega) 256 0 0 2 0 (by omega) (by omega) (by omega) rfl rfl inb_S8x6x128x128_S1x1x128x128_2_0_0_0 x0 x1 _ (tile_r_6 c arg1 harg1 arg2 harg2 x0 x1) _ (fun z => cut0_0 _ z) z, ?_⟩
  refine List.forall_mem_cons.2 ⟨fun z => member 768 (by omega) 0 128 640 1 5 (by omega) (by omega) (by omega) rfl rfl inb_S8x6x128x128_S1x1x128x128_1_5_0_0 x0 x1 _ (tile_r_2 c arg1 harg1 arg2 harg2 x0 x1) _ (fun z => cut128_5 _ z) z, ?_⟩
  refine List.forall_mem_cons.2 ⟨fun z => member 768 (by omega) 0 0 640 0 5 (by omega) (by omega) (by omega) rfl rfl inb_S8x6x128x128_S1x1x128x128_0_5_0_0 x0 x1 _ (tile_r_2 c arg1 harg1 arg2 harg2 x0 x1) _ (fun z => cut0_5 _ z) z, ?_⟩
  refine List.forall_mem_cons.2 ⟨fun z => member 768 (by omega) 0 128 512 1 4 (by omega) (by omega) (by omega) rfl rfl inb_S8x6x128x128_S1x1x128x128_1_4_0_0 x0 x1 _ (tile_r_2 c arg1 harg1 arg2 harg2 x0 x1) _ (fun z => cut128_4 _ z) z, ?_⟩
  refine List.forall_mem_cons.2 ⟨fun z => member 768 (by omega) 0 0 512 0 4 (by omega) (by omega) (by omega) rfl rfl inb_S8x6x128x128_S1x1x128x128_0_4_0_0 x0 x1 _ (tile_r_2 c arg1 harg1 arg2 harg2 x0 x1) _ (fun z => cut0_4 _ z) z, ?_⟩
  refine List.forall_mem_cons.2 ⟨fun z => member 768 (by omega) 0 128 384 1 3 (by omega) (by omega) (by omega) rfl rfl inb_S8x6x128x128_S1x1x128x128_1_3_0_0 x0 x1 _ (tile_r_2 c arg1 harg1 arg2 harg2 x0 x1) _ (fun z => cut128_3 _ z) z, ?_⟩
  refine List.forall_mem_cons.2 ⟨fun z => member 768 (by omega) 0 0 384 0 3 (by omega) (by omega) (by omega) rfl rfl inb_S8x6x128x128_S1x1x128x128_0_3_0_0 x0 x1 _ (tile_r_2 c arg1 harg1 arg2 harg2 x0 x1) _ (fun z => cut0_3 _ z) z, ?_⟩
  refine List.forall_mem_cons.2 ⟨fun z => member 768 (by omega) 0 128 256 1 2 (by omega) (by omega) (by omega) rfl rfl inb_S8x6x128x128_S1x1x128x128_1_2_0_0 x0 x1 _ (tile_r_2 c arg1 harg1 arg2 harg2 x0 x1) _ (fun z => cut128_2 _ z) z, ?_⟩
  refine List.forall_mem_cons.2 ⟨fun z => member 768 (by omega) 0 0 256 0 2 (by omega) (by omega) (by omega) rfl rfl inb_S8x6x128x128_S1x1x128x128_0_2_0_0 x0 x1 _ (tile_r_2 c arg1 harg1 arg2 harg2 x0 x1) _ (fun z => cut0_2 _ z) z, ?_⟩
  refine List.forall_mem_cons.2 ⟨fun z => member 768 (by omega) 0 128 128 1 1 (by omega) (by omega) (by omega) rfl rfl inb_S8x6x128x128_S1x1x128x128_1_1_0_0 x0 x1 _ (tile_r_2 c arg1 harg1 arg2 harg2 x0 x1) _ (fun z => cut128_1 _ z) z, ?_⟩
  refine List.forall_mem_cons.2 ⟨fun z => member 768 (by omega) 0 0 128 0 1 (by omega) (by omega) (by omega) rfl rfl inb_S8x6x128x128_S1x1x128x128_0_1_0_0 x0 x1 _ (tile_r_2 c arg1 harg1 arg2 harg2 x0 x1) _ (fun z => cut0_1 _ z) z, ?_⟩
  refine List.forall_mem_cons.2 ⟨fun z => member 768 (by omega) 0 128 0 1 0 (by omega) (by omega) (by omega) rfl rfl inb_S8x6x128x128_S1x1x128x128_1_0_0_0 x0 x1 _ (tile_r_2 c arg1 harg1 arg2 harg2 x0 x1) _ (fun z => cut128_0 _ z) z, ?_⟩
  refine List.forall_mem_cons.2 ⟨fun z => member 768 (by omega) 0 0 0 0 0 (by omega) (by omega) (by omega) rfl rfl inb_S8x6x128x128_S1x1x128x128_0_0_0_0 x0 x1 _ (tile_r_2 c arg1 harg1 arg2 harg2 x0 x1) _ (fun z => cut0_0 _ z) z, ?_⟩
  exact fun p hp => absurd hp List.not_mem_nil

/-- The block of output 10 the body leaves. -/
theorem out10 (c : Dev nD) (i : grid0.Coords) (arg1 : Memref sig .tc .vmem S1024x1024 .f32) (harg1 : arg1.IsWhole) (arg2 : Memref sig .tc .vmem S1024x2560 .bf16) (harg2 : arg2.IsWhole) (arg3 : Memref sig .tc .vmem S1x1x256x256 .bf16) (harg3 : arg3.IsWhole) (arg4 : Memref sig .tc .vmem S1x1x1024x256 .bf16) (harg4 : arg4.IsWhole) (arg5 : Memref sig .tc .vmem S128x1024 .f32) (harg5 : arg5.IsWhole) (arg6 : Memref sig .tc .vmem S128x4096 .f32) (harg6 : arg6.IsWhole) (arg7 : Memref sig .tc .vmem S512x1024 .f32) (harg7 : arg7.IsWhole) (arg8 : Memref sig .tc .vmem S64x1792 .f32) (harg8 : arg8.IsWhole) (arg9 : Memref sig .tc .vmem S1x6x1024x128 .bf16) (harg9 : arg9.IsWhole) (arg10 : Memref sig .tc .vmem S8x6x128x128 .f32) (harg10 : arg10.IsWhole) (arg11 : Memref sig .tc .vmem S8x6x128x128 .f32) (harg11 : arg11.IsWhole) (arg12 : Memref sig .tc .vmem S1x6x1024x128 .bf16) (harg12 : arg12.IsWhole) (arg13 : Memref sig .tc .vmem S1x6x1x144x1024 .bf16) (harg13 : arg13.IsWhole) (arg14 : Memref sig .tc .vmem S1024x256 .bf16) (harg14 : arg14.IsWhole) (arg15 : Memref sig .tc .vmem S128x1024 .bf16) (harg15 : arg15.IsWhole) (arg16 : Memref sig .tc .vmem S128x4096 .bf16) (harg16 : arg16.IsWhole) (arg17 : Memref sig .tc .vmem S512x1024 .bf16) (harg17 : arg17.IsWhole) (arg18 : Memref sig .tc .vmem S64x1792 .bf16) (harg18 : arg18.IsWhole)
(x0 : Vec Ideal S1024x1024 .f32) (x1 : Vec Ideal S1024x2560 .bf16) (x2 : Vec Ideal S1x1x256x256 .bf16) (x3 : Vec Ideal S1x1x1024x256 .bf16) (x4 : Vec Ideal S128x1024 .f32) (x5 : Vec Ideal S128x4096 .f32) (x6 : Vec Ideal S512x1024 .f32) (x7 : Vec Ideal S64x1792 .f32)
    (y : S8x6x128x128.Idx) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = f 1536 (by omega) x0 x1 y := by
  unfold out0_A_10
  refine View.read_writes_apply_of_pieces VO0_10 VO0_10.junk (f 1536 (by omega) x0 x1) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y)
  unfold kernelRun0_A
  dsimp only
  refine List.forall_mem_cons.2 ⟨fun z => member 1536 (by omega) 768 128 640 7 5 (by omega) (by omega) (by omega) rfl rfl inb_S8x6x128x128_S1x1x128x128_7_5_0_0 x0 x1 _ (tile_r_37 c arg1 harg1 arg2 harg2 x0 x1) _ (fun z => cut128_5 _ z) z, ?_⟩
  refine List.forall_mem_cons.2 ⟨fun z => member 1536 (by omega) 768 0 640 6 5 (by omega) (by omega) (by omega) rfl rfl inb_S8x6x128x128_S1x1x128x128_6_5_0_0 x0 x1 _ (tile_r_37 c arg1 harg1 arg2 harg2 x0 x1) _ (fun z => cut0_5 _ z) z, ?_⟩
  refine List.forall_mem_cons.2 ⟨fun z => member 1536 (by omega) 768 128 512 7 4 (by omega) (by omega) (by omega) rfl rfl inb_S8x6x128x128_S1x1x128x128_7_4_0_0 x0 x1 _ (tile_r_37 c arg1 harg1 arg2 harg2 x0 x1) _ (fun z => cut128_4 _ z) z, ?_⟩
  refine List.forall_mem_cons.2 ⟨fun z => member 1536 (by omega) 768 0 512 6 4 (by omega) (by omega) (by omega) rfl rfl inb_S8x6x128x128_S1x1x128x128_6_4_0_0 x0 x1 _ (tile_r_37 c arg1 harg1 arg2 harg2 x0 x1) _ (fun z => cut0_4 _ z) z, ?_⟩
  refine List.forall_mem_cons.2 ⟨fun z => member 1536 (by omega) 768 128 384 7 3 (by omega) (by omega) (by omega) rfl rfl inb_S8x6x128x128_S1x1x128x128_7_3_0_0 x0 x1 _ (tile_r_37 c arg1 harg1 arg2 harg2 x0 x1) _ (fun z => cut128_3 _ z) z, ?_⟩
  refine List.forall_mem_cons.2 ⟨fun z => member 1536 (by omega) 768 0 384 6 3 (by omega) (by omega) (by omega) rfl rfl inb_S8x6x128x128_S1x1x128x128_6_3_0_0 x0 x1 _ (tile_r_37 c arg1 harg1 arg2 harg2 x0 x1) _ (fun z => cut0_3 _ z) z, ?_⟩
  refine List.forall_mem_cons.2 ⟨fun z => member 1536 (by omega) 768 128 256 7 2 (by omega) (by omega) (by omega) rfl rfl inb_S8x6x128x128_S1x1x128x128_7_2_0_0 x0 x1 _ (tile_r_37 c arg1 harg1 arg2 harg2 x0 x1) _ (fun z => cut128_2 _ z) z, ?_⟩
  refine List.forall_mem_cons.2 ⟨fun z => member 1536 (by omega) 768 0 256 6 2 (by omega) (by omega) (by omega) rfl rfl inb_S8x6x128x128_S1x1x128x128_6_2_0_0 x0 x1 _ (tile_r_37 c arg1 harg1 arg2 harg2 x0 x1) _ (fun z => cut0_2 _ z) z, ?_⟩
  refine List.forall_mem_cons.2 ⟨fun z => member 1536 (by omega) 768 128 128 7 1 (by omega) (by omega) (by omega) rfl rfl inb_S8x6x128x128_S1x1x128x128_7_1_0_0 x0 x1 _ (tile_r_37 c arg1 harg1 arg2 harg2 x0 x1) _ (fun z => cut128_1 _ z) z, ?_⟩
  refine List.forall_mem_cons.2 ⟨fun z => member 1536 (by omega) 768 0 128 6 1 (by omega) (by omega) (by omega) rfl rfl inb_S8x6x128x128_S1x1x128x128_6_1_0_0 x0 x1 _ (tile_r_37 c arg1 harg1 arg2 harg2 x0 x1) _ (fun z => cut0_1 _ z) z, ?_⟩
  refine List.forall_mem_cons.2 ⟨fun z => member 1536 (by omega) 768 128 0 7 0 (by omega) (by omega) (by omega) rfl rfl inb_S8x6x128x128_S1x1x128x128_7_0_0_0 x0 x1 _ (tile_r_37 c arg1 harg1 arg2 harg2 x0 x1) _ (fun z => cut128_0 _ z) z, ?_⟩
  refine List.forall_mem_cons.2 ⟨fun z => member 1536 (by omega) 768 0 0 6 0 (by omega) (by omega) (by omega) rfl rfl inb_S8x6x128x128_S1x1x128x128_6_0_0_0 x0 x1 _ (tile_r_37 c arg1 harg1 arg2 harg2 x0 x1) _ (fun z => cut0_0 _ z) z, ?_⟩
  refine List.forall_mem_cons.2 ⟨fun z => member 1536 (by omega) 512 128 640 5 5 (by omega) (by omega) (by omega) rfl rfl inb_S8x6x128x128_S1x1x128x128_5_5_0_0 x0 x1 _ (tile_r_20 c arg1 harg1 arg2 harg2 x0 x1) _ (fun z => cut128_5 _ z) z, ?_⟩
  refine List.forall_mem_cons.2 ⟨fun z => member 1536 (by omega) 512 0 640 4 5 (by omega) (by omega) (by omega) rfl rfl inb_S8x6x128x128_S1x1x128x128_4_5_0_0 x0 x1 _ (tile_r_20 c arg1 harg1 arg2 harg2 x0 x1) _ (fun z => cut0_5 _ z) z, ?_⟩
  refine List.forall_mem_cons.2 ⟨fun z => member 1536 (by omega) 512 128 512 5 4 (by omega) (by omega) (by omega) rfl rfl inb_S8x6x128x128_S1x1x128x128_5_4_0_0 x0 x1 _ (tile_r_20 c arg1 harg1 arg2 harg2 x0 x1) _ (fun z => cut128_4 _ z) z, ?_⟩
  refine List.forall_mem_cons.2 ⟨fun z => member 1536 (by omega) 512 0 512 4 4 (by omega) (by omega) (by omega) rfl rfl inb_S8x6x128x128_S1x1x128x128_4_4_0_0 x0 x1 _ (tile_r_20 c arg1 harg1 arg2 harg2 x0 x1) _ (fun z => cut0_4 _ z) z, ?_⟩
  refine List.forall_mem_cons.2 ⟨fun z => member 1536 (by omega) 512 128 384 5 3 (by omega) (by omega) (by omega) rfl rfl inb_S8x6x128x128_S1x1x128x128_5_3_0_0 x0 x1 _ (tile_r_20 c arg1 harg1 arg2 harg2 x0 x1) _ (fun z => cut128_3 _ z) z, ?_⟩
  refine List.forall_mem_cons.2 ⟨fun z => member 1536 (by omega) 512 0 384 4 3 (by omega) (by omega) (by omega) rfl rfl inb_S8x6x128x128_S1x1x128x128_4_3_0_0 x0 x1 _ (tile_r_20 c arg1 harg1 arg2 harg2 x0 x1) _ (fun z => cut0_3 _ z) z, ?_⟩
  refine List.forall_mem_cons.2 ⟨fun z => member 1536 (by omega) 512 128 256 5 2 (by omega) (by omega) (by omega) rfl rfl inb_S8x6x128x128_S1x1x128x128_5_2_0_0 x0 x1 _ (tile_r_20 c arg1 harg1 arg2 harg2 x0 x1) _ (fun z => cut128_2 _ z) z, ?_⟩
  refine List.forall_mem_cons.2 ⟨fun z => member 1536 (by omega) 512 0 256 4 2 (by omega) (by omega) (by omega) rfl rfl inb_S8x6x128x128_S1x1x128x128_4_2_0_0 x0 x1 _ (tile_r_20 c arg1 harg1 arg2 harg2 x0 x1) _ (fun z => cut0_2 _ z) z, ?_⟩
  refine List.forall_mem_cons.2 ⟨fun z => member 1536 (by omega) 512 128 128 5 1 (by omega) (by omega) (by omega) rfl rfl inb_S8x6x128x128_S1x1x128x128_5_1_0_0 x0 x1 _ (tile_r_20 c arg1 harg1 arg2 harg2 x0 x1) _ (fun z => cut128_1 _ z) z, ?_⟩
  refine List.forall_mem_cons.2 ⟨fun z => member 1536 (by omega) 512 0 128 4 1 (by omega) (by omega) (by omega) rfl rfl inb_S8x6x128x128_S1x1x128x128_4_1_0_0 x0 x1 _ (tile_r_20 c arg1 harg1 arg2 harg2 x0 x1) _ (fun z => cut0_1 _ z) z, ?_⟩
  refine List.forall_mem_cons.2 ⟨fun z => member 1536 (by omega) 512 128 0 5 0 (by omega) (by omega) (by omega) rfl rfl inb_S8x6x128x128_S1x1x128x128_5_0_0_0 x0 x1 _ (tile_r_20 c arg1 harg1 arg2 harg2 x0 x1) _ (fun z => cut128_0 _ z) z, ?_⟩
  refine List.forall_mem_cons.2 ⟨fun z => member 1536 (by omega) 512 0 0 4 0 (by omega) (by omega) (by omega) rfl rfl inb_S8x6x128x128_S1x1x128x128_4_0_0_0 x0 x1 _ (tile_r_20 c arg1 harg1 arg2 harg2 x0 x1) _ (fun z => cut0_0 _ z) z, ?_⟩
  refine List.forall_mem_cons.2 ⟨fun z => member 1536 (by omega) 256 128 640 3 5 (by omega) (by omega) (by omega) rfl rfl inb_S8x6x128x128_S1x1x128x128_3_5_0_0 x0 x1 _ (tile_r_7 c arg1 harg1 arg2 harg2 x0 x1) _ (fun z => cut128_5 _ z) z, ?_⟩
  refine List.forall_mem_cons.2 ⟨fun z => member 1536 (by omega) 256 0 640 2 5 (by omega) (by omega) (by omega) rfl rfl inb_S8x6x128x128_S1x1x128x128_2_5_0_0 x0 x1 _ (tile_r_7 c arg1 harg1 arg2 harg2 x0 x1) _ (fun z => cut0_5 _ z) z, ?_⟩
  refine List.forall_mem_cons.2 ⟨fun z => member 1536 (by omega) 256 128 512 3 4 (by omega) (by omega) (by omega) rfl rfl inb_S8x6x128x128_S1x1x128x128_3_4_0_0 x0 x1 _ (tile_r_7 c arg1 harg1 arg2 harg2 x0 x1) _ (fun z => cut128_4 _ z) z, ?_⟩
  refine List.forall_mem_cons.2 ⟨fun z => member 1536 (by omega) 256 0 512 2 4 (by omega) (by omega) (by omega) rfl rfl inb_S8x6x128x128_S1x1x128x128_2_4_0_0 x0 x1 _ (tile_r_7 c arg1 harg1 arg2 harg2 x0 x1) _ (fun z => cut0_4 _ z) z, ?_⟩
  refine List.forall_mem_cons.2 ⟨fun z => member 1536 (by omega) 256 128 384 3 3 (by omega) (by omega) (by omega) rfl rfl inb_S8x6x128x128_S1x1x128x128_3_3_0_0 x0 x1 _ (tile_r_7 c arg1 harg1 arg2 harg2 x0 x1) _ (fun z => cut128_3 _ z) z, ?_⟩
  refine List.forall_mem_cons.2 ⟨fun z => member 1536 (by omega) 256 0 384 2 3 (by omega) (by omega) (by omega) rfl rfl inb_S8x6x128x128_S1x1x128x128_2_3_0_0 x0 x1 _ (tile_r_7 c arg1 harg1 arg2 harg2 x0 x1) _ (fun z => cut0_3 _ z) z, ?_⟩
  refine List.forall_mem_cons.2 ⟨fun z => member 1536 (by omega) 256 128 256 3 2 (by omega) (by omega) (by omega) rfl rfl inb_S8x6x128x128_S1x1x128x128_3_2_0_0 x0 x1 _ (tile_r_7 c arg1 harg1 arg2 harg2 x0 x1) _ (fun z => cut128_2 _ z) z, ?_⟩
  refine List.forall_mem_cons.2 ⟨fun z => member 1536 (by omega) 256 0 256 2 2 (by omega) (by omega) (by omega) rfl rfl inb_S8x6x128x128_S1x1x128x128_2_2_0_0 x0 x1 _ (tile_r_7 c arg1 harg1 arg2 harg2 x0 x1) _ (fun z => cut0_2 _ z) z, ?_⟩
  refine List.forall_mem_cons.2 ⟨fun z => member 1536 (by omega) 256 128 128 3 1 (by omega) (by omega) (by omega) rfl rfl inb_S8x6x128x128_S1x1x128x128_3_1_0_0 x0 x1 _ (tile_r_7 c arg1 harg1 arg2 harg2 x0 x1) _ (fun z => cut128_1 _ z) z, ?_⟩
  refine List.forall_mem_cons.2 ⟨fun z => member 1536 (by omega) 256 0 128 2 1 (by omega) (by omega) (by omega) rfl rfl inb_S8x6x128x128_S1x1x128x128_2_1_0_0 x0 x1 _ (tile_r_7 c arg1 harg1 arg2 harg2 x0 x1) _ (fun z => cut0_1 _ z) z, ?_⟩
  refine List.forall_mem_cons.2 ⟨fun z => member 1536 (by omega) 256 128 0 3 0 (by omega) (by omega) (by omega) rfl rfl inb_S8x6x128x128_S1x1x128x128_3_0_0_0 x0 x1 _ (tile_r_7 c arg1 harg1 arg2 harg2 x0 x1) _ (fun z => cut128_0 _ z) z, ?_⟩
  refine List.forall_mem_cons.2 ⟨fun z => member 1536 (by omega) 256 0 0 2 0 (by omega) (by omega) (by omega) rfl rfl inb_S8x6x128x128_S1x1x128x128_2_0_0_0 x0 x1 _ (tile_r_7 c arg1 harg1 arg2 harg2 x0 x1) _ (fun z => cut0_0 _ z) z, ?_⟩
  refine List.forall_mem_cons.2 ⟨fun z => member 1536 (by omega) 0 128 640 1 5 (by omega) (by omega) (by omega) rfl rfl inb_S8x6x128x128_S1x1x128x128_1_5_0_0 x0 x1 _ (tile_r_3 c arg1 harg1 arg2 harg2 x0 x1) _ (fun z => cut128_5 _ z) z, ?_⟩
  refine List.forall_mem_cons.2 ⟨fun z => member 1536 (by omega) 0 0 640 0 5 (by omega) (by omega) (by omega) rfl rfl inb_S8x6x128x128_S1x1x128x128_0_5_0_0 x0 x1 _ (tile_r_3 c arg1 harg1 arg2 harg2 x0 x1) _ (fun z => cut0_5 _ z) z, ?_⟩
  refine List.forall_mem_cons.2 ⟨fun z => member 1536 (by omega) 0 128 512 1 4 (by omega) (by omega) (by omega) rfl rfl inb_S8x6x128x128_S1x1x128x128_1_4_0_0 x0 x1 _ (tile_r_3 c arg1 harg1 arg2 harg2 x0 x1) _ (fun z => cut128_4 _ z) z, ?_⟩
  refine List.forall_mem_cons.2 ⟨fun z => member 1536 (by omega) 0 0 512 0 4 (by omega) (by omega) (by omega) rfl rfl inb_S8x6x128x128_S1x1x128x128_0_4_0_0 x0 x1 _ (tile_r_3 c arg1 harg1 arg2 harg2 x0 x1) _ (fun z => cut0_4 _ z) z, ?_⟩
  refine List.forall_mem_cons.2 ⟨fun z => member 1536 (by omega) 0 128 384 1 3 (by omega) (by omega) (by omega) rfl rfl inb_S8x6x128x128_S1x1x128x128_1_3_0_0 x0 x1 _ (tile_r_3 c arg1 harg1 arg2 harg2 x0 x1) _ (fun z => cut128_3 _ z) z, ?_⟩
  refine List.forall_mem_cons.2 ⟨fun z => member 1536 (by omega) 0 0 384 0 3 (by omega) (by omega) (by omega) rfl rfl inb_S8x6x128x128_S1x1x128x128_0_3_0_0 x0 x1 _ (tile_r_3 c arg1 harg1 arg2 harg2 x0 x1) _ (fun z => cut0_3 _ z) z, ?_⟩
  refine List.forall_mem_cons.2 ⟨fun z => member 1536 (by omega) 0 128 256 1 2 (by omega) (by omega) (by omega) rfl rfl inb_S8x6x128x128_S1x1x128x128_1_2_0_0 x0 x1 _ (tile_r_3 c arg1 harg1 arg2 harg2 x0 x1) _ (fun z => cut128_2 _ z) z, ?_⟩
  refine List.forall_mem_cons.2 ⟨fun z => member 1536 (by omega) 0 0 256 0 2 (by omega) (by omega) (by omega) rfl rfl inb_S8x6x128x128_S1x1x128x128_0_2_0_0 x0 x1 _ (tile_r_3 c arg1 harg1 arg2 harg2 x0 x1) _ (fun z => cut0_2 _ z) z, ?_⟩
  refine List.forall_mem_cons.2 ⟨fun z => member 1536 (by omega) 0 128 128 1 1 (by omega) (by omega) (by omega) rfl rfl inb_S8x6x128x128_S1x1x128x128_1_1_0_0 x0 x1 _ (tile_r_3 c arg1 harg1 arg2 harg2 x0 x1) _ (fun z => cut128_1 _ z) z, ?_⟩
  refine List.forall_mem_cons.2 ⟨fun z => member 1536 (by omega) 0 0 128 0 1 (by omega) (by omega) (by omega) rfl rfl inb_S8x6x128x128_S1x1x128x128_0_1_0_0 x0 x1 _ (tile_r_3 c arg1 harg1 arg2 harg2 x0 x1) _ (fun z => cut0_1 _ z) z, ?_⟩
  refine List.forall_mem_cons.2 ⟨fun z => member 1536 (by omega) 0 128 0 1 0 (by omega) (by omega) (by omega) rfl rfl inb_S8x6x128x128_S1x1x128x128_1_0_0_0 x0 x1 _ (tile_r_3 c arg1 harg1 arg2 harg2 x0 x1) _ (fun z => cut128_0 _ z) z, ?_⟩
  refine List.forall_mem_cons.2 ⟨fun z => member 1536 (by omega) 0 0 0 0 0 (by omega) (by omega) (by omega) rfl rfl inb_S8x6x128x128_S1x1x128x128_0_0_0_0 x0 x1 _ (tile_r_3 c arg1 harg1 arg2 harg2 x0 x1) _ (fun z => cut0_0 _ z) z, ?_⟩
  exact fun p hp => absurd hp List.not_mem_nil

variable (m : (ℓ : Loc nD τ sig) → Buf (Elt Ideal) ℓ)

theorem V_v20 (c : Dev nD) : V m c main_v20 = (truncf (F := Ideal) (s := S1024x2560) (φ := .f32) .bf16 (shapeCast S1024x2560 (m ((c : Thread nD τ).loc main_arg1)) shapeCasts_S1x1024x2560_S1024x2560) bitsLt_bf16_f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results <;> rfl

theorem cast_at (w : S1x1024x2560.Idx → EReal) (k : Fin 1024) (j : Fin 2560) :
    (truncf (F := Ideal) (s := S1024x2560) (φ := .f32) .bf16 (shapeCast S1024x2560 w shapeCasts_S1x1024x2560_S1024x2560) bitsLt_bf16_f32) (ix2 k j) = w (ix3 0 k j) := by
  pointwise

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e9 : ∀ t : Fin cfg0.N, win0_9.index t = ![t.val, 0, 0, 0] := (by decide +kernel : ∀ t : Fin grid0.N, _)
theorem e10 : ∀ t : Fin cfg0.N, win0_10.index t = ![t.val, 0, 0, 0] := (by decide +kernel : ∀ t : Fin grid0.N, _)

theorem point_lt (t : Fin cfg0.N) : t.val < 16 := lt_of_lt_of_eq t.isLt N_0

theorem in0 (c : Dev nD) (t : Fin cfg0.N) (r : Fin 1024) (k : Fin 1024) :
    iblk m c 0 t (ix2 r k) = m ((c : Thread nD τ).loc main_arg0) (ix2 ⟨t.val * 1024 + r.val, by have := point_lt t; omega⟩ k) := by
  have ht := point_lt t
  rw [← V_main_arg0 m c]
  blk_ext [iblk, e0]

theorem in1 (c : Dev nD) (t : Fin cfg0.N) (k : Fin 1024) (j : Fin 2560) :
    iblk m c 1 t (ix2 k j) = m ((c : Thread nD τ).loc main_arg1) (ix3 0 k j) := by
  have h : iblk m c 1 t (ix2 k j) = V m c main_v20 (ix2 k j) := by
    blk_ext [iblk, e1]
  rw [h, V_v20]
  exact cast_at _ k j

/-- Result array 9 of the call. -/
theorem final9 (c : Dev nD) : (dats m 0 c).arrAt 9 cfg0.N =
    paged 768 (by omega) (m ((c : Thread nD τ).loc main_arg0)) (m ((c : Thread nD τ).loc main_arg1)) := by
  refine (dats m 0 c).arrAt_eq_of_covers 9 _ (by decide +kernel) fun t hf y => ?_
  blk_simp
  rw [after0_9]
  have ht := point_lt t
  have h : (outsAt0 m c t).2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) := by
    simp only [outsAt0]
  refine (congrFun h _).trans ?_
  refine (out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) _).trans ?_
  obtain ⟨p, q, r, e, rfl⟩ : ∃ (p : Fin 8) (q : Fin 6) (r e : Fin 128), y = ix4 p q r e := ⟨y 0, y 1, y 2, y 3, eq_ix4 y⟩
  have hi : ((win0_9.blk t).view.emb (ix4 p q r e) : S128x6x128x128.Idx) = ix4 ⟨t.val * 8 + p.val, by omega⟩ q r e := by
    blk_ext [e9]
  refine Eq.trans ?_ (congrArg (paged 768 (by omega) _ _) hi.symm)
  unfold f dot paged prow
  refine Finset.sum_congr rfl fun k _ => ?_
  refine congrArg₂ (· * ·) ((in0 m c t _ k).trans (congrArg (fun i => m ((c : Thread nD τ).loc main_arg0) (ix2 i k)) (Fin.ext ?_))) (in1 m c t k _)
  change t.val * 1024 + (128 * p.val + r.val) = (t.val * 8 + p.val) * 128 + r.val
  omega

/-- Result array 10 of the call. -/
theorem final10 (c : Dev nD) : (dats m 0 c).arrAt 10 cfg0.N =
    paged 1536 (by omega) (m ((c : Thread nD τ).loc main_arg0)) (m ((c : Thread nD τ).loc main_arg1)) := by
  refine (dats m 0 c).arrAt_eq_of_covers 10 _ (by decide +kernel) fun t hf y => ?_
  blk_simp
  rw [after0_10]
  have ht := point_lt t
  have h : (outsAt0 m c t).2.2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) := by
    simp only [outsAt0]
  refine (congrFun h _).trans ?_
  refine (out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) _).trans ?_
  obtain ⟨p, q, r, e, rfl⟩ : ∃ (p : Fin 8) (q : Fin 6) (r e : Fin 128), y = ix4 p q r e := ⟨y 0, y 1, y 2, y 3, eq_ix4 y⟩
  have hi : ((win0_10.blk t).view.emb (ix4 p q r e) : S128x6x128x128.Idx) = ix4 ⟨t.val * 8 + p.val, by omega⟩ q r e := by
    blk_ext [e10]
  refine Eq.trans ?_ (congrArg (paged 1536 (by omega) _ _) hi.symm)
  unfold f dot paged prow
  refine Finset.sum_congr rfl fun k _ => ?_
  refine congrArg₂ (· * ·) ((in0 m c t _ k).trans (congrArg (fun i => m ((c : Thread nD τ).loc main_arg0) (ix2 i k)) (Fin.ext ?_))) (in1 m c t k _)
  change t.val * 1024 + (128 * p.val + r.val) = (t.val * 8 + p.val) * 128 + r.val
  omega

end Cert.ProjIdeal.Result

namespace Cert.ProjReferenceIdeal.Result

open Cert.ProjReferenceIdeal Cert.ProjReferenceIdeal.Gen Idealize.ShloMosaic Idealize.ShloMosaic.TcCoe Idealize.SL.Sem Cert.Proof.Paged

/-- The reference's result array 3. -/
theorem result3 (x : FVec Ideal S16384x1024 .f32) (w : FVec Ideal S1x1024x2560 .f32) :
    (transpose S128x6x128x128 [0, 2, 1, 3] (shapeCast _ (extractStridedSlice S16384x768 ![0, 768] (Host.dotGeneral dot_S16384x1024_S1024x2560_S16384x2560_1_0_0_1_n_n none x (shapeCast _ w shapeCasts_S1x1024x2560_S1024x2560)) slices_S16384x2560_S16384x768_0_768) shapeCasts_S16384x768_S128x128x6x128) transposes_S128x128x6x128_S128x6x128x128_0_2_1_3 : FVec Ideal S128x6x128x128 .f32)
      = paged 768 (by omega) x w := by
  funext y
  obtain ⟨p, h, r, e, rfl⟩ : ∃ (p : Fin 128) (h : Fin 6) (r e : Fin 128), y = ix4 p h r e := ⟨y 0, y 1, y 2, y 3, eq_ix4 y⟩
  have hp : paged 768 (by omega) x w (ix4 p h r e) = ∑ k : Fin 1024, x (ix2 (⟨p.val * 128 + r.val, by omega⟩ : Fin 16384) k) * w (ix3 0 k (⟨768 + (h.val * 128 + e.val), by omega⟩ : Fin 2560)) := rfl
  rw [hp]
  pointwise

/-- The reference's result array 4. -/
theorem result4 (x : FVec Ideal S16384x1024 .f32) (w : FVec Ideal S1x1024x2560 .f32) :
    (transpose S128x6x128x128 [0, 2, 1, 3] (shapeCast _ (extractStridedSlice S16384x768 ![0, 1536] (Host.dotGeneral dot_S16384x1024_S1024x2560_S16384x2560_1_0_0_1_n_n none x (shapeCast _ w shapeCasts_S1x1024x2560_S1024x2560)) slices_S16384x2560_S16384x768_0_1536) shapeCasts_S16384x768_S128x128x6x128) transposes_S128x128x6x128_S128x6x128x128_0_2_1_3 : FVec Ideal S128x6x128x128 .f32)
      = paged 1536 (by omega) x w := by
  funext y
  obtain ⟨p, h, r, e, rfl⟩ : ∃ (p : Fin 128) (h : Fin 6) (r e : Fin 128), y = ix4 p h r e := ⟨y 0, y 1, y 2, y 3, eq_ix4 y⟩
  have hp : paged 1536 (by omega) x w (ix4 p h r e) = ∑ k : Fin 1024, x (ix2 (⟨p.val * 128 + r.val, by omega⟩ : Fin 16384) k) * w (ix3 0 k (⟨1536 + (h.val * 128 + e.val), by omega⟩ : Fin 2560)) := rfl
  rw [hp]
  pointwise

end Cert.ProjReferenceIdeal.Result

end
-- ==== Proof.GateRow.lean ====
/- The gated unit of a layer on one row of tokens, over the extended reals: the formula that the kernels' tiles and the plain
   references both compute. -/
module

public import Idealize.ShloMosaic.Lib.Pointwise
public import Idealize.ShloMosaic.PureOps.Ideal.Laws

@[expose] public section

noncomputable section

namespace Cert.GateRow

open Idealize.ShloMosaic

/-- The row length 768 and the small number under the root, as the programs write them. -/
abbrev len : EReal := Ideal.ofBits .f32 0x44400000#32
abbrev eps : EReal := Ideal.ofBits .f32 0x3727C5AC#32

/-- The activation: `t · (½ · (1 + tanh (c · (t + d · t³))))`. -/
def act (t : EReal) : EReal :=
  t * (Ideal.ofBits .f32 0x3F000000#32 * (Ideal.ofBits .f32 0x3F800000#32
    + FloatOps.tanh (F := Ideal) (φ := .f32) (Ideal.ofBits .f32 0x3F4C422A#32 * (t + Ideal.ofBits .f32 0x3D372713#32 * (t * t * t)))))

/-- The mean of a row. -/
def mean (x : Fin 768 → EReal) : EReal := FloatOps.divf (F := Ideal) (φ := .f32) (∑ k, x k) len

/-- Layer norm of the row `x` with gain `g` and shift `b` at place `j`. -/
def norm (x : Fin 768 → EReal) (g b : EReal) (j : Fin 768) : EReal :=
  (x j - mean x) * FloatOps.rsqrt (F := Ideal) (φ := .f32) (mean (fun k => (x k - mean x) * (x k - mean x)) + eps) * g + b

/-- Column `q` of the `n` columns from `lo`. -/
def col (lo : ℕ) {n : ℕ} (h : lo + n ≤ 1792) (q : Fin n) : Fin 1792 := ⟨lo + q.val, by omega⟩

/-- The group of 128 columns that column `j` lies in. -/
def grp (j : Fin 768) : Fin 6 := ⟨j.val / 128, by omega⟩

/-- Column `j` of the product of the row `x` with the weights. -/
def dot (x : Fin 1024 → EReal) (w : Fin 1024 → Fin 1792 → EReal) (j : Fin 1792) : EReal := ∑ k, x k * w k j

/-- The gate of a row: its first 768 columns, activated. -/
def gate (x : Fin 1024 → EReal) (w : Fin 1024 → Fin 1792 → EReal) (j : Fin 768) : EReal := act (dot x w (col 0 (n := 768) (by omega) j))

/-- The gated values of a row: its next 768 columns, activated and normed. -/
def val (x : Fin 1024 → EReal) (w : Fin 1024 → Fin 1792 → EReal) (g b : Fin 768 → EReal) (j : Fin 768) : EReal :=
  norm (fun i => act (dot x w (col 768 (n := 768) (by omega) i))) (g j) (b j) j

/-- The memory queries of a row: its last 256 columns. -/
def mem (x : Fin 1024 → EReal) (w : Fin 1024 → Fin 1792 → EReal) (j : Fin 256) : EReal := dot x w (col 1536 (n := 256) (by omega) j)

/-- The result of a row that stands first in its page: each group's values are scaled and shifted by two numbers of the group. -/
def first (x : Fin 1024 → EReal) (w : Fin 1024 → Fin 1792 → EReal) (g b : Fin 768 → EReal) (s t : Fin 6 → EReal) (j : Fin 768) : EReal :=
  gate x w j * (s (grp j) * val x w g b j + t (grp j))

end Cert.GateRow

end
-- ==== Proof.SguSampleValue.lean ====
/- The gated unit of the sample group: the kernel's three result arrays and the plain reference's. -/
module

public import proofs.«01_k».proof.Proof.GateRow
public import proofs.«01_k».proof.Proof.Gen.SguSampleIdeal.Value
public import Idealize.ShloMosaic.Lib.Pipeline.ValueKit
public import Idealize.ShloMosaic.Lib.Pointwise

@[expose] public section

set_option maxRecDepth 16384

noncomputable section

namespace Cert.Proof.SguSample

open Idealize.ShloMosaic Cert.GateRow

/-- The gated unit's result for all rows. -/
def gated (x : Shape.Idx ⟨2, ![32, 1024]⟩ → EReal) (w : Shape.Idx ⟨3, ![1, 1024, 1792]⟩ → EReal) (g b : Shape.Idx ⟨2, ![1, 768]⟩ → EReal)
    (s : Shape.Idx ⟨4, ![1, 6, 128, 128]⟩ → EReal) (t : Shape.Idx ⟨3, ![1, 6, 128]⟩ → EReal) : Shape.Idx ⟨2, ![32, 768]⟩ → EReal := fun i =>
  first (fun k => x (ix2 (i 0) k)) (fun k j => w (ix3 0 k j)) (fun j => g (ix2 0 j)) (fun j => b (ix2 0 j))
    (fun n => s (ix4 0 n 0 0)) (fun n => t (ix3 0 n 0)) (i 1)

/-- The memory queries of all rows. -/
def memq (x : Shape.Idx ⟨2, ![32, 1024]⟩ → EReal) (w : Shape.Idx ⟨3, ![1, 1024, 1792]⟩ → EReal) : Shape.Idx ⟨2, ![32, 256]⟩ → EReal := fun i =>
  mem (fun k => x (ix2 (i 0) k)) (fun k j => w (ix3 0 k j)) (i 1)

/-- The gated values of all rows. -/
def vals (x : Shape.Idx ⟨2, ![32, 1024]⟩ → EReal) (w : Shape.Idx ⟨3, ![1, 1024, 1792]⟩ → EReal) (g b : Shape.Idx ⟨2, ![1, 768]⟩ → EReal) :
    Shape.Idx ⟨2, ![32, 768]⟩ → EReal := fun i =>
  val (fun k => x (ix2 (i 0) k)) (fun k j => w (ix3 0 k j)) (fun j => g (ix2 0 j)) (fun j => b (ix2 0 j)) (i 1)

end Cert.Proof.SguSample

namespace Cert.SguSampleIdeal.Result

open Cert.SguSampleIdeal Cert.SguSampleIdeal.Gen Idealize.ShloMosaic Idealize.ShloMosaic.TcCoe Idealize.SL.Sem Cert.Proof.SguSample Cert.GateRow

variable (m : (ℓ : Loc nD τ sig) → Buf (Elt Ideal) ℓ)

theorem V_v1 (c : Dev nD) : V m c main_v1 = (truncf (F := Ideal) (s := S1024x1792) (φ := .f32) .bf16 (shapeCast S1024x1792 (m ((c : Thread nD τ).loc main_arg1)) shapeCasts_S1x1024x1792_S1024x1792) bitsLt_bf16_f32) := by
  unfold V; after_results <;> rfl

theorem V_v2 (c : Dev nD) : V m c main_v2 = shapeCast S6x128x128 (m ((c : Thread nD τ).loc main_arg4)) shapeCasts_S1x6x128x128_S6x128x128 := by
  unfold V; after_results <;> rfl

theorem V_v3 (c : Dev nD) : V m c main_v3 = shapeCast S6x128 (m ((c : Thread nD τ).loc main_arg5)) shapeCasts_S1x6x128_S6x128 := by
  unfold V; after_results <;> rfl

theorem cast_at (w : S1x1024x1792.Idx → EReal) (k : Fin 1024) (j : Fin 1792) :
    (truncf (F := Ideal) (s := S1024x1792) (φ := .f32) .bf16 (shapeCast S1024x1792 w shapeCasts_S1x1024x1792_S1024x1792) bitsLt_bf16_f32) (ix2 k j) = w (ix3 0 k j) := by
  pointwise

theorem s_at (s : S1x6x128x128.Idx → EReal) (n : Fin 6) (i j : Fin 128) :
    (shapeCast S6x128x128 s shapeCasts_S1x6x128x128_S6x128x128) (ix3 n i j) = s (ix4 0 n i j) := by
  pointwise

theorem t_at (s : S1x6x128.Idx → EReal) (n : Fin 6) (i : Fin 128) :
    (shapeCast S6x128 s shapeCasts_S1x6x128_S6x128) (ix2 n i) = s (ix3 0 n i) := by
  pointwise

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

theorem in0 (c : Dev nD) (t : Fin cfg0.N) (r : Fin 32) (k : Fin 1024) :
    iblk m c 0 t (ix2 r k) = m ((c : Thread nD τ).loc main_arg0) (ix2 r k) := by
  rw [← V_main_arg0 m c]
  blk_ext [iblk, e0]

theorem in1 (c : Dev nD) (t : Fin cfg0.N) (k : Fin 1024) (j : Fin 1792) :
    iblk m c 1 t (ix2 k j) = m ((c : Thread nD τ).loc main_arg1) (ix3 0 k j) := by
  have h : iblk m c 1 t (ix2 k j) = V m c main_v1 (ix2 k j) := by blk_ext [iblk, e1]
  rw [h, V_v1]
  exact cast_at _ k j

theorem in2 (c : Dev nD) (t : Fin cfg0.N) (j : Fin 768) :
    iblk m c 2 t (ix2 0 j) = m ((c : Thread nD τ).loc main_arg2) (ix2 0 j) := by
  rw [← V_main_arg2 m c]
  blk_ext [iblk, e2]

theorem in3 (c : Dev nD) (t : Fin cfg0.N) (j : Fin 768) :
    iblk m c 3 t (ix2 0 j) = m ((c : Thread nD τ).loc main_arg3) (ix2 0 j) := by
  rw [← V_main_arg3 m c]
  blk_ext [iblk, e3]

theorem in4 (c : Dev nD) (t : Fin cfg0.N) (n : Fin 6) :
    iblk m c 4 t (ix3 n 0 0) = m ((c : Thread nD τ).loc main_arg4) (ix4 0 n 0 0) := by
  have h : iblk m c 4 t (ix3 n 0 0) = V m c main_v2 (ix3 n 0 0) := by blk_ext [iblk, e4]
  rw [h, V_v2]
  exact s_at _ n 0 0

theorem in5 (c : Dev nD) (t : Fin cfg0.N) (n : Fin 6) :
    iblk m c 5 t (ix2 n 0) = m ((c : Thread nD τ).loc main_arg5) (ix3 0 n 0) := by
  have h : iblk m c 5 t (ix2 n 0) = V m c main_v3 (ix2 n 0) := by blk_ext [iblk, e5]
  rw [h, V_v3]
  exact t_at _ n 0

theorem pay4 (v0 : Vec Ideal S32x1024 .f32) (v1 : Vec Ideal S1024x256 .bf16) (r : Fin 32) (q : Fin 256) :
    k0_pay4 (F := Ideal) v0 v1 (ix2 r q) = ∑ k : Fin 1024, v0 (ix2 r k) * v1 (ix2 k q) := by
  unfold_payloads
  pointwise

theorem pay5 (v0 : Vec Ideal S32x1024 .f32) (v1 : Vec Ideal S1024x768 .bf16) (r : Fin 32) (q : Fin 768) :
    k0_pay5 (F := Ideal) v0 v1 (ix2 r q) = act (∑ k : Fin 1024, v0 (ix2 r k) * v1 (ix2 k q)) := by
  unfold act
  unfold_payloads
  pointwise

theorem pay6 (v0 : Vec Ideal S32x1024 .f32) (v1 : Vec Ideal S1024x768 .bf16) (r : Fin 32) (q : Fin 768) :
    k0_pay6 (F := Ideal) v0 v1 (ix2 r q) = act (∑ k : Fin 1024, v0 (ix2 r k) * v1 (ix2 k q)) := by
  unfold act
  unfold_payloads
  pointwise

theorem pay7 (v : FVec Ideal S32x768 .f32) (g b : Vec Ideal S1x768 .f32) (r : Fin 32) (q : Fin 768) :
    k0_pay7 (F := Ideal) v g b (ix2 r q) = GateRow.norm (fun k => v (ix2 r k)) (g (ix2 0 q)) (b (ix2 0 q)) q := by
  unfold GateRow.norm mean
  unfold_payloads
  pointwise

/-- The weights as the body reads them. -/
abbrev rows (x : Vec Ideal S1024x1792 .bf16) : Fin 1024 → Fin 1792 → EReal := fun k j => x (ix2 k j)

theorem gate_at (x0 : Vec Ideal S32x1024 .f32) (x1 : Vec Ideal S1024x1792 .bf16) (r : Fin 32) (q : Fin 768) :
    k0_pay5 (F := Ideal) (View.ld x0 r0_0) (View.ld x1 r0_1) (ix2 r q) = gate (fun k => x0 (ix2 r k)) (rows x1) q := by
  refine (pay5 _ _ r q).trans ?_
  unfold gate dot col
  refine congrArg act ?_
  pointwise

theorem half_at (x0 : Vec Ideal S32x1024 .f32) (x1 : Vec Ideal S1024x1792 .bf16) (r : Fin 32) (q : Fin 768) :
    k0_pay6 (F := Ideal) (View.ld x0 r0_0) (View.ld x1 r0_2) (ix2 r q)
      = act (dot (fun k => x0 (ix2 r k)) (rows x1) (col 768 (n := 768) (by omega) q)) := by
  refine (pay6 _ _ r q).trans ?_
  unfold dot col
  refine congrArg act ?_
  pointwise

theorem row_at (x : Vec Ideal S1x768 .f32) (q : Fin 768) : View.ld x r0_4 (ix2 0 q) = x (ix2 0 q) := by
  pointwise

theorem val_at (x0 : Vec Ideal S32x1024 .f32) (x1 : Vec Ideal S1024x1792 .bf16) (x2 x3 : Vec Ideal S1x768 .f32) (r : Fin 32) (q : Fin 768) :
    k0_pay7 (F := Ideal) (k0_pay6 (F := Ideal) (View.ld x0 r0_0) (View.ld x1 r0_2)) (View.ld x2 r0_4) (View.ld x3 r0_4) (ix2 r q)
      = val (fun k => x0 (ix2 r k)) (rows x1) (fun j => x2 (ix2 0 j)) (fun j => x3 (ix2 0 j)) q := by
  refine (pay7 _ _ _ r q).trans ?_
  unfold val
  rw [funext fun k => half_at x0 x1 r k]
  exact congrArg₂ (fun a b => GateRow.norm _ a b q) (row_at x2 q) (row_at x3 q)

/-- The body's formula of the gated result. -/
def f6 (x0 : Vec Ideal S32x1024 .f32) (x1 : Vec Ideal S1024x1792 .bf16) (x2 x3 : Vec Ideal S1x768 .f32) (x4 : Vec Ideal S6x128x128 .f32)
    (x5 : Vec Ideal S6x128 .f32) (y : S32x768.Idx) : EReal :=
  first (fun k => x0 (ix2 (y 0) k)) (rows x1) (fun j => x2 (ix2 0 j)) (fun j => x3 (ix2 0 j)) (fun n => x4 (ix3 n 0 0)) (fun n => x5 (ix2 n 0)) (y 1)

/-- The body's formula of the memory queries. -/
def f7 (x0 : Vec Ideal S32x1024 .f32) (x1 : Vec Ideal S1024x1792 .bf16) (y : S32x256.Idx) : EReal :=
  mem (fun k => x0 (ix2 (y 0) k)) (rows x1) (y 1)

/-- The body's formula of the gated values. -/
def f8 (x0 : Vec Ideal S32x1024 .f32) (x1 : Vec Ideal S1024x1792 .bf16) (x2 x3 : Vec Ideal S1x768 .f32) (y : S32x768.Idx) : EReal :=
  val (fun k => x0 (ix2 (y 0) k)) (rows x1) (fun j => x2 (ix2 0 j)) (fun j => x3 (ix2 0 j)) (y 1)

/-- Column `q` of group `n`. -/
def at' (n : ℕ) (h : n < 6) (q : Fin 128) : Fin 768 := ⟨128 * n + q.val, by omega⟩

theorem grp_at (n : ℕ) (h : n < 6) (q : Fin 128) : grp (at' n h q) = ⟨n, h⟩ := Fin.ext (by unfold grp at'; show (128 * n + q.val) / 128 = n; omega)

theorem group0 (u : FVec Ideal S32x768 .f32) (v : FVec Ideal S32x768 .f32) (g b : Vec Ideal S1x768 .f32) (s : Vec Ideal S1x1x1 .f32) (t : Vec Ideal S1x1 .f32) (r : Fin 32) (q : Fin 128) :
    k0_pay8 (F := Ideal) u v g b s t (ix2 r q) = u (ix2 r (at' 0 (by omega) q)) * (s (ix3 0 0 0) * (k0_pay7 (F := Ideal) v g b) (ix2 r (at' 0 (by omega) q)) + t (ix2 0 0)) := by
  unfold k0_pay8 at'
  generalize k0_pay7 (F := Ideal) v g b = z
  pointwise

theorem emb6_0 (r : Fin 32) (q : Fin 128) : (r0_8.emb (ix2 r q) : S32x768.Idx) = ix2 r (at' 0 (by omega) q) := by
  funext a
  apply Fin.ext
  unfold r0_8
  rw [ValueKit.rect_emb_unit_val]
  match a with
  | ⟨0, _⟩ => exact Nat.zero_add _
  | ⟨1, _⟩ => rfl

theorem s6_0 (x : Vec Ideal S6x128x128 .f32) : View.ld x r0_6 (ix3 0 0 0) = x (ix3 0 0 0) := by pointwise

theorem t6_0 (x : Vec Ideal S6x128 .f32) : View.ld x r0_7 (ix2 0 0) = x (ix2 0 0) := by pointwise

theorem group1 (u : FVec Ideal S32x768 .f32) (v : FVec Ideal S32x768 .f32) (g b : Vec Ideal S1x768 .f32) (s : Vec Ideal S1x1x1 .f32) (t : Vec Ideal S1x1 .f32) (r : Fin 32) (q : Fin 128) :
    k0_pay10 (F := Ideal) u (k0_pay9 (F := Ideal) v g b s) t (ix2 r q) = u (ix2 r (at' 1 (by omega) q)) * (s (ix3 0 0 0) * (k0_pay7 (F := Ideal) v g b) (ix2 r (at' 1 (by omega) q)) + t (ix2 0 0)) := by
  unfold k0_pay10 k0_pay9 at'
  generalize k0_pay7 (F := Ideal) v g b = z
  pointwise

theorem emb6_1 (r : Fin 32) (q : Fin 128) : (r0_11.emb (ix2 r q) : S32x768.Idx) = ix2 r (at' 1 (by omega) q) := by
  funext a
  apply Fin.ext
  unfold r0_11
  rw [ValueKit.rect_emb_unit_val]
  match a with
  | ⟨0, _⟩ => exact Nat.zero_add _
  | ⟨1, _⟩ => rfl

theorem s6_1 (x : Vec Ideal S6x128x128 .f32) : View.ld x r0_9 (ix3 0 0 0) = x (ix3 1 0 0) := by pointwise

theorem t6_1 (x : Vec Ideal S6x128 .f32) : View.ld x r0_10 (ix2 0 0) = x (ix2 1 0) := by pointwise

theorem group2 (u : FVec Ideal S32x768 .f32) (z : FVec Ideal S32x768 .f32) (s : Vec Ideal S1x1x1 .f32) (t : Vec Ideal S1x1 .f32) (r : Fin 32) (q : Fin 128) :
    k0_pay11 (F := Ideal) u z s t (ix2 r q) = u (ix2 r (at' 2 (by omega) q)) * (s (ix3 0 0 0) * (z) (ix2 r (at' 2 (by omega) q)) + t (ix2 0 0)) := by
  unfold k0_pay11 at'
  pointwise

theorem emb6_2 (r : Fin 32) (q : Fin 128) : (r0_14.emb (ix2 r q) : S32x768.Idx) = ix2 r (at' 2 (by omega) q) := by
  funext a
  apply Fin.ext
  unfold r0_14
  rw [ValueKit.rect_emb_unit_val]
  match a with
  | ⟨0, _⟩ => exact Nat.zero_add _
  | ⟨1, _⟩ => rfl

theorem s6_2 (x : Vec Ideal S6x128x128 .f32) : View.ld x r0_12 (ix3 0 0 0) = x (ix3 2 0 0) := by pointwise

theorem t6_2 (x : Vec Ideal S6x128 .f32) : View.ld x r0_13 (ix2 0 0) = x (ix2 2 0) := by pointwise

theorem group3 (u : FVec Ideal S32x768 .f32) (z : FVec Ideal S32x768 .f32) (s : Vec Ideal S1x1x1 .f32) (t : Vec Ideal S1x1 .f32) (r : Fin 32) (q : Fin 128) :
    k0_pay12 (F := Ideal) u z s t (ix2 r q) = u (ix2 r (at' 3 (by omega) q)) * (s (ix3 0 0 0) * (z) (ix2 r (at' 3 (by omega) q)) + t (ix2 0 0)) := by
  unfold k0_pay12 at'
  pointwise

theorem emb6_3 (r : Fin 32) (q : Fin 128) : (r0_17.emb (ix2 r q) : S32x768.Idx) = ix2 r (at' 3 (by omega) q) := by
  funext a
  apply Fin.ext
  unfold r0_17
  rw [ValueKit.rect_emb_unit_val]
  match a with
  | ⟨0, _⟩ => exact Nat.zero_add _
  | ⟨1, _⟩ => rfl

theorem s6_3 (x : Vec Ideal S6x128x128 .f32) : View.ld x r0_15 (ix3 0 0 0) = x (ix3 3 0 0) := by pointwise

theorem t6_3 (x : Vec Ideal S6x128 .f32) : View.ld x r0_16 (ix2 0 0) = x (ix2 3 0) := by pointwise

theorem group4 (u : FVec Ideal S32x768 .f32) (z : FVec Ideal S32x768 .f32) (s : Vec Ideal S1x1x1 .f32) (t : Vec Ideal S1x1 .f32) (r : Fin 32) (q : Fin 128) :
    k0_pay1 (F := Ideal) u (k0_pay13 (F := Ideal) z s) t (ix2 r q) = u (ix2 r (at' 4 (by omega) q)) * (s (ix3 0 0 0) * (z) (ix2 r (at' 4 (by omega) q)) + t (ix2 0 0)) := by
  unfold k0_pay1 k0_pay13 at'
  pointwise

theorem emb6_4 (r : Fin 32) (q : Fin 128) : (r0_20.emb (ix2 r q) : S32x768.Idx) = ix2 r (at' 4 (by omega) q) := by
  funext a
  apply Fin.ext
  unfold r0_20
  rw [ValueKit.rect_emb_unit_val]
  match a with
  | ⟨0, _⟩ => exact Nat.zero_add _
  | ⟨1, _⟩ => rfl

theorem s6_4 (x : Vec Ideal S6x128x128 .f32) : View.ld x r0_18 (ix3 0 0 0) = x (ix3 4 0 0) := by pointwise

theorem t6_4 (x : Vec Ideal S6x128 .f32) : View.ld x r0_19 (ix2 0 0) = x (ix2 4 0) := by pointwise

theorem group5 (u : FVec Ideal S32x768 .f32) (z : FVec Ideal S32x768 .f32) (s : Vec Ideal S1x1x1 .f32) (t : Vec Ideal S1x1 .f32) (r : Fin 32) (q : Fin 128) :
    k0_pay2 (F := Ideal) u z s t (ix2 r q) = u (ix2 r (at' 5 (by omega) q)) * (s (ix3 0 0 0) * (z) (ix2 r (at' 5 (by omega) q)) + t (ix2 0 0)) := by
  unfold k0_pay2 at'
  pointwise

theorem emb6_5 (r : Fin 32) (q : Fin 128) : (r0_23.emb (ix2 r q) : S32x768.Idx) = ix2 r (at' 5 (by omega) q) := by
  funext a
  apply Fin.ext
  unfold r0_23
  rw [ValueKit.rect_emb_unit_val]
  match a with
  | ⟨0, _⟩ => exact Nat.zero_add _
  | ⟨1, _⟩ => rfl

theorem s6_5 (x : Vec Ideal S6x128x128 .f32) : View.ld x r0_21 (ix3 0 0 0) = x (ix3 5 0 0) := by pointwise

theorem t6_5 (x : Vec Ideal S6x128 .f32) : View.ld x r0_22 (ix2 0 0) = x (ix2 5 0) := by pointwise

theorem piece6_0 (x0 : Vec Ideal S32x1024 .f32) (x1 : Vec Ideal S1024x1792 .bf16) (x2 x3 : Vec Ideal S1x768 .f32) (x4 : Vec Ideal S6x128x128 .f32) (x5 : Vec Ideal S6x128 .f32) (z : (Shape.Idx S32x128)) :
    k0_pay8 (F := Ideal) (k0_pay5 (F := Ideal) (View.ld x0 r0_0) (View.ld x1 r0_1)) (k0_pay6 (F := Ideal) (View.ld x0 r0_0) (View.ld x1 r0_2)) (View.ld x2 r0_4) (View.ld x3 r0_4) (View.ld x4 r0_6) (View.ld x5 r0_7) z = f6 x0 x1 x2 x3 x4 x5 (r0_8.emb z) := by
  obtain ⟨r, q, rfl⟩ : ∃ (r : Fin 32) (q : Fin 128), z = ix2 r q := ⟨z 0, z 1, eq_ix2 z⟩
  rw [emb6_0 r q]
  refine (group0 _ _ _ _ _ _ r q).trans ?_
  unfold f6 first
  refine congrArg₂ (· * ·) (gate_at x0 x1 r _) (congrArg₂ (· + ·) (congrArg₂ (· * ·) ((s6_0 x4).trans ?_) (val_at x0 x1 x2 x3 r _)) ((t6_0 x5).trans ?_))
  · exact congrArg (fun n => x4 (ix3 n 0 0)) (grp_at 0 (by omega) q).symm
  · exact congrArg (fun n => x5 (ix2 n 0)) (grp_at 0 (by omega) q).symm

theorem piece6_1 (x0 : Vec Ideal S32x1024 .f32) (x1 : Vec Ideal S1024x1792 .bf16) (x2 x3 : Vec Ideal S1x768 .f32) (x4 : Vec Ideal S6x128x128 .f32) (x5 : Vec Ideal S6x128 .f32) (z : (Shape.Idx S32x128)) :
    k0_pay10 (F := Ideal) (k0_pay5 (F := Ideal) (View.ld x0 r0_0) (View.ld x1 r0_1)) (k0_pay9 (F := Ideal) (k0_pay6 (F := Ideal) (View.ld x0 r0_0) (View.ld x1 r0_2)) (View.ld x2 r0_4) (View.ld x3 r0_4) (View.ld x4 r0_9)) (View.ld x5 r0_10) z = f6 x0 x1 x2 x3 x4 x5 (r0_11.emb z) := by
  obtain ⟨r, q, rfl⟩ : ∃ (r : Fin 32) (q : Fin 128), z = ix2 r q := ⟨z 0, z 1, eq_ix2 z⟩
  rw [emb6_1 r q]
  refine (group1 _ _ _ _ _ _ r q).trans ?_
  unfold f6 first
  refine congrArg₂ (· * ·) (gate_at x0 x1 r _) (congrArg₂ (· + ·) (congrArg₂ (· * ·) ((s6_1 x4).trans ?_) (val_at x0 x1 x2 x3 r _)) ((t6_1 x5).trans ?_))
  · exact congrArg (fun n => x4 (ix3 n 0 0)) (grp_at 1 (by omega) q).symm
  · exact congrArg (fun n => x5 (ix2 n 0)) (grp_at 1 (by omega) q).symm

theorem piece6_2 (x0 : Vec Ideal S32x1024 .f32) (x1 : Vec Ideal S1024x1792 .bf16) (x2 x3 : Vec Ideal S1x768 .f32) (x4 : Vec Ideal S6x128x128 .f32) (x5 : Vec Ideal S6x128 .f32) (z : (Shape.Idx S32x128)) :
    k0_pay11 (F := Ideal) (k0_pay5 (F := Ideal) (View.ld x0 r0_0) (View.ld x1 r0_1)) (k0_pay7 (F := Ideal) (k0_pay6 (F := Ideal) (View.ld x0 r0_0) (View.ld x1 r0_2)) (View.ld x2 r0_4) (View.ld x3 r0_4)) (View.ld x4 r0_12) (View.ld x5 r0_13) z = f6 x0 x1 x2 x3 x4 x5 (r0_14.emb z) := by
  obtain ⟨r, q, rfl⟩ : ∃ (r : Fin 32) (q : Fin 128), z = ix2 r q := ⟨z 0, z 1, eq_ix2 z⟩
  rw [emb6_2 r q]
  refine (group2 _ _ _ _ r q).trans ?_
  unfold f6 first
  refine congrArg₂ (· * ·) (gate_at x0 x1 r _) (congrArg₂ (· + ·) (congrArg₂ (· * ·) ((s6_2 x4).trans ?_) (val_at x0 x1 x2 x3 r _)) ((t6_2 x5).trans ?_))
  · exact congrArg (fun n => x4 (ix3 n 0 0)) (grp_at 2 (by omega) q).symm
  · exact congrArg (fun n => x5 (ix2 n 0)) (grp_at 2 (by omega) q).symm

theorem piece6_3 (x0 : Vec Ideal S32x1024 .f32) (x1 : Vec Ideal S1024x1792 .bf16) (x2 x3 : Vec Ideal S1x768 .f32) (x4 : Vec Ideal S6x128x128 .f32) (x5 : Vec Ideal S6x128 .f32) (z : (Shape.Idx S32x128)) :
    k0_pay12 (F := Ideal) (k0_pay5 (F := Ideal) (View.ld x0 r0_0) (View.ld x1 r0_1)) (k0_pay7 (F := Ideal) (k0_pay6 (F := Ideal) (View.ld x0 r0_0) (View.ld x1 r0_2)) (View.ld x2 r0_4) (View.ld x3 r0_4)) (View.ld x4 r0_15) (View.ld x5 r0_16) z = f6 x0 x1 x2 x3 x4 x5 (r0_17.emb z) := by
  obtain ⟨r, q, rfl⟩ : ∃ (r : Fin 32) (q : Fin 128), z = ix2 r q := ⟨z 0, z 1, eq_ix2 z⟩
  rw [emb6_3 r q]
  refine (group3 _ _ _ _ r q).trans ?_
  unfold f6 first
  refine congrArg₂ (· * ·) (gate_at x0 x1 r _) (congrArg₂ (· + ·) (congrArg₂ (· * ·) ((s6_3 x4).trans ?_) (val_at x0 x1 x2 x3 r _)) ((t6_3 x5).trans ?_))
  · exact congrArg (fun n => x4 (ix3 n 0 0)) (grp_at 3 (by omega) q).symm
  · exact congrArg (fun n => x5 (ix2 n 0)) (grp_at 3 (by omega) q).symm

theorem piece6_4 (x0 : Vec Ideal S32x1024 .f32) (x1 : Vec Ideal S1024x1792 .bf16) (x2 x3 : Vec Ideal S1x768 .f32) (x4 : Vec Ideal S6x128x128 .f32) (x5 : Vec Ideal S6x128 .f32) (z : (Shape.Idx S32x128)) :
    k0_pay1 (F := Ideal) (k0_pay5 (F := Ideal) (View.ld x0 r0_0) (View.ld x1 r0_1)) (k0_pay13 (F := Ideal) (k0_pay7 (F := Ideal) (k0_pay6 (F := Ideal) (View.ld x0 r0_0) (View.ld x1 r0_2)) (View.ld x2 r0_4) (View.ld x3 r0_4)) (View.ld x4 r0_18)) (View.ld x5 r0_19) z = f6 x0 x1 x2 x3 x4 x5 (r0_20.emb z) := by
  obtain ⟨r, q, rfl⟩ : ∃ (r : Fin 32) (q : Fin 128), z = ix2 r q := ⟨z 0, z 1, eq_ix2 z⟩
  rw [emb6_4 r q]
  refine (group4 _ _ _ _ r q).trans ?_
  unfold f6 first
  refine congrArg₂ (· * ·) (gate_at x0 x1 r _) (congrArg₂ (· + ·) (congrArg₂ (· * ·) ((s6_4 x4).trans ?_) (val_at x0 x1 x2 x3 r _)) ((t6_4 x5).trans ?_))
  · exact congrArg (fun n => x4 (ix3 n 0 0)) (grp_at 4 (by omega) q).symm
  · exact congrArg (fun n => x5 (ix2 n 0)) (grp_at 4 (by omega) q).symm

theorem piece6_5 (x0 : Vec Ideal S32x1024 .f32) (x1 : Vec Ideal S1024x1792 .bf16) (x2 x3 : Vec Ideal S1x768 .f32) (x4 : Vec Ideal S6x128x128 .f32) (x5 : Vec Ideal S6x128 .f32) (z : (Shape.Idx S32x128)) :
    k0_pay2 (F := Ideal) (k0_pay5 (F := Ideal) (View.ld x0 r0_0) (View.ld x1 r0_1)) (k0_pay7 (F := Ideal) (k0_pay6 (F := Ideal) (View.ld x0 r0_0) (View.ld x1 r0_2)) (View.ld x2 r0_4) (View.ld x3 r0_4)) (View.ld x4 r0_21) (View.ld x5 r0_22) z = f6 x0 x1 x2 x3 x4 x5 (r0_23.emb z) := by
  obtain ⟨r, q, rfl⟩ : ∃ (r : Fin 32) (q : Fin 128), z = ix2 r q := ⟨z 0, z 1, eq_ix2 z⟩
  rw [emb6_5 r q]
  refine (group5 _ _ _ _ r q).trans ?_
  unfold f6 first
  refine congrArg₂ (· * ·) (gate_at x0 x1 r _) (congrArg₂ (· + ·) (congrArg₂ (· * ·) ((s6_5 x4).trans ?_) (val_at x0 x1 x2 x3 r _)) ((t6_5 x5).trans ?_))
  · exact congrArg (fun n => x4 (ix3 n 0 0)) (grp_at 5 (by omega) q).symm
  · exact congrArg (fun n => x5 (ix2 n 0)) (grp_at 5 (by omega) q).symm

theorem out6 (x0 : Vec Ideal S32x1024 .f32) (x1 : Vec Ideal S1024x1792 .bf16) (x2 x3 : Vec Ideal S1x768 .f32) (x4 : Vec Ideal S6x128x128 .f32) (x5 : Vec Ideal S6x128 .f32) (y : S32x768.Idx) :
    out0_6 (F := Ideal) x0 x1 x2 x3 x4 x5 y = f6 x0 x1 x2 x3 x4 x5 y := by
  unfold out0_6
  refine View.canon_apply_of_pieces (Val := Elt Ideal) (e := .f32) (f6 x0 x1 x2 x3 x4 x5) _ ?_ y (cover0_6 _ _ _ _ _ _ y)
  intro p hp z
  simp only [List.mem_cons, List.not_mem_nil, or_false] at hp
  rcases hp with rfl | rfl | rfl | rfl | rfl | rfl
  · exact piece6_5 x0 x1 x2 x3 x4 x5 z
  · exact piece6_4 x0 x1 x2 x3 x4 x5 z
  · exact piece6_3 x0 x1 x2 x3 x4 x5 z
  · exact piece6_2 x0 x1 x2 x3 x4 x5 z
  · exact piece6_1 x0 x1 x2 x3 x4 x5 z
  · exact piece6_0 x0 x1 x2 x3 x4 x5 z

theorem emb7 (r : Fin 32) (q : Fin 256) : (r0_24.emb (ix2 r q) : S32x256.Idx) = ix2 r q := by
  funext a
  apply Fin.ext
  unfold r0_24
  rw [ValueKit.rect_emb_unit_val]
  match a with
  | ⟨0, _⟩ => exact Nat.zero_add _
  | ⟨1, _⟩ => exact Nat.zero_add _

theorem emb8 (r : Fin 32) (q : Fin 768) : (r0_5.emb (ix2 r q) : S32x768.Idx) = ix2 r q := by
  funext a
  apply Fin.ext
  unfold r0_5
  rw [ValueKit.rect_emb_unit_val]
  match a with
  | ⟨0, _⟩ => exact Nat.zero_add _
  | ⟨1, _⟩ => exact Nat.zero_add _

theorem piece7 (x0 : Vec Ideal S32x1024 .f32) (x1 : Vec Ideal S1024x1792 .bf16) (r : Fin 32) (q : Fin 256) :
    k0_pay4 (F := Ideal) (View.ld x0 r0_0) (View.ld x1 r0_3) (ix2 r q) = f7 x0 x1 (ix2 r q) := by
  refine (pay4 _ _ r q).trans ?_
  unfold f7 mem dot col
  pointwise

theorem out7 (x0 : Vec Ideal S32x1024 .f32) (x1 : Vec Ideal S1024x1792 .bf16) (x2 x3 : Vec Ideal S1x768 .f32) (x4 : Vec Ideal S6x128x128 .f32) (x5 : Vec Ideal S6x128 .f32) (y : S32x256.Idx) :
    out0_7 (F := Ideal) x0 x1 x2 x3 x4 x5 y = f7 x0 x1 y := by
  unfold out0_7
  refine View.canon_apply_of_pieces (Val := Elt Ideal) (e := .f32) (f7 x0 x1) _ ?_ y (cover0_7 _ y)
  intro p hp z
  simp only [List.mem_cons, List.not_mem_nil, or_false] at hp
  subst hp
  obtain ⟨r, q, rfl⟩ : ∃ (r : Fin 32) (q : Fin 256), z = ix2 r q := ⟨z 0, z 1, eq_ix2 z⟩
  exact (piece7 x0 x1 r q).trans (congrArg (f7 x0 x1) (emb7 r q).symm)

theorem piece8 (x0 : Vec Ideal S32x1024 .f32) (x1 : Vec Ideal S1024x1792 .bf16) (x2 x3 : Vec Ideal S1x768 .f32) (z : Shape.Idx S32x768) :
    k0_pay7 (F := Ideal) (k0_pay6 (F := Ideal) (View.ld x0 r0_0) (View.ld x1 r0_2)) (View.ld x2 r0_4) (View.ld x3 r0_4) z
      = f8 x0 x1 x2 x3 (r0_5.emb z) := by
  obtain ⟨r, q, rfl⟩ : ∃ (r : Fin 32) (q : Fin 768), z = ix2 r q := ⟨z 0, z 1, eq_ix2 z⟩
  rw [emb8 r q]
  exact val_at x0 x1 x2 x3 r q

theorem out8 (x0 : Vec Ideal S32x1024 .f32) (x1 : Vec Ideal S1024x1792 .bf16) (x2 x3 : Vec Ideal S1x768 .f32) (x4 : Vec Ideal S6x128x128 .f32) (x5 : Vec Ideal S6x128 .f32) (y : S32x768.Idx) :
    out0_8 (F := Ideal) x0 x1 x2 x3 x4 x5 y = f8 x0 x1 x2 x3 y := by
  unfold out0_8
  refine View.canon_apply_of_pieces (Val := Elt Ideal) (e := .f32) (f8 x0 x1 x2 x3) _ ?_ y (cover0_8 _ y)
  intro p hp z
  simp only [List.mem_cons, List.not_mem_nil, or_false] at hp
  subst hp
  exact piece8 x0 x1 x2 x3 z

theorem final6 (c : Dev nD) : (dats m 0 c).arrAt 6 cfg0.N = gated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  refine (out6 _ _ _ _ _ _ _).trans ?_
  obtain ⟨r, q, rfl⟩ : ∃ (r : Fin 32) (q : Fin 768), y = ix2 r q := ⟨y 0, y 1, eq_ix2 y⟩
  have hi : ((win0_6.blk t).view.emb (ix2 r q) : S32x768.Idx) = ix2 r q := by
    blk_ext [e6]
  refine Eq.trans ?_ (congrArg (gated _ _ _ _ _ _) hi.symm)
  have h0 : (fun k => iblk m c 0 t (ix2 r k)) = fun k => m ((c : Thread nD τ).loc main_arg0) (ix2 r k) := funext fun k => in0 m c t r k
  have h1 : rows (iblk m c 1 t) = fun k j => m ((c : Thread nD τ).loc main_arg1) (ix3 0 k j) := funext fun k => funext fun j => in1 m c t k j
  have h2 : (fun j => iblk m c 2 t (ix2 0 j)) = fun j => m ((c : Thread nD τ).loc main_arg2) (ix2 0 j) := funext fun j => in2 m c t j
  have h3 : (fun j => iblk m c 3 t (ix2 0 j)) = fun j => m ((c : Thread nD τ).loc main_arg3) (ix2 0 j) := funext fun j => in3 m c t j
  have h4 : (fun n => iblk m c 4 t (ix3 n 0 0)) = fun n => m ((c : Thread nD τ).loc main_arg4) (ix4 0 n 0 0) := funext fun n => in4 m c t n
  have h5 : (fun n => iblk m c 5 t (ix2 n 0)) = fun n => m ((c : Thread nD τ).loc main_arg5) (ix3 0 n 0) := funext fun n => in5 m c t n
  show first (fun k => iblk m c 0 t (ix2 r k)) (rows (iblk m c 1 t)) (fun j => iblk m c 2 t (ix2 0 j)) (fun j => iblk m c 3 t (ix2 0 j)) (fun n => iblk m c 4 t (ix3 n 0 0)) (fun n => iblk m c 5 t (ix2 n 0)) q = _
  rw [h0]
  rw [h1]
  rw [h2]
  rw [h3]
  rw [h4]
  rw [h5]
  rfl

theorem final7 (c : Dev nD) : (dats m 0 c).arrAt 7 cfg0.N = memq (m ((c : Thread nD τ).loc main_arg0)) (m ((c : Thread nD τ).loc main_arg1)) := by
  refine (dats m 0 c).arrAt_eq_of_covers 7 _ (by decide +kernel) fun t hf y => ?_
  blk_simp
  rw [after0_7]
  refine (out7 _ _ _ _ _ _ _).trans ?_
  obtain ⟨r, q, rfl⟩ : ∃ (r : Fin 32) (q : Fin 256), y = ix2 r q := ⟨y 0, y 1, eq_ix2 y⟩
  have hi : ((win0_7.blk t).view.emb (ix2 r q) : S32x256.Idx) = ix2 r q := by
    blk_ext [e7]
  refine Eq.trans ?_ (congrArg (memq _ _) hi.symm)
  have h0 : (fun k => iblk m c 0 t (ix2 r k)) = fun k => m ((c : Thread nD τ).loc main_arg0) (ix2 r k) := funext fun k => in0 m c t r k
  have h1 : rows (iblk m c 1 t) = fun k j => m ((c : Thread nD τ).loc main_arg1) (ix3 0 k j) := funext fun k => funext fun j => in1 m c t k j
  show mem (fun k => iblk m c 0 t (ix2 r k)) (rows (iblk m c 1 t)) q = _
  rw [h0]
  rw [h1]
  rfl

theorem final8 (c : Dev nD) : (dats m 0 c).arrAt 8 cfg0.N = vals (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  refine (out8 _ _ _ _ _ _ _).trans ?_
  obtain ⟨r, q, rfl⟩ : ∃ (r : Fin 32) (q : Fin 768), y = ix2 r q := ⟨y 0, y 1, eq_ix2 y⟩
  have hi : ((win0_8.blk t).view.emb (ix2 r q) : S32x768.Idx) = ix2 r q := by
    blk_ext [e8]
  refine Eq.trans ?_ (congrArg (vals _ _ _ _) hi.symm)
  have h0 : (fun k => iblk m c 0 t (ix2 r k)) = fun k => m ((c : Thread nD τ).loc main_arg0) (ix2 r k) := funext fun k => in0 m c t r k
  have h1 : rows (iblk m c 1 t) = fun k j => m ((c : Thread nD τ).loc main_arg1) (ix3 0 k j) := funext fun k => funext fun j => in1 m c t k j
  have h2 : (fun j => iblk m c 2 t (ix2 0 j)) = fun j => m ((c : Thread nD τ).loc main_arg2) (ix2 0 j) := funext fun j => in2 m c t j
  have h3 : (fun j => iblk m c 3 t (ix2 0 j)) = fun j => m ((c : Thread nD τ).loc main_arg3) (ix2 0 j) := funext fun j => in3 m c t j
  show val (fun k => iblk m c 0 t (ix2 r k)) (rows (iblk m c 1 t)) (fun j => iblk m c 2 t (ix2 0 j)) (fun j => iblk m c 3 t (ix2 0 j)) q = _
  rw [h0]
  rw [h1]
  rw [h2]
  rw [h3]
  rfl

end Cert.SguSampleIdeal.Result

end
-- ==== Proof.SguSampleReference.lean ====
/- The gated unit of the sample group: the plain reference's three result arrays, as the row formulas of its arguments. -/
module

public import proofs.«01_k».proof.Proof.SguSampleValue
public import proofs.«01_k».proof.Proof.Gen.SguSampleReferenceIdeal.Run
public import Idealize.ShloMosaic.Lib.Pointwise
public import Idealize.ShloMosaic.Lib.Tactic.CleanTypes

@[expose] public section

set_option maxRecDepth 16384

noncomputable section

namespace Cert.SguSampleReferenceIdeal.Result

open Cert.SguSampleReferenceIdeal Cert.SguSampleReferenceIdeal.Gen Idealize.ShloMosaic Idealize.ShloMosaic.TcCoe Idealize.SL.Sem
open Cert.GateRow Cert.Proof.SguSample Cert.SguSampleReferenceIdeal.Value

/-- The activation of an array, as the reference spells it. -/
def actT (T : FVec Ideal S32x768 .f32) : FVec Ideal S32x768 .f32 :=
  mulf T (mulf (broadcastInDim S32x768 ![] bcast_S_S32x768 (constant S_ .f32 0x3F000000#32)) (addf (broadcastInDim S32x768 ![] bcast_S_S32x768 (constant S_ .f32 0x3F800000#32)) (Host.tanh (mulf (broadcastInDim S32x768 ![] bcast_S_S32x768 (constant S_ .f32 0x3F4C422A#32)) (addf T (mulf (broadcastInDim S32x768 ![] bcast_S_S32x768 (constant S_ .f32 0x3D372713#32)) (mulf (mulf T T) T)))))))

/-- The mean of each row, the same way. -/
def meanT (T : FVec Ideal S32x768 .f32) : FVec Ideal S32x1 .f32 :=
  Host.divf (broadcastInDim S32x1 ![0] bcast_S32_S32x1_0 (Host.reduceAdd T (constant S_ .f32 0x00000000#32) reducesTo_S32x768_S32_d1 h_S_)) (broadcastInDim S32x1 ![] bcast_S_S32x1 (constant S_ .f32 0x44400000#32))

/-- Each row less its mean. -/
def centreT (T : FVec Ideal S32x768 .f32) : FVec Ideal S32x768 .f32 :=
  subf T (broadcastInDim S32x768 ![0, 1] bcast_S32x1_S32x768_0_1 (meanT T))

/-- Layer norm of the rows. -/
def normT (T : FVec Ideal S32x768 .f32) (g b : FVec Ideal S1x768 .f32) : FVec Ideal S32x768 .f32 :=
  addf (mulf (mulf (centreT T) (broadcastInDim S32x768 ![0, 1] bcast_S32x1_S32x768_0_1 (Host.rsqrt (addf (meanT (mulf (centreT T) (centreT T))) (broadcastInDim S32x1 ![] bcast_S_S32x1 (constant S_ .f32 0x3727C5AC#32)))))) (broadcastInDim S32x768 ![0, 1] bcast_S1x768_S32x768_0_1 g)) (broadcastInDim S32x768 ![0, 1] bcast_S1x768_S32x768_0_1 b)

/-- The product with the input weights, and its first and second 768 columns. -/
def projT (x : FVec Ideal S32x1024 .f32) (w : FVec Ideal S1x1024x1792 .f32) : FVec Ideal S32x1792 .f32 :=
  Host.dotGeneral dot_S32x1024_S1024x1792_S32x1792_1_0_0_1_n_n none x (shapeCast _ w shapeCasts_S1x1024x1792_S1024x1792)

def colT0 (T : FVec Ideal S32x1792 .f32) : FVec Ideal S32x768 .f32 := extractStridedSlice S32x768 ![0, 0] T slices_S32x1792_S32x768_0_0

def colT1 (T : FVec Ideal S32x1792 .f32) : FVec Ideal S32x768 .f32 := extractStridedSlice S32x768 ![0, 768] T slices_S32x1792_S32x768_0_768

/-- The gate times the scaled and shifted values. -/
def gateT (G v : FVec Ideal S32x768 .f32) (s : FVec Ideal S1x6x128x128 .f32) (t : FVec Ideal S1x6x128 .f32) : FVec Ideal S32x768 .f32 :=
  mulf G (shapeCast _ (addf (mulf (broadcastInDim S32x6x128 ![0, 1, 2] bcast_S1x6x1_S32x6x128_0_1_2 (broadcastInDim S1x6x1 ![1, 2] bcast_S6x1_S1x6x1_1_2 (broadcastInDim S6x1 ![0] bcast_S6_S6x1_0 (shapeCast _ (extractStridedSlice S1x6x1x1 ![0, 0, 0, 0] s slices_S1x6x128x128_S1x6x1x1_0_0_0_0) shapeCasts_S1x6x1x1_S6)))) (shapeCast _ v shapeCasts_S32x768_S32x6x128)) (broadcastInDim S32x6x128 ![0, 1, 2] bcast_S1x6x1_S32x6x128_0_1_2 (broadcastInDim S1x6x1 ![1, 2] bcast_S6x1_S1x6x1_1_2 (broadcastInDim S6x1 ![0] bcast_S6_S6x1_0 (shapeCast _ (extractStridedSlice S1x6x1 ![0, 0, 0] t slices_S1x6x128_S1x6x1_0_0_0) shapeCasts_S1x6x1_S6))))) shapeCasts_S32x6x128_S32x768)

theorem actT_at (T : FVec Ideal S32x768 .f32) (r : Fin 32) (q : Fin 768) : actT T (ix2 r q) = act (T (ix2 r q)) := by
  unfold actT act
  clean_types
  pointwise
  try rfl

theorem meanT_at (T : FVec Ideal S32x768 .f32) (r : Fin 32) : meanT T (ix2 r 0) = mean (fun k => T (ix2 r k)) := by
  unfold meanT mean
  clean_types
  pointwise

theorem centreT_at (T : FVec Ideal S32x768 .f32) (r : Fin 32) (q : Fin 768) :
    centreT T (ix2 r q) = T (ix2 r q) - mean (fun k => T (ix2 r k)) := by
  unfold centreT
  clean_types
  pointwise [meanT_at]

theorem normT_at (T : FVec Ideal S32x768 .f32) (g b : FVec Ideal S1x768 .f32) (r : Fin 32) (q : Fin 768) :
    normT T g b (ix2 r q) = GateRow.norm (fun k => T (ix2 r k)) (g (ix2 0 q)) (b (ix2 0 q)) q := by
  have h : meanT (mulf (centreT T) (centreT T)) (ix2 r 0)
      = mean (fun k => (T (ix2 r k) - mean (fun k => T (ix2 r k))) * (T (ix2 r k) - mean (fun k => T (ix2 r k)))) := by
    rw [meanT_at]
    refine congrArg mean (funext fun k => ?_)
    exact congrArg₂ (· * ·) (centreT_at T r k) (centreT_at T r k)
  unfold normT GateRow.norm
  rw [← h, ← centreT_at]
  generalize meanT (mulf (centreT T) (centreT T)) = M
  generalize centreT T = C
  clean_types
  pointwise

theorem colT0_at (x : FVec Ideal S32x1024 .f32) (w : FVec Ideal S1x1024x1792 .f32) (r : Fin 32) (q : Fin 768) :
    colT0 (projT x w) (ix2 r q) = dot (fun k => x (ix2 r k)) (fun k j => w (ix3 0 k j)) (col 0 (n := 768) (by omega) q) := by
  unfold colT0 projT dot col
  pointwise

theorem colT1_at (x : FVec Ideal S32x1024 .f32) (w : FVec Ideal S1x1024x1792 .f32) (r : Fin 32) (q : Fin 768) :
    colT1 (projT x w) (ix2 r q) = dot (fun k => x (ix2 r k)) (fun k j => w (ix3 0 k j)) (col 768 (n := 768) (by omega) q) := by
  unfold colT1 projT dot col
  pointwise

theorem gateT_at (G v : FVec Ideal S32x768 .f32) (s : FVec Ideal S1x6x128x128 .f32) (t : FVec Ideal S1x6x128 .f32) (r : Fin 32) (q : Fin 768) :
    gateT G v s t (ix2 r q) = G (ix2 r q) * (s (ix4 0 (grp q) 0 0) * v (ix2 r q) + t (ix3 0 (grp q) 0)) := by
  unfold gateT grp
  clean_types
  pointwise

/-- The gated values. -/
theorem result8 (x : FVec Ideal S32x1024 .f32) (w : FVec Ideal S1x1024x1792 .f32) (g b : FVec Ideal S1x768 .f32) :
    normT (actT (colT1 (projT x w))) g b = vals x w g b := by
  funext y
  obtain ⟨r, q, rfl⟩ : ∃ (r : Fin 32) (q : Fin 768), y = ix2 r q := ⟨y 0, y 1, eq_ix2 y⟩
  rw [normT_at, funext fun k => (actT_at (colT1 (projT x w)) r k).trans (congrArg act (colT1_at x w r k))]
  rfl

/-- The gated result. -/
theorem result6 (x : FVec Ideal S32x1024 .f32) (w : FVec Ideal S1x1024x1792 .f32) (g b : FVec Ideal S1x768 .f32)
    (s : FVec Ideal S1x6x128x128 .f32) (t : FVec Ideal S1x6x128 .f32) :
    gateT (actT (colT0 (projT x w))) (normT (actT (colT1 (projT x w))) g b) s t = gated x w g b s t := by
  rw [result8]
  funext y
  obtain ⟨r, q, rfl⟩ : ∃ (r : Fin 32) (q : Fin 768), y = ix2 r q := ⟨y 0, y 1, eq_ix2 y⟩
  rw [gateT_at, (actT_at (colT0 (projT x w)) r q).trans (congrArg act (colT0_at x w r q))]
  rfl

/-- The memory queries. -/
theorem result7 (x : FVec Ideal S32x1024 .f32) (w : FVec Ideal S1x1024x1792 .f32) :
    (extractStridedSlice S32x256 ![0, 1536] (Host.dotGeneral dot_S32x1024_S1024x1792_S32x1792_1_0_0_1_n_n none x (shapeCast _ w shapeCasts_S1x1024x1792_S1024x1792)) slices_S32x1792_S32x256_0_1536 : FVec Ideal S32x256 .f32)
      = memq x w := by
  funext y
  obtain ⟨r, q, rfl⟩ : ∃ (r : Fin 32) (q : Fin 256), y = ix2 r q := ⟨y 0, y 1, eq_ix2 y⟩
  unfold memq mem dot col
  pointwise

variable (m : (ℓ : Loc nD τ sig) → Buf (Elt Ideal) ℓ)

theorem out0_eq (c : Dev nD) : res_main_v66 m c = gated (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) :=
  Eq.trans (by unfold res_main_v66; rfl) (result6 _ _ _ _ _ _)

theorem out2_eq (c : Dev nD) : res_main_v51 m c = vals (m ((c.tc : Thread nD τ).loc main_arg0)) (m ((c.tc : Thread nD τ).loc main_arg1))
    (m ((c.tc : Thread nD τ).loc main_arg2)) (m ((c.tc : Thread nD τ).loc main_arg3)) :=
  Eq.trans (by unfold res_main_v51; rfl) (result8 _ _ _ _)

end Cert.SguSampleReferenceIdeal.Result

end
-- ==== Proof.SguValue.lean ====
/- The spatial gating of the prompt: the kernel works on tiles of two pages, group by group; its stores together are one formula of
   the row block, and the result array is that formula of every page. -/
module

public import proofs.«01_k».proof.Proof.GateRow
public import proofs.«01_k».proof.Proof.Gen.SguIdeal.Value
public import Idealize.ShloMosaic.Lib.Pipeline.ValueKit
public import Idealize.ShloMosaic.Lib.Pointwise
public import Idealize.ShloMosaic.Lib.WordCmp

@[expose] public section

set_option maxRecDepth 65536

noncomputable section

namespace Cert.Proof.Sgu

open Idealize.ShloMosaic Cert.GateRow

/-- Row `r` of a page, column `j`: the row's gate times the sum over the rows up to `r` of the group's weight times that row's value,
    plus a shift `T`. -/
def turned (W : Fin 6 → Fin 128 → Fin 128 → EReal) (X : Fin 128 → Fin 1024 → EReal) (w : Fin 1024 → Fin 1792 → EReal) (g b : Fin 768 → EReal)
    (T : EReal) (r : Fin 128) (j : Fin 768) : EReal :=
  gate (X r) w j * (∑ s : Fin 128, (if r.val < s.val then 0 else W (grp j) r s) * val (X s) w g b j + T)

/-- Row `r` of page `p`, among the prompt's rows; the page of a row and its place there. -/
def prow (p r : Fin 128) : Fin 16384 := ⟨p.val * 128 + r.val, by omega⟩

def page (i : Fin 16384) : Fin 128 := ⟨i.val / 128, by omega⟩

def place (i : Fin 16384) : Fin 128 := ⟨i.val % 128, by omega⟩

/-- The gated result for all rows of the prompt. -/
def gated (x : Shape.Idx ⟨2, ![16384, 1024]⟩ → EReal) (w : Shape.Idx ⟨3, ![1, 1024, 1792]⟩ → EReal) (g b : Shape.Idx ⟨2, ![1, 768]⟩ → EReal)
    (s : Shape.Idx ⟨4, ![1, 6, 128, 128]⟩ → EReal) (t : Shape.Idx ⟨3, ![1, 6, 128]⟩ → EReal) : Shape.Idx ⟨2, ![16384, 768]⟩ → EReal := fun i =>
  turned (fun n r q => s (ix4 0 n r q)) (fun r k => x (ix2 (prow (page (i 0)) r) k)) (fun k j => w (ix3 0 k j)) (fun j => g (ix2 0 j)) (fun j => b (ix2 0 j))
    (t (ix3 0 (grp (i 1)) (place (i 0)))) (place (i 0)) (i 1)

end Cert.Proof.Sgu

namespace Cert.SguIdeal.Result

open Idealize.ShloMosaic.WordCmp
open Cert.SguIdeal Cert.SguIdeal.Gen Idealize.ShloMosaic Idealize.ShloMosaic.TcCoe Idealize.SL.Sem Cert.Proof.Sgu Cert.GateRow

theorem word_toInt {a : ℕ} (h : a < 2147483648) : (BitVec.ofNat 32 a).toInt = a := by
  rw [BitVec.toInt_eq_toNat_of_lt (by rw [BitVec.toNat_ofNat, Nat.mod_eq_of_lt (by omega)]; omega), BitVec.toNat_ofNat,
    Nat.mod_eq_of_lt (by omega)]

theorem select_sge {a b : ℕ} (ha : a < 2147483648) (hb : b < 2147483648) (x y : EReal) :
    Scalar.select (IntOp.cmpi CmpIPredicate.sge (BitVec.ofNat 32 a) (BitVec.ofNat 32 b)) x y = if a < b then y else x := by
  rw [cmpi_sge_eq, word_toInt ha, word_toInt hb]
  unfold Scalar.select
  by_cases h : a < b
  · have : ¬ b ≤ a := by omega
    simp [h, this]
  · have : b ≤ a := by omega
    simp [h, this]

/-- The weights of a group, with those of later rows set to zero. -/
theorem mask_at (v : Vec Ideal S1x128x128 .f32) (r s : Fin 128) :
    k0_pay2 (F := Ideal) v (ix2 r s) = if r.val < s.val then 0 else v (ix3 0 r s) := by
  have hr := r.isLt
  have hs := s.isLt
  unfold k0_pay2
  pointwise
  rw [select_sge (by omega) (by omega)]

/-- A tile's product with 768 columns of the weights. -/
theorem dot_at (v : Vec Ideal S256x1024 .f32) (w : Vec Ideal S1024x768 .bf16) (r : Fin 256) (q : Fin 768) :
    k0_pay15 (F := Ideal) v w (ix2 r q) = ∑ k : Fin 1024, v (ix2 r k) * w (ix2 k q) := by
  unfold k0_pay15 k0_pay14
  pointwise

theorem act_at (v : FVec Ideal S256x768 .f32) (r : Fin 256) (q : Fin 768) : k0_pay52 (F := Ideal) v (ix2 r q) = act (v (ix2 r q)) := by
  unfold act k0_pay52
  pointwise

/-- Layer norm of a tile's rows, as the body spells it. -/
def normB (v : FVec Ideal S256x768 .f32) (g b : Vec Ideal S1x768 .f32) : FVec Ideal S256x768 .bf16 :=
  have m : FVec Ideal S256x1 .f32 := divf (shapeCast S256x1 (multiReduction .add [1] S256 v 0x00000000#32 reduces_S256x768_S256 (.inl rfl) rfl) shapeCasts_S256_S256x1) (broadcast S256x1 (Scalar.ofBits .f32 0x44400000#32))
  have d : FVec Ideal S256x768 .f32 := subf v (broadcastTo S256x768 m broadcasts_S256x1_S256x768)
  have n : FVec Ideal S256x1 .f32 := divf (shapeCast S256x1 (multiReduction .add [1] S256 (mulf d d) 0x00000000#32 reduces_S256x768_S256 (.inl rfl) rfl) shapeCasts_S256_S256x1) (broadcast S256x1 (Scalar.ofBits .f32 0x44400000#32))
  truncf .bf16 (addf (mulf (mulf d (broadcastTo S256x768 (rsqrt (addf n (broadcast S256x1 (Scalar.ofBits .f32 0x3727C5AC#32)))) broadcasts_S256x1_S256x768))
    (broadcastTo S256x768 g broadcasts_S1x768_S256x768)) (broadcastTo S256x768 b broadcasts_S1x768_S256x768)) bitsLt_bf16_f32

theorem normB_at (v : FVec Ideal S256x768 .f32) (g b : Vec Ideal S1x768 .f32) (r : Fin 256) (q : Fin 768) :
    normB v g b (ix2 r q) = GateRow.norm (fun k => v (ix2 r k)) (g (ix2 0 q)) (b (ix2 0 q)) q := by
  unfold normB GateRow.norm mean
  pointwise

/-- The weights as the body reads them. -/
abbrev rows (x : Vec Ideal S1024x1792 .bf16) : Fin 1024 → Fin 1792 → EReal := fun k j => x (ix2 k j)

theorem row_at (x : Vec Ideal S1x768 .f32) (q : Fin 768) : View.ld x r0_11 (ix2 0 q) = x (ix2 0 q) := by
  pointwise

/-- Row `r` of tile `o`, among the rows of the block. -/
def trow (o : ℕ) (ho : o + 256 ≤ 1024) (r : Fin 256) : Fin 1024 := ⟨o + r.val, by omega⟩

theorem ucol0 (x0 : Vec Ideal S1024x1024 .f32) (x1 : Vec Ideal S1024x1792 .bf16) (r : Fin 256) (q : Fin 768) :
    k0_pay15 (F := Ideal) (View.ld x0 r0_6) (View.ld x1 r0_7) (ix2 r q)
      = dot (fun k => x0 (ix2 (trow 0 (by omega) r) k)) (rows x1) (col 0 (n := 768) (by omega) q) := by
  refine (dot_at _ _ r q).trans ?_
  unfold dot col trow
  pointwise

theorem vcol0 (x0 : Vec Ideal S1024x1024 .f32) (x1 : Vec Ideal S1024x1792 .bf16) (r : Fin 256) (q : Fin 768) :
    k0_pay15 (F := Ideal) (View.ld x0 r0_6) (View.ld x1 r0_8) (ix2 r q)
      = dot (fun k => x0 (ix2 (trow 0 (by omega) r) k)) (rows x1) (col 768 (n := 768) (by omega) q) := by
  refine (dot_at _ _ r q).trans ?_
  unfold dot col trow
  pointwise

theorem gate0 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r : Fin 256) (q : Fin 768) :
    k0_pay150 (F := Ideal) x0 x1 x2 x3 x4 x5 x6 x7 (ix2 r q) = gate (fun k => x0 (ix2 (trow 0 (by omega) r) k)) (rows x1) q :=
  (act_at (k0_pay15 (F := Ideal) (View.ld x0 r0_6) (View.ld x1 r0_7)) r q).trans (congrArg act (ucol0 x0 x1 r q))

theorem valeq0 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) :
    k0_pay151 (F := Ideal) x0 x1 x2 x3 x4 x5 x6 x7 = normB (k0_pay52 (F := Ideal) (k0_pay15 (F := Ideal) (View.ld x0 r0_6) (View.ld x1 r0_8))) (View.ld x2 r0_11) (View.ld x3 r0_11) := rfl

theorem val0 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r : Fin 256) (q : Fin 768) :
    k0_pay151 (F := Ideal) x0 x1 x2 x3 x4 x5 x6 x7 (ix2 r q)
      = val (fun k => x0 (ix2 (trow 0 (by omega) r) k)) (rows x1) (fun j => x2 (ix2 0 j)) (fun j => x3 (ix2 0 j)) q := by
  refine (congrFun (valeq0 x0 x1 x2 x3 x4 x5 x6 x7) _).trans ((normB_at _ _ _ r q).trans ?_)
  unfold val
  rw [funext fun k => (act_at _ r k).trans (congrArg act (vcol0 x0 x1 r k))]
  exact congrArg₂ (fun a b => GateRow.norm _ a b q) (row_at x2 q) (row_at x3 q)

theorem ucol1 (x0 : Vec Ideal S1024x1024 .f32) (x1 : Vec Ideal S1024x1792 .bf16) (r : Fin 256) (q : Fin 768) :
    k0_pay15 (F := Ideal) (View.ld x0 r0_10) (View.ld x1 r0_7) (ix2 r q)
      = dot (fun k => x0 (ix2 (trow 256 (by omega) r) k)) (rows x1) (col 0 (n := 768) (by omega) q) := by
  refine (dot_at _ _ r q).trans ?_
  unfold dot col trow
  pointwise

theorem vcol1 (x0 : Vec Ideal S1024x1024 .f32) (x1 : Vec Ideal S1024x1792 .bf16) (r : Fin 256) (q : Fin 768) :
    k0_pay15 (F := Ideal) (View.ld x0 r0_10) (View.ld x1 r0_8) (ix2 r q)
      = dot (fun k => x0 (ix2 (trow 256 (by omega) r) k)) (rows x1) (col 768 (n := 768) (by omega) q) := by
  refine (dot_at _ _ r q).trans ?_
  unfold dot col trow
  pointwise

theorem gate1 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r : Fin 256) (q : Fin 768) :
    k0_pay156 (F := Ideal) x0 x1 x2 x3 x4 x5 x6 x7 (ix2 r q) = gate (fun k => x0 (ix2 (trow 256 (by omega) r) k)) (rows x1) q :=
  (act_at (k0_pay15 (F := Ideal) (View.ld x0 r0_10) (View.ld x1 r0_7)) r q).trans (congrArg act (ucol1 x0 x1 r q))

theorem valeq1 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) :
    k0_pay158 (F := Ideal) x0 x1 x2 x3 x4 x5 x6 x7 = normB (k0_pay52 (F := Ideal) (k0_pay15 (F := Ideal) (View.ld x0 r0_10) (View.ld x1 r0_8))) (View.ld x2 r0_11) (View.ld x3 r0_11) := rfl

theorem val1 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r : Fin 256) (q : Fin 768) :
    k0_pay158 (F := Ideal) x0 x1 x2 x3 x4 x5 x6 x7 (ix2 r q)
      = val (fun k => x0 (ix2 (trow 256 (by omega) r) k)) (rows x1) (fun j => x2 (ix2 0 j)) (fun j => x3 (ix2 0 j)) q := by
  refine (congrFun (valeq1 x0 x1 x2 x3 x4 x5 x6 x7) _).trans ((normB_at _ _ _ r q).trans ?_)
  unfold val
  rw [funext fun k => (act_at _ r k).trans (congrArg act (vcol1 x0 x1 r k))]
  exact congrArg₂ (fun a b => GateRow.norm _ a b q) (row_at x2 q) (row_at x3 q)

theorem ucol2 (x0 : Vec Ideal S1024x1024 .f32) (x1 : Vec Ideal S1024x1792 .bf16) (r : Fin 256) (q : Fin 768) :
    k0_pay15 (F := Ideal) (View.ld x0 r0_27) (View.ld x1 r0_7) (ix2 r q)
      = dot (fun k => x0 (ix2 (trow 512 (by omega) r) k)) (rows x1) (col 0 (n := 768) (by omega) q) := by
  refine (dot_at _ _ r q).trans ?_
  unfold dot col trow
  pointwise

theorem vcol2 (x0 : Vec Ideal S1024x1024 .f32) (x1 : Vec Ideal S1024x1792 .bf16) (r : Fin 256) (q : Fin 768) :
    k0_pay15 (F := Ideal) (View.ld x0 r0_27) (View.ld x1 r0_8) (ix2 r q)
      = dot (fun k => x0 (ix2 (trow 512 (by omega) r) k)) (rows x1) (col 768 (n := 768) (by omega) q) := by
  refine (dot_at _ _ r q).trans ?_
  unfold dot col trow
  pointwise

theorem gate2 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r : Fin 256) (q : Fin 768) :
    k0_pay163 (F := Ideal) x0 x1 x2 x3 x4 x5 x6 x7 (ix2 r q) = gate (fun k => x0 (ix2 (trow 512 (by omega) r) k)) (rows x1) q :=
  (act_at (k0_pay15 (F := Ideal) (View.ld x0 r0_27) (View.ld x1 r0_7)) r q).trans (congrArg act (ucol2 x0 x1 r q))

theorem valeq2 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) :
    k0_pay165 (F := Ideal) x0 x1 x2 x3 x4 x5 x6 x7 = normB (k0_pay52 (F := Ideal) (k0_pay15 (F := Ideal) (View.ld x0 r0_27) (View.ld x1 r0_8))) (View.ld x2 r0_11) (View.ld x3 r0_11) := rfl

theorem val2 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r : Fin 256) (q : Fin 768) :
    k0_pay165 (F := Ideal) x0 x1 x2 x3 x4 x5 x6 x7 (ix2 r q)
      = val (fun k => x0 (ix2 (trow 512 (by omega) r) k)) (rows x1) (fun j => x2 (ix2 0 j)) (fun j => x3 (ix2 0 j)) q := by
  refine (congrFun (valeq2 x0 x1 x2 x3 x4 x5 x6 x7) _).trans ((normB_at _ _ _ r q).trans ?_)
  unfold val
  rw [funext fun k => (act_at _ r k).trans (congrArg act (vcol2 x0 x1 r k))]
  exact congrArg₂ (fun a b => GateRow.norm _ a b q) (row_at x2 q) (row_at x3 q)

theorem ucol3 (x0 : Vec Ideal S1024x1024 .f32) (x1 : Vec Ideal S1024x1792 .bf16) (r : Fin 256) (q : Fin 768) :
    k0_pay15 (F := Ideal) (View.ld x0 r0_41) (View.ld x1 r0_7) (ix2 r q)
      = dot (fun k => x0 (ix2 (trow 768 (by omega) r) k)) (rows x1) (col 0 (n := 768) (by omega) q) := by
  refine (dot_at _ _ r q).trans ?_
  unfold dot col trow
  pointwise

theorem vcol3 (x0 : Vec Ideal S1024x1024 .f32) (x1 : Vec Ideal S1024x1792 .bf16) (r : Fin 256) (q : Fin 768) :
    k0_pay15 (F := Ideal) (View.ld x0 r0_41) (View.ld x1 r0_8) (ix2 r q)
      = dot (fun k => x0 (ix2 (trow 768 (by omega) r) k)) (rows x1) (col 768 (n := 768) (by omega) q) := by
  refine (dot_at _ _ r q).trans ?_
  unfold dot col trow
  pointwise

theorem gate3 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r : Fin 256) (q : Fin 768) :
    k0_pay168 (F := Ideal) x0 x1 x2 x3 x4 x5 x6 x7 (ix2 r q) = gate (fun k => x0 (ix2 (trow 768 (by omega) r) k)) (rows x1) q :=
  (act_at (k0_pay15 (F := Ideal) (View.ld x0 r0_41) (View.ld x1 r0_7)) r q).trans (congrArg act (ucol3 x0 x1 r q))

theorem valeq3 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) :
    k0_pay171 (F := Ideal) x0 x1 x2 x3 x4 x5 x6 x7 = normB (k0_pay52 (F := Ideal) (k0_pay15 (F := Ideal) (View.ld x0 r0_41) (View.ld x1 r0_8))) (View.ld x2 r0_11) (View.ld x3 r0_11) := rfl

theorem val3 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r : Fin 256) (q : Fin 768) :
    k0_pay171 (F := Ideal) x0 x1 x2 x3 x4 x5 x6 x7 (ix2 r q)
      = val (fun k => x0 (ix2 (trow 768 (by omega) r) k)) (rows x1) (fun j => x2 (ix2 0 j)) (fun j => x3 (ix2 0 j)) q := by
  refine (congrFun (valeq3 x0 x1 x2 x3 x4 x5 x6 x7) _).trans ((normB_at _ _ _ r q).trans ?_)
  unfold val
  rw [funext fun k => (act_at _ r k).trans (congrArg act (vcol3 x0 x1 r k))]
  exact congrArg₂ (fun a b => GateRow.norm _ a b q) (row_at x2 q) (row_at x3 q)

theorem weight0 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r s : Fin 128) :
    k0_pay140 (F := Ideal) x0 x1 x2 x3 x4 x5 x6 x7 (ix2 r s) = if r.val < s.val then 0 else x4 (ix3 0 r s) :=
  (mask_at (View.ld x4 r0_0) r s).trans (if_congr Iff.rfl rfl (by pointwise))

theorem shift0 (x5 : Vec Ideal S6x128x128 .f32) (r e : Fin 128) : View.ld x5 r0_0 (ix3 0 r e) = x5 (ix3 0 r e) := by pointwise

theorem weight1 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r s : Fin 128) :
    k0_pay141 (F := Ideal) x0 x1 x2 x3 x4 x5 x6 x7 (ix2 r s) = if r.val < s.val then 0 else x4 (ix3 1 r s) :=
  (mask_at (View.ld x4 r0_1) r s).trans (if_congr Iff.rfl rfl (by pointwise))

theorem shift1 (x5 : Vec Ideal S6x128x128 .f32) (r e : Fin 128) : View.ld x5 r0_1 (ix3 0 r e) = x5 (ix3 1 r e) := by pointwise

theorem weight2 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r s : Fin 128) :
    k0_pay142 (F := Ideal) x0 x1 x2 x3 x4 x5 x6 x7 (ix2 r s) = if r.val < s.val then 0 else x4 (ix3 2 r s) :=
  (mask_at (View.ld x4 r0_2) r s).trans (if_congr Iff.rfl rfl (by pointwise))

theorem shift2 (x5 : Vec Ideal S6x128x128 .f32) (r e : Fin 128) : View.ld x5 r0_2 (ix3 0 r e) = x5 (ix3 2 r e) := by pointwise

theorem weight3 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r s : Fin 128) :
    k0_pay143 (F := Ideal) x0 x1 x2 x3 x4 x5 x6 x7 (ix2 r s) = if r.val < s.val then 0 else x4 (ix3 3 r s) :=
  (mask_at (View.ld x4 r0_3) r s).trans (if_congr Iff.rfl rfl (by pointwise))

theorem shift3 (x5 : Vec Ideal S6x128x128 .f32) (r e : Fin 128) : View.ld x5 r0_3 (ix3 0 r e) = x5 (ix3 3 r e) := by pointwise

theorem weight4 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r s : Fin 128) :
    k0_pay144 (F := Ideal) x0 x1 x2 x3 x4 x5 x6 x7 (ix2 r s) = if r.val < s.val then 0 else x4 (ix3 4 r s) :=
  (mask_at (View.ld x4 r0_4) r s).trans (if_congr Iff.rfl rfl (by pointwise))

theorem shift4 (x5 : Vec Ideal S6x128x128 .f32) (r e : Fin 128) : View.ld x5 r0_4 (ix3 0 r e) = x5 (ix3 4 r e) := by pointwise

theorem weight5 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (r s : Fin 128) :
    k0_pay145 (F := Ideal) x0 x1 x2 x3 x4 x5 x6 x7 (ix2 r s) = if r.val < s.val then 0 else x4 (ix3 5 r s) :=
  (mask_at (View.ld x4 r0_5) r s).trans (if_congr Iff.rfl rfl (by pointwise))

theorem shift5 (x5 : Vec Ideal S6x128x128 .f32) (r e : Fin 128) : View.ld x5 r0_5 (ix3 0 r e) = x5 (ix3 5 r e) := by pointwise

/-- A group of a page of a tile. -/
def cut (o : Fin 2 → ℕ) (h : S256x768.Slices o S128x128) (u : FVec Ideal S256x768 .f32) (M : FVec Ideal S128x128 .bf16) (v : FVec Ideal S256x768 .bf16)
    (b : Vec Ideal S1x128x128 .f32) : FVec Ideal S128x128 .bf16 :=
  truncf .bf16 (mulf (extractStridedSlice S128x128 o u h)
    (addf (matmul dot_S128x128_S128x128_S128x128_1_0_0_1_n_n none M (extractStridedSlice S128x128 o v h) (constant S128x128 .f32 0x00000000#32))
      (shapeCast S128x128 b shapeCasts_S1x128x128_S128x128))) bitsLt_bf16_f32

/-- Row `r` of the tile's page from row `a`, and lane `e` of the group from column `b`. -/
def at2 (a b : ℕ) (ha : a + 128 ≤ 256) (hb : b + 128 ≤ 768) (r e : Fin 128) : S256x768.Idx := ix2 (⟨a + r.val, by omega⟩ : Fin 256) (⟨b + e.val, by omega⟩ : Fin 768)

theorem cut0_0 (u : FVec Ideal S256x768 .f32) (M : FVec Ideal S128x128 .bf16) (v : FVec Ideal S256x768 .bf16) (b : Vec Ideal S1x128x128 .f32) (r e : Fin 128) :
    cut ![0, 0] slices_S256x768_o0_0_S128x128 u M v b (ix2 r e)
      = u (at2 0 0 (by omega) (by omega) r e) * (∑ s : Fin 128, M (ix2 r s) * v (at2 0 0 (by omega) (by omega) s e) + b (ix3 0 r e)) := by
  unfold cut at2
  pointwise

theorem cut0_1 (u : FVec Ideal S256x768 .f32) (M : FVec Ideal S128x128 .bf16) (v : FVec Ideal S256x768 .bf16) (b : Vec Ideal S1x128x128 .f32) (r e : Fin 128) :
    cut ![0, 128] slices_S256x768_o0_128_S128x128 u M v b (ix2 r e)
      = u (at2 0 128 (by omega) (by omega) r e) * (∑ s : Fin 128, M (ix2 r s) * v (at2 0 128 (by omega) (by omega) s e) + b (ix3 0 r e)) := by
  unfold cut at2
  pointwise

theorem cut0_2 (u : FVec Ideal S256x768 .f32) (M : FVec Ideal S128x128 .bf16) (v : FVec Ideal S256x768 .bf16) (b : Vec Ideal S1x128x128 .f32) (r e : Fin 128) :
    cut ![0, 256] slices_S256x768_o0_256_S128x128 u M v b (ix2 r e)
      = u (at2 0 256 (by omega) (by omega) r e) * (∑ s : Fin 128, M (ix2 r s) * v (at2 0 256 (by omega) (by omega) s e) + b (ix3 0 r e)) := by
  unfold cut at2
  pointwise

theorem cut0_3 (u : FVec Ideal S256x768 .f32) (M : FVec Ideal S128x128 .bf16) (v : FVec Ideal S256x768 .bf16) (b : Vec Ideal S1x128x128 .f32) (r e : Fin 128) :
    cut ![0, 384] slices_S256x768_o0_384_S128x128 u M v b (ix2 r e)
      = u (at2 0 384 (by omega) (by omega) r e) * (∑ s : Fin 128, M (ix2 r s) * v (at2 0 384 (by omega) (by omega) s e) + b (ix3 0 r e)) := by
  unfold cut at2
  pointwise

theorem cut0_4 (u : FVec Ideal S256x768 .f32) (M : FVec Ideal S128x128 .bf16) (v : FVec Ideal S256x768 .bf16) (b : Vec Ideal S1x128x128 .f32) (r e : Fin 128) :
    cut ![0, 512] slices_S256x768_o0_512_S128x128 u M v b (ix2 r e)
      = u (at2 0 512 (by omega) (by omega) r e) * (∑ s : Fin 128, M (ix2 r s) * v (at2 0 512 (by omega) (by omega) s e) + b (ix3 0 r e)) := by
  unfold cut at2
  pointwise

theorem cut0_5 (u : FVec Ideal S256x768 .f32) (M : FVec Ideal S128x128 .bf16) (v : FVec Ideal S256x768 .bf16) (b : Vec Ideal S1x128x128 .f32) (r e : Fin 128) :
    cut ![0, 640] slices_S256x768_o0_640_S128x128 u M v b (ix2 r e)
      = u (at2 0 640 (by omega) (by omega) r e) * (∑ s : Fin 128, M (ix2 r s) * v (at2 0 640 (by omega) (by omega) s e) + b (ix3 0 r e)) := by
  unfold cut at2
  pointwise

theorem cut1_0 (u : FVec Ideal S256x768 .f32) (M : FVec Ideal S128x128 .bf16) (v : FVec Ideal S256x768 .bf16) (b : Vec Ideal S1x128x128 .f32) (r e : Fin 128) :
    cut ![128, 0] slices_S256x768_o128_0_S128x128 u M v b (ix2 r e)
      = u (at2 128 0 (by omega) (by omega) r e) * (∑ s : Fin 128, M (ix2 r s) * v (at2 128 0 (by omega) (by omega) s e) + b (ix3 0 r e)) := by
  unfold cut at2
  pointwise

theorem cut1_1 (u : FVec Ideal S256x768 .f32) (M : FVec Ideal S128x128 .bf16) (v : FVec Ideal S256x768 .bf16) (b : Vec Ideal S1x128x128 .f32) (r e : Fin 128) :
    cut ![128, 128] slices_S256x768_o128_128_S128x128 u M v b (ix2 r e)
      = u (at2 128 128 (by omega) (by omega) r e) * (∑ s : Fin 128, M (ix2 r s) * v (at2 128 128 (by omega) (by omega) s e) + b (ix3 0 r e)) := by
  unfold cut at2
  pointwise

theorem cut1_2 (u : FVec Ideal S256x768 .f32) (M : FVec Ideal S128x128 .bf16) (v : FVec Ideal S256x768 .bf16) (b : Vec Ideal S1x128x128 .f32) (r e : Fin 128) :
    cut ![128, 256] slices_S256x768_o128_256_S128x128 u M v b (ix2 r e)
      = u (at2 128 256 (by omega) (by omega) r e) * (∑ s : Fin 128, M (ix2 r s) * v (at2 128 256 (by omega) (by omega) s e) + b (ix3 0 r e)) := by
  unfold cut at2
  pointwise

theorem cut1_3 (u : FVec Ideal S256x768 .f32) (M : FVec Ideal S128x128 .bf16) (v : FVec Ideal S256x768 .bf16) (b : Vec Ideal S1x128x128 .f32) (r e : Fin 128) :
    cut ![128, 384] slices_S256x768_o128_384_S128x128 u M v b (ix2 r e)
      = u (at2 128 384 (by omega) (by omega) r e) * (∑ s : Fin 128, M (ix2 r s) * v (at2 128 384 (by omega) (by omega) s e) + b (ix3 0 r e)) := by
  unfold cut at2
  pointwise

theorem cut1_4 (u : FVec Ideal S256x768 .f32) (M : FVec Ideal S128x128 .bf16) (v : FVec Ideal S256x768 .bf16) (b : Vec Ideal S1x128x128 .f32) (r e : Fin 128) :
    cut ![128, 512] slices_S256x768_o128_512_S128x128 u M v b (ix2 r e)
      = u (at2 128 512 (by omega) (by omega) r e) * (∑ s : Fin 128, M (ix2 r s) * v (at2 128 512 (by omega) (by omega) s e) + b (ix3 0 r e)) := by
  unfold cut at2
  pointwise

theorem cut1_5 (u : FVec Ideal S256x768 .f32) (M : FVec Ideal S128x128 .bf16) (v : FVec Ideal S256x768 .bf16) (b : Vec Ideal S1x128x128 .f32) (r e : Fin 128) :
    cut ![128, 640] slices_S256x768_o128_640_S128x128 u M v b (ix2 r e)
      = u (at2 128 640 (by omega) (by omega) r e) * (∑ s : Fin 128, M (ix2 r s) * v (at2 128 640 (by omega) (by omega) s e) + b (ix3 0 r e)) := by
  unfold cut at2
  pointwise

/-- The body's formula of its row block, and of a page of it. -/
def fpage (x0 : Vec Ideal S1024x1024 .f32) (x1 : Vec Ideal S1024x1792 .bf16) (x2 x3 : Vec Ideal S1x768 .f32) (x4 x5 : Vec Ideal S6x128x128 .f32)
    (p : Fin 8) (r : Fin 128) (j : Fin 768) : EReal :=
  turned (fun n r s => x4 (ix3 n r s)) (fun s k => x0 (ix2 (⟨p.val * 128 + s.val, by omega⟩ : Fin 1024) k)) (rows x1) (fun j => x2 (ix2 0 j)) (fun j => x3 (ix2 0 j))
    (x5 (ix3 (grp j) r (⟨j.val % 128, by omega⟩ : Fin 128))) r j

def f (x0 : Vec Ideal S1024x1024 .f32) (x1 : Vec Ideal S1024x1792 .bf16) (x2 x3 : Vec Ideal S1x768 .f32) (x4 x5 : Vec Ideal S6x128x128 .f32)
    (i : Fin 1024) (j : Fin 768) : EReal :=
  fpage x0 x1 x2 x3 x4 x5 ⟨i.val / 128, by omega⟩ ⟨i.val % 128, by omega⟩ j

def fy (x0 : Vec Ideal S1024x1024 .f32) (x1 : Vec Ideal S1024x1792 .bf16) (x2 x3 : Vec Ideal S1x768 .f32) (x4 x5 : Vec Ideal S6x128x128 .f32)
    (y : S1024x768.Idx) : EReal := f x0 x1 x2 x3 x4 x5 (y 0) (y 1)

/-- A store of one group of one page, at an index of the block. -/
theorem member (A b o a P G : ℕ) (ho : o + 256 ≤ 1024) (ha : a + 128 ≤ 256) (hb : b + 128 ≤ 768) (hA : A = o + a) (hP : A = P * 128) (hG : b = G * 128)
    (hP8 : P < 8) (hG6 : G < 6) (inb)
    (x0 : Vec Ideal S1024x1024 .f32) (x1 : Vec Ideal S1024x1792 .bf16) (x2 x3 : Vec Ideal S1x768 .f32) (x4 x5 : Vec Ideal S6x128x128 .f32)
    (u : FVec Ideal S256x768 .f32) (M : FVec Ideal S128x128 .bf16) (v : FVec Ideal S256x768 .bf16) (B : Vec Ideal S1x128x128 .f32)
    (hu : ∀ (r : Fin 256) (q : Fin 768), u (ix2 r q) = gate (fun k => x0 (ix2 (trow o ho r) k)) (rows x1) q)
    (hv : ∀ (r : Fin 256) (q : Fin 768), v (ix2 r q) = val (fun k => x0 (ix2 (trow o ho r) k)) (rows x1) (fun j => x2 (ix2 0 j)) (fun j => x3 (ix2 0 j)) q)
    (hM : ∀ r s : Fin 128, M (ix2 r s) = if r.val < s.val then 0 else x4 (ix3 ⟨G, hG6⟩ r s))
    (hB : ∀ r e : Fin 128, B (ix3 0 r e) = x5 (ix3 ⟨G, hG6⟩ r e))
    (p : S128x128.Idx → EReal)
    (hp : ∀ r e : Fin 128, p (ix2 r e) = u (at2 a b ha hb r e) * (∑ s : Fin 128, M (ix2 r s) * v (at2 a b ha hb s e) + B (ix3 0 r e)))
    (z : S128x128.Idx) :
    p z = fy x0 x1 x2 x3 x4 x5 ((Rect.unit (s := S1024x768) ![A, b] S128x128.size inb).emb z) := by
  obtain ⟨r, e, rfl⟩ : ∃ (r e : Fin 128), z = ix2 r e := ⟨z 0, z 1, eq_ix2 z⟩
  have hr := r.isLt
  have he := e.isLt
  have e0 : (Rect.unit (s := S1024x768) ![A, b] S128x128.size inb).emb (ix2 r e) 0 = (⟨A + r.val, by omega⟩ : Fin 1024) := by
    apply Fin.ext
    rw [ValueKit.rect_emb_unit_val]
    rfl
  have e1 : (Rect.unit (s := S1024x768) ![A, b] S128x128.size inb).emb (ix2 r e) 1 = (⟨b + e.val, by omega⟩ : Fin 768) := by
    apply Fin.ext
    rw [ValueKit.rect_emb_unit_val]
    rfl
  have hg : grp (⟨b + e.val, by omega⟩ : Fin 768) = ⟨G, hG6⟩ := by
    apply Fin.ext
    change (b + e.val) / 128 = G
    omega
  have h1 : (⟨(A + r.val) / 128, by omega⟩ : Fin 8) = ⟨P, hP8⟩ := by
    apply Fin.ext
    change (A + r.val) / 128 = P
    omega
  have h2 : (⟨(A + r.val) % 128, by omega⟩ : Fin 128) = r := by
    apply Fin.ext
    change (A + r.val) % 128 = r.val
    omega
  have h3 : (⟨(b + e.val) % 128, by omega⟩ : Fin 128) = e := by
    apply Fin.ext
    change (b + e.val) % 128 = e.val
    omega
  have hf : fy x0 x1 x2 x3 x4 x5 ((Rect.unit (s := S1024x768) ![A, b] S128x128.size inb).emb (ix2 r e))
      = fpage x0 x1 x2 x3 x4 x5 ⟨P, hP8⟩ r (⟨b + e.val, by omega⟩ : Fin 768) :=
    (congrArg₂ (f x0 x1 x2 x3 x4 x5) e0 e1).trans (congrArg₂ (fun p r => fpage x0 x1 x2 x3 x4 x5 p r (⟨b + e.val, by omega⟩ : Fin 768)) h1 h2)
  refine (hp r e).trans (Eq.trans ?_ hf.symm)
  unfold fpage turned
  rw [hg]
  refine congrArg₂ (· * ·) ((hu _ _).trans ?_) (congrArg₂ (· + ·) (Finset.sum_congr rfl fun s _ => congrArg₂ (· * ·) (hM r s) ((hv _ _).trans ?_)) ((hB r e).trans ?_))
  · refine congrArg (fun i => gate (fun k => x0 (ix2 i k)) (rows x1) _) (Fin.ext ?_)
    change o + (a + r.val) = P * 128 + r.val
    omega
  · refine congrArg (fun i => val (fun k => x0 (ix2 i k)) (rows x1) _ _ _) (Fin.ext ?_)
    change o + (a + s.val) = P * 128 + s.val
    omega
  · exact congrArg (fun i => x5 (ix3 ⟨G, hG6⟩ r i)) h3.symm

set_option maxHeartbeats 4000000 in
/-- The block the body leaves. -/
theorem out8 (x0 : Vec Ideal S1024x1024 .f32) (x1 : Vec Ideal S1024x1792 .bf16) (x2 x3 : Vec Ideal S1x768 .f32) (x4 x5 : Vec Ideal S6x128x128 .f32) (x6 : Vec Ideal S1x1x256x256 .bf16) (x7 : Vec Ideal S1x1x1024x256 .bf16) (y : S1024x768.Idx) :
    out0_8 (F := Ideal) x0 x1 x2 x3 x4 x5 x6 x7 y = fy x0 x1 x2 x3 x4 x5 y := by
  unfold out0_8
  refine View.canon_apply_of_pieces (Val := Elt Ideal) (e := .bf16) (fy x0 x1 x2 x3 x4 x5) _ ?_ y (cover0_8 _ _ _ _ _ _ _ _ _ _ _ _ _ _ _ _ _ _ _ _ _ _ _ _ _ _ _ _ _ _ _ _ _ _ _ _ _ _ _ _ _ _ _ _ _ _ _ _ y)
  refine List.forall_mem_cons.2 ⟨fun z => member 896 640 768 128 7 5 (by omega) (by omega) (by omega) rfl rfl rfl (by omega) (by omega) inb_S1024x768_S128x128_896_640 x0 x1 x2 x3 x4 x5 (k0_pay168 (F := Ideal) x0 x1 x2 x3 x4 x5 x6 x7) (k0_pay145 (F := Ideal) x0 x1 x2 x3 x4 x5 x6 x7) (k0_pay171 (F := Ideal) x0 x1 x2 x3 x4 x5 x6 x7) (View.ld x5 r0_5) (gate3 x0 x1 x2 x3 x4 x5 x6 x7) (val3 x0 x1 x2 x3 x4 x5 x6 x7) (weight5 x0 x1 x2 x3 x4 x5 x6 x7) (shift5 x5) _ (cut1_5 _ _ _ _) z, ?_⟩
  refine List.forall_mem_cons.2 ⟨fun z => member 768 640 768 0 6 5 (by omega) (by omega) (by omega) rfl rfl rfl (by omega) (by omega) inb_S1024x768_S128x128_768_640 x0 x1 x2 x3 x4 x5 (k0_pay168 (F := Ideal) x0 x1 x2 x3 x4 x5 x6 x7) (k0_pay145 (F := Ideal) x0 x1 x2 x3 x4 x5 x6 x7) (k0_pay171 (F := Ideal) x0 x1 x2 x3 x4 x5 x6 x7) (View.ld x5 r0_5) (gate3 x0 x1 x2 x3 x4 x5 x6 x7) (val3 x0 x1 x2 x3 x4 x5 x6 x7) (weight5 x0 x1 x2 x3 x4 x5 x6 x7) (shift5 x5) _ (cut0_5 _ _ _ _) z, ?_⟩
  refine List.forall_mem_cons.2 ⟨fun z => member 896 512 768 128 7 4 (by omega) (by omega) (by omega) rfl rfl rfl (by omega) (by omega) inb_S1024x768_S128x128_896_512 x0 x1 x2 x3 x4 x5 (k0_pay168 (F := Ideal) x0 x1 x2 x3 x4 x5 x6 x7) (k0_pay144 (F := Ideal) x0 x1 x2 x3 x4 x5 x6 x7) (k0_pay171 (F := Ideal) x0 x1 x2 x3 x4 x5 x6 x7) (View.ld x5 r0_4) (gate3 x0 x1 x2 x3 x4 x5 x6 x7) (val3 x0 x1 x2 x3 x4 x5 x6 x7) (weight4 x0 x1 x2 x3 x4 x5 x6 x7) (shift4 x5) _ (cut1_4 _ _ _ _) z, ?_⟩
  refine List.forall_mem_cons.2 ⟨fun z => member 768 512 768 0 6 4 (by omega) (by omega) (by omega) rfl rfl rfl (by omega) (by omega) inb_S1024x768_S128x128_768_512 x0 x1 x2 x3 x4 x5 (k0_pay168 (F := Ideal) x0 x1 x2 x3 x4 x5 x6 x7) (k0_pay144 (F := Ideal) x0 x1 x2 x3 x4 x5 x6 x7) (k0_pay171 (F := Ideal) x0 x1 x2 x3 x4 x5 x6 x7) (View.ld x5 r0_4) (gate3 x0 x1 x2 x3 x4 x5 x6 x7) (val3 x0 x1 x2 x3 x4 x5 x6 x7) (weight4 x0 x1 x2 x3 x4 x5 x6 x7) (shift4 x5) _ (cut0_4 _ _ _ _) z, ?_⟩
  refine List.forall_mem_cons.2 ⟨fun z => member 896 384 768 128 7 3 (by omega) (by omega) (by omega) rfl rfl rfl (by omega) (by omega) inb_S1024x768_S128x128_896_384 x0 x1 x2 x3 x4 x5 (k0_pay168 (F := Ideal) x0 x1 x2 x3 x4 x5 x6 x7) (k0_pay143 (F := Ideal) x0 x1 x2 x3 x4 x5 x6 x7) (k0_pay171 (F := Ideal) x0 x1 x2 x3 x4 x5 x6 x7) (View.ld x5 r0_3) (gate3 x0 x1 x2 x3 x4 x5 x6 x7) (val3 x0 x1 x2 x3 x4 x5 x6 x7) (weight3 x0 x1 x2 x3 x4 x5 x6 x7) (shift3 x5) _ (cut1_3 _ _ _ _) z, ?_⟩
  refine List.forall_mem_cons.2 ⟨fun z => member 768 384 768 0 6 3 (by omega) (by omega) (by omega) rfl rfl rfl (by omega) (by omega) inb_S1024x768_S128x128_768_384 x0 x1 x2 x3 x4 x5 (k0_pay168 (F := Ideal) x0 x1 x2 x3 x4 x5 x6 x7) (k0_pay143 (F := Ideal) x0 x1 x2 x3 x4 x5 x6 x7) (k0_pay171 (F := Ideal) x0 x1 x2 x3 x4 x5 x6 x7) (View.ld x5 r0_3) (gate3 x0 x1 x2 x3 x4 x5 x6 x7) (val3 x0 x1 x2 x3 x4 x5 x6 x7) (weight3 x0 x1 x2 x3 x4 x5 x6 x7) (shift3 x5) _ (cut0_3 _ _ _ _) z, ?_⟩
  refine List.forall_mem_cons.2 ⟨fun z => member 896 256 768 128 7 2 (by omega) (by omega) (by omega) rfl rfl rfl (by omega) (by omega) inb_S1024x768_S128x128_896_256 x0 x1 x2 x3 x4 x5 (k0_pay168 (F := Ideal) x0 x1 x2 x3 x4 x5 x6 x7) (k0_pay142 (F := Ideal) x0 x1 x2 x3 x4 x5 x6 x7) (k0_pay171 (F := Ideal) x0 x1 x2 x3 x4 x5 x6 x7) (View.ld x5 r0_2) (gate3 x0 x1 x2 x3 x4 x5 x6 x7) (val3 x0 x1 x2 x3 x4 x5 x6 x7) (weight2 x0 x1 x2 x3 x4 x5 x6 x7) (shift2 x5) _ (cut1_2 _ _ _ _) z, ?_⟩
  refine List.forall_mem_cons.2 ⟨fun z => member 768 256 768 0 6 2 (by omega) (by omega) (by omega) rfl rfl rfl (by omega) (by omega) inb_S1024x768_S128x128_768_256 x0 x1 x2 x3 x4 x5 (k0_pay168 (F := Ideal) x0 x1 x2 x3 x4 x5 x6 x7) (k0_pay142 (F := Ideal) x0 x1 x2 x3 x4 x5 x6 x7) (k0_pay171 (F := Ideal) x0 x1 x2 x3 x4 x5 x6 x7) (View.ld x5 r0_2) (gate3 x0 x1 x2 x3 x4 x5 x6 x7) (val3 x0 x1 x2 x3 x4 x5 x6 x7) (weight2 x0 x1 x2 x3 x4 x5 x6 x7) (shift2 x5) _ (cut0_2 _ _ _ _) z, ?_⟩
  refine List.forall_mem_cons.2 ⟨fun z => member 896 128 768 128 7 1 (by omega) (by omega) (by omega) rfl rfl rfl (by omega) (by omega) inb_S1024x768_S128x128_896_128 x0 x1 x2 x3 x4 x5 (k0_pay168 (F := Ideal) x0 x1 x2 x3 x4 x5 x6 x7) (k0_pay141 (F := Ideal) x0 x1 x2 x3 x4 x5 x6 x7) (k0_pay171 (F := Ideal) x0 x1 x2 x3 x4 x5 x6 x7) (View.ld x5 r0_1) (gate3 x0 x1 x2 x3 x4 x5 x6 x7) (val3 x0 x1 x2 x3 x4 x5 x6 x7) (weight1 x0 x1 x2 x3 x4 x5 x6 x7) (shift1 x5) _ (cut1_1 _ _ _ _) z, ?_⟩
  refine List.forall_mem_cons.2 ⟨fun z => member 768 128 768 0 6 1 (by omega) (by omega) (by omega) rfl rfl rfl (by omega) (by omega) inb_S1024x768_S128x128_768_128 x0 x1 x2 x3 x4 x5 (k0_pay168 (F := Ideal) x0 x1 x2 x3 x4 x5 x6 x7) (k0_pay141 (F := Ideal) x0 x1 x2 x3 x4 x5 x6 x7) (k0_pay171 (F := Ideal) x0 x1 x2 x3 x4 x5 x6 x7) (View.ld x5 r0_1) (gate3 x0 x1 x2 x3 x4 x5 x6 x7) (val3 x0 x1 x2 x3 x4 x5 x6 x7) (weight1 x0 x1 x2 x3 x4 x5 x6 x7) (shift1 x5) _ (cut0_1 _ _ _ _) z, ?_⟩
  refine List.forall_mem_cons.2 ⟨fun z => member 896 0 768 128 7 0 (by omega) (by omega) (by omega) rfl rfl rfl (by omega) (by omega) inb_S1024x768_S128x128_896_0 x0 x1 x2 x3 x4 x5 (k0_pay168 (F := Ideal) x0 x1 x2 x3 x4 x5 x6 x7) (k0_pay140 (F := Ideal) x0 x1 x2 x3 x4 x5 x6 x7) (k0_pay171 (F := Ideal) x0 x1 x2 x3 x4 x5 x6 x7) (View.ld x5 r0_0) (gate3 x0 x1 x2 x3 x4 x5 x6 x7) (val3 x0 x1 x2 x3 x4 x5 x6 x7) (weight0 x0 x1 x2 x3 x4 x5 x6 x7) (shift0 x5) _ (cut1_0 _ _ _ _) z, ?_⟩
  refine List.forall_mem_cons.2 ⟨fun z => member 768 0 768 0 6 0 (by omega) (by omega) (by omega) rfl rfl rfl (by omega) (by omega) inb_S1024x768_S128x128_768_0 x0 x1 x2 x3 x4 x5 (k0_pay168 (F := Ideal) x0 x1 x2 x3 x4 x5 x6 x7) (k0_pay140 (F := Ideal) x0 x1 x2 x3 x4 x5 x6 x7) (k0_pay171 (F := Ideal) x0 x1 x2 x3 x4 x5 x6 x7) (View.ld x5 r0_0) (gate3 x0 x1 x2 x3 x4 x5 x6 x7) (val3 x0 x1 x2 x3 x4 x5 x6 x7) (weight0 x0 x1 x2 x3 x4 x5 x6 x7) (shift0 x5) _ (cut0_0 _ _ _ _) z, ?_⟩
  refine List.forall_mem_cons.2 ⟨fun z => member 640 640 512 128 5 5 (by omega) (by omega) (by omega) rfl rfl rfl (by omega) (by omega) inb_S1024x768_S128x128_640_640 x0 x1 x2 x3 x4 x5 (k0_pay163 (F := Ideal) x0 x1 x2 x3 x4 x5 x6 x7) (k0_pay145 (F := Ideal) x0 x1 x2 x3 x4 x5 x6 x7) (k0_pay165 (F := Ideal) x0 x1 x2 x3 x4 x5 x6 x7) (View.ld x5 r0_5) (gate2 x0 x1 x2 x3 x4 x5 x6 x7) (val2 x0 x1 x2 x3 x4 x5 x6 x7) (weight5 x0 x1 x2 x3 x4 x5 x6 x7) (shift5 x5) _ (cut1_5 _ _ _ _) z, ?_⟩
  refine List.forall_mem_cons.2 ⟨fun z => member 512 640 512 0 4 5 (by omega) (by omega) (by omega) rfl rfl rfl (by omega) (by omega) inb_S1024x768_S128x128_512_640 x0 x1 x2 x3 x4 x5 (k0_pay163 (F := Ideal) x0 x1 x2 x3 x4 x5 x6 x7) (k0_pay145 (F := Ideal) x0 x1 x2 x3 x4 x5 x6 x7) (k0_pay165 (F := Ideal) x0 x1 x2 x3 x4 x5 x6 x7) (View.ld x5 r0_5) (gate2 x0 x1 x2 x3 x4 x5 x6 x7) (val2 x0 x1 x2 x3 x4 x5 x6 x7) (weight5 x0 x1 x2 x3 x4 x5 x6 x7) (shift5 x5) _ (cut0_5 _ _ _ _) z, ?_⟩
  refine List.forall_mem_cons.2 ⟨fun z => member 640 512 512 128 5 4 (by omega) (by omega) (by omega) rfl rfl rfl (by omega) (by omega) inb_S1024x768_S128x128_640_512 x0 x1 x2 x3 x4 x5 (k0_pay163 (F := Ideal) x0 x1 x2 x3 x4 x5 x6 x7) (k0_pay144 (F := Ideal) x0 x1 x2 x3 x4 x5 x6 x7) (k0_pay165 (F := Ideal) x0 x1 x2 x3 x4 x5 x6 x7) (View.ld x5 r0_4) (gate2 x0 x1 x2 x3 x4 x5 x6 x7) (val2 x0 x1 x2 x3 x4 x5 x6 x7) (weight4 x0 x1 x2 x3 x4 x5 x6 x7) (shift4 x5) _ (cut1_4 _ _ _ _) z, ?_⟩
  refine List.forall_mem_cons.2 ⟨fun z => member 512 512 512 0 4 4 (by omega) (by omega) (by omega) rfl rfl rfl (by omega) (by omega) inb_S1024x768_S128x128_512_512 x0 x1 x2 x3 x4 x5 (k0_pay163 (F := Ideal) x0 x1 x2 x3 x4 x5 x6 x7) (k0_pay144 (F := Ideal) x0 x1 x2 x3 x4 x5 x6 x7) (k0_pay165 (F := Ideal) x0 x1 x2 x3 x4 x5 x6 x7) (View.ld x5 r0_4) (gate2 x0 x1 x2 x3 x4 x5 x6 x7) (val2 x0 x1 x2 x3 x4 x5 x6 x7) (weight4 x0 x1 x2 x3 x4 x5 x6 x7) (shift4 x5) _ (cut0_4 _ _ _ _) z, ?_⟩
  refine List.forall_mem_cons.2 ⟨fun z => member 640 384 512 128 5 3 (by omega) (by omega) (by omega) rfl rfl rfl (by omega) (by omega) inb_S1024x768_S128x128_640_384 x0 x1 x2 x3 x4 x5 (k0_pay163 (F := Ideal) x0 x1 x2 x3 x4 x5 x6 x7) (k0_pay143 (F := Ideal) x0 x1 x2 x3 x4 x5 x6 x7) (k0_pay165 (F := Ideal) x0 x1 x2 x3 x4 x5 x6 x7) (View.ld x5 r0_3) (gate2 x0 x1 x2 x3 x4 x5 x6 x7) (val2 x0 x1 x2 x3 x4 x5 x6 x7) (weight3 x0 x1 x2 x3 x4 x5 x6 x7) (shift3 x5) _ (cut1_3 _ _ _ _) z, ?_⟩
  refine List.forall_mem_cons.2 ⟨fun z => member 512 384 512 0 4 3 (by omega) (by omega) (by omega) rfl rfl rfl (by omega) (by omega) inb_S1024x768_S128x128_512_384 x0 x1 x2 x3 x4 x5 (k0_pay163 (F := Ideal) x0 x1 x2 x3 x4 x5 x6 x7) (k0_pay143 (F := Ideal) x0 x1 x2 x3 x4 x5 x6 x7) (k0_pay165 (F := Ideal) x0 x1 x2 x3 x4 x5 x6 x7) (View.ld x5 r0_3) (gate2 x0 x1 x2 x3 x4 x5 x6 x7) (val2 x0 x1 x2 x3 x4 x5 x6 x7) (weight3 x0 x1 x2 x3 x4 x5 x6 x7) (shift3 x5) _ (cut0_3 _ _ _ _) z, ?_⟩
  refine List.forall_mem_cons.2 ⟨fun z => member 640 256 512 128 5 2 (by omega) (by omega) (by omega) rfl rfl rfl (by omega) (by omega) inb_S1024x768_S128x128_640_256 x0 x1 x2 x3 x4 x5 (k0_pay163 (F := Ideal) x0 x1 x2 x3 x4 x5 x6 x7) (k0_pay142 (F := Ideal) x0 x1 x2 x3 x4 x5 x6 x7) (k0_pay165 (F := Ideal) x0 x1 x2 x3 x4 x5 x6 x7) (View.ld x5 r0_2) (gate2 x0 x1 x2 x3 x4 x5 x6 x7) (val2 x0 x1 x2 x3 x4 x5 x6 x7) (weight2 x0 x1 x2 x3 x4 x5 x6 x7) (shift2 x5) _ (cut1_2 _ _ _ _) z, ?_⟩
  refine List.forall_mem_cons.2 ⟨fun z => member 512 256 512 0 4 2 (by omega) (by omega) (by omega) rfl rfl rfl (by omega) (by omega) inb_S1024x768_S128x128_512_256 x0 x1 x2 x3 x4 x5 (k0_pay163 (F := Ideal) x0 x1 x2 x3 x4 x5 x6 x7) (k0_pay142 (F := Ideal) x0 x1 x2 x3 x4 x5 x6 x7) (k0_pay165 (F := Ideal) x0 x1 x2 x3 x4 x5 x6 x7) (View.ld x5 r0_2) (gate2 x0 x1 x2 x3 x4 x5 x6 x7) (val2 x0 x1 x2 x3 x4 x5 x6 x7) (weight2 x0 x1 x2 x3 x4 x5 x6 x7) (shift2 x5) _ (cut0_2 _ _ _ _) z, ?_⟩
  refine List.forall_mem_cons.2 ⟨fun z => member 640 128 512 128 5 1 (by omega) (by omega) (by omega) rfl rfl rfl (by omega) (by omega) inb_S1024x768_S128x128_640_128 x0 x1 x2 x3 x4 x5 (k0_pay163 (F := Ideal) x0 x1 x2 x3 x4 x5 x6 x7) (k0_pay141 (F := Ideal) x0 x1 x2 x3 x4 x5 x6 x7) (k0_pay165 (F := Ideal) x0 x1 x2 x3 x4 x5 x6 x7) (View.ld x5 r0_1) (gate2 x0 x1 x2 x3 x4 x5 x6 x7) (val2 x0 x1 x2 x3 x4 x5 x6 x7) (weight1 x0 x1 x2 x3 x4 x5 x6 x7) (shift1 x5) _ (cut1_1 _ _ _ _) z, ?_⟩
  refine List.forall_mem_cons.2 ⟨fun z => member 512 128 512 0 4 1 (by omega) (by omega) (by omega) rfl rfl rfl (by omega) (by omega) inb_S1024x768_S128x128_512_128 x0 x1 x2 x3 x4 x5 (k0_pay163 (F := Ideal) x0 x1 x2 x3 x4 x5 x6 x7) (k0_pay141 (F := Ideal) x0 x1 x2 x3 x4 x5 x6 x7) (k0_pay165 (F := Ideal) x0 x1 x2 x3 x4 x5 x6 x7) (View.ld x5 r0_1) (gate2 x0 x1 x2 x3 x4 x5 x6 x7) (val2 x0 x1 x2 x3 x4 x5 x6 x7) (weight1 x0 x1 x2 x3 x4 x5 x6 x7) (shift1 x5) _ (cut0_1 _ _ _ _) z, ?_⟩
  refine List.forall_mem_cons.2 ⟨fun z => member 640 0 512 128 5 0 (by omega) (by omega) (by omega) rfl rfl rfl (by omega) (by omega) inb_S1024x768_S128x128_640_0 x0 x1 x2 x3 x4 x5 (k0_pay163 (F := Ideal) x0 x1 x2 x3 x4 x5 x6 x7) (k0_pay140 (F := Ideal) x0 x1 x2 x3 x4 x5 x6 x7) (k0_pay165 (F := Ideal) x0 x1 x2 x3 x4 x5 x6 x7) (View.ld x5 r0_0) (gate2 x0 x1 x2 x3 x4 x5 x6 x7) (val2 x0 x1 x2 x3 x4 x5 x6 x7) (weight0 x0 x1 x2 x3 x4 x5 x6 x7) (shift0 x5) _ (cut1_0 _ _ _ _) z, ?_⟩
  refine List.forall_mem_cons.2 ⟨fun z => member 512 0 512 0 4 0 (by omega) (by omega) (by omega) rfl rfl rfl (by omega) (by omega) inb_S1024x768_S128x128_512_0 x0 x1 x2 x3 x4 x5 (k0_pay163 (F := Ideal) x0 x1 x2 x3 x4 x5 x6 x7) (k0_pay140 (F := Ideal) x0 x1 x2 x3 x4 x5 x6 x7) (k0_pay165 (F := Ideal) x0 x1 x2 x3 x4 x5 x6 x7) (View.ld x5 r0_0) (gate2 x0 x1 x2 x3 x4 x5 x6 x7) (val2 x0 x1 x2 x3 x4 x5 x6 x7) (weight0 x0 x1 x2 x3 x4 x5 x6 x7) (shift0 x5) _ (cut0_0 _ _ _ _) z, ?_⟩
  refine List.forall_mem_cons.2 ⟨fun z => member 384 640 256 128 3 5 (by omega) (by omega) (by omega) rfl rfl rfl (by omega) (by omega) inb_S1024x768_S128x128_384_640 x0 x1 x2 x3 x4 x5 (k0_pay156 (F := Ideal) x0 x1 x2 x3 x4 x5 x6 x7) (k0_pay145 (F := Ideal) x0 x1 x2 x3 x4 x5 x6 x7) (k0_pay158 (F := Ideal) x0 x1 x2 x3 x4 x5 x6 x7) (View.ld x5 r0_5) (gate1 x0 x1 x2 x3 x4 x5 x6 x7) (val1 x0 x1 x2 x3 x4 x5 x6 x7) (weight5 x0 x1 x2 x3 x4 x5 x6 x7) (shift5 x5) _ (cut1_5 _ _ _ _) z, ?_⟩
  refine List.forall_mem_cons.2 ⟨fun z => member 256 640 256 0 2 5 (by omega) (by omega) (by omega) rfl rfl rfl (by omega) (by omega) inb_S1024x768_S128x128_256_640 x0 x1 x2 x3 x4 x5 (k0_pay156 (F := Ideal) x0 x1 x2 x3 x4 x5 x6 x7) (k0_pay145 (F := Ideal) x0 x1 x2 x3 x4 x5 x6 x7) (k0_pay158 (F := Ideal) x0 x1 x2 x3 x4 x5 x6 x7) (View.ld x5 r0_5) (gate1 x0 x1 x2 x3 x4 x5 x6 x7) (val1 x0 x1 x2 x3 x4 x5 x6 x7) (weight5 x0 x1 x2 x3 x4 x5 x6 x7) (shift5 x5) _ (cut0_5 _ _ _ _) z, ?_⟩
  refine List.forall_mem_cons.2 ⟨fun z => member 384 512 256 128 3 4 (by omega) (by omega) (by omega) rfl rfl rfl (by omega) (by omega) inb_S1024x768_S128x128_384_512 x0 x1 x2 x3 x4 x5 (k0_pay156 (F := Ideal) x0 x1 x2 x3 x4 x5 x6 x7) (k0_pay144 (F := Ideal) x0 x1 x2 x3 x4 x5 x6 x7) (k0_pay158 (F := Ideal) x0 x1 x2 x3 x4 x5 x6 x7) (View.ld x5 r0_4) (gate1 x0 x1 x2 x3 x4 x5 x6 x7) (val1 x0 x1 x2 x3 x4 x5 x6 x7) (weight4 x0 x1 x2 x3 x4 x5 x6 x7) (shift4 x5) _ (cut1_4 _ _ _ _) z, ?_⟩
  refine List.forall_mem_cons.2 ⟨fun z => member 256 512 256 0 2 4 (by omega) (by omega) (by omega) rfl rfl rfl (by omega) (by omega) inb_S1024x768_S128x128_256_512 x0 x1 x2 x3 x4 x5 (k0_pay156 (F := Ideal) x0 x1 x2 x3 x4 x5 x6 x7) (k0_pay144 (F := Ideal) x0 x1 x2 x3 x4 x5 x6 x7) (k0_pay158 (F := Ideal) x0 x1 x2 x3 x4 x5 x6 x7) (View.ld x5 r0_4) (gate1 x0 x1 x2 x3 x4 x5 x6 x7) (val1 x0 x1 x2 x3 x4 x5 x6 x7) (weight4 x0 x1 x2 x3 x4 x5 x6 x7) (shift4 x5) _ (cut0_4 _ _ _ _) z, ?_⟩
  refine List.forall_mem_cons.2 ⟨fun z => member 384 384 256 128 3 3 (by omega) (by omega) (by omega) rfl rfl rfl (by omega) (by omega) inb_S1024x768_S128x128_384_384 x0 x1 x2 x3 x4 x5 (k0_pay156 (F := Ideal) x0 x1 x2 x3 x4 x5 x6 x7) (k0_pay143 (F := Ideal) x0 x1 x2 x3 x4 x5 x6 x7) (k0_pay158 (F := Ideal) x0 x1 x2 x3 x4 x5 x6 x7) (View.ld x5 r0_3) (gate1 x0 x1 x2 x3 x4 x5 x6 x7) (val1 x0 x1 x2 x3 x4 x5 x6 x7) (weight3 x0 x1 x2 x3 x4 x5 x6 x7) (shift3 x5) _ (cut1_3 _ _ _ _) z, ?_⟩
  refine List.forall_mem_cons.2 ⟨fun z => member 256 384 256 0 2 3 (by omega) (by omega) (by omega) rfl rfl rfl (by omega) (by omega) inb_S1024x768_S128x128_256_384 x0 x1 x2 x3 x4 x5 (k0_pay156 (F := Ideal) x0 x1 x2 x3 x4 x5 x6 x7) (k0_pay143 (F := Ideal) x0 x1 x2 x3 x4 x5 x6 x7) (k0_pay158 (F := Ideal) x0 x1 x2 x3 x4 x5 x6 x7) (View.ld x5 r0_3) (gate1 x0 x1 x2 x3 x4 x5 x6 x7) (val1 x0 x1 x2 x3 x4 x5 x6 x7) (weight3 x0 x1 x2 x3 x4 x5 x6 x7) (shift3 x5) _ (cut0_3 _ _ _ _) z, ?_⟩
  refine List.forall_mem_cons.2 ⟨fun z => member 384 256 256 128 3 2 (by omega) (by omega) (by omega) rfl rfl rfl (by omega) (by omega) inb_S1024x768_S128x128_384_256 x0 x1 x2 x3 x4 x5 (k0_pay156 (F := Ideal) x0 x1 x2 x3 x4 x5 x6 x7) (k0_pay142 (F := Ideal) x0 x1 x2 x3 x4 x5 x6 x7) (k0_pay158 (F := Ideal) x0 x1 x2 x3 x4 x5 x6 x7) (View.ld x5 r0_2) (gate1 x0 x1 x2 x3 x4 x5 x6 x7) (val1 x0 x1 x2 x3 x4 x5 x6 x7) (weight2 x0 x1 x2 x3 x4 x5 x6 x7) (shift2 x5) _ (cut1_2 _ _ _ _) z, ?_⟩
  refine List.forall_mem_cons.2 ⟨fun z => member 256 256 256 0 2 2 (by omega) (by omega) (by omega) rfl rfl rfl (by omega) (by omega) inb_S1024x768_S128x128_256_256 x0 x1 x2 x3 x4 x5 (k0_pay156 (F := Ideal) x0 x1 x2 x3 x4 x5 x6 x7) (k0_pay142 (F := Ideal) x0 x1 x2 x3 x4 x5 x6 x7) (k0_pay158 (F := Ideal) x0 x1 x2 x3 x4 x5 x6 x7) (View.ld x5 r0_2) (gate1 x0 x1 x2 x3 x4 x5 x6 x7) (val1 x0 x1 x2 x3 x4 x5 x6 x7) (weight2 x0 x1 x2 x3 x4 x5 x6 x7) (shift2 x5) _ (cut0_2 _ _ _ _) z, ?_⟩
  refine List.forall_mem_cons.2 ⟨fun z => member 384 128 256 128 3 1 (by omega) (by omega) (by omega) rfl rfl rfl (by omega) (by omega) inb_S1024x768_S128x128_384_128 x0 x1 x2 x3 x4 x5 (k0_pay156 (F := Ideal) x0 x1 x2 x3 x4 x5 x6 x7) (k0_pay141 (F := Ideal) x0 x1 x2 x3 x4 x5 x6 x7) (k0_pay158 (F := Ideal) x0 x1 x2 x3 x4 x5 x6 x7) (View.ld x5 r0_1) (gate1 x0 x1 x2 x3 x4 x5 x6 x7) (val1 x0 x1 x2 x3 x4 x5 x6 x7) (weight1 x0 x1 x2 x3 x4 x5 x6 x7) (shift1 x5) _ (cut1_1 _ _ _ _) z, ?_⟩
  refine List.forall_mem_cons.2 ⟨fun z => member 256 128 256 0 2 1 (by omega) (by omega) (by omega) rfl rfl rfl (by omega) (by omega) inb_S1024x768_S128x128_256_128 x0 x1 x2 x3 x4 x5 (k0_pay156 (F := Ideal) x0 x1 x2 x3 x4 x5 x6 x7) (k0_pay141 (F := Ideal) x0 x1 x2 x3 x4 x5 x6 x7) (k0_pay158 (F := Ideal) x0 x1 x2 x3 x4 x5 x6 x7) (View.ld x5 r0_1) (gate1 x0 x1 x2 x3 x4 x5 x6 x7) (val1 x0 x1 x2 x3 x4 x5 x6 x7) (weight1 x0 x1 x2 x3 x4 x5 x6 x7) (shift1 x5) _ (cut0_1 _ _ _ _) z, ?_⟩
  refine List.forall_mem_cons.2 ⟨fun z => member 384 0 256 128 3 0 (by omega) (by omega) (by omega) rfl rfl rfl (by omega) (by omega) inb_S1024x768_S128x128_384_0 x0 x1 x2 x3 x4 x5 (k0_pay156 (F := Ideal) x0 x1 x2 x3 x4 x5 x6 x7) (k0_pay140 (F := Ideal) x0 x1 x2 x3 x4 x5 x6 x7) (k0_pay158 (F := Ideal) x0 x1 x2 x3 x4 x5 x6 x7) (View.ld x5 r0_0) (gate1 x0 x1 x2 x3 x4 x5 x6 x7) (val1 x0 x1 x2 x3 x4 x5 x6 x7) (weight0 x0 x1 x2 x3 x4 x5 x6 x7) (shift0 x5) _ (cut1_0 _ _ _ _) z, ?_⟩
  refine List.forall_mem_cons.2 ⟨fun z => member 256 0 256 0 2 0 (by omega) (by omega) (by omega) rfl rfl rfl (by omega) (by omega) inb_S1024x768_S128x128_256_0 x0 x1 x2 x3 x4 x5 (k0_pay156 (F := Ideal) x0 x1 x2 x3 x4 x5 x6 x7) (k0_pay140 (F := Ideal) x0 x1 x2 x3 x4 x5 x6 x7) (k0_pay158 (F := Ideal) x0 x1 x2 x3 x4 x5 x6 x7) (View.ld x5 r0_0) (gate1 x0 x1 x2 x3 x4 x5 x6 x7) (val1 x0 x1 x2 x3 x4 x5 x6 x7) (weight0 x0 x1 x2 x3 x4 x5 x6 x7) (shift0 x5) _ (cut0_0 _ _ _ _) z, ?_⟩
  refine List.forall_mem_cons.2 ⟨fun z => member 128 640 0 128 1 5 (by omega) (by omega) (by omega) rfl rfl rfl (by omega) (by omega) inb_S1024x768_S128x128_128_640 x0 x1 x2 x3 x4 x5 (k0_pay150 (F := Ideal) x0 x1 x2 x3 x4 x5 x6 x7) (k0_pay145 (F := Ideal) x0 x1 x2 x3 x4 x5 x6 x7) (k0_pay151 (F := Ideal) x0 x1 x2 x3 x4 x5 x6 x7) (View.ld x5 r0_5) (gate0 x0 x1 x2 x3 x4 x5 x6 x7) (val0 x0 x1 x2 x3 x4 x5 x6 x7) (weight5 x0 x1 x2 x3 x4 x5 x6 x7) (shift5 x5) _ (cut1_5 _ _ _ _) z, ?_⟩
  refine List.forall_mem_cons.2 ⟨fun z => member 0 640 0 0 0 5 (by omega) (by omega) (by omega) rfl rfl rfl (by omega) (by omega) inb_S1024x768_S128x128_0_640 x0 x1 x2 x3 x4 x5 (k0_pay150 (F := Ideal) x0 x1 x2 x3 x4 x5 x6 x7) (k0_pay145 (F := Ideal) x0 x1 x2 x3 x4 x5 x6 x7) (k0_pay151 (F := Ideal) x0 x1 x2 x3 x4 x5 x6 x7) (View.ld x5 r0_5) (gate0 x0 x1 x2 x3 x4 x5 x6 x7) (val0 x0 x1 x2 x3 x4 x5 x6 x7) (weight5 x0 x1 x2 x3 x4 x5 x6 x7) (shift5 x5) _ (cut0_5 _ _ _ _) z, ?_⟩
  refine List.forall_mem_cons.2 ⟨fun z => member 128 512 0 128 1 4 (by omega) (by omega) (by omega) rfl rfl rfl (by omega) (by omega) inb_S1024x768_S128x128_128_512 x0 x1 x2 x3 x4 x5 (k0_pay150 (F := Ideal) x0 x1 x2 x3 x4 x5 x6 x7) (k0_pay144 (F := Ideal) x0 x1 x2 x3 x4 x5 x6 x7) (k0_pay151 (F := Ideal) x0 x1 x2 x3 x4 x5 x6 x7) (View.ld x5 r0_4) (gate0 x0 x1 x2 x3 x4 x5 x6 x7) (val0 x0 x1 x2 x3 x4 x5 x6 x7) (weight4 x0 x1 x2 x3 x4 x5 x6 x7) (shift4 x5) _ (cut1_4 _ _ _ _) z, ?_⟩
  refine List.forall_mem_cons.2 ⟨fun z => member 0 512 0 0 0 4 (by omega) (by omega) (by omega) rfl rfl rfl (by omega) (by omega) inb_S1024x768_S128x128_0_512 x0 x1 x2 x3 x4 x5 (k0_pay150 (F := Ideal) x0 x1 x2 x3 x4 x5 x6 x7) (k0_pay144 (F := Ideal) x0 x1 x2 x3 x4 x5 x6 x7) (k0_pay151 (F := Ideal) x0 x1 x2 x3 x4 x5 x6 x7) (View.ld x5 r0_4) (gate0 x0 x1 x2 x3 x4 x5 x6 x7) (val0 x0 x1 x2 x3 x4 x5 x6 x7) (weight4 x0 x1 x2 x3 x4 x5 x6 x7) (shift4 x5) _ (cut0_4 _ _ _ _) z, ?_⟩
  refine List.forall_mem_cons.2 ⟨fun z => member 128 384 0 128 1 3 (by omega) (by omega) (by omega) rfl rfl rfl (by omega) (by omega) inb_S1024x768_S128x128_128_384 x0 x1 x2 x3 x4 x5 (k0_pay150 (F := Ideal) x0 x1 x2 x3 x4 x5 x6 x7) (k0_pay143 (F := Ideal) x0 x1 x2 x3 x4 x5 x6 x7) (k0_pay151 (F := Ideal) x0 x1 x2 x3 x4 x5 x6 x7) (View.ld x5 r0_3) (gate0 x0 x1 x2 x3 x4 x5 x6 x7) (val0 x0 x1 x2 x3 x4 x5 x6 x7) (weight3 x0 x1 x2 x3 x4 x5 x6 x7) (shift3 x5) _ (cut1_3 _ _ _ _) z, ?_⟩
  refine List.forall_mem_cons.2 ⟨fun z => member 0 384 0 0 0 3 (by omega) (by omega) (by omega) rfl rfl rfl (by omega) (by omega) inb_S1024x768_S128x128_0_384 x0 x1 x2 x3 x4 x5 (k0_pay150 (F := Ideal) x0 x1 x2 x3 x4 x5 x6 x7) (k0_pay143 (F := Ideal) x0 x1 x2 x3 x4 x5 x6 x7) (k0_pay151 (F := Ideal) x0 x1 x2 x3 x4 x5 x6 x7) (View.ld x5 r0_3) (gate0 x0 x1 x2 x3 x4 x5 x6 x7) (val0 x0 x1 x2 x3 x4 x5 x6 x7) (weight3 x0 x1 x2 x3 x4 x5 x6 x7) (shift3 x5) _ (cut0_3 _ _ _ _) z, ?_⟩
  refine List.forall_mem_cons.2 ⟨fun z => member 128 256 0 128 1 2 (by omega) (by omega) (by omega) rfl rfl rfl (by omega) (by omega) inb_S1024x768_S128x128_128_256 x0 x1 x2 x3 x4 x5 (k0_pay150 (F := Ideal) x0 x1 x2 x3 x4 x5 x6 x7) (k0_pay142 (F := Ideal) x0 x1 x2 x3 x4 x5 x6 x7) (k0_pay151 (F := Ideal) x0 x1 x2 x3 x4 x5 x6 x7) (View.ld x5 r0_2) (gate0 x0 x1 x2 x3 x4 x5 x6 x7) (val0 x0 x1 x2 x3 x4 x5 x6 x7) (weight2 x0 x1 x2 x3 x4 x5 x6 x7) (shift2 x5) _ (cut1_2 _ _ _ _) z, ?_⟩
  refine List.forall_mem_cons.2 ⟨fun z => member 0 256 0 0 0 2 (by omega) (by omega) (by omega) rfl rfl rfl (by omega) (by omega) inb_S1024x768_S128x128_0_256 x0 x1 x2 x3 x4 x5 (k0_pay150 (F := Ideal) x0 x1 x2 x3 x4 x5 x6 x7) (k0_pay142 (F := Ideal) x0 x1 x2 x3 x4 x5 x6 x7) (k0_pay151 (F := Ideal) x0 x1 x2 x3 x4 x5 x6 x7) (View.ld x5 r0_2) (gate0 x0 x1 x2 x3 x4 x5 x6 x7) (val0 x0 x1 x2 x3 x4 x5 x6 x7) (weight2 x0 x1 x2 x3 x4 x5 x6 x7) (shift2 x5) _ (cut0_2 _ _ _ _) z, ?_⟩
  refine List.forall_mem_cons.2 ⟨fun z => member 128 128 0 128 1 1 (by omega) (by omega) (by omega) rfl rfl rfl (by omega) (by omega) inb_S1024x768_S128x128_128_128 x0 x1 x2 x3 x4 x5 (k0_pay150 (F := Ideal) x0 x1 x2 x3 x4 x5 x6 x7) (k0_pay141 (F := Ideal) x0 x1 x2 x3 x4 x5 x6 x7) (k0_pay151 (F := Ideal) x0 x1 x2 x3 x4 x5 x6 x7) (View.ld x5 r0_1) (gate0 x0 x1 x2 x3 x4 x5 x6 x7) (val0 x0 x1 x2 x3 x4 x5 x6 x7) (weight1 x0 x1 x2 x3 x4 x5 x6 x7) (shift1 x5) _ (cut1_1 _ _ _ _) z, ?_⟩
  refine List.forall_mem_cons.2 ⟨fun z => member 0 128 0 0 0 1 (by omega) (by omega) (by omega) rfl rfl rfl (by omega) (by omega) inb_S1024x768_S128x128_0_128 x0 x1 x2 x3 x4 x5 (k0_pay150 (F := Ideal) x0 x1 x2 x3 x4 x5 x6 x7) (k0_pay141 (F := Ideal) x0 x1 x2 x3 x4 x5 x6 x7) (k0_pay151 (F := Ideal) x0 x1 x2 x3 x4 x5 x6 x7) (View.ld x5 r0_1) (gate0 x0 x1 x2 x3 x4 x5 x6 x7) (val0 x0 x1 x2 x3 x4 x5 x6 x7) (weight1 x0 x1 x2 x3 x4 x5 x6 x7) (shift1 x5) _ (cut0_1 _ _ _ _) z, ?_⟩
  refine List.forall_mem_cons.2 ⟨fun z => member 128 0 0 128 1 0 (by omega) (by omega) (by omega) rfl rfl rfl (by omega) (by omega) inb_S1024x768_S128x128_128_0 x0 x1 x2 x3 x4 x5 (k0_pay150 (F := Ideal) x0 x1 x2 x3 x4 x5 x6 x7) (k0_pay140 (F := Ideal) x0 x1 x2 x3 x4 x5 x6 x7) (k0_pay151 (F := Ideal) x0 x1 x2 x3 x4 x5 x6 x7) (View.ld x5 r0_0) (gate0 x0 x1 x2 x3 x4 x5 x6 x7) (val0 x0 x1 x2 x3 x4 x5 x6 x7) (weight0 x0 x1 x2 x3 x4 x5 x6 x7) (shift0 x5) _ (cut1_0 _ _ _ _) z, ?_⟩
  refine List.forall_mem_cons.2 ⟨fun z => member 0 0 0 0 0 0 (by omega) (by omega) (by omega) rfl rfl rfl (by omega) (by omega) inb_S1024x768_S128x128_0_0 x0 x1 x2 x3 x4 x5 (k0_pay150 (F := Ideal) x0 x1 x2 x3 x4 x5 x6 x7) (k0_pay140 (F := Ideal) x0 x1 x2 x3 x4 x5 x6 x7) (k0_pay151 (F := Ideal) x0 x1 x2 x3 x4 x5 x6 x7) (View.ld x5 r0_0) (gate0 x0 x1 x2 x3 x4 x5 x6 x7) (val0 x0 x1 x2 x3 x4 x5 x6 x7) (weight0 x0 x1 x2 x3 x4 x5 x6 x7) (shift0 x5) _ (cut0_0 _ _ _ _) z, ?_⟩
  exact fun p hp => absurd hp List.not_mem_nil

variable (m : (ℓ : Loc nD τ sig) → Buf (Elt Ideal) ℓ)

theorem V_v23 (c : Dev nD) : V m c main_v23 = (truncf (F := Ideal) (s := S1024x1792) (φ := .f32) .bf16 (shapeCast S1024x1792 (m ((c : Thread nD τ).loc main_arg1)) shapeCasts_S1x1024x1792_S1024x1792) bitsLt_bf16_f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results <;> rfl

theorem V_v24 (c : Dev nD) : V m c main_v24 = shapeCast S6x128x128 (m ((c : Thread nD τ).loc main_arg4)) shapeCasts_S1x6x128x128_S6x128x128 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results <;> rfl

/-- The shifts, each row's along all lanes. -/
def wide (t : S1x6x128.Idx → EReal) : S6x128x128.Idx → EReal :=
  broadcastInDim S6x128x128 ![0, 1, 2] bcast_S6x128x1_S6x128x128_0_1_2 (broadcastInDim S6x128x1 ![0, 1] bcast_S6x128_S6x128x1_0_1 (shapeCast S6x128 t shapeCasts_S1x6x128_S6x128))

theorem V_v21 (c : Dev nD) : V m c main_v21 = wide (m ((c : Thread nD τ).loc main_arg5)) := by
  unfold wide
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results <;> rfl

theorem cast_at (w : S1x1024x1792.Idx → EReal) (k : Fin 1024) (j : Fin 1792) :
    (truncf (F := Ideal) (s := S1024x1792) (φ := .f32) .bf16 (shapeCast S1024x1792 w shapeCasts_S1x1024x1792_S1024x1792) bitsLt_bf16_f32) (ix2 k j) = w (ix3 0 k j) := by
  pointwise

theorem s_at (s : S1x6x128x128.Idx → EReal) (n : Fin 6) (i j : Fin 128) :
    (shapeCast S6x128x128 s shapeCasts_S1x6x128x128_S6x128x128) (ix3 n i j) = s (ix4 0 n i j) := by
  pointwise

theorem wide_at (s : S1x6x128.Idx → EReal) (n : Fin 6) (i j : Fin 128) : wide s (ix3 n i j) = s (ix3 0 n i) := by
  unfold wide
  pointwise

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0, 0] := (by decide +kernel : ∀ t : Fin grid0.N, _)
theorem e8 : ∀ t : Fin cfg0.N, win0_8.index t = ![t.val, 0] := (by decide +kernel : ∀ t : Fin grid0.N, _)

theorem point_lt (t : Fin cfg0.N) : t.val < 16 := lt_of_lt_of_eq t.isLt N_0

theorem in0 (c : Dev nD) (t : Fin cfg0.N) (r : Fin 1024) (k : Fin 1024) :
    iblk m c 0 t (ix2 r k) = m ((c : Thread nD τ).loc main_arg0) (ix2 ⟨t.val * 1024 + r.val, by have := point_lt t; omega⟩ k) := by
  have ht := point_lt t
  rw [← V_main_arg0 m c]
  blk_ext [iblk, e0]

theorem in1 (c : Dev nD) (t : Fin cfg0.N) (k : Fin 1024) (j : Fin 1792) :
    iblk m c 1 t (ix2 k j) = m ((c : Thread nD τ).loc main_arg1) (ix3 0 k j) := by
  have h : iblk m c 1 t (ix2 k j) = V m c main_v23 (ix2 k j) := by blk_ext [iblk, e1]
  rw [h, V_v23]
  exact cast_at _ k j

theorem in2 (c : Dev nD) (t : Fin cfg0.N) (j : Fin 768) :
    iblk m c 2 t (ix2 0 j) = m ((c : Thread nD τ).loc main_arg2) (ix2 0 j) := by
  rw [← V_main_arg2 m c]
  blk_ext [iblk, e2]

theorem in3 (c : Dev nD) (t : Fin cfg0.N) (j : Fin 768) :
    iblk m c 3 t (ix2 0 j) = m ((c : Thread nD τ).loc main_arg3) (ix2 0 j) := by
  rw [← V_main_arg3 m c]
  blk_ext [iblk, e3]

theorem in4 (c : Dev nD) (t : Fin cfg0.N) (n : Fin 6) (i j : Fin 128) :
    iblk m c 4 t (ix3 n i j) = m ((c : Thread nD τ).loc main_arg4) (ix4 0 n i j) := by
  have h : iblk m c 4 t (ix3 n i j) = V m c main_v24 (ix3 n i j) := by blk_ext [iblk, e4]
  rw [h, V_v24]
  exact s_at _ n i j

theorem in5 (c : Dev nD) (t : Fin cfg0.N) (n : Fin 6) (i j : Fin 128) :
    iblk m c 5 t (ix3 n i j) = m ((c : Thread nD τ).loc main_arg5) (ix3 0 n i) := by
  have h : iblk m c 5 t (ix3 n i j) = V m c main_v21 (ix3 n i j) := by blk_ext [iblk, e5]
  rw [h, V_v21]
  exact wide_at _ n i j

/-- The gated result array of the call. -/
theorem final8 (c : Dev nD) : (dats m 0 c).arrAt 8 cfg0.N =
    gated (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 8 _ (by decide +kernel) fun t hf y => ?_
  blk_simp
  rw [after0_8]
  have ht := point_lt t
  refine (out8 (iblk m c 0 t) (iblk m c 1 t) (iblk m c 2 t) (iblk m c 3 t) (iblk m c 4 t) (iblk m c 5 t) (iblk m c 6 t) (iblk m c 7 t) _).trans ?_
  obtain ⟨i, j, rfl⟩ : ∃ (i : Fin 1024) (j : Fin 768), y = ix2 i j := ⟨y 0, y 1, eq_ix2 y⟩
  have hi : ((win0_8.blk t).view.emb (ix2 i j) : S16384x768.Idx) = ix2 ⟨t.val * 1024 + i.val, by omega⟩ j := by
    blk_ext [e8]
  refine Eq.trans ?_ (congrArg (gated _ _ _ _ _ _) hi.symm)
  have hl : place ⟨t.val * 1024 + i.val, by omega⟩ = ⟨i.val % 128, by omega⟩ := by
    apply Fin.ext
    change (t.val * 1024 + i.val) % 128 = i.val % 128
    omega
  have hx : ∀ s : Fin 128, (⟨t.val * 1024 + (i.val / 128 * 128 + s.val), by omega⟩ : Fin 16384) = prow (page ⟨t.val * 1024 + i.val, by omega⟩) s := by
    intro s
    apply Fin.ext
    change t.val * 1024 + (i.val / 128 * 128 + s.val) = (t.val * 1024 + i.val) / 128 * 128 + s.val
    omega
  change fpage _ _ _ _ _ _ (⟨i.val / 128, by omega⟩ : Fin 8) (⟨i.val % 128, by omega⟩ : Fin 128) j = turned _ _ _ _ _ (m ((c : Thread nD τ).loc main_arg5) (ix3 0 (grp j) (place ⟨t.val * 1024 + i.val, by omega⟩))) (place ⟨t.val * 1024 + i.val, by omega⟩) j
  rw [hl]
  unfold fpage
  have h0 : (fun (s : Fin 128) (k : Fin 1024) => iblk m c 0 t (ix2 (⟨i.val / 128 * 128 + s.val, by omega⟩ : Fin 1024) k))
      = fun s k => m ((c : Thread nD τ).loc main_arg0) (ix2 (prow (page ⟨t.val * 1024 + i.val, by omega⟩) s) k) :=
    funext fun s => funext fun k => (in0 m c t _ k).trans (congrArg (fun q => m ((c : Thread nD τ).loc main_arg0) (ix2 q k)) (hx s))
  have h1 : rows (iblk m c 1 t) = fun k j => m ((c : Thread nD τ).loc main_arg1) (ix3 0 k j) := funext fun k => funext fun j => in1 m c t k j
  have h2 : (fun j => iblk m c 2 t (ix2 0 j)) = fun j : Fin 768 => m ((c : Thread nD τ).loc main_arg2) (ix2 0 j) := funext fun j => in2 m c t j
  have h3 : (fun j => iblk m c 3 t (ix2 0 j)) = fun j : Fin 768 => m ((c : Thread nD τ).loc main_arg3) (ix2 0 j) := funext fun j => in3 m c t j
  have h4 : (fun (n : Fin 6) (r s : Fin 128) => iblk m c 4 t (ix3 n r s)) = fun n r s => m ((c : Thread nD τ).loc main_arg4) (ix4 0 n r s) :=
    funext fun n => funext fun r => funext fun s => in4 m c t n r s
  have key : ∀ {W W' : Fin 6 → Fin 128 → Fin 128 → EReal} {X X' : Fin 128 → Fin 1024 → EReal} {w w' : Fin 1024 → Fin 1792 → EReal} {g g' b b' : Fin 768 → EReal}
      {T T' : EReal} (r : Fin 128) (j : Fin 768), W = W' → X = X' → w = w' → g = g' → b = b' → T = T' → turned W X w g b T r j = turned W' X' w' g' b' T' r j := by
    intro _ _ _ _ _ _ _ _ _ _ _ _ _ _ hW hX hw hg hb hT
    rw [hW, hX, hw, hg, hb, hT]
  exact key _ _ h4 h0 h1 h2 h3 (in5 m c t _ _ _)

end Cert.SguIdeal.Result

end
-- ==== Proof.SguReference.lean ====
/- The spatial gating of the prompt: the plain reference's result array, as the same formula of every page. -/
module

public import proofs.«01_k».proof.Proof.SguValue
public import proofs.«01_k».proof.Proof.Gen.SguReferenceIdeal.Run
public import Idealize.ShloMosaic.Lib.Pointwise
public import Idealize.ShloMosaic.Lib.Tactic.CleanTypes

@[expose] public section

set_option maxRecDepth 16384

noncomputable section

namespace Cert.SguReferenceIdeal.Result

open Cert.SguReferenceIdeal Cert.SguReferenceIdeal.Gen Idealize.ShloMosaic Idealize.ShloMosaic.TcCoe Idealize.SL.Sem
open Cert.GateRow Cert.Proof.Sgu Cert.SguReferenceIdeal.Value

/-- The activation of an array, as the reference spells it. -/
def actT (T : FVec Ideal S16384x768 .f32) : FVec Ideal S16384x768 .f32 :=
  mulf T (mulf (broadcastInDim S16384x768 ![] bcast_S_S16384x768 (constant S_ .f32 0x3F000000#32)) (addf (broadcastInDim S16384x768 ![] bcast_S_S16384x768 (constant S_ .f32 0x3F800000#32)) (Host.tanh (mulf (broadcastInDim S16384x768 ![] bcast_S_S16384x768 (constant S_ .f32 0x3F4C422A#32)) (addf T (mulf (broadcastInDim S16384x768 ![] bcast_S_S16384x768 (constant S_ .f32 0x3D372713#32)) (mulf (mulf T T) T)))))))

/-- The mean of each row, the same way. -/
def meanT (T : FVec Ideal S16384x768 .f32) : FVec Ideal S16384x1 .f32 :=
  Host.divf (broadcastInDim S16384x1 ![0] bcast_S16384_S16384x1_0 (Host.reduceAdd T (constant S_ .f32 0x00000000#32) reducesTo_S16384x768_S16384_d1 h_S_)) (broadcastInDim S16384x1 ![] bcast_S_S16384x1 (constant S_ .f32 0x44400000#32))

/-- Each row less its mean. -/
def centreT (T : FVec Ideal S16384x768 .f32) : FVec Ideal S16384x768 .f32 :=
  subf T (broadcastInDim S16384x768 ![0, 1] bcast_S16384x1_S16384x768_0_1 (meanT T))

/-- Layer norm of the rows. -/
def normT (T : FVec Ideal S16384x768 .f32) (g b : FVec Ideal S1x768 .f32) : FVec Ideal S16384x768 .f32 :=
  addf (mulf (mulf (centreT T) (broadcastInDim S16384x768 ![0, 1] bcast_S16384x1_S16384x768_0_1 (Host.rsqrt (addf (meanT (mulf (centreT T) (centreT T))) (broadcastInDim S16384x1 ![] bcast_S_S16384x1 (constant S_ .f32 0x3727C5AC#32)))))) (broadcastInDim S16384x768 ![0, 1] bcast_S1x768_S16384x768_0_1 g)) (broadcastInDim S16384x768 ![0, 1] bcast_S1x768_S16384x768_0_1 b)

/-- The product with the input weights, and its first and second 768 columns. -/
def projT (x : FVec Ideal S16384x1024 .f32) (w : FVec Ideal S1x1024x1792 .f32) : FVec Ideal S16384x1792 .f32 :=
  Host.dotGeneral dot_S16384x1024_S1024x1792_S16384x1792_1_0_0_1_n_n none x (shapeCast _ w shapeCasts_S1x1024x1792_S1024x1792)

def colT0 (T : FVec Ideal S16384x1792 .f32) : FVec Ideal S16384x768 .f32 := extractStridedSlice S16384x768 ![0, 0] T slices_S16384x1792_S16384x768_0_0

def colT1 (T : FVec Ideal S16384x1792 .f32) : FVec Ideal S16384x768 .f32 := extractStridedSlice S16384x768 ![0, 768] T slices_S16384x1792_S16384x768_0_768

/-- The group weights with those of later rows set to zero, and the shifts along a page. -/
def maskT (s : FVec Ideal S1x6x128x128 .f32) : FVec Ideal S6x128x128 .f32 :=
  select (broadcastInDim S6x128x128 ![0, 1, 2] bcast_S1x128x128_S6x128x128_0_1_2 (cmpi .sge (broadcastInDim S1x128x128 ![0, 1, 2] bcast_S1x128x1_S1x128x128_0_1_2 (broadcastInDim S1x128x1 ![1] bcast_S128_S1x128x1_1 (iotaInDim S128 32 0))) (broadcastInDim S1x128x128 ![0, 1, 2] bcast_S1x1x128_S1x128x128_0_1_2 (broadcastInDim S1x1x128 ![2] bcast_S128_S1x1x128_2 (iotaInDim S128 32 0))))) (shapeCast _ s shapeCasts_S1x6x128x128_S6x128x128) (broadcastInDim S6x128x128 ![] bcast_S_S6x128x128 (constant S_ .f32 0x00000000#32))

def shiftT (t : FVec Ideal S1x6x128 .f32) : FVec Ideal S128x128x6x128 .f32 :=
  broadcastInDim S128x128x6x128 ![0, 1, 2, 3] bcast_S1x128x6x1_S128x128x6x128_0_1_2_3 (broadcastInDim S1x128x6x1 ![1, 2, 3] bcast_S128x6x1_S1x128x6x1_1_2_3 (broadcastInDim S128x6x1 ![0, 1] bcast_S128x6_S128x6x1_0_1 (transpose S128x6 [1, 0] (shapeCast _ t shapeCasts_S1x6x128_S6x128) transposes_S6x128_S128x6_1_0)))

/-- The pages' sums over their rows. -/
def sumT (v : FVec Ideal S16384x768 .f32) (W : FVec Ideal S6x128x128 .f32) : FVec Ideal S128x128x6x128 .f32 :=
  transpose S128x128x6x128 [1, 3, 0, 2] (Host.dotGeneral dot_S128x128x6x128_S6x128x128_S6x128x128x128_1_2_03_1_2_0 none (shapeCast S128x128x6x128 v shapeCasts_S16384x768_S128x128x6x128) W) transposes_S6x128x128x128_S128x128x6x128_1_3_0_2

/-- The gate times the shifted sums. -/
def gateT (G : FVec Ideal S16384x768 .f32) (z t : FVec Ideal S128x128x6x128 .f32) : FVec Ideal S16384x768 .bf16 :=
  truncf .bf16 (mulf G (shapeCast S16384x768 (addf z t) shapeCasts_S128x128x6x128_S16384x768)) bitsLt_bf16_f32

theorem actT_at (T : FVec Ideal S16384x768 .f32) (r : Fin 16384) (q : Fin 768) : actT T (ix2 r q) = act (T (ix2 r q)) := by
  unfold actT act
  clean_types
  pointwise
  try rfl

theorem meanT_at (T : FVec Ideal S16384x768 .f32) (r : Fin 16384) : meanT T (ix2 r 0) = mean (fun k => T (ix2 r k)) := by
  unfold meanT mean
  clean_types
  pointwise

theorem centreT_at (T : FVec Ideal S16384x768 .f32) (r : Fin 16384) (q : Fin 768) :
    centreT T (ix2 r q) = T (ix2 r q) - mean (fun k => T (ix2 r k)) := by
  unfold centreT
  clean_types
  pointwise [meanT_at]

theorem normT_at (T : FVec Ideal S16384x768 .f32) (g b : FVec Ideal S1x768 .f32) (r : Fin 16384) (q : Fin 768) :
    normT T g b (ix2 r q) = GateRow.norm (fun k => T (ix2 r k)) (g (ix2 0 q)) (b (ix2 0 q)) q := by
  have h : meanT (mulf (centreT T) (centreT T)) (ix2 r 0)
      = mean (fun k => (T (ix2 r k) - mean (fun k => T (ix2 r k))) * (T (ix2 r k) - mean (fun k => T (ix2 r k)))) := by
    rw [meanT_at]
    refine congrArg mean (funext fun k => ?_)
    exact congrArg₂ (· * ·) (centreT_at T r k) (centreT_at T r k)
  unfold normT GateRow.norm
  rw [← h, ← centreT_at]
  generalize meanT (mulf (centreT T) (centreT T)) = M
  generalize centreT T = C
  clean_types
  pointwise

theorem colT0_at (x : FVec Ideal S16384x1024 .f32) (w : FVec Ideal S1x1024x1792 .f32) (r : Fin 16384) (q : Fin 768) :
    colT0 (projT x w) (ix2 r q) = dot (fun k => x (ix2 r k)) (fun k j => w (ix3 0 k j)) (col 0 (n := 768) (by omega) q) := by
  unfold colT0 projT dot col
  pointwise

theorem colT1_at (x : FVec Ideal S16384x1024 .f32) (w : FVec Ideal S1x1024x1792 .f32) (r : Fin 16384) (q : Fin 768) :
    colT1 (projT x w) (ix2 r q) = dot (fun k => x (ix2 r k)) (fun k j => w (ix3 0 k j)) (col 768 (n := 768) (by omega) q) := by
  unfold colT1 projT dot col
  pointwise

theorem maskT_at (s : FVec Ideal S1x6x128x128 .f32) (n : Fin 6) (i j : Fin 128) :
    maskT s (ix3 n i j) = if i.val < j.val then 0 else s (ix4 0 n i j) := by
  have hi := i.isLt
  have hj := j.isLt
  unfold maskT
  clean_types
  pointwise
  rw [Cert.SguIdeal.Result.select_sge (by omega) (by omega)]

theorem shiftT_at (t : FVec Ideal S1x6x128 .f32) (p r : Fin 128) (n : Fin 6) (e : Fin 128) : shiftT t (ix4 p r n e) = t (ix3 0 n r) := by
  unfold shiftT
  clean_types
  pointwise

/-- Lane `e` of group `n`. -/
def lane (n : Fin 6) (e : Fin 128) : Fin 768 := ⟨n.val * 128 + e.val, by omega⟩

theorem sumT_at (v : FVec Ideal S16384x768 .f32) (W : FVec Ideal S6x128x128 .f32) (p r : Fin 128) (n : Fin 6) (e : Fin 128) :
    sumT v W (ix4 p r n e) = ∑ s : Fin 128, v (ix2 (prow p s) (lane n e)) * W (ix3 n r s) := by
  unfold sumT prow lane
  clean_types
  pointwise

theorem gateT_at (G : FVec Ideal S16384x768 .f32) (z t : FVec Ideal S128x128x6x128 .f32) (i : Fin 16384) (j : Fin 768) :
    gateT G z t (ix2 i j) = G (ix2 i j) * (z (ix4 (page i) (place i) (grp j) ⟨j.val % 128, by omega⟩) + t (ix4 (page i) (place i) (grp j) ⟨j.val % 128, by omega⟩)) := by
  unfold gateT page place grp
  clean_types
  pointwise

/-- The gated values. -/
theorem vals_at (x : FVec Ideal S16384x1024 .f32) (w : FVec Ideal S1x1024x1792 .f32) (g b : FVec Ideal S1x768 .f32) (i : Fin 16384) (j : Fin 768) :
    normT (actT (colT1 (projT x w))) g b (ix2 i j)
      = val (fun k => x (ix2 i k)) (fun k j => w (ix3 0 k j)) (fun j => g (ix2 0 j)) (fun j => b (ix2 0 j)) j := by
  rw [normT_at, funext fun k => (actT_at (colT1 (projT x w)) i k).trans (congrArg act (colT1_at x w i k))]
  rfl

/-- The gated result. -/
theorem result (x : FVec Ideal S16384x1024 .f32) (w : FVec Ideal S1x1024x1792 .f32) (g b : FVec Ideal S1x768 .f32)
    (s : FVec Ideal S1x6x128x128 .f32) (t : FVec Ideal S1x6x128 .f32) :
    gateT (actT (colT0 (projT x w))) (sumT (normT (actT (colT1 (projT x w))) g b) (maskT s)) (shiftT t) = gated x w g b s t := by
  funext y
  obtain ⟨i, j, rfl⟩ : ∃ (i : Fin 16384) (j : Fin 768), y = ix2 i j := ⟨y 0, y 1, eq_ix2 y⟩
  have hi : prow (page i) (place i) = i := by
    apply Fin.ext
    change i.val / 128 * 128 + i.val % 128 = i.val
    omega
  have hj : lane (grp j) ⟨j.val % 128, by omega⟩ = j := by
    apply Fin.ext
    change j.val / 128 * 128 + j.val % 128 = j.val
    omega
  rw [gateT_at, sumT_at, shiftT_at, (actT_at (colT0 (projT x w)) i j).trans (congrArg act (colT0_at x w i j))]
  change _ = gate (fun k => x (ix2 (prow (page i) (place i)) k)) (fun k j => w (ix3 0 k j)) j * (_ + _)
  rw [hi, hj]
  refine congrArg₂ (· * ·) rfl (congrArg₂ (· + ·) (Finset.sum_congr rfl fun q _ => ?_) rfl)
  rw [vals_at, maskT_at]
  exact mul_comm _ _

variable (m : (ℓ : Loc nD τ sig) → Buf (Elt Ideal) ℓ)

theorem out0_eq (c : Dev nD) : res_main_v71 m c = gated (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) :=
  Eq.trans (by unfold res_main_v71; rfl) (result _ _ _ _ _ _)

end Cert.SguReferenceIdeal.Result

end
-- ==== Proof.lean ====
module

public import proofs.«01_k».proof.Defs
public import proofs.«01_k».proof.Proof.Gen.Kernel.Frame
public import proofs.«01_k».proof.Proof.Gen.KernelIdeal.Frame
public import proofs.«01_k».proof.Proof.AttnPre
public import proofs.«01_k».proof.Proof.AttnValue
public import proofs.«01_k».proof.Proof.AttnEqual
public import proofs.«01_k».proof.Proof.Gen.ReferenceIdeal.Run
public import proofs.«01_k».proof.Proof.Gen.Ffn.Frame
public import proofs.«01_k».proof.Proof.FfnValue
public import proofs.«01_k».proof.Proof.FfnReference
public import proofs.«01_k».proof.Proof.Gen.MemKv.Frame
public import proofs.«01_k».proof.Proof.MemKvValue
public import proofs.«01_k».proof.Proof.Gen.ProjSample.Frame
public import proofs.«01_k».proof.Proof.SampleValue
public import proofs.«01_k».proof.Proof.Gen.Proj.Frame
public import proofs.«01_k».proof.Proof.ProjValue
public import proofs.«01_k».proof.Proof.Gen.SguSample.Frame
public import proofs.«01_k».proof.Proof.SguSampleValue
public import proofs.«01_k».proof.Proof.SguSampleReference
public import proofs.«01_k».proof.Proof.Gen.Sgu.Frame
public import proofs.«01_k».proof.Proof.SguValue
public import proofs.«01_k».proof.Proof.SguReference
public import Idealize.ShloMosaic.Adequacy
public import Idealize.ShloMosaic.Init

@[expose] public section

noncomputable section

namespace Cert.Proof

open Idealize.ShloMosaic Idealize.SL.Sem

/-- The plain feed-forward reference runs, keeps its arguments and uses no semaphore. -/
theorem frame_ffnReference [hFfnReferenceIdeal : Cert.FfnReferenceIdeal.Facts] : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The feed-forward kernel and its plain reference end with equal results. -/
theorem algebraic_ffn [hFfnIdeal : Cert.FfnIdeal.Facts] [hFfnReferenceIdeal : Cert.FfnReferenceIdeal.Facts] :
    Cert.algebraic_FfnIdeal_FfnReferenceIdeal := by
  intro m ρ m' ρ' _ hagree
  refine ⟨fun c => (Cert.FfnIdeal.Gen.dats m 0 c).arrAt 10 Cert.FfnIdeal.cfg0.N, Cert.FfnIdeal.Value.run_blocks m ρ, ?_⟩
  refine (θ_run Cert.FfnReferenceIdeal.defs _ _).mono (fun r h c => ⟨(h c).1.trans ?_, (h c).2⟩) (Cert.FfnReferenceIdeal.Value.run (F := Ideal) m' ρ')
  obtain ⟨h0, h1, h2, h3, h4, h5, h6, h7, h8, h9⟩ := hagree c
  refine Eq.trans ?_ (Cert.FfnIdeal.Result.final m c).symm
  rw [← h0, ← h1, ← h2, ← h3, ← h4, ← h5, ← h6, ← h7, ← h8, ← h9]
  funext y
  obtain ⟨i, q, rfl⟩ : ∃ (i : Fin 16384) (q : Fin 1024), y = ix2 i q := ⟨y 0, y 1, eq_ix2 y⟩
  exact Cert.FfnReferenceIdeal.Result.result_apply (StableHlo.launchContents m' c) i q

/-- The plain attention reference runs, keeps its arguments and uses no semaphore. -/
theorem frame_reference [hReferenceIdeal : Cert.ReferenceIdeal.Facts] : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite inputs the attention kernel and its plain reference end with equal results. -/
theorem algebraic_attention [hKernelIdeal : Cert.KernelIdeal.Facts] [hReferenceIdeal : Cert.ReferenceIdeal.Facts]
    [hPre : Cert.Pre_finite_inputs.Facts] : Cert.algebraic_KernelIdeal_ReferenceIdeal_pre_finite_inputs := by
  intro m ρ m' ρ' hpre hagree
  refine ⟨fun c => (Cert.KernelIdeal.Gen.dats m 0 c).arrAt 5 Cert.KernelIdeal.cfg0.N, Cert.KernelIdeal.Value.run_blocks m ρ, ?_⟩
  refine (θ_run Cert.ReferenceIdeal.defs _ _).mono (fun r h c => ⟨(h c).1.trans ?_, (h c).2⟩) (Cert.ReferenceIdeal.Value.run (F := Ideal) m' ρ')
  obtain ⟨h0, h1, h2, h3, h4⟩ := hagree c
  obtain ⟨hq, hk, hv, hl⟩ := Cert.Pre_finite_inputs.finite _ _ _ _ _ (hpre c)
  refine Eq.trans ?_ (Cert.KernelIdeal.Attn.final m c hq hk hv).symm
  refine (Cert.ReferenceIdeal.Attn.result_eq m' c (fun i => ?_) (fun i => ?_) (fun i => ?_) (fun i => ?_)).trans ?_
  · obtain ⟨r, e⟩ := hq i
    exact ⟨r, (congrFun h0 i).trans e⟩
  · obtain ⟨r, e⟩ := hk i
    exact ⟨r, (congrFun h1 i).trans e⟩
  · obtain ⟨r, e⟩ := hv i
    exact ⟨r, (congrFun h2 i).trans e⟩
  · obtain ⟨r, e⟩ := hl i
    exact ⟨r, (congrFun h3 i).trans e⟩
  · unfold Cert.ReferenceIdeal.Attn.qA Cert.ReferenceIdeal.Attn.kA Cert.ReferenceIdeal.Attn.vA Cert.ReferenceIdeal.Attn.lA Cert.ReferenceIdeal.Attn.gA
    rw [h0, h1, h2, h3, h4]

/-- The plain reference of the memory keys and values runs, keeps its arguments and uses no semaphore. -/
theorem frame_memKvReference [hMemKvReferenceIdeal : Cert.MemKvReferenceIdeal.Facts] : Cert.quiescent_MemKvReferenceIdeal := fun m ρ _ =>
  (θ_run Cert.MemKvReferenceIdeal.defs _ _).mono (fun r h => ⟨fun c => (h c).2.2, sem_eq_zero_of_no_sems (by decide) r.2⟩)
    (Cert.MemKvReferenceIdeal.Value.run (F := Ideal) m ρ)

/-- The memory keys and values of the kernel and of its plain reference are equal. -/
theorem algebraic_memKv [hMemKvIdeal : Cert.MemKvIdeal.Facts] [hMemKvReferenceIdeal : Cert.MemKvReferenceIdeal.Facts] :
    Cert.algebraic_MemKvIdeal_MemKvReferenceIdeal := by
  intro m ρ m' ρ' _ hagree
  refine ⟨fun c => (Cert.MemKvIdeal.Gen.dats m 0 c).arrAt 2 Cert.MemKvIdeal.cfg0.N, fun c => (Cert.MemKvIdeal.Gen.dats m 0 c).arrAt 3 Cert.MemKvIdeal.cfg0.N, ?_, ?_⟩
  · exact (θ_run Cert.MemKvIdeal.defs _ _).mono (fun r h c => ⟨(h c).1, (h c).2.1, (h c).2.2.2.2⟩) (Cert.MemKvIdeal.Value.run_blocks m ρ)
  refine (θ_run Cert.MemKvReferenceIdeal.defs _ _).mono (fun r h c => ⟨(h c).1.trans ?_, (h c).2.1.trans ?_, (h c).2.2⟩) (Cert.MemKvReferenceIdeal.Value.run (F := Ideal) m' ρ')
  · obtain ⟨h0, h1⟩ := hagree c
    refine Eq.trans ?_ (Cert.MemKvIdeal.Result.final2 m c).symm
    rw [← h0, ← h1]
    exact Cert.MemKvReferenceIdeal.Result.result2 _ _
  · obtain ⟨h0, h1⟩ := hagree c
    refine Eq.trans ?_ (Cert.MemKvIdeal.Result.final3 m c).symm
    rw [← h0, ← h1]
    exact Cert.MemKvReferenceIdeal.Result.result3 _ _

/-- The plain reference of the sample's projection runs, keeps its arguments and uses no semaphore. -/
theorem frame_projSampleReference [hProjSampleReferenceIdeal : Cert.ProjSampleReferenceIdeal.Facts] : Cert.quiescent_ProjSampleReferenceIdeal := fun m ρ _ =>
  (θ_run Cert.ProjSampleReferenceIdeal.defs _ _).mono (fun r h => ⟨fun c => (h c).2.2.2.2, sem_eq_zero_of_no_sems (by decide) r.2⟩)
    (Cert.ProjSampleReferenceIdeal.Value.run (F := Ideal) m ρ)

/-- The projections of the sample by the kernel and by its plain reference are equal. -/
theorem algebraic_projSample [hProjSampleIdeal : Cert.ProjSampleIdeal.Facts] [hProjSampleReferenceIdeal : Cert.ProjSampleReferenceIdeal.Facts] :
    Cert.algebraic_ProjSampleIdeal_ProjSampleReferenceIdeal := by
  intro m ρ m' ρ' _ hagree
  refine ⟨fun c => (Cert.ProjSampleIdeal.Gen.dats m 0 c).arrAt 2 Cert.ProjSampleIdeal.cfg0.N, fun c => (Cert.ProjSampleIdeal.Gen.dats m 0 c).arrAt 3 Cert.ProjSampleIdeal.cfg0.N,
    fun c => (Cert.ProjSampleIdeal.Gen.dats m 0 c).arrAt 4 Cert.ProjSampleIdeal.cfg0.N, fun c => (Cert.ProjSampleIdeal.Gen.dats m 0 c).arrAt 5 Cert.ProjSampleIdeal.cfg0.N,
    Cert.ProjSampleIdeal.Value.run_blocks m ρ, ?_⟩
  refine (θ_run Cert.ProjSampleReferenceIdeal.defs _ _).mono (fun r h c => ⟨(h c).1.trans ?_, (h c).2.1.trans ?_, (h c).2.2.1.trans ?_, (h c).2.2.2.1.trans ?_, (h c).2.2.2.2⟩)
    (Cert.ProjSampleReferenceIdeal.Value.run (F := Ideal) m' ρ')
  · obtain ⟨h0, h1⟩ := hagree c
    refine Eq.trans ?_ (Cert.ProjSampleIdeal.Result.final2 m c).symm
    rw [← h0, ← h1]
    exact Cert.ProjSampleReferenceIdeal.Result.result2 _ _
  · obtain ⟨h0, h1⟩ := hagree c
    refine Eq.trans ?_ (Cert.ProjSampleIdeal.Result.final3 m c).symm
    rw [← h0, ← h1]
    exact Cert.ProjSampleReferenceIdeal.Result.result3 _ _
  · obtain ⟨h0, h1⟩ := hagree c
    refine Eq.trans ?_ (Cert.ProjSampleIdeal.Result.final4 m c).symm
    rw [← h0, ← h1]
    exact Cert.ProjSampleReferenceIdeal.Result.result4 _ _
  · obtain ⟨h0, h1⟩ := hagree c
    refine Eq.trans ?_ (Cert.ProjSampleIdeal.Result.final5 m c).symm
    rw [← h0, ← h1]
    exact Cert.ProjSampleReferenceIdeal.Result.result5 _ _

/-- The plain reference of the prompt's projection runs, keeps its arguments and uses no semaphore. -/
theorem frame_projReference [hProjReferenceIdeal : Cert.ProjReferenceIdeal.Facts] : Cert.quiescent_ProjReferenceIdeal := fun m ρ _ =>
  (θ_run Cert.ProjReferenceIdeal.defs _ _).mono (fun r h => ⟨fun c => (h c).2.2, sem_eq_zero_of_no_sems (by decide) r.2⟩)
    (Cert.ProjReferenceIdeal.Value.run (F := Ideal) m ρ)

/-- The prompt's keys and values by the kernel and by its plain reference are equal. -/
theorem algebraic_proj [hProjIdeal : Cert.ProjIdeal.Facts] [hProjReferenceIdeal : Cert.ProjReferenceIdeal.Facts] :
    Cert.algebraic_ProjIdeal_ProjReferenceIdeal := by
  intro m ρ m' ρ' _ hagree
  refine ⟨fun c => (Cert.ProjIdeal.Gen.dats m 0 c).arrAt 9 Cert.ProjIdeal.cfg0.N, fun c => (Cert.ProjIdeal.Gen.dats m 0 c).arrAt 10 Cert.ProjIdeal.cfg0.N, ?_, ?_⟩
  · exact (θ_run Cert.ProjIdeal.defs _ _).mono (fun r h c => ⟨(h c).2.1, (h c).2.2.1, (h c).2.2.2.2.2.2.2.2.2.2⟩) (Cert.ProjIdeal.Value.run_blocks m ρ)
  refine (θ_run Cert.ProjReferenceIdeal.defs _ _).mono (fun r h c => ⟨(h c).1.trans ?_, (h c).2.1.trans ?_, (h c).2.2⟩) (Cert.ProjReferenceIdeal.Value.run (F := Ideal) m' ρ')
  · obtain ⟨h0, h1, _⟩ := hagree c
    refine Eq.trans ?_ (Cert.ProjIdeal.Result.final9 m c).symm
    rw [← h0, ← h1]
    exact Cert.ProjReferenceIdeal.Result.result3 _ _
  · obtain ⟨h0, h1, _⟩ := hagree c
    refine Eq.trans ?_ (Cert.ProjIdeal.Result.final10 m c).symm
    rw [← h0, ← h1]
    exact Cert.ProjReferenceIdeal.Result.result4 _ _

/-- The plain reference of the sample's spatial gating runs, keeps its arguments and uses no semaphore. -/
theorem frame_sguSampleReference [hSguSampleReferenceIdeal : Cert.SguSampleReferenceIdeal.Facts] : Cert.quiescent_SguSampleReferenceIdeal := fun m ρ _ =>
  (θ_run Cert.SguSampleReferenceIdeal.defs _ _).mono (fun r h => ⟨fun c => (h c).2.2.2, sem_eq_zero_of_no_sems (by decide) r.2⟩)
    (Cert.SguSampleReferenceIdeal.Value.run (F := Ideal) m ρ)

/-- The gated rows, memory queries and gate values of the sample by the kernel and by its plain reference are equal. -/
theorem algebraic_sguSample [hSguSampleIdeal : Cert.SguSampleIdeal.Facts] [hSguSampleReferenceIdeal : Cert.SguSampleReferenceIdeal.Facts] :
    Cert.algebraic_SguSampleIdeal_SguSampleReferenceIdeal := by
  intro m ρ m' ρ' _ hagree
  refine ⟨fun c => (Cert.SguSampleIdeal.Gen.dats m 0 c).arrAt 6 Cert.SguSampleIdeal.cfg0.N, fun c => (Cert.SguSampleIdeal.Gen.dats m 0 c).arrAt 7 Cert.SguSampleIdeal.cfg0.N,
    fun c => (Cert.SguSampleIdeal.Gen.dats m 0 c).arrAt 8 Cert.SguSampleIdeal.cfg0.N, Cert.SguSampleIdeal.Value.run_blocks m ρ, ?_⟩
  refine (θ_run Cert.SguSampleReferenceIdeal.defs _ _).mono (fun r h c => ⟨(h c).1.trans ?_, (h c).2.1.trans ?_, (h c).2.2.1.trans ?_, (h c).2.2.2⟩)
    (Cert.SguSampleReferenceIdeal.Value.run (F := Ideal) m' ρ')
  · obtain ⟨h0, h1, h2, h3, h4, h5⟩ := hagree c
    refine Eq.trans ?_ (Cert.SguSampleIdeal.Result.final6 m c).symm
    rw [← h0, ← h1, ← h2, ← h3, ← h4, ← h5]
    exact Cert.SguSampleReferenceIdeal.Result.out0_eq _ c
  · obtain ⟨h0, h1, _⟩ := hagree c
    refine Eq.trans ?_ (Cert.SguSampleIdeal.Result.final7 m c).symm
    rw [← h0, ← h1]
    exact Cert.SguSampleReferenceIdeal.Result.result7 _ _
  · obtain ⟨h0, h1, h2, h3, _⟩ := hagree c
    refine Eq.trans ?_ (Cert.SguSampleIdeal.Result.final8 m c).symm
    rw [← h0, ← h1, ← h2, ← h3]
    exact Cert.SguSampleReferenceIdeal.Result.out2_eq _ c

/-- The run of the plain reference of the prompt's spatial gating: it ends, and leaves its arguments and semaphores. -/
theorem frame_sguReference [hSguReferenceIdeal : Cert.SguReferenceIdeal.Facts] : Cert.quiescent_SguReferenceIdeal := fun m ρ _ =>
  (θ_run Cert.SguReferenceIdeal.defs _ _).mono (fun r h => ⟨fun c => (h c).2, sem_eq_zero_of_no_sems (by decide) r.2⟩)
    (Cert.SguReferenceIdeal.Value.run (F := Ideal) m ρ)

/-- The prompt's spatial gating and its reference leave the same gated rows. -/
theorem algebraic_sgu [hSguIdeal : Cert.SguIdeal.Facts] [hSguReferenceIdeal : Cert.SguReferenceIdeal.Facts] :
    Cert.algebraic_SguIdeal_SguReferenceIdeal := by
  intro m ρ m' ρ' _ hagree
  refine ⟨fun c => (Cert.SguIdeal.Gen.dats m 0 c).arrAt 8 Cert.SguIdeal.cfg0.N, ?_, ?_⟩
  · exact (θ_run Cert.SguIdeal.defs _ _).mono (fun r h c => ⟨(h c).1, (h c).2.2⟩) (Cert.SguIdeal.Value.run_blocks m ρ)
  refine (θ_run Cert.SguReferenceIdeal.defs _ _).mono (fun r h c => ⟨(h c).1.trans ?_, (h c).2⟩)
    (Cert.SguReferenceIdeal.Value.run (F := Ideal) m' ρ')
  obtain ⟨h0, h1, h2, h3, h4, h5, _⟩ := hagree c
  refine Eq.trans ?_ (Cert.SguIdeal.Result.final8 m c).symm
  rw [← h0, ← h1, ← h2, ← h3, ← h4, ← h5]
  exact Cert.SguReferenceIdeal.Result.out0_eq _ c

theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.MemKv.Gen.facts, Cert.MemKvIdeal.Gen.facts, Cert.MemKvReferenceIdeal.Gen.facts,
    Cert.ProjSample.Gen.facts, Cert.ProjSampleIdeal.Gen.facts, Cert.ProjSampleReferenceIdeal.Gen.facts,
    Cert.Proj.Gen.facts, Cert.ProjIdeal.Gen.facts, Cert.ProjReferenceIdeal.Gen.facts,
    Cert.SguSample.Gen.facts, Cert.SguSampleIdeal.Gen.facts, Cert.SguSampleReferenceIdeal.Gen.facts,
    Cert.Sgu.Gen.facts, Cert.SguIdeal.Gen.facts, Cert.SguReferenceIdeal.Gen.facts, Cert.Pre_finite_inputs.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, fun m ρ _ => Cert.Ffn.Gen.frame m ρ,
    fun m ρ _ => Cert.FfnIdeal.Gen.frame m ρ, frame_ffnReference,
    fun m ρ _ => Cert.MemKv.Gen.frame m ρ, fun m ρ _ => Cert.MemKvIdeal.Gen.frame m ρ, frame_memKvReference,
    fun m ρ _ => Cert.ProjSample.Gen.frame m ρ, fun m ρ _ => Cert.ProjSampleIdeal.Gen.frame m ρ, frame_projSampleReference,
    fun m ρ _ => Cert.Proj.Gen.frame m ρ, fun m ρ _ => Cert.ProjIdeal.Gen.frame m ρ, frame_projReference,
    fun m ρ _ => Cert.SguSample.Gen.frame m ρ, fun m ρ _ => Cert.SguSampleIdeal.Gen.frame m ρ, frame_sguSampleReference,
    fun m ρ _ => Cert.Sgu.Gen.frame m ρ, fun m ρ _ => Cert.SguIdeal.Gen.frame m ρ, frame_sguReference,
    ⟨IdealRules.named_const.statement Cert.KernelIdeal.κ "qk_scale_log2" .f32 0x3E38AA3B#32 _ rfl,
      IdealRules.named_const.statement Cert.KernelIdeal.κ "mask" .f32 0xF149F2CA#32 ⊥ rfl⟩,
    algebraic_attention (hPre := Cert.Pre_finite_inputs.facts), trivial, algebraic_ffn,
    trivial, algebraic_memKv, trivial, algebraic_projSample,
    trivial, algebraic_proj, trivial, algebraic_sguSample,
    trivial, algebraic_sgu⟩

end Cert.Proof

end
